-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_logits [hPre_finite_logits : Cert.Pre_finite_logits.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).1 = (fun _ => 1#1)
    ∧ (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.1 = (fun _ => 1#1)
    ∧ (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits [hPre_finite_logits : Cert.Pre_finite_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).1 = (fun _ => 1#1)
    ∧ (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.1 = (fun _ => 1#1)
    ∧ (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_sample [hPre_finite_sample : Cert.Pre_finite_sample.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_sample.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12))).1 = (fun _ => 1#1)
    ∧ (Cert.Pre_finite_sample.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12))).2.1 = (fun _ => 1#1)
    ∧ (Cert.Pre_finite_sample.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12))).2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_sample [hPre_finite_sample : Cert.Pre_finite_sample.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_sample.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12))).1 = (fun _ => 1#1)
    ∧ (Cert.Pre_finite_sample.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12))).2.1 = (fun _ => 1#1)
    ∧ (Cert.Pre_finite_sample.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12))).2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_KernelIdeal_pre_finite_logits [hKernelIdeal : Cert.KernelIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_ReferenceIdeal_pre_finite_logits [hReferenceIdeal : Cert.ReferenceIdeal.Facts] [hPre_finite_logits : Cert.Pre_finite_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Kernel3Ideal_pre_finite_sample [hKernel3Ideal : Cert.Kernel3Ideal.Facts] [hPre_finite_sample : Cert.Pre_finite_sample.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_sample m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def quiescent_Reference3Ideal_pre_finite_sample [hReference3Ideal : Cert.Reference3Ideal.Facts] [hPre_finite_sample : Cert.Pre_finite_sample.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_sample m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9))
      ∧ r.2.sem = fun _ => 0)

def preserves_Kernel_KernelIdeal : Prop :=
  True

def algebraic_KernelIdeal_ReferenceIdeal_pre_finite_logits [hKernelIdeal : Cert.KernelIdeal.Facts] [hReferenceIdeal : Cert.ReferenceIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v56_0)) (v1 : (c : Dev Cert.Kernel2Ideal.nD) → Buf (Elt Ideal) ((c.tc : Thread Cert.Kernel2Ideal.nD Cert.Kernel2Ideal.τ).loc Cert.Kernel2Ideal.main_v56_1)) (v2 : (c : Dev Cert.Kernel2Ideal.nD) → Buf (Elt Ideal) ((c.tc : Thread Cert.Kernel2Ideal.nD Cert.Kernel2Ideal.τ).loc Cert.Kernel2Ideal.main_v56_2)) (v3 : (c : Dev Cert.Kernel2Ideal.nD) → Buf (Elt Ideal) ((c.tc : Thread Cert.Kernel2Ideal.nD Cert.Kernel2Ideal.τ).loc Cert.Kernel2Ideal.main_v56_3)) (v4 : (c : Dev Cert.Kernel2Ideal.nD) → Buf (Elt Ideal) ((c.tc : Thread Cert.Kernel2Ideal.nD Cert.Kernel2Ideal.τ).loc Cert.Kernel2Ideal.main_v56_4)) (v5 : (c : Dev Cert.Kernel2Ideal.nD) → Buf (Elt Ideal) ((c.tc : Thread Cert.Kernel2Ideal.nD Cert.Kernel2Ideal.τ).loc Cert.Kernel2Ideal.main_v56_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v56_0) = v0 c
          ∧ r.2.mem ((c.tc : Thread Cert.Kernel2Ideal.nD Cert.Kernel2Ideal.τ).loc Cert.Kernel2Ideal.main_v56_1) = v1 c
          ∧ r.2.mem ((c.tc : Thread Cert.Kernel2Ideal.nD Cert.Kernel2Ideal.τ).loc Cert.Kernel2Ideal.main_v56_2) = v2 c
          ∧ r.2.mem ((c.tc : Thread Cert.Kernel2Ideal.nD Cert.Kernel2Ideal.τ).loc Cert.Kernel2Ideal.main_v56_3) = v3 c
          ∧ r.2.mem ((c.tc : Thread Cert.Kernel2Ideal.nD Cert.Kernel2Ideal.τ).loc Cert.Kernel2Ideal.main_v56_4) = v4 c
          ∧ r.2.mem ((c.tc : Thread Cert.Kernel2Ideal.nD Cert.Kernel2Ideal.τ).loc Cert.Kernel2Ideal.main_v56_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v24) = v0 c
          ∧ r.2.mem ((c.tc : Thread Cert.Reference2Ideal.nD Cert.Reference2Ideal.τ).loc Cert.Reference2Ideal.main_v75) = v1 c
          ∧ r.2.mem ((c.tc : Thread Cert.Reference2Ideal.nD Cert.Reference2Ideal.τ).loc Cert.Reference2Ideal.main_v92) = v2 c
          ∧ r.2.mem ((c.tc : Thread Cert.Reference2Ideal.nD Cert.Reference2Ideal.τ).loc Cert.Reference2Ideal.main_v109) = v3 c
          ∧ r.2.mem ((c.tc : Thread Cert.Reference2Ideal.nD Cert.Reference2Ideal.τ).loc Cert.Reference2Ideal.main_v110) = v4 c
          ∧ r.2.mem ((c.tc : Thread Cert.Reference2Ideal.nD Cert.Reference2Ideal.τ).loc Cert.Reference2Ideal.main_v111) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal_pre_finite_sample [hKernel3Ideal : Cert.Kernel3Ideal.Facts] [hReference3Ideal : Cert.Reference3Ideal.Facts] [hPre_finite_sample : Cert.Pre_finite_sample.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_sample m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)) →
    ∃ (v0 : (c : Dev Cert.Kernel3Ideal.nD) → Buf (Elt Ideal) ((c.tc : Thread Cert.Kernel3Ideal.nD Cert.Kernel3Ideal.τ).loc Cert.Kernel3Ideal.main_v22)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v22) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v118) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)) →
    ∃ (v0 : (c : Dev Cert.Kernel4Ideal.nD) → Buf (Elt Ideal) ((c.tc : Thread Cert.Kernel4Ideal.nD Cert.Kernel4Ideal.τ).loc Cert.Kernel4Ideal.main_v56_0)) (v1 : (c : Dev Cert.Kernel4Ideal.nD) → Buf (Elt Ideal) ((c.tc : Thread Cert.Kernel4Ideal.nD Cert.Kernel4Ideal.τ).loc Cert.Kernel4Ideal.main_v56_1)) (v2 : (c : Dev Cert.Kernel4Ideal.nD) → Buf (Elt Ideal) ((c.tc : Thread Cert.Kernel4Ideal.nD Cert.Kernel4Ideal.τ).loc Cert.Kernel4Ideal.main_v56_2)) (v3 : (c : Dev Cert.Kernel4Ideal.nD) → Buf (Elt Ideal) ((c.tc : Thread Cert.Kernel4Ideal.nD Cert.Kernel4Ideal.τ).loc Cert.Kernel4Ideal.main_v56_3)) (v4 : (c : Dev Cert.Kernel4Ideal.nD) → Buf (Elt Ideal) ((c.tc : Thread Cert.Kernel4Ideal.nD Cert.Kernel4Ideal.τ).loc Cert.Kernel4Ideal.main_v56_4)) (v5 : (c : Dev Cert.Kernel4Ideal.nD) → Buf (Elt Ideal) ((c.tc : Thread Cert.Kernel4Ideal.nD Cert.Kernel4Ideal.τ).loc Cert.Kernel4Ideal.main_v56_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v56_0) = v0 c
          ∧ r.2.mem ((c.tc : Thread Cert.Kernel4Ideal.nD Cert.Kernel4Ideal.τ).loc Cert.Kernel4Ideal.main_v56_1) = v1 c
          ∧ r.2.mem ((c.tc : Thread Cert.Kernel4Ideal.nD Cert.Kernel4Ideal.τ).loc Cert.Kernel4Ideal.main_v56_2) = v2 c
          ∧ r.2.mem ((c.tc : Thread Cert.Kernel4Ideal.nD Cert.Kernel4Ideal.τ).loc Cert.Kernel4Ideal.main_v56_3) = v3 c
          ∧ r.2.mem ((c.tc : Thread Cert.Kernel4Ideal.nD Cert.Kernel4Ideal.τ).loc Cert.Kernel4Ideal.main_v56_4) = v4 c
          ∧ r.2.mem ((c.tc : Thread Cert.Kernel4Ideal.nD Cert.Kernel4Ideal.τ).loc Cert.Kernel4Ideal.main_v56_5) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v24) = v0 c
          ∧ r.2.mem ((c.tc : Thread Cert.Reference4Ideal.nD Cert.Reference4Ideal.τ).loc Cert.Reference4Ideal.main_v75) = v1 c
          ∧ r.2.mem ((c.tc : Thread Cert.Reference4Ideal.nD Cert.Reference4Ideal.τ).loc Cert.Reference4Ideal.main_v92) = v2 c
          ∧ r.2.mem ((c.tc : Thread Cert.Reference4Ideal.nD Cert.Reference4Ideal.τ).loc Cert.Reference4Ideal.main_v109) = v3 c
          ∧ r.2.mem ((c.tc : Thread Cert.Reference4Ideal.nD Cert.Reference4Ideal.τ).loc Cert.Reference4Ideal.main_v110) = v4 c
          ∧ r.2.mem ((c.tc : Thread Cert.Reference4Ideal.nD Cert.Reference4Ideal.τ).loc Cert.Reference4Ideal.main_v111) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_logits : Cert.Pre_finite_logits.Facts) (hPre_finite_sample : Cert.Pre_finite_sample.Facts),
    quiescent_Kernel (hKernel := hKernel)
    ∧ quiescent_KernelIdeal (hKernelIdeal := hKernelIdeal)
    ∧ quiescent_KernelIdeal_pre_finite_logits (hKernelIdeal := hKernelIdeal) (hPre_finite_logits := hPre_finite_logits)
    ∧ quiescent_ReferenceIdeal (hReferenceIdeal := hReferenceIdeal)
    ∧ quiescent_ReferenceIdeal_pre_finite_logits (hReferenceIdeal := hReferenceIdeal) (hPre_finite_logits := hPre_finite_logits)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_sample (hKernel3Ideal := hKernel3Ideal) (hPre_finite_sample := hPre_finite_sample)
    ∧ quiescent_Reference3Ideal (hReference3Ideal := hReference3Ideal)
    ∧ quiescent_Reference3Ideal_pre_finite_sample (hReference3Ideal := hReference3Ideal) (hPre_finite_sample := hPre_finite_sample)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite_logits (hKernelIdeal := hKernelIdeal) (hReferenceIdeal := hReferenceIdeal) (hPre_finite_logits := hPre_finite_logits)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_sample (hKernel3Ideal := hKernel3Ideal) (hReference3Ideal := hReference3Ideal) (hPre_finite_sample := hPre_finite_sample)
    ∧ preserves_Kernel4_Kernel4Ideal
    ∧ algebraic_Kernel4Ideal_Reference4Ideal (hKernel4Ideal := hKernel4Ideal) (hReference4Ideal := hReference4Ideal)
-- ==== Pre_finite_logits.lean ====
abbrev S16384x1024 : Shape := ⟨2, ![16384, 1024]⟩
abbrev S16384x512 : Shape := ⟨2, ![16384, 512]⟩
abbrev S16384x128 : Shape := ⟨2, ![16384, 128]⟩
abbrev S1x128 : Shape := ⟨2, ![1, 128]⟩
abbrev S1x8 : Shape := ⟨2, ![1, 8]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S_ : Shape := ⟨0, ![]⟩

class Facts : Prop where
  bcast_S_S16384x512 : S_.BroadcastsInDim S16384x512 (![] : Fin 0 → Fin S16384x512.rank)
  bcast_S_S16384x128 : S_.BroadcastsInDim S16384x128 (![] : Fin 0 → Fin S16384x128.rank)
  bcast_S_S1x8 : S_.BroadcastsInDim S1x8 (![] : Fin 0 → Fin S1x8.rank)

variable [Facts]

def fn {F : FTy → Type} [FloatOps F] (main_arg0 : FVec F S16384x1024 .f32) (main_arg1 : FVec F S16384x512 .f32) (main_arg2 : FVec F S16384x512 .f32) (main_arg3 : FVec F S16384x512 .f32) (main_arg4 : FVec F S16384x512 .f32) (main_arg5 : FVec F S16384x128 .f32) (main_arg6 : FVec F S16384x128 .f32) (main_arg7 : FVec F S1x128 .f32) (main_arg8 : FVec F S1x8 .f32) (main_arg9 : FVec F S1x1024x1024 .f32) (main_arg10 : FVec F S1x1024 .f32) (main_arg11 : FVec F S1x1024x5632 .f32) (main_arg12 : FVec F S1x2816x1024 .f32) : IVec S16384x512 1 × IVec S16384x128 1 × IVec S1x8 1 :=
  let main_v0 : FVec F S16384x512 .f32 := Host.absf main_arg4
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_v3 : FVec F S16384x128 .f32 := Host.absf main_arg5
  let main_cst_0 : FVec F S_ .f32 := constant S_ .f32 0x7F800000#32
  let main_v4 : FVec F S16384x128 .f32 := broadcastInDim S16384x128 ![] bcast_S_S16384x128 main_cst_0
  let main_v5 : IVec S16384x128 1 := cmpf .olt main_v3 main_v4
  let main_v6 : FVec F S1x8 .f32 := Host.absf main_arg8
  let main_cst_1 : FVec F S_ .f32 := constant S_ .f32 0x7F800000#32
  let main_v7 : FVec F S1x8 .f32 := broadcastInDim S1x8 ![] bcast_S_S1x8 main_cst_1
  let main_v8 : IVec S1x8 1 := cmpf .olt main_v6 main_v7
  (main_v2, main_v5, main_v8)
-- ==== Pre_finite_sample.lean ====
abbrev S65536x1024 : Shape := ⟨2, ![65536, 1024]⟩
abbrev S65536x512 : Shape := ⟨2, ![65536, 512]⟩
abbrev S65536x128 : Shape := ⟨2, ![65536, 128]⟩
abbrev S1x128 : Shape := ⟨2, ![1, 128]⟩
abbrev S1x8 : Shape := ⟨2, ![1, 8]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S_ : Shape := ⟨0, ![]⟩

class Facts : Prop where
  bcast_S_S65536x512 : S_.BroadcastsInDim S65536x512 (![] : Fin 0 → Fin S65536x512.rank)
  bcast_S_S65536x128 : S_.BroadcastsInDim S65536x128 (![] : Fin 0 → Fin S65536x128.rank)
  bcast_S_S1x8 : S_.BroadcastsInDim S1x8 (![] : Fin 0 → Fin S1x8.rank)

variable [Facts]

def fn {F : FTy → Type} [FloatOps F] (main_arg0 : FVec F S65536x1024 .f32) (main_arg1 : FVec F S65536x512 .f32) (main_arg2 : FVec F S65536x512 .f32) (main_arg3 : FVec F S65536x512 .f32) (main_arg4 : FVec F S65536x512 .f32) (main_arg5 : FVec F S65536x128 .f32) (main_arg6 : FVec F S65536x128 .f32) (main_arg7 : FVec F S1x128 .f32) (main_arg8 : FVec F S1x8 .f32) (main_arg9 : FVec F S1x1024x1024 .f32) (main_arg10 : FVec F S1x1024 .f32) (main_arg11 : FVec F S1x1024x5632 .f32) (main_arg12 : FVec F S1x2816x1024 .f32) : IVec S65536x512 1 × IVec S65536x128 1 × IVec S1x8 1 :=
  let main_v0 : FVec F S65536x512 .f32 := Host.absf main_arg4
  let main_cst : FVec F S_ .f32 := constant S_ .f32 0x7F800000#32
  let main_v1 : FVec F S65536x512 .f32 := broadcastInDim S65536x512 ![] bcast_S_S65536x512 main_cst
  let main_v2 : IVec S65536x512 1 := cmpf .olt main_v0 main_v1
  let main_v3 : FVec F S65536x128 .f32 := Host.absf main_arg5
  let main_cst_0 : FVec F S_ .f32 := constant S_ .f32 0x7F800000#32
  let main_v4 : FVec F S65536x128 .f32 := broadcastInDim S65536x128 ![] bcast_S_S65536x128 main_cst_0
  let main_v5 : IVec S65536x128 1 := cmpf .olt main_v3 main_v4
  let main_v6 : FVec F S1x8 .f32 := Host.absf main_arg8
  let main_cst_1 : FVec F S_ .f32 := constant S_ .f32 0x7F800000#32
  let main_v7 : FVec F S1x8 .f32 := broadcastInDim S1x8 ![] bcast_S_S1x8 main_cst_1
  let main_v8 : IVec S1x8 1 := cmpf .olt main_v6 main_v7
  (main_v2, main_v5, main_v8)
-- ==== Kernel.lean ====
abbrev S16384x1024 : Shape := ⟨2, ![16384, 1024]⟩
abbrev S16384x512 : Shape := ⟨2, ![16384, 512]⟩
abbrev S16384x128 : Shape := ⟨2, ![16384, 128]⟩
abbrev S1x128 : Shape := ⟨2, ![1, 128]⟩
abbrev S1x8 : Shape := ⟨2, ![1, 8]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S128x256 : Shape := ⟨2, ![128, 256]⟩
abbrev S128 : Shape := ⟨1, ![128]⟩
abbrev S8 : Shape := ⟨1, ![8]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S16384x64 : Shape := ⟨2, ![16384, 64]⟩
abbrev S512x1024 : Shape := ⟨2, ![512, 1024]⟩
abbrev S512x512 : Shape := ⟨2, ![512, 512]⟩
abbrev S128x512 : Shape := ⟨2, ![128, 512]⟩
abbrev S2x512x512 : Shape := ⟨3, ![2, 512, 512]⟩
abbrev S128x128 : Shape := ⟨2, ![128, 128]⟩
abbrev S512x128 : Shape := ⟨2, ![512, 128]⟩
abbrev S768x128 : Shape := ⟨2, ![768, 128]⟩
abbrev S384x128 : Shape := ⟨2, ![384, 128]⟩
abbrev S512x384 : Shape := ⟨2, ![512, 384]⟩
abbrev S128x384 : Shape := ⟨2, ![128, 384]⟩
abbrev S1 : Shape := ⟨1, ![1]⟩
abbrev S128x1 : Shape := ⟨2, ![128, 1]⟩
abbrev S1x512x512 : Shape := ⟨3, ![1, 512, 512]⟩
abbrev S1x128x128 : Shape := ⟨3, ![1, 128, 128]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 38
  | .vmem => 29
  | .smem => 1
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x512, .f32⟩
  | .hbm, ⟨5, _⟩ => ⟨S16384x128, .f32⟩
  | .hbm, ⟨6, _⟩ => ⟨S16384x128, .f32⟩
  | .hbm, ⟨7, _⟩ => ⟨S1x128, .f32⟩
  | .hbm, ⟨8, _⟩ => ⟨S1x8, .f32⟩
  | .hbm, ⟨9, _⟩ => ⟨S1x1024x1024, .f32⟩
  | .hbm, ⟨10, _⟩ => ⟨S1x1024, .f32⟩
  | .hbm, ⟨11, _⟩ => ⟨S1x1024x5632, .f32⟩
  | .hbm, ⟨12, _⟩ => ⟨S1x2816x1024, .f32⟩
  | .hbm, ⟨13, _⟩ => ⟨S128x256, .f32⟩
  | .hbm, ⟨14, _⟩ => ⟨S128, .f32⟩
  | .hbm, ⟨15, _⟩ => ⟨S1x128, .f32⟩
  | .hbm, ⟨16, _⟩ => ⟨S8, .f32⟩
  | .hbm, ⟨17, _⟩ => ⟨S1024x1024, .f32⟩
  | .hbm, ⟨18, _⟩ => ⟨S1024x1024, .bf16⟩
  | .hbm, ⟨19, _⟩ => ⟨S1024, .f32⟩
  | .hbm, ⟨20, _⟩ => ⟨S1x1024, .f32⟩
  | .hbm, ⟨21, _⟩ => ⟨S1024x5632, .f32⟩
  | .hbm, ⟨22, _⟩ => ⟨S1024x5632, .bf16⟩
  | .hbm, ⟨23, _⟩ => ⟨S2816x1024, .f32⟩
  | .hbm, ⟨24, _⟩ => ⟨S2816x1024, .bf16⟩
  | .hbm, ⟨25, _⟩ => ⟨S_, .f32⟩
  | .hbm, ⟨26, _⟩ => ⟨S16384x512, .f32⟩
  | .hbm, ⟨27, _⟩ => ⟨S16384x512, .f32⟩
  | .hbm, ⟨28, _⟩ => ⟨S16384x512, .bf16⟩
  | .hbm, ⟨29, _⟩ => ⟨S16384x64, .f32⟩
  | .hbm, ⟨30, _⟩ => ⟨S16384x64, .f32⟩
  | .hbm, ⟨31, _⟩ => ⟨S16384x128, .f32⟩
  | .hbm, ⟨32, _⟩ => ⟨S16384x64, .f32⟩
  | .hbm, ⟨33, _⟩ => ⟨S16384x64, .f32⟩
  | .hbm, ⟨34, _⟩ => ⟨S16384x128, .f32⟩
  | .hbm, ⟨35, _⟩ => ⟨S16384x512, .f32⟩
  | .hbm, ⟨36, _⟩ => ⟨S16384x512, .bf16⟩
  | .hbm, ⟨37, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S1x128, .f32⟩
  | .local _ .vmem, ⟨9, _⟩ => ⟨S1024x1024, .bf16⟩
  | .local _ .vmem, ⟨10, _⟩ => ⟨S1x1024, .f32⟩
  | .local _ .vmem, ⟨11, _⟩ => ⟨S1024x5632, .bf16⟩
  | .local _ .vmem, ⟨12, _⟩ => ⟨S2816x1024, .bf16⟩
  | .local _ .vmem, ⟨13, _⟩ => ⟨S128x256, .f32⟩
  | .local _ .vmem, ⟨14, _⟩ => ⟨S512x512, .bf16⟩
  | .local _ .vmem, ⟨15, _⟩ => ⟨S128x512, .bf16⟩
  | .local _ .vmem, ⟨16, _⟩ => ⟨S512x512, .bf16⟩
  | .local _ .vmem, ⟨17, _⟩ => ⟨S128x512, .bf16⟩
  | .local _ .vmem, ⟨18, _⟩ => ⟨S512x512, .bf16⟩
  | .local _ .vmem, ⟨19, _⟩ => ⟨S512x512, .bf16⟩
  | .local _ .vmem, ⟨20, _⟩ => ⟨S128x512, .bf16⟩
  | .local _ .vmem, ⟨21, _⟩ => ⟨S128x512, .bf16⟩
  | .local _ .vmem, ⟨22, _⟩ => ⟨S512x512, .bf16⟩
  | .local _ .vmem, ⟨23, _⟩ => ⟨S512x512, .bf16⟩
  | .local _ .vmem, ⟨24, _⟩ => ⟨S128x512, .bf16⟩
  | .local _ .vmem, ⟨25, _⟩ => ⟨S128x512, .bf16⟩
  | .local _ .vmem, ⟨26, _⟩ => ⟨S512x1024, .f32⟩
  | .local _ .vmem, ⟨27, _⟩ => ⟨S512x1024, .f32⟩
  | .local _ .vmem, ⟨28, _⟩ => ⟨S2x512x512, .bf16⟩
  | .local _ .smem, ⟨0, _⟩ => ⟨S8, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .smem, ⟨0, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg19_1 : Ref sig .tc := ⟨.vmem, 27, rfl⟩
abbrev cc0_scratch0 : Ref sig .tc := ⟨.vmem, 28, rfl⟩
abbrev cc0_stg9_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28

abbrev nD : Nat := 1
abbrev τ : Topo := Topo.v7x

variable {F : FTy → Type} [FloatOps F]

abbrev grid0 : Pipeline.Grid := ⟨1, ![32], ![false]⟩

def k0_off1 (i : grid0.Coords) : Fin 3 → Nat :=
  let arg0 : BitVec 32 := BitVec.ofNat 32 (i 0).val
  let c2_i32 : BitVec 32 := 2#32
  let v6 : BitVec 32 := Scalar.remsi arg0 c2_i32
  let v115 : Index := Scalar.indexCast v6
  let c0_50 : Index := 0#32
  let c0_51 : Index := 0#32
  ![v115.toNat, 0, 0]
def k0_off2 (i : grid0.Coords) : Fin 3 → Nat :=
  let c1_i32_1 : BitVec 32 := 1#32
  let arg0 : BitVec 32 := BitVec.ofNat 32 (i 0).val
  let c2_i32 : BitVec 32 := 2#32
  let v6 : BitVec 32 := Scalar.remsi arg0 c2_i32
  let v7 : BitVec 32 := Scalar.subi c1_i32_1 v6
  let c0_i32_193 : BitVec 32 := 0#32
  let c0_i32_194 : BitVec 32 := 0#32
  ![v7.toNat, 0, 0]
def k0_off3 (i : grid0.Coords) : Fin 3 → Nat :=
  let c1_i32_1 : BitVec 32 := 1#32
  let arg0 : BitVec 32 := BitVec.ofNat 32 (i 0).val
  let c2_i32 : BitVec 32 := 2#32
  let v6 : BitVec 32 := Scalar.remsi arg0 c2_i32
  let v7 : BitVec 32 := Scalar.subi c1_i32_1 v6
  let c0_i32_193 : BitVec 32 := 0#32
  let c0_i32_194 : BitVec 32 := 0#32
  ![v7.toNat, 0, 0]
def k0_off4 (i : grid0.Coords) : Fin 3 → Nat :=
  let c1_i32_1 : BitVec 32 := 1#32
  let arg0 : BitVec 32 := BitVec.ofNat 32 (i 0).val
  let c2_i32 : BitVec 32 := 2#32
  let v6 : BitVec 32 := Scalar.remsi arg0 c2_i32
  let v7 : BitVec 32 := Scalar.subi c1_i32_1 v6
  let c0_i32_197 : BitVec 32 := 0#32
  ![v7.toNat, 0, 128]
def k0_off5 (i : grid0.Coords) : Fin 3 → Nat :=
  let c1_i32_1 : BitVec 32 := 1#32
  let arg0 : BitVec 32 := BitVec.ofNat 32 (i 0).val
  let c2_i32 : BitVec 32 := 2#32
  let v6 : BitVec 32 := Scalar.remsi arg0 c2_i32
  let v7 : BitVec 32 := Scalar.subi c1_i32_1 v6
  let c0_i32_201 : BitVec 32 := 0#32
  ![v7.toNat, 0, 256]
def k0_off6 (i : grid0.Coords) : Fin 3 → Nat :=
  let c1_i32_1 : BitVec 32 := 1#32
  let arg0 : BitVec 32 := BitVec.ofNat 32 (i 0).val
  let c2_i32 : BitVec 32 := 2#32
  let v6 : BitVec 32 := Scalar.remsi arg0 c2_i32
  let v7 : BitVec 32 := Scalar.subi c1_i32_1 v6
  let c0_i32_205 : BitVec 32 := 0#32
  ![v7.toNat, 0, 384]
def k0_off7 (i : grid0.Coords) : Fin 3 → Nat :=
  let c1_i32_1 : BitVec 32 := 1#32
  let arg0 : BitVec 32 := BitVec.ofNat 32 (i 0).val
  let c2_i32 : BitVec 32 := 2#32
  let v6 : BitVec 32 := Scalar.remsi arg0 c2_i32
  let v7 : BitVec 32 := Scalar.subi c1_i32_1 v6
  let c0_i32_287 : BitVec 32 := 0#32
  ![v7.toNat, 128, 0]
def k0_off8 (i : grid0.Coords) : Fin 3 → Nat :=
  let c1_i32_1 : BitVec 32 := 1#32
  let arg0 : BitVec 32 := BitVec.ofNat 32 (i 0).val
  let c2_i32 : BitVec 32 := 2#32
  let v6 : BitVec 32 := Scalar.remsi arg0 c2_i32
  let v7 : BitVec 32 := Scalar.subi c1_i32_1 v6
  ![v7.toNat, 128, 128]
def k0_off9 (i : grid0.Coords) : Fin 3 → Nat :=
  let c1_i32_1 : BitVec 32 := 1#32
  let arg0 : BitVec 32 := BitVec.ofNat 32 (i 0).val
  let c2_i32 : BitVec 32 := 2#32
  let v6 : BitVec 32 := Scalar.remsi arg0 c2_i32
  let v7 : BitVec 32 := Scalar.subi c1_i32_1 v6
  ![v7.toNat, 128, 256]
def k0_off10 (i : grid0.Coords) : Fin 3 → Nat :=
  let c1_i32_1 : BitVec 32 := 1#32
  let arg0 : BitVec 32 := BitVec.ofNat 32 (i 0).val
  let c2_i32 : BitVec 32 := 2#32
  let v6 : BitVec 32 := Scalar.remsi arg0 c2_i32
  let v7 : BitVec 32 := Scalar.subi c1_i32_1 v6
  ![v7.toNat, 128, 384]
def k0_off11 (i : grid0.Coords) : Fin 3 → Nat :=
  let c1_i32_1 : BitVec 32 := 1#32
  let arg0 : BitVec 32 := BitVec.ofNat 32 (i 0).val
  let c2_i32 : BitVec 32 := 2#32
  let v6 : BitVec 32 := Scalar.remsi arg0 c2_i32
  let v7 : BitVec 32 := Scalar.subi c1_i32_1 v6
  let c0_i32_380 : BitVec 32 := 0#32
  ![v7.toNat, 256, 0]
def k0_off12 (i : grid0.Coords) : Fin 3 → Nat :=
  let c1_i32_1 : BitVec 32 := 1#32
  let arg0 : BitVec 32 := BitVec.ofNat 32 (i 0).val
  let c2_i32 : BitVec 32 := 2#32
  let v6 : BitVec 32 := Scalar.remsi arg0 c2_i32
  let v7 : BitVec 32 := Scalar.subi c1_i32_1 v6
  ![v7.toNat, 256, 128]
def k0_off13 (i : grid0.Coords) : Fin 3 → Nat :=
  let c1_i32_1 : BitVec 32 := 1#32
  let arg0 : BitVec 32 := BitVec.ofNat 32 (i 0).val
  let c2_i32 : BitVec 32 := 2#32
  let v6 : BitVec 32 := Scalar.remsi arg0 c2_i32
  let v7 : BitVec 32 := Scalar.subi c1_i32_1 v6
  ![v7.toNat, 256, 256]
def k0_off14 (i : grid0.Coords) : Fin 3 → Nat :=
  let c1_i32_1 : BitVec 32 := 1#32
  let arg0 : BitVec 32 := BitVec.ofNat 32 (i 0).val
  let c2_i32 : BitVec 32 := 2#32
  let v6 : BitVec 32 := Scalar.remsi arg0 c2_i32
  let v7 : BitVec 32 := Scalar.subi c1_i32_1 v6
  ![v7.toNat, 256, 384]
def k0_off15 (i : grid0.Coords) : Fin 3 → Nat :=
  let c1_i32_1 : BitVec 32 := 1#32
  let arg0 : BitVec 32 := BitVec.ofNat 32 (i 0).val
  let c2_i32 : BitVec 32 := 2#32
  let v6 : BitVec 32 := Scalar.remsi arg0 c2_i32
  let v7 : BitVec 32 := Scalar.subi c1_i32_1 v6
  let c0_i32_407 : BitVec 32 := 0#32
  ![v7.toNat, 384, 0]
def k0_off16 (i : grid0.Coords) : Fin 3 → Nat :=
  let c1_i32_1 : BitVec 32 := 1#32
  let arg0 : BitVec 32 := BitVec.ofNat 32 (i 0).val
  let c2_i32 : BitVec 32 := 2#32
  let v6 : BitVec 32 := Scalar.remsi arg0 c2_i32
  let v7 : BitVec 32 := Scalar.subi c1_i32_1 v6
  ![v7.toNat, 384, 128]
def k0_off17 (i : grid0.Coords) : Fin 3 → Nat :=
  let c1_i32_1 : BitVec 32 := 1#32
  let arg0 : BitVec 32 := BitVec.ofNat 32 (i 0).val
  let c2_i32 : BitVec 32 := 2#32
  let v6 : BitVec 32 := Scalar.remsi arg0 c2_i32
  let v7 : BitVec 32 := Scalar.subi c1_i32_1 v6
  ![v7.toNat, 384, 256]
def k0_off18 (i : grid0.Coords) : Fin 3 → Nat :=
  let c1_i32_1 : BitVec 32 := 1#32
  let arg0 : BitVec 32 := BitVec.ofNat 32 (i 0).val
  let c2_i32 : BitVec 32 := 2#32
  let v6 : BitVec 32 := Scalar.remsi arg0 c2_i32
  let v7 : BitVec 32 := Scalar.subi c1_i32_1 v6
  ![v7.toNat, 384, 384]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c4_i32 : BitVec 32 := 4#32
  let c0_i32 : BitVec 32 := 0#32
  let c0_i32_0 : BitVec 32 := 0#32
  ![c4_i32.toNat, c0_i32.toNat]

def cc0_transform_15 (i : grid0.Coords) : Fin 2 → Nat :=
  let arg0 : BitVec 32 := BitVec.ofNat 32 (i 0).val
  let c1_i32 : BitVec 32 := 1#32
  let v0 : BitVec 32 := Scalar.addi arg0 c1_i32
  let c31_i32 : BitVec 32 := 31#32
  let v1 : BitVec 32 := Scalar.minsi v0 c31_i32
  let c0_i32 : BitVec 32 := 0#32
  let c0_i32_0 : BitVec 32 := 0#32
  ![v1.toNat, c0_i32.toNat]

def cc0_transform_16 (i : grid0.Coords) : Fin 2 → Nat :=
  let arg0 : BitVec 32 := BitVec.ofNat 32 (i 0).val
  let c1_i32 : BitVec 32 := 1#32
  let v0 : BitVec 32 := Scalar.addi arg0 c1_i32
  let c31_i32 : BitVec 32 := 31#32
  let v1 : BitVec 32 := Scalar.minsi v0 c31_i32
  let c4_i32 : BitVec 32 := 4#32
  let v2 : BitVec 32 := Scalar.muli c4_i32 v1
  let c1_i32_0 : BitVec 32 := 1#32
  let v3 : BitVec 32 := Scalar.subi v2 c1_i32_0
  let c0_i32 : BitVec 32 := 0#32
  let v4 : BitVec 32 := Scalar.maxsi v3 c0_i32
  let c0_i32_1 : BitVec 32 := 0#32
  let c0_i32_2 : BitVec 32 := 0#32
  ![v4.toNat, c0_i32_1.toNat]

def cc0_transform_17 (i : grid0.Coords) : Fin 2 → Nat :=
  let arg0 : BitVec 32 := BitVec.ofNat 32 (i 0).val
  let c1_i32 : BitVec 32 := 1#32
  let v0 : BitVec 32 := Scalar.addi arg0 c1_i32
  let c31_i32 : BitVec 32 := 31#32
  let v1 : BitVec 32 := Scalar.minsi v0 c31_i32
  let c0_i32 : BitVec 32 := 0#32
  let c0_i32_0 : BitVec 32 := 0#32
  ![v1.toNat, c0_i32.toNat]

def cc0_transform_18 (i : grid0.Coords) : Fin 2 → Nat :=
  let arg0 : BitVec 32 := BitVec.ofNat 32 (i 0).val
  let c1_i32 : BitVec 32 := 1#32
  let v0 : BitVec 32 := Scalar.addi arg0 c1_i32
  let c31_i32 : BitVec 32 := 31#32
  let v1 : BitVec 32 := Scalar.minsi v0 c31_i32
  let c4_i32 : BitVec 32 := 4#32
  let v2 : BitVec 32 := Scalar.muli c4_i32 v1
  let c4_i32_0 : BitVec 32 := 4#32
  let v3 : BitVec 32 := Scalar.addi v2 c4_i32_0
  let c127_i32 : BitVec 32 := 127#32
  let v4 : BitVec 32 := Scalar.minsi v3 c127_i32
  let c0_i32 : BitVec 32 := 0#32
  let c0_i32_1 : BitVec 32 := 0#32
  ![v4.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x5632 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .smem S8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S128x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S128x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== KernelIdeal.lean ====
abbrev S16384x1024 : Shape := ⟨2, ![16384, 1024]⟩
abbrev S16384x512 : Shape := ⟨2, ![16384, 512]⟩
abbrev S16384x128 : Shape := ⟨2, ![16384, 128]⟩
abbrev S1x128 : Shape := ⟨2, ![1, 128]⟩
abbrev S1x8 : Shape := ⟨2, ![1, 8]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S128x256 : Shape := ⟨2, ![128, 256]⟩
abbrev S128 : Shape := ⟨1, ![128]⟩
abbrev S8 : Shape := ⟨1, ![8]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S16384x64 : Shape := ⟨2, ![16384, 64]⟩
abbrev S512x1024 : Shape := ⟨2, ![512, 1024]⟩
abbrev S512x512 : Shape := ⟨2, ![512, 512]⟩
abbrev S128x512 : Shape := ⟨2, ![128, 512]⟩
abbrev S2x512x512 : Shape := ⟨3, ![2, 512, 512]⟩
abbrev S128x128 : Shape := ⟨2, ![128, 128]⟩
abbrev S512x128 : Shape := ⟨2, ![512, 128]⟩
abbrev S768x128 : Shape := ⟨2, ![768, 128]⟩
abbrev S384x128 : Shape := ⟨2, ![384, 128]⟩
abbrev S512x384 : Shape := ⟨2, ![512, 384]⟩
abbrev S128x384 : Shape := ⟨2, ![128, 384]⟩
abbrev S1 : Shape := ⟨1, ![1]⟩
abbrev S128x1 : Shape := ⟨2, ![128, 1]⟩
abbrev S1x512x512 : Shape := ⟨3, ![1, 512, 512]⟩
abbrev S1x128x128 : Shape := ⟨3, ![1, 128, 128]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 38
  | .vmem => 29
  | .smem => 1
  | _ => 0

abbrev bufTy : (tb : Table) → Fin (tcTables nBuf tb) → BufTy
  | .hbm, ⟨0, _⟩ => ⟨S16384x1024, .f32⟩
  | .hbm, ⟨1, _⟩ => ⟨S16384x512, .f32⟩
  | .hbm, ⟨2, _⟩ => ⟨S16384x512, .f32⟩
  | .hbm, ⟨3, _⟩ => ⟨S16384x512, .f32⟩
  | .hbm, ⟨4, _⟩ => ⟨S16384x512, .f32⟩
  | .hbm, ⟨5, _⟩ => ⟨S16384x128, .f32⟩
  | .hbm, ⟨6, _⟩ => ⟨S16384x128, .f32⟩
  | .hbm, ⟨7, _⟩ => ⟨S1x128, .f32⟩
  | .hbm, ⟨8, _⟩ => ⟨S1x8, .f32⟩
  | .hbm, ⟨9, _⟩ => ⟨S1x1024x1024, .f32⟩
  | .hbm, ⟨10, _⟩ => ⟨S1x1024, .f32⟩
  | .hbm, ⟨11, _⟩ => ⟨S1x1024x5632, .f32⟩
  | .hbm, ⟨12, _⟩ => ⟨S1x2816x1024, .f32⟩
  | .hbm, ⟨13, _⟩ => ⟨S128x256, .f32⟩
  | .hbm, ⟨14, _⟩ => ⟨S128, .f32⟩
  | .hbm, ⟨15, _⟩ => ⟨S1x128, .f32⟩
  | .hbm, ⟨16, _⟩ => ⟨S8, .f32⟩
  | .hbm, ⟨17, _⟩ => ⟨S1024x1024, .f32⟩
  | .hbm, ⟨18, _⟩ => ⟨S1024x1024, .bf16⟩
  | .hbm, ⟨19, _⟩ => ⟨S1024, .f32⟩
  | .hbm, ⟨20, _⟩ => ⟨S1x1024, .f32⟩
  | .hbm, ⟨21, _⟩ => ⟨S1024x5632, .f32⟩
  | .hbm, ⟨22, _⟩ => ⟨S1024x5632, .bf16⟩
  | .hbm, ⟨23, _⟩ => ⟨S2816x1024, .f32⟩
  | .hbm, ⟨24, _⟩ => ⟨S2816x1024, .bf16⟩
  | .hbm, ⟨25, _⟩ => ⟨S_, .f32⟩
  | .hbm, ⟨26, _⟩ => ⟨S16384x512, .f32⟩
  | .hbm, ⟨27, _⟩ => ⟨S16384x512, .f32⟩
  | .hbm, ⟨28, _⟩ => ⟨S16384x512, .bf16⟩
  | .hbm, ⟨29, _⟩ => ⟨S16384x64, .f32⟩
  | .hbm, ⟨30, _⟩ => ⟨S16384x64, .f32⟩
  | .hbm, ⟨31, _⟩ => ⟨S16384x128, .f32⟩
  | .hbm, ⟨32, _⟩ => ⟨S16384x64, .f32⟩
  | .hbm, ⟨33, _⟩ => ⟨S16384x64, .f32⟩
  | .hbm, ⟨34, _⟩ => ⟨S16384x128, .f32⟩
  | .hbm, ⟨35, _⟩ => ⟨S16384x512, .f32⟩
  | .hbm, ⟨36, _⟩ => ⟨S16384x512, .bf16⟩
  | .hbm, ⟨37, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S1x128, .f32⟩
  | .local _ .vmem, ⟨9, _⟩ => ⟨S1024x1024, .bf16⟩
  | .local _ .vmem, ⟨10, _⟩ => ⟨S1x1024, .f32⟩
  | .local _ .vmem, ⟨11, _⟩ => ⟨S1024x5632, .bf16⟩
  | .local _ .vmem, ⟨12, _⟩ => ⟨S2816x1024, .bf16⟩
  | .local _ .vmem, ⟨13, _⟩ => ⟨S128x256, .f32⟩
  | .local _ .vmem, ⟨14, _⟩ => ⟨S512x512, .bf16⟩
  | .local _ .vmem, ⟨15, _⟩ => ⟨S128x512, .bf16⟩
  | .local _ .vmem, ⟨16, _⟩ => ⟨S512x512, .bf16⟩
  | .local _ .vmem, ⟨17, _⟩ => ⟨S128x512, .bf16⟩
  | .local _ .vmem, ⟨18, _⟩ => ⟨S512x512, .bf16⟩
  | .local _ .vmem, ⟨19, _⟩ => ⟨S512x512, .bf16⟩
  | .local _ .vmem, ⟨20, _⟩ => ⟨S128x512, .bf16⟩
  | .local _ .vmem, ⟨21, _⟩ => ⟨S128x512, .bf16⟩
  | .local _ .vmem, ⟨22, _⟩ => ⟨S512x512, .bf16⟩
  | .local _ .vmem, ⟨23, _⟩ => ⟨S512x512, .bf16⟩
  | .local _ .vmem, ⟨24, _⟩ => ⟨S128x512, .bf16⟩
  | .local _ .vmem, ⟨25, _⟩ => ⟨S128x512, .bf16⟩
  | .local _ .vmem, ⟨26, _⟩ => ⟨S512x1024, .f32⟩
  | .local _ .vmem, ⟨27, _⟩ => ⟨S512x1024, .f32⟩
  | .local _ .vmem, ⟨28, _⟩ => ⟨S2x512x512, .bf16⟩
  | .local _ .smem, ⟨0, _⟩ => ⟨S8, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .smem, ⟨0, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg19_1 : Ref sig .tc := ⟨.vmem, 27, rfl⟩
abbrev cc0_scratch0 : Ref sig .tc := ⟨.vmem, 28, rfl⟩
abbrev cc0_stg9_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28

abbrev nD : Nat := 1
abbrev τ : Topo := Topo.v7x

variable {F : FTy → Type} [FloatOps F]

abbrev grid0 : Pipeline.Grid := ⟨1, ![32], ![false]⟩

def k0_off1 (i : grid0.Coords) : Fin 3 → Nat :=
  let arg0 : BitVec 32 := BitVec.ofNat 32 (i 0).val
  let c2_i32 : BitVec 32 := 2#32
  let v6 : BitVec 32 := Scalar.remsi arg0 c2_i32
  let v115 : Index := Scalar.indexCast v6
  let c0_50 : Index := 0#32
  let c0_51 : Index := 0#32
  ![v115.toNat, 0, 0]
def k0_off2 (i : grid0.Coords) : Fin 3 → Nat :=
  let c1_i32_1 : BitVec 32 := 1#32
  let arg0 : BitVec 32 := BitVec.ofNat 32 (i 0).val
  let c2_i32 : BitVec 32 := 2#32
  let v6 : BitVec 32 := Scalar.remsi arg0 c2_i32
  let v7 : BitVec 32 := Scalar.subi c1_i32_1 v6
  let c0_i32_193 : BitVec 32 := 0#32
  let c0_i32_194 : BitVec 32 := 0#32
  ![v7.toNat, 0, 0]
def k0_off3 (i : grid0.Coords) : Fin 3 → Nat :=
  let c1_i32_1 : BitVec 32 := 1#32
  let arg0 : BitVec 32 := BitVec.ofNat 32 (i 0).val
  let c2_i32 : BitVec 32 := 2#32
  let v6 : BitVec 32 := Scalar.remsi arg0 c2_i32
  let v7 : BitVec 32 := Scalar.subi c1_i32_1 v6
  let c0_i32_193 : BitVec 32 := 0#32
  let c0_i32_194 : BitVec 32 := 0#32
  ![v7.toNat, 0, 0]
def k0_off4 (i : grid0.Coords) : Fin 3 → Nat :=
  let c1_i32_1 : BitVec 32 := 1#32
  let arg0 : BitVec 32 := BitVec.ofNat 32 (i 0).val
  let c2_i32 : BitVec 32 := 2#32
  let v6 : BitVec 32 := Scalar.remsi arg0 c2_i32
  let v7 : BitVec 32 := Scalar.subi c1_i32_1 v6
  let c0_i32_197 : BitVec 32 := 0#32
  ![v7.toNat, 0, 128]
def k0_off5 (i : grid0.Coords) : Fin 3 → Nat :=
  let c1_i32_1 : BitVec 32 := 1#32
  let arg0 : BitVec 32 := BitVec.ofNat 32 (i 0).val
  let c2_i32 : BitVec 32 := 2#32
  let v6 : BitVec 32 := Scalar.remsi arg0 c2_i32
  let v7 : BitVec 32 := Scalar.subi c1_i32_1 v6
  let c0_i32_201 : BitVec 32 := 0#32
  ![v7.toNat, 0, 256]
def k0_off6 (i : grid0.Coords) : Fin 3 → Nat :=
  let c1_i32_1 : BitVec 32 := 1#32
  let arg0 : BitVec 32 := BitVec.ofNat 32 (i 0).val
  let c2_i32 : BitVec 32 := 2#32
  let v6 : BitVec 32 := Scalar.remsi arg0 c2_i32
  let v7 : BitVec 32 := Scalar.subi c1_i32_1 v6
  let c0_i32_205 : BitVec 32 := 0#32
  ![v7.toNat, 0, 384]
def k0_off7 (i : grid0.Coords) : Fin 3 → Nat :=
  let c1_i32_1 : BitVec 32 := 1#32
  let arg0 : BitVec 32 := BitVec.ofNat 32 (i 0).val
  let c2_i32 : BitVec 32 := 2#32
  let v6 : BitVec 32 := Scalar.remsi arg0 c2_i32
  let v7 : BitVec 32 := Scalar.subi c1_i32_1 v6
  let c0_i32_287 : BitVec 32 := 0#32
  ![v7.toNat, 128, 0]
def k0_off8 (i : grid0.Coords) : Fin 3 → Nat :=
  let c1_i32_1 : BitVec 32 := 1#32
  let arg0 : BitVec 32 := BitVec.ofNat 32 (i 0).val
  let c2_i32 : BitVec 32 := 2#32
  let v6 : BitVec 32 := Scalar.remsi arg0 c2_i32
  let v7 : BitVec 32 := Scalar.subi c1_i32_1 v6
  ![v7.toNat, 128, 128]
def k0_off9 (i : grid0.Coords) : Fin 3 → Nat :=
  let c1_i32_1 : BitVec 32 := 1#32
  let arg0 : BitVec 32 := BitVec.ofNat 32 (i 0).val
  let c2_i32 : BitVec 32 := 2#32
  let v6 : BitVec 32 := Scalar.remsi arg0 c2_i32
  let v7 : BitVec 32 := Scalar.subi c1_i32_1 v6
  ![v7.toNat, 128, 256]
def k0_off10 (i : grid0.Coords) : Fin 3 → Nat :=
  let c1_i32_1 : BitVec 32 := 1#32
  let arg0 : BitVec 32 := BitVec.ofNat 32 (i 0).val
  let c2_i32 : BitVec 32 := 2#32
  let v6 : BitVec 32 := Scalar.remsi arg0 c2_i32
  let v7 : BitVec 32 := Scalar.subi c1_i32_1 v6
  ![v7.toNat, 128, 384]
def k0_off11 (i : grid0.Coords) : Fin 3 → Nat :=
  let c1_i32_1 : BitVec 32 := 1#32
  let arg0 : BitVec 32 := BitVec.ofNat 32 (i 0).val
  let c2_i32 : BitVec 32 := 2#32
  let v6 : BitVec 32 := Scalar.remsi arg0 c2_i32
  let v7 : BitVec 32 := Scalar.subi c1_i32_1 v6
  let c0_i32_380 : BitVec 32 := 0#32
  ![v7.toNat, 256, 0]
def k0_off12 (i : grid0.Coords) : Fin 3 → Nat :=
  let c1_i32_1 : BitVec 32 := 1#32
  let arg0 : BitVec 32 := BitVec.ofNat 32 (i 0).val
  let c2_i32 : BitVec 32 := 2#32
  let v6 : BitVec 32 := Scalar.remsi arg0 c2_i32
  let v7 : BitVec 32 := Scalar.subi c1_i32_1 v6
  ![v7.toNat, 256, 128]
def k0_off13 (i : grid0.Coords) : Fin 3 → Nat :=
  let c1_i32_1 : BitVec 32 := 1#32
  let arg0 : BitVec 32 := BitVec.ofNat 32 (i 0).val
  let c2_i32 : BitVec 32 := 2#32
  let v6 : BitVec 32 := Scalar.remsi arg0 c2_i32
  let v7 : BitVec 32 := Scalar.subi c1_i32_1 v6
  ![v7.toNat, 256, 256]
def k0_off14 (i : grid0.Coords) : Fin 3 → Nat :=
  let c1_i32_1 : BitVec 32 := 1#32
  let arg0 : BitVec 32 := BitVec.ofNat 32 (i 0).val
  let c2_i32 : BitVec 32 := 2#32
  let v6 : BitVec 32 := Scalar.remsi arg0 c2_i32
  let v7 : BitVec 32 := Scalar.subi c1_i32_1 v6
  ![v7.toNat, 256, 384]
def k0_off15 (i : grid0.Coords) : Fin 3 → Nat :=
  let c1_i32_1 : BitVec 32 := 1#32
  let arg0 : BitVec 32 := BitVec.ofNat 32 (i 0).val
  let c2_i32 : BitVec 32 := 2#32
  let v6 : BitVec 32 := Scalar.remsi arg0 c2_i32
  let v7 : BitVec 32 := Scalar.subi c1_i32_1 v6
  let c0_i32_407 : BitVec 32 := 0#32
  ![v7.toNat, 384, 0]
def k0_off16 (i : grid0.Coords) : Fin 3 → Nat :=
  let c1_i32_1 : BitVec 32 := 1#32
  let arg0 : BitVec 32 := BitVec.ofNat 32 (i 0).val
  let c2_i32 : BitVec 32 := 2#32
  let v6 : BitVec 32 := Scalar.remsi arg0 c2_i32
  let v7 : BitVec 32 := Scalar.subi c1_i32_1 v6
  ![v7.toNat, 384, 128]
def k0_off17 (i : grid0.Coords) : Fin 3 → Nat :=
  let c1_i32_1 : BitVec 32 := 1#32
  let arg0 : BitVec 32 := BitVec.ofNat 32 (i 0).val
  let c2_i32 : BitVec 32 := 2#32
  let v6 : BitVec 32 := Scalar.remsi arg0 c2_i32
  let v7 : BitVec 32 := Scalar.subi c1_i32_1 v6
  ![v7.toNat, 384, 256]
def k0_off18 (i : grid0.Coords) : Fin 3 → Nat :=
  let c1_i32_1 : BitVec 32 := 1#32
  let arg0 : BitVec 32 := BitVec.ofNat 32 (i 0).val
  let c2_i32 : BitVec 32 := 2#32
  let v6 : BitVec 32 := Scalar.remsi arg0 c2_i32
  let v7 : BitVec 32 := Scalar.subi c1_i32_1 v6
  ![v7.toNat, 384, 384]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c4_i32 : BitVec 32 := 4#32
  let c0_i32 : BitVec 32 := 0#32
  let c0_i32_0 : BitVec 32 := 0#32
  ![c4_i32.toNat, c0_i32.toNat]

def cc0_transform_15 (i : grid0.Coords) : Fin 2 → Nat :=
  let arg0 : BitVec 32 := BitVec.ofNat 32 (i 0).val
  let c1_i32 : BitVec 32 := 1#32
  let v0 : BitVec 32 := Scalar.addi arg0 c1_i32
  let c31_i32 : BitVec 32 := 31#32
  let v1 : BitVec 32 := Scalar.minsi v0 c31_i32
  let c0_i32 : BitVec 32 := 0#32
  let c0_i32_0 : BitVec 32 := 0#32
  ![v1.toNat, c0_i32.toNat]

def cc0_transform_16 (i : grid0.Coords) : Fin 2 → Nat :=
  let arg0 : BitVec 32 := BitVec.ofNat 32 (i 0).val
  let c1_i32 : BitVec 32 := 1#32
  let v0 : BitVec 32 := Scalar.addi arg0 c1_i32
  let c31_i32 : BitVec 32 := 31#32
  let v1 : BitVec 32 := Scalar.minsi v0 c31_i32
  let c4_i32 : BitVec 32 := 4#32
  let v2 : BitVec 32 := Scalar.muli c4_i32 v1
  let c1_i32_0 : BitVec 32 := 1#32
  let v3 : BitVec 32 := Scalar.subi v2 c1_i32_0
  let c0_i32 : BitVec 32 := 0#32
  let v4 : BitVec 32 := Scalar.maxsi v3 c0_i32
  let c0_i32_1 : BitVec 32 := 0#32
  let c0_i32_2 : BitVec 32 := 0#32
  ![v4.toNat, c0_i32_1.toNat]

def cc0_transform_17 (i : grid0.Coords) : Fin 2 → Nat :=
  let arg0 : BitVec 32 := BitVec.ofNat 32 (i 0).val
  let c1_i32 : BitVec 32 := 1#32
  let v0 : BitVec 32 := Scalar.addi arg0 c1_i32
  let c31_i32 : BitVec 32 := 31#32
  let v1 : BitVec 32 := Scalar.minsi v0 c31_i32
  let c0_i32 : BitVec 32 := 0#32
  let c0_i32_0 : BitVec 32 := 0#32
  ![v1.toNat, c0_i32.toNat]

def cc0_transform_18 (i : grid0.Coords) : Fin 2 → Nat :=
  let arg0 : BitVec 32 := BitVec.ofNat 32 (i 0).val
  let c1_i32 : BitVec 32 := 1#32
  let v0 : BitVec 32 := Scalar.addi arg0 c1_i32
  let c31_i32 : BitVec 32 := 31#32
  let v1 : BitVec 32 := Scalar.minsi v0 c31_i32
  let c4_i32 : BitVec 32 := 4#32
  let v2 : BitVec 32 := Scalar.muli c4_i32 v1
  let c4_i32_0 : BitVec 32 := 4#32
  let v3 : BitVec 32 := Scalar.addi v2 c4_i32_0
  let c127_i32 : BitVec 32 := 127#32
  let v4 : BitVec 32 := Scalar.minsi v3 c127_i32
  let c0_i32 : BitVec 32 := 0#32
  let c0_i32_1 : BitVec 32 := 0#32
  ![v4.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x5632 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .smem S8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S128x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S128x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== ReferenceIdeal.lean ====
abbrev S16384x1024 : Shape := ⟨2, ![16384, 1024]⟩
abbrev S16384x512 : Shape := ⟨2, ![16384, 512]⟩
abbrev S16384x128 : Shape := ⟨2, ![16384, 128]⟩
abbrev S1x128 : Shape := ⟨2, ![1, 128]⟩
abbrev S1x8 : Shape := ⟨2, ![1, 8]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S16384x4x128 : Shape := ⟨3, ![16384, 4, 128]⟩
abbrev S128 : Shape := ⟨1, ![128]⟩
abbrev S_ : Shape := ⟨0, ![]⟩
abbrev S16384x4 : Shape := ⟨2, ![16384, 4]⟩
abbrev S16384x4x1 : Shape := ⟨3, ![16384, 4, 1]⟩
abbrev S1x1x128 : Shape := ⟨3, ![1, 1, 128]⟩
abbrev S2x64x128x2x4x64 : Shape := ⟨6, ![2, 64, 128, 2, 4, 64]⟩
abbrev S2x8192x2x64 : Shape := ⟨4, ![2, 8192, 2, 64]⟩
abbrev S2x8448x2x64 : Shape := ⟨4, ![2, 8448, 2, 64]⟩
abbrev S2x66x128x2x64 : Shape := ⟨5, ![2, 66, 128, 2, 64]⟩
abbrev S2x64x128x2x64 : Shape := ⟨5, ![2, 64, 128, 2, 64]⟩
abbrev S2x64x384x2x64 : Shape := ⟨5, ![2, 64, 384, 2, 64]⟩
abbrev S2x64x2x384x128x4 : Shape := ⟨6, ![2, 64, 2, 384, 128, 4]⟩
abbrev S2x64x2x4x128x384 : Shape := ⟨6, ![2, 64, 2, 4, 128, 384]⟩
abbrev S384 : Shape := ⟨1, ![384]⟩
abbrev S1x384 : Shape := ⟨2, ![1, 384]⟩
abbrev S128x1 : Shape := ⟨2, ![128, 1]⟩
abbrev S128x384 : Shape := ⟨2, ![128, 384]⟩
abbrev S64 : Shape := ⟨1, ![64]⟩
abbrev S64x1x1 : Shape := ⟨3, ![64, 1, 1]⟩
abbrev S1x1x384 : Shape := ⟨3, ![1, 1, 384]⟩
abbrev S64x1x384 : Shape := ⟨3, ![64, 1, 384]⟩
abbrev S1x128x384 : Shape := ⟨3, ![1, 128, 384]⟩
abbrev S64x128x384 : Shape := ⟨3, ![64, 128, 384]⟩
abbrev S1x64x1x1x128x384 : Shape := ⟨6, ![1, 64, 1, 1, 128, 384]⟩
abbrev S8 : Shape := ⟨1, ![8]⟩
abbrev S2x4 : Shape := ⟨2, ![2, 4]⟩
abbrev S1x1x2x4x1x1 : Shape := ⟨6, ![1, 1, 2, 4, 1, 1]⟩
abbrev S2x64x2x4x128 : Shape := ⟨5, ![2, 64, 2, 4, 128]⟩
abbrev S2x64x2x4x128x1 : Shape := ⟨6, ![2, 64, 2, 4, 128, 1]⟩
abbrev S2x64x2x64x4x128 : Shape := ⟨6, ![2, 64, 2, 64, 4, 128]⟩
abbrev S1024x1024 : Shape := ⟨2, ![1024, 1024]⟩
abbrev S1024 : Shape := ⟨1, ![1024]⟩
abbrev S16384 : Shape := ⟨1, ![16384]⟩
abbrev S16384x1 : Shape := ⟨2, ![16384, 1]⟩
abbrev S1024x5632 : Shape := ⟨2, ![1024, 5632]⟩
abbrev S16384x5632 : Shape := ⟨2, ![16384, 5632]⟩
abbrev S16384x2816 : Shape := ⟨2, ![16384, 2816]⟩
abbrev S2816x1024 : Shape := ⟨2, ![2816, 1024]⟩

abbrev nBuf : Space → Nat
  | .hbm => 163
  | .vmem => 0
  | .smem => 0
  | _ => 0

abbrev hbmTy0_0 (i : Nat) : BufTy := match i % 128 with
  | 0 => ⟨S16384x1024, .f32⟩
  | 1 => ⟨S16384x512, .f32⟩
  | 2 => ⟨S16384x512, .f32⟩
  | 3 => ⟨S16384x512, .f32⟩
  | 4 => ⟨S16384x512, .f32⟩
  | 5 => ⟨S16384x128, .f32⟩
  | 6 => ⟨S16384x128, .f32⟩
  | 7 => ⟨S1x128, .f32⟩
  | 8 => ⟨S1x8, .f32⟩
  | 9 => ⟨S1x1024x1024, .f32⟩
  | 10 => ⟨S1x1024, .f32⟩
  | 11 => ⟨S1x1024x5632, .f32⟩
  | 12 => ⟨S1x2816x1024, .f32⟩
  | 13 => ⟨S16384x512, .f32⟩
  | 14 => ⟨S16384x4x128, .f32⟩
  | 15 => ⟨S128, .f32⟩
  | 16 => ⟨S16384x4x128, .f32⟩
  | 17 => ⟨S_, .f32⟩
  | 18 => ⟨S16384x4, .f32⟩
  | 19 => ⟨S16384x4x1, .f32⟩
  | 20 => ⟨S_, .f32⟩
  | 21 => ⟨S16384x4x1, .f32⟩
  | 22 => ⟨S16384x4x1, .f32⟩
  | 23 => ⟨S_, .f32⟩
  | 24 => ⟨S16384x4x1, .f32⟩
  | 25 => ⟨S16384x4x1, .f32⟩
  | 26 => ⟨S16384x4x1, .f32⟩
  | 27 => ⟨S16384x4x128, .f32⟩
  | 28 => ⟨S16384x4x128, .f32⟩
  | 29 => ⟨S1x1x128, .f32⟩
  | 30 => ⟨S16384x4x128, .f32⟩
  | 31 => ⟨S16384x4x128, .f32⟩
  | 32 => ⟨S16384x512, .f32⟩
  | 33 => ⟨S16384x512, .f32⟩
  | 34 => ⟨S2x64x128x2x4x64, .f32⟩
  | 35 => ⟨S2x8192x2x64, .f32⟩
  | 36 => ⟨S_, .i32⟩
  | 37 => ⟨S_, .f32⟩
  | 38 => ⟨S2x8448x2x64, .f32⟩
  | 39 => ⟨S2x66x128x2x64, .f32⟩
  | 40 => ⟨S2x64x128x2x64, .f32⟩
  | 41 => ⟨S2x64x128x2x64, .f32⟩
  | 42 => ⟨S2x64x128x2x64, .f32⟩
  | 43 => ⟨S2x64x384x2x64, .f32⟩
  | 44 => ⟨S2x8192x2x64, .f32⟩
  | 45 => ⟨S_, .i32⟩
  | 46 => ⟨S_, .f32⟩
  | 47 => ⟨S2x8448x2x64, .f32⟩
  | 48 => ⟨S2x66x128x2x64, .f32⟩
  | 49 => ⟨S2x64x128x2x64, .f32⟩
  | 50 => ⟨S2x64x128x2x64, .f32⟩
  | 51 => ⟨S2x64x128x2x64, .f32⟩
  | 52 => ⟨S2x64x384x2x64, .f32⟩
  | 53 => ⟨S2x64x2x384x128x4, .f32⟩
  | 54 => ⟨S2x64x2x4x128x384, .f32⟩
  | 55 => ⟨S_, .f32⟩
  | 56 => ⟨S2x64x2x4x128x384, .f32⟩
  | 57 => ⟨S2x64x2x4x128x384, .f32⟩
  | 58 => ⟨S384, .i32⟩
  | 59 => ⟨S_, .i32⟩
  | 60 => ⟨S384, .i32⟩
  | 61 => ⟨S384, .i32⟩
  | 62 => ⟨S1x384, .i32⟩
  | 63 => ⟨S128, .i32⟩
  | 64 => ⟨S128x1, .i32⟩
  | 65 => ⟨S128x384, .i32⟩
  | 66 => ⟨S128x384, .i32⟩
  | 67 => ⟨S128x384, .i32⟩
  | 68 => ⟨S64, .i32⟩
  | 69 => ⟨S64x1x1, .i32⟩
  | 70 => ⟨S_, .i32⟩
  | 71 => ⟨S64x1x1, .i32⟩
  | 72 => ⟨S64x1x1, .i32⟩
  | 73 => ⟨S1x1x384, .i32⟩
  | 74 => ⟨S64x1x384, .i32⟩
  | 75 => ⟨S64x1x384, .i32⟩
  | 76 => ⟨S64x1x384, .i32⟩
  | 77 => ⟨S128x384, .i32⟩
  | 78 => ⟨S_, .i32⟩
  | 79 => ⟨S128x384, .i32⟩
  | 80 => ⟨S128x384, .i1⟩
  | 81 => ⟨S1x128x384, .i1⟩
  | 82 => ⟨S_, .i32⟩
  | 83 => ⟨S64x1x384, .i32⟩
  | 84 => ⟨S64x1x384, .i1⟩
  | 85 => ⟨S64x128x384, .i1⟩
  | 86 => ⟨S64x128x384, .i1⟩
  | 87 => ⟨S64x128x384, .i1⟩
  | 88 => ⟨S_, .i32⟩
  | 89 => ⟨S64x1x384, .i32⟩
  | 90 => ⟨S64x1x384, .i1⟩
  | 91 => ⟨S64x128x384, .i1⟩
  | 92 => ⟨S64x128x384, .i1⟩
  | 93 => ⟨S1x64x1x1x128x384, .i1⟩
  | 94 => ⟨S_, .f32⟩
  | 95 => ⟨S_, .f32⟩
  | 96 => ⟨S2x64x2x4x128x384, .i1⟩
  | 97 => ⟨S2x64x2x4x128x384, .f32⟩
  | 98 => ⟨S2x64x2x4x128x384, .f32⟩
  | 99 => ⟨S8, .f32⟩
  | 100 => ⟨S2x4, .f32⟩
  | 101 => ⟨S1x1x2x4x1x1, .f32⟩
  | 102 => ⟨S_, .f32⟩
  | 103 => ⟨S2x64x2x4x128, .f32⟩
  | 104 => ⟨S2x64x2x4x128x1, .f32⟩
  | 105 => ⟨S2x64x2x4x128x1, .f32⟩
  | 106 => ⟨S2x64x2x4x128x1, .f32⟩
  | 107 => ⟨S2x64x2x4x128x384, .f32⟩
  | 108 => ⟨S2x64x2x4x128x384, .f32⟩
  | 109 => ⟨S2x64x2x4x128x384, .f32⟩
  | 110 => ⟨S_, .f32⟩
  | 111 => ⟨S2x64x2x4x128, .f32⟩
  | 112 => ⟨S2x64x2x4x128x1, .f32⟩
  | 113 => ⟨S2x64x2x4x128x1, .f32⟩
  | 114 => ⟨S2x64x2x4x128x1, .f32⟩
  | 115 => ⟨S2x64x2x4x128x1, .f32⟩
  | 116 => ⟨S2x64x2x4x128x1, .f32⟩
  | 117 => ⟨S2x64x2x4x128x384, .f32⟩
  | 118 => ⟨S2x64x2x4x128x384, .f32⟩
  | 119 => ⟨S2x64x2x64x4x128, .f32⟩
  | 120 => ⟨S2x64x128x2x4x64, .f32⟩
  | 121 => ⟨S16384x512, .f32⟩
  | 122 => ⟨S16384x1024, .f32⟩
  | 123 => ⟨S1024x1024, .f32⟩
  | 124 => ⟨S16384x1024, .f32⟩
  | 125 => ⟨S16384x1024, .f32⟩
  | 126 => ⟨S1024, .f32⟩
  | 127 => ⟨S16384x1024, .f32⟩
  | _ => ⟨S16384x1024, .f32⟩

abbrev hbmTy0_1 (i : Nat) : BufTy := match i % 128 with
  | 0 => ⟨S_, .f32⟩
  | 1 => ⟨S16384, .f32⟩
  | 2 => ⟨S16384x1, .f32⟩
  | 3 => ⟨S_, .f32⟩
  | 4 => ⟨S16384x1, .f32⟩
  | 5 => ⟨S16384x1, .f32⟩
  | 6 => ⟨S_, .f32⟩
  | 7 => ⟨S16384x1, .f32⟩
  | 8 => ⟨S16384x1, .f32⟩
  | 9 => ⟨S16384x1, .f32⟩
  | 10 => ⟨S16384x1024, .f32⟩
  | 11 => ⟨S16384x1024, .f32⟩
  | 12 => ⟨S1x1024, .f32⟩
  | 13 => ⟨S16384x1024, .f32⟩
  | 14 => ⟨S16384x1024, .f32⟩
  | 15 => ⟨S1024x5632, .f32⟩
  | 16 => ⟨S16384x5632, .f32⟩
  | 17 => ⟨S16384x2816, .f32⟩
  | 18 => ⟨S16384x2816, .f32⟩
  | 19 => ⟨S16384x2816, .f32⟩
  | 20 => ⟨S16384x2816, .f32⟩
  | 21 => ⟨S_, .f32⟩
  | 22 => ⟨S16384x2816, .f32⟩
  | 23 => ⟨S16384x2816, .f32⟩
  | 24 => ⟨S_, .f32⟩
  | 25 => ⟨S16384x2816, .f32⟩
  | 26 => ⟨S16384x2816, .f32⟩
  | 27 => ⟨S16384x2816, .f32⟩
  | 28 => ⟨S16384x2816, .f32⟩
  | 29 => ⟨S2816x1024, .f32⟩
  | 30 => ⟨S16384x1024, .f32⟩
  | 31 => ⟨S_, .f32⟩
  | 32 => ⟨S16384x1024, .f32⟩
  | 33 => ⟨S16384x1024, .f32⟩
  | 34 => ⟨S16384x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c : Ref sig .tc := ⟨.hbm, 36, rfl⟩
abbrev main_call0_v0 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_2 : Ref sig .tc := ⟨.hbm, 45, rfl⟩
abbrev main_call1_v0 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_3 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_c_4 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_c_5 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_c_6 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_c_7 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_c_8 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_9 : Ref sig .tc := ⟨.hbm, 94, rfl⟩
abbrev main_call2_v0 : Ref sig .tc := ⟨.hbm, 95, rfl⟩
abbrev main_call2_v1 : Ref sig .tc := ⟨.hbm, 96, rfl⟩
abbrev main_call2_v2 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_10 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_11 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_cst_12 : Ref sig .tc := ⟨.hbm, 128, rfl⟩
abbrev main_v96 : Ref sig .tc := ⟨.hbm, 129, rfl⟩
abbrev main_v97 : Ref sig .tc := ⟨.hbm, 130, rfl⟩
abbrev main_cst_13 : Ref sig .tc := ⟨.hbm, 131, rfl⟩
abbrev main_v98 : Ref sig .tc := ⟨.hbm, 132, rfl⟩
abbrev main_v99 : Ref sig .tc := ⟨.hbm, 133, rfl⟩
abbrev main_cst_14 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_call3_v0 : Ref sig .tc := ⟨.hbm, 147, rfl⟩
abbrev main_call3_v1 : Ref sig .tc := ⟨.hbm, 148, rfl⟩
abbrev main_call3_cst : Ref sig .tc := ⟨.hbm, 149, rfl⟩
abbrev main_call3_v2 : Ref sig .tc := ⟨.hbm, 150, rfl⟩
abbrev main_call3_v3 : Ref sig .tc := ⟨.hbm, 151, rfl⟩
abbrev main_call3_cst_0 : Ref sig .tc := ⟨.hbm, 152, rfl⟩
abbrev main_call3_v4 : Ref sig .tc := ⟨.hbm, 153, rfl⟩
abbrev main_call3_v5 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_cst_15 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩

abbrev nD : Nat := 1
abbrev τ : Topo := Topo.v7x

variable {F : FTy → Type} [FloatOps F]
-- ==== Kernel2.lean ====
abbrev S16384x1024 : Shape := ⟨2, ![16384, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1x1024x3328 : Shape := ⟨3, ![1, 1024, 3328]⟩
abbrev S2x512 : Shape := ⟨2, ![2, 512]⟩
abbrev S1x64 : Shape := ⟨2, ![1, 64]⟩
abbrev S8192 : Shape := ⟨1, ![8192]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S1x8192x1x32 : Shape := ⟨4, ![1, 8192, 1, 32]⟩
abbrev S1x8192x4x32 : Shape := ⟨4, ![1, 8192, 4, 32]⟩
abbrev S8192x128 : Shape := ⟨2, ![8192, 128]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S2x2 : Shape := ⟨2, ![2, 2]⟩
abbrev S64x64 : Shape := ⟨2, ![64, 64]⟩
abbrev S2x1x2x1 : Shape := ⟨4, ![2, 1, 2, 1]⟩
abbrev S1x64x1x64 : Shape := ⟨4, ![1, 64, 1, 64]⟩
abbrev S2x64x2x64 : Shape := ⟨4, ![2, 64, 2, 64]⟩
abbrev S128x128 : Shape := ⟨2, ![128, 128]⟩
abbrev S256x128 : Shape := ⟨2, ![256, 128]⟩
abbrev S1024 : Shape := ⟨1, ![1024]⟩
abbrev S1024x5632 : Shape := ⟨2, ![1024, 5632]⟩
abbrev S2816x1024 : Shape := ⟨2, ![2816, 1024]⟩
abbrev S1024x3328 : Shape := ⟨2, ![1024, 3328]⟩
abbrev S64 : Shape := ⟨1, ![64]⟩
abbrev S8x64 : Shape := ⟨2, ![8, 64]⟩
abbrev S512 : Shape := ⟨1, ![512]⟩
abbrev S1x512 : Shape := ⟨2, ![1, 512]⟩
abbrev S2x64 : Shape := ⟨2, ![2, 64]⟩
abbrev S128 : Shape := ⟨1, ![128]⟩
abbrev S1x128 : Shape := ⟨2, ![1, 128]⟩
abbrev S16384x512 : Shape := ⟨2, ![16384, 512]⟩
abbrev S512x1024 : Shape := ⟨2, ![512, 1024]⟩
abbrev S512x128 : Shape := ⟨2, ![512, 128]⟩
abbrev S512x512 : Shape := ⟨2, ![512, 512]⟩
abbrev S128x1024 : Shape := ⟨2, ![128, 1024]⟩
abbrev S128x1 : Shape := ⟨2, ![128, 1]⟩
abbrev S1024x256 : Shape := ⟨2, ![1024, 256]⟩
abbrev S128x256 : Shape := ⟨2, ![128, 256]⟩
abbrev S256x1024 : Shape := ⟨2, ![256, 1024]⟩
abbrev S1024x512 : Shape := ⟨2, ![1024, 512]⟩
abbrev S128x512 : Shape := ⟨2, ![128, 512]⟩

abbrev nBuf : Space → Nat
  | .hbm => 85
  | .vmem => 32
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024x5632, .f32⟩
  | .hbm, ⟨3, _⟩ => ⟨S1x2816x1024, .f32⟩
  | .hbm, ⟨4, _⟩ => ⟨S1x1024, .f32⟩
  | .hbm, ⟨5, _⟩ => ⟨S1x1024x3328, .f32⟩
  | .hbm, ⟨6, _⟩ => ⟨S2x512, .f32⟩
  | .hbm, ⟨7, _⟩ => ⟨S2x512, .f32⟩
  | .hbm, ⟨8, _⟩ => ⟨S1x64, .f32⟩
  | .hbm, ⟨9, _⟩ => ⟨S1x64, .f32⟩
  | .hbm, ⟨10, _⟩ => ⟨S8192, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S8192x1, .f32⟩
  | .hbm, ⟨26, _⟩ => ⟨S1x32, .f32⟩
  | .hbm, ⟨27, _⟩ => ⟨S8192x32, .f32⟩
  | .hbm, ⟨28, _⟩ => ⟨S8192x32, .f32⟩
  | .hbm, ⟨29, _⟩ => ⟨S8192x32, .f32⟩
  | .hbm, ⟨30, _⟩ => ⟨S8192x32, .f32⟩
  | .hbm, ⟨31, _⟩ => ⟨S8192x32, .f32⟩
  | .hbm, ⟨32, _⟩ => ⟨S1x8192x1x32, .f32⟩
  | .hbm, ⟨33, _⟩ => ⟨S1x8192x4x32, .f32⟩
  | .hbm, ⟨34, _⟩ => ⟨S8192x128, .f32⟩
  | .hbm, ⟨35, _⟩ => ⟨S8192x32, .f32⟩
  | .hbm, ⟨36, _⟩ => ⟨S8192x64, .f32⟩
  | .hbm, ⟨37, _⟩ => ⟨S1x8192x1x64, .f32⟩
  | .hbm, ⟨38, _⟩ => ⟨S1x8192x2x64, .f32⟩
  | .hbm, ⟨39, _⟩ => ⟨S8192x128, .f32⟩
  | .hbm, ⟨40, _⟩ => ⟨S2x2, .i32⟩
  | .hbm, ⟨41, _⟩ => ⟨S2x2, .i32⟩
  | .hbm, ⟨42, _⟩ => ⟨S_, .i32⟩
  | .hbm, ⟨43, _⟩ => ⟨S2x2, .i32⟩
  | .hbm, ⟨44, _⟩ => ⟨S2x2, .i32⟩
  | .hbm, ⟨45, _⟩ => ⟨S2x2, .i1⟩
  | .hbm, ⟨46, _⟩ => ⟨S2x2, .f32⟩
  | .hbm, ⟨47, _⟩ => ⟨S_, .f32⟩
  | .hbm, ⟨48, _⟩ => ⟨S64x64, .f32⟩
  | .hbm, ⟨49, _⟩ => ⟨S2x1x2x1, .f32⟩
  | .hbm, ⟨50, _⟩ => ⟨S1x64x1x64, .f32⟩
  | .hbm, ⟨51, _⟩ => ⟨S2x64x2x64, .f32⟩
  | .hbm, ⟨52, _⟩ => ⟨S2x64x2x64, .f32⟩
  | .hbm, ⟨53, _⟩ => ⟨S2x64x2x64, .f32⟩
  | .hbm, ⟨54, _⟩ => ⟨S128x128, .f32⟩
  | .hbm, ⟨55, _⟩ => ⟨S256x128, .f32⟩
  | .hbm, ⟨56, _⟩ => ⟨S1024, .f32⟩
  | .hbm, ⟨57, _⟩ => ⟨S1x1024, .f32⟩
  | .hbm, ⟨58, _⟩ => ⟨S1024x5632, .f32⟩
  | .hbm, ⟨59, _⟩ => ⟨S1024x5632, .bf16⟩
  | .hbm, ⟨60, _⟩ => ⟨S2816x1024, .f32⟩
  | .hbm, ⟨61, _⟩ => ⟨S2816x1024, .bf16⟩
  | .hbm, ⟨62, _⟩ => ⟨S1024, .f32⟩
  | .hbm, ⟨63, _⟩ => ⟨S1x1024, .f32⟩
  | .hbm, ⟨64, _⟩ => ⟨S1024x3328, .f32⟩
  | .hbm, ⟨65, _⟩ => ⟨S1024x3328, .bf16⟩
  | .hbm, ⟨66, _⟩ => ⟨S64, .f32⟩
  | .hbm, ⟨67, _⟩ => ⟨S1x64, .f32⟩
  | .hbm, ⟨68, _⟩ => ⟨S8x64, .f32⟩
  | .hbm, ⟨69, _⟩ => ⟨S512, .f32⟩
  | .hbm, ⟨70, _⟩ => ⟨S1x512, .f32⟩
  | .hbm, ⟨71, _⟩ => ⟨S64, .f32⟩
  | .hbm, ⟨72, _⟩ => ⟨S1x64, .f32⟩
  | .hbm, ⟨73, _⟩ => ⟨S2x64, .f32⟩
  | .hbm, ⟨74, _⟩ => ⟨S128, .f32⟩
  | .hbm, ⟨75, _⟩ => ⟨S1x128, .f32⟩
  | .hbm, ⟨76, _⟩ => ⟨S256x128, .bf16⟩
  | .hbm, ⟨77, _⟩ => ⟨S16384x1024, .f32⟩
  | .hbm, ⟨78, _⟩ => ⟨S16384x512, .f32⟩
  | .hbm, ⟨79, _⟩ => ⟨S16384x512, .f32⟩
  | .hbm, ⟨80, _⟩ => ⟨S16384x512, .f32⟩
  | .hbm, ⟨81, _⟩ => ⟨S16384x512, .bf16⟩
  | .hbm, ⟨82, _⟩ => ⟨S16384x512, .f32⟩
  | .hbm, ⟨83, _⟩ => ⟨S16384x512, .bf16⟩
  | .hbm, ⟨84, _⟩ => ⟨S16384x512, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S1x1024, .f32⟩
  | .local _ .vmem, ⟨6, _⟩ => ⟨S1024x3328, .bf16⟩
  | .local _ .vmem, ⟨7, _⟩ => ⟨S2x512, .f32⟩
  | .local _ .vmem, ⟨8, _⟩ => ⟨S2x512, .f32⟩
  | .local _ .vmem, ⟨9, _⟩ => ⟨S1x512, .f32⟩
  | .local _ .vmem, ⟨10, _⟩ => ⟨S1x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S256x128, .bf16⟩
  | .local _ .vmem, ⟨16, _⟩ => ⟨S512x1024, .f32⟩
  | .local _ .vmem, ⟨17, _⟩ => ⟨S512x1024, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S512x512, .bf16⟩
  | .local _ .vmem, ⟨25, _⟩ => ⟨S512x512, .bf16⟩
  | .local _ .vmem, ⟨26, _⟩ => ⟨S512x512, .f32⟩
  | .local _ .vmem, ⟨27, _⟩ => ⟨S512x512, .f32⟩
  | .local _ .vmem, ⟨28, _⟩ => ⟨S512x512, .bf16⟩
  | .local _ .vmem, ⟨29, _⟩ => ⟨S512x512, .bf16⟩
  | .local _ .vmem, ⟨30, _⟩ => ⟨S512x512, .bf16⟩
  | .local _ .vmem, ⟨31, _⟩ => ⟨S512x512, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_3 : Ref sig .tc := ⟨.hbm, 47, rfl⟩
abbrev main_v32 : Ref sig .tc := ⟨.hbm, 48, rfl⟩
abbrev main_call0_v0 : Ref sig .tc := ⟨.hbm, 49, rfl⟩
abbrev main_call0_v1 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56_0 : Ref sig .tc := ⟨.hbm, 77, rfl⟩
abbrev main_v56_1 : Ref sig .tc := ⟨.hbm, 78, rfl⟩
abbrev main_v56_2 : Ref sig .tc := ⟨.hbm, 79, rfl⟩
abbrev main_v56_3 : Ref sig .tc := ⟨.hbm, 80, rfl⟩
abbrev main_v56_4 : Ref sig .tc := ⟨.hbm, 81, rfl⟩
abbrev main_v56_5 : Ref sig .tc := ⟨.hbm, 82, rfl⟩
abbrev main_v56_6 : Ref sig .tc := ⟨.hbm, 83, rfl⟩
abbrev main_v56_7 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_stg20_0 : Ref sig .tc := ⟨.vmem, 30, rfl⟩
abbrev cc0_stg20_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29
abbrev cc0_sem20_0 : DmaSem sig := 30
abbrev cc0_sem20_1 : DmaSem sig := 31

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_11 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x3328 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S256x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== Kernel2Ideal.lean ====
abbrev S16384x1024 : Shape := ⟨2, ![16384, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1x1024x3328 : Shape := ⟨3, ![1, 1024, 3328]⟩
abbrev S2x512 : Shape := ⟨2, ![2, 512]⟩
abbrev S1x64 : Shape := ⟨2, ![1, 64]⟩
abbrev S8192 : Shape := ⟨1, ![8192]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S1x8192x1x32 : Shape := ⟨4, ![1, 8192, 1, 32]⟩
abbrev S1x8192x4x32 : Shape := ⟨4, ![1, 8192, 4, 32]⟩
abbrev S8192x128 : Shape := ⟨2, ![8192, 128]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S2x2 : Shape := ⟨2, ![2, 2]⟩
abbrev S64x64 : Shape := ⟨2, ![64, 64]⟩
abbrev S2x1x2x1 : Shape := ⟨4, ![2, 1, 2, 1]⟩
abbrev S1x64x1x64 : Shape := ⟨4, ![1, 64, 1, 64]⟩
abbrev S2x64x2x64 : Shape := ⟨4, ![2, 64, 2, 64]⟩
abbrev S128x128 : Shape := ⟨2, ![128, 128]⟩
abbrev S256x128 : Shape := ⟨2, ![256, 128]⟩
abbrev S1024 : Shape := ⟨1, ![1024]⟩
abbrev S1024x5632 : Shape := ⟨2, ![1024, 5632]⟩
abbrev S2816x1024 : Shape := ⟨2, ![2816, 1024]⟩
abbrev S1024x3328 : Shape := ⟨2, ![1024, 3328]⟩
abbrev S64 : Shape := ⟨1, ![64]⟩
abbrev S8x64 : Shape := ⟨2, ![8, 64]⟩
abbrev S512 : Shape := ⟨1, ![512]⟩
abbrev S1x512 : Shape := ⟨2, ![1, 512]⟩
abbrev S2x64 : Shape := ⟨2, ![2, 64]⟩
abbrev S128 : Shape := ⟨1, ![128]⟩
abbrev S1x128 : Shape := ⟨2, ![1, 128]⟩
abbrev S16384x512 : Shape := ⟨2, ![16384, 512]⟩
abbrev S512x1024 : Shape := ⟨2, ![512, 1024]⟩
abbrev S512x128 : Shape := ⟨2, ![512, 128]⟩
abbrev S512x512 : Shape := ⟨2, ![512, 512]⟩
abbrev S128x1024 : Shape := ⟨2, ![128, 1024]⟩
abbrev S128x1 : Shape := ⟨2, ![128, 1]⟩
abbrev S1024x256 : Shape := ⟨2, ![1024, 256]⟩
abbrev S128x256 : Shape := ⟨2, ![128, 256]⟩
abbrev S256x1024 : Shape := ⟨2, ![256, 1024]⟩
abbrev S1024x512 : Shape := ⟨2, ![1024, 512]⟩
abbrev S128x512 : Shape := ⟨2, ![128, 512]⟩

abbrev nBuf : Space → Nat
  | .hbm => 85
  | .vmem => 32
  | .smem => 0
  | _ => 0

abbrev bufTy : (tb : Table) → Fin (tcTables nBuf tb) → BufTy
  | .hbm, ⟨0, _⟩ => ⟨S16384x1024, .f32⟩
  | .hbm, ⟨1, _⟩ => ⟨S1x1024, .f32⟩
  | .hbm, ⟨2, _⟩ => ⟨S1x1024x5632, .f32⟩
  | .hbm, ⟨3, _⟩ => ⟨S1x2816x1024, .f32⟩
  | .hbm, ⟨4, _⟩ => ⟨S1x1024, .f32⟩
  | .hbm, ⟨5, _⟩ => ⟨S1x1024x3328, .f32⟩
  | .hbm, ⟨6, _⟩ => ⟨S2x512, .f32⟩
  | .hbm, ⟨7, _⟩ => ⟨S2x512, .f32⟩
  | .hbm, ⟨8, _⟩ => ⟨S1x64, .f32⟩
  | .hbm, ⟨9, _⟩ => ⟨S1x64, .f32⟩
  | .hbm, ⟨10, _⟩ => ⟨S8192, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S8192x1, .f32⟩
  | .hbm, ⟨26, _⟩ => ⟨S1x32, .f32⟩
  | .hbm, ⟨27, _⟩ => ⟨S8192x32, .f32⟩
  | .hbm, ⟨28, _⟩ => ⟨S8192x32, .f32⟩
  | .hbm, ⟨29, _⟩ => ⟨S8192x32, .f32⟩
  | .hbm, ⟨30, _⟩ => ⟨S8192x32, .f32⟩
  | .hbm, ⟨31, _⟩ => ⟨S8192x32, .f32⟩
  | .hbm, ⟨32, _⟩ => ⟨S1x8192x1x32, .f32⟩
  | .hbm, ⟨33, _⟩ => ⟨S1x8192x4x32, .f32⟩
  | .hbm, ⟨34, _⟩ => ⟨S8192x128, .f32⟩
  | .hbm, ⟨35, _⟩ => ⟨S8192x32, .f32⟩
  | .hbm, ⟨36, _⟩ => ⟨S8192x64, .f32⟩
  | .hbm, ⟨37, _⟩ => ⟨S1x8192x1x64, .f32⟩
  | .hbm, ⟨38, _⟩ => ⟨S1x8192x2x64, .f32⟩
  | .hbm, ⟨39, _⟩ => ⟨S8192x128, .f32⟩
  | .hbm, ⟨40, _⟩ => ⟨S2x2, .i32⟩
  | .hbm, ⟨41, _⟩ => ⟨S2x2, .i32⟩
  | .hbm, ⟨42, _⟩ => ⟨S_, .i32⟩
  | .hbm, ⟨43, _⟩ => ⟨S2x2, .i32⟩
  | .hbm, ⟨44, _⟩ => ⟨S2x2, .i32⟩
  | .hbm, ⟨45, _⟩ => ⟨S2x2, .i1⟩
  | .hbm, ⟨46, _⟩ => ⟨S2x2, .f32⟩
  | .hbm, ⟨47, _⟩ => ⟨S_, .f32⟩
  | .hbm, ⟨48, _⟩ => ⟨S64x64, .f32⟩
  | .hbm, ⟨49, _⟩ => ⟨S2x1x2x1, .f32⟩
  | .hbm, ⟨50, _⟩ => ⟨S1x64x1x64, .f32⟩
  | .hbm, ⟨51, _⟩ => ⟨S2x64x2x64, .f32⟩
  | .hbm, ⟨52, _⟩ => ⟨S2x64x2x64, .f32⟩
  | .hbm, ⟨53, _⟩ => ⟨S2x64x2x64, .f32⟩
  | .hbm, ⟨54, _⟩ => ⟨S128x128, .f32⟩
  | .hbm, ⟨55, _⟩ => ⟨S256x128, .f32⟩
  | .hbm, ⟨56, _⟩ => ⟨S1024, .f32⟩
  | .hbm, ⟨57, _⟩ => ⟨S1x1024, .f32⟩
  | .hbm, ⟨58, _⟩ => ⟨S1024x5632, .f32⟩
  | .hbm, ⟨59, _⟩ => ⟨S1024x5632, .bf16⟩
  | .hbm, ⟨60, _⟩ => ⟨S2816x1024, .f32⟩
  | .hbm, ⟨61, _⟩ => ⟨S2816x1024, .bf16⟩
  | .hbm, ⟨62, _⟩ => ⟨S1024, .f32⟩
  | .hbm, ⟨63, _⟩ => ⟨S1x1024, .f32⟩
  | .hbm, ⟨64, _⟩ => ⟨S1024x3328, .f32⟩
  | .hbm, ⟨65, _⟩ => ⟨S1024x3328, .bf16⟩
  | .hbm, ⟨66, _⟩ => ⟨S64, .f32⟩
  | .hbm, ⟨67, _⟩ => ⟨S1x64, .f32⟩
  | .hbm, ⟨68, _⟩ => ⟨S8x64, .f32⟩
  | .hbm, ⟨69, _⟩ => ⟨S512, .f32⟩
  | .hbm, ⟨70, _⟩ => ⟨S1x512, .f32⟩
  | .hbm, ⟨71, _⟩ => ⟨S64, .f32⟩
  | .hbm, ⟨72, _⟩ => ⟨S1x64, .f32⟩
  | .hbm, ⟨73, _⟩ => ⟨S2x64, .f32⟩
  | .hbm, ⟨74, _⟩ => ⟨S128, .f32⟩
  | .hbm, ⟨75, _⟩ => ⟨S1x128, .f32⟩
  | .hbm, ⟨76, _⟩ => ⟨S256x128, .bf16⟩
  | .hbm, ⟨77, _⟩ => ⟨S16384x1024, .f32⟩
  | .hbm, ⟨78, _⟩ => ⟨S16384x512, .f32⟩
  | .hbm, ⟨79, _⟩ => ⟨S16384x512, .f32⟩
  | .hbm, ⟨80, _⟩ => ⟨S16384x512, .f32⟩
  | .hbm, ⟨81, _⟩ => ⟨S16384x512, .bf16⟩
  | .hbm, ⟨82, _⟩ => ⟨S16384x512, .f32⟩
  | .hbm, ⟨83, _⟩ => ⟨S16384x512, .bf16⟩
  | .hbm, ⟨84, _⟩ => ⟨S16384x512, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S1x1024, .f32⟩
  | .local _ .vmem, ⟨6, _⟩ => ⟨S1024x3328, .bf16⟩
  | .local _ .vmem, ⟨7, _⟩ => ⟨S2x512, .f32⟩
  | .local _ .vmem, ⟨8, _⟩ => ⟨S2x512, .f32⟩
  | .local _ .vmem, ⟨9, _⟩ => ⟨S1x512, .f32⟩
  | .local _ .vmem, ⟨10, _⟩ => ⟨S1x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S256x128, .bf16⟩
  | .local _ .vmem, ⟨16, _⟩ => ⟨S512x1024, .f32⟩
  | .local _ .vmem, ⟨17, _⟩ => ⟨S512x1024, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S512x512, .bf16⟩
  | .local _ .vmem, ⟨25, _⟩ => ⟨S512x512, .bf16⟩
  | .local _ .vmem, ⟨26, _⟩ => ⟨S512x512, .f32⟩
  | .local _ .vmem, ⟨27, _⟩ => ⟨S512x512, .f32⟩
  | .local _ .vmem, ⟨28, _⟩ => ⟨S512x512, .bf16⟩
  | .local _ .vmem, ⟨29, _⟩ => ⟨S512x512, .bf16⟩
  | .local _ .vmem, ⟨30, _⟩ => ⟨S512x512, .bf16⟩
  | .local _ .vmem, ⟨31, _⟩ => ⟨S512x512, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_3 : Ref sig .tc := ⟨.hbm, 47, rfl⟩
abbrev main_v32 : Ref sig .tc := ⟨.hbm, 48, rfl⟩
abbrev main_call0_v0 : Ref sig .tc := ⟨.hbm, 49, rfl⟩
abbrev main_call0_v1 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56_0 : Ref sig .tc := ⟨.hbm, 77, rfl⟩
abbrev main_v56_1 : Ref sig .tc := ⟨.hbm, 78, rfl⟩
abbrev main_v56_2 : Ref sig .tc := ⟨.hbm, 79, rfl⟩
abbrev main_v56_3 : Ref sig .tc := ⟨.hbm, 80, rfl⟩
abbrev main_v56_4 : Ref sig .tc := ⟨.hbm, 81, rfl⟩
abbrev main_v56_5 : Ref sig .tc := ⟨.hbm, 82, rfl⟩
abbrev main_v56_6 : Ref sig .tc := ⟨.hbm, 83, rfl⟩
abbrev main_v56_7 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_stg20_0 : Ref sig .tc := ⟨.vmem, 30, rfl⟩
abbrev cc0_stg20_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29
abbrev cc0_sem20_0 : DmaSem sig := 30
abbrev cc0_sem20_1 : DmaSem sig := 31

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_11 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x3328 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S256x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== Reference2Ideal.lean ====
abbrev S16384x1024 : Shape := ⟨2, ![16384, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1x1024x3328 : Shape := ⟨3, ![1, 1024, 3328]⟩
abbrev S2x512 : Shape := ⟨2, ![2, 512]⟩
abbrev S1x64 : Shape := ⟨2, ![1, 64]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1024x5632 : Shape := ⟨2, ![1024, 5632]⟩
abbrev S16384x5632 : Shape := ⟨2, ![16384, 5632]⟩
abbrev S16384x2816 : Shape := ⟨2, ![16384, 2816]⟩
abbrev S2816x1024 : Shape := ⟨2, ![2816, 1024]⟩
abbrev S512 : Shape := ⟨1, ![512]⟩
abbrev S1x512 : Shape := ⟨2, ![1, 512]⟩
abbrev S1024x3328 : Shape := ⟨2, ![1024, 3328]⟩
abbrev S16384x3328 : Shape := ⟨2, ![16384, 3328]⟩
abbrev S16384x512 : Shape := ⟨2, ![16384, 512]⟩
abbrev S16384x768 : Shape := ⟨2, ![16384, 768]⟩

abbrev nBuf : Space → Nat
  | .hbm => 171
  | .vmem => 0
  | .smem => 0
  | _ => 0

abbrev hbmTy0_0 (i : Nat) : BufTy := match i % 128 with
  | 0 => ⟨S16384x1024, .f32⟩
  | 1 => ⟨S1x1024, .f32⟩
  | 2 => ⟨S1x1024x5632, .f32⟩
  | 3 => ⟨S1x2816x1024, .f32⟩
  | 4 => ⟨S1x1024, .f32⟩
  | 5 => ⟨S1x1024x3328, .f32⟩
  | 6 => ⟨S2x512, .f32⟩
  | 7 => ⟨S2x512, .f32⟩
  | 8 => ⟨S1x64, .f32⟩
  | 9 => ⟨S1x64, .f32⟩
  | 10 => ⟨S1024, .f32⟩
  | 11 => ⟨S16384x1024, .f32⟩
  | 12 => ⟨S_, .f32⟩
  | 13 => ⟨S16384, .f32⟩
  | 14 => ⟨S16384x1, .f32⟩
  | 15 => ⟨S_, .f32⟩
  | 16 => ⟨S16384x1, .f32⟩
  | 17 => ⟨S16384x1, .f32⟩
  | 18 => ⟨S_, .f32⟩
  | 19 => ⟨S16384x1, .f32⟩
  | 20 => ⟨S16384x1, .f32⟩
  | 21 => ⟨S16384x1, .f32⟩
  | 22 => ⟨S16384x1024, .f32⟩
  | 23 => ⟨S16384x1024, .f32⟩
  | 24 => ⟨S1x1024, .f32⟩
  | 25 => ⟨S16384x1024, .f32⟩
  | 26 => ⟨S16384x1024, .f32⟩
  | 27 => ⟨S1024x5632, .f32⟩
  | 28 => ⟨S16384x5632, .f32⟩
  | 29 => ⟨S16384x2816, .f32⟩
  | 30 => ⟨S16384x2816, .f32⟩
  | 31 => ⟨S16384x2816, .f32⟩
  | 32 => ⟨S16384x2816, .f32⟩
  | 33 => ⟨S_, .f32⟩
  | 34 => ⟨S16384x2816, .f32⟩
  | 35 => ⟨S16384x2816, .f32⟩
  | 36 => ⟨S_, .f32⟩
  | 37 => ⟨S16384x2816, .f32⟩
  | 38 => ⟨S16384x2816, .f32⟩
  | 39 => ⟨S16384x2816, .f32⟩
  | 40 => ⟨S16384x2816, .f32⟩
  | 41 => ⟨S2816x1024, .f32⟩
  | 42 => ⟨S16384x1024, .f32⟩
  | 43 => ⟨S_, .f32⟩
  | 44 => ⟨S16384x1024, .f32⟩
  | 45 => ⟨S16384x1024, .f32⟩
  | 46 => ⟨S16384x1024, .f32⟩
  | 47 => ⟨S_, .f32⟩
  | 48 => ⟨S512, .f32⟩
  | 49 => ⟨S_, .f32⟩
  | 50 => ⟨S512, .f32⟩
  | 51 => ⟨S512, .f32⟩
  | 52 => ⟨S1x512, .f32⟩
  | 53 => ⟨S2x512, .f32⟩
  | 54 => ⟨S2x512, .f32⟩
  | 55 => ⟨S2x512, .f32⟩
  | 56 => ⟨S_, .f32⟩
  | 57 => ⟨S512, .f32⟩
  | 58 => ⟨S1x512, .f32⟩
  | 59 => ⟨S2x512, .f32⟩
  | 60 => ⟨S2x512, .f32⟩
  | 61 => ⟨S_, .f32⟩
  | 62 => ⟨S_, .f32⟩
  | 63 => ⟨S2x512, .f32⟩
  | 64 => ⟨S1x512, .f32⟩
  | 65 => ⟨S512, .f32⟩
  | 66 => ⟨S_, .f32⟩
  | 67 => ⟨S512, .f32⟩
  | 68 => ⟨S_, .f32⟩
  | 69 => ⟨S512, .f32⟩
  | 70 => ⟨S512, .f32⟩
  | 71 => ⟨S1x512, .f32⟩
  | 72 => ⟨S2x512, .f32⟩
  | 73 => ⟨S2x512, .f32⟩
  | 74 => ⟨S2x512, .f32⟩
  | 75 => ⟨S_, .f32⟩
  | 76 => ⟨S512, .f32⟩
  | 77 => ⟨S1x512, .f32⟩
  | 78 => ⟨S2x512, .f32⟩
  | 79 => ⟨S2x512, .f32⟩
  | 80 => ⟨S_, .f32⟩
  | 81 => ⟨S_, .f32⟩
  | 82 => ⟨S2x512, .f32⟩
  | 83 => ⟨S1x512, .f32⟩
  | 84 => ⟨S512, .f32⟩
  | 85 => ⟨S1024, .f32⟩
  | 86 => ⟨S16384x1024, .f32⟩
  | 87 => ⟨S_, .f32⟩
  | 88 => ⟨S16384, .f32⟩
  | 89 => ⟨S16384x1, .f32⟩
  | 90 => ⟨S_, .f32⟩
  | 91 => ⟨S16384x1, .f32⟩
  | 92 => ⟨S16384x1, .f32⟩
  | 93 => ⟨S_, .f32⟩
  | 94 => ⟨S16384x1, .f32⟩
  | 95 => ⟨S16384x1, .f32⟩
  | 96 => ⟨S16384x1, .f32⟩
  | 97 => ⟨S16384x1024, .f32⟩
  | 98 => ⟨S16384x1024, .f32⟩
  | 99 => ⟨S1x1024, .f32⟩
  | 100 => ⟨S16384x1024, .f32⟩
  | 101 => ⟨S16384x1024, .f32⟩
  | 102 => ⟨S1024x3328, .f32⟩
  | 103 => ⟨S16384x3328, .f32⟩
  | 104 => ⟨S16384x512, .f32⟩
  | 105 => ⟨S16384x512, .f32⟩
  | 106 => ⟨S16384x512, .f32⟩
  | 107 => ⟨S16384x512, .f32⟩
  | 108 => ⟨S16384x512, .f32⟩
  | 109 => ⟨S16384x768, .f32⟩
  | 110 => ⟨S16384x512, .f32⟩
  | 111 => ⟨S16384x512, .f32⟩
  | 112 => ⟨S_, .f32⟩
  | 113 => ⟨S16384x512, .f32⟩
  | 114 => ⟨S16384x512, .f32⟩
  | 115 => ⟨S_, .f32⟩
  | 116 => ⟨S16384x512, .f32⟩
  | 117 => ⟨S16384x512, .f32⟩
  | 118 => ⟨S16384x512, .f32⟩
  | 119 => ⟨S_, .f32⟩
  | 120 => ⟨S512, .f32⟩
  | 121 => ⟨S512, .f32⟩
  | 122 => ⟨S16384x512, .f32⟩
  | 123 => ⟨S16384x512, .f32⟩
  | 124 => ⟨S_, .f32⟩
  | 125 => ⟨S16384x512, .f32⟩
  | 126 => ⟨S16384x512, .f32⟩
  | 127 => ⟨S_, .f32⟩
  | _ => ⟨S16384x1024, .f32⟩

abbrev hbmTy0_1 (i : Nat) : BufTy := match i % 128 with
  | 0 => ⟨S16384x512, .f32⟩
  | 1 => ⟨S16384x512, .f32⟩
  | 2 => ⟨S1x512, .f32⟩
  | 3 => ⟨S16384x512, .f32⟩
  | 4 => ⟨S16384x512, .f32⟩
  | 5 => ⟨S1x512, .f32⟩
  | 6 => ⟨S16384x512, .f32⟩
  | 7 => ⟨S16384x512, .f32⟩
  | 8 => ⟨S16384x512, .f32⟩
  | 9 => ⟨S_, .f32⟩
  | 10 => ⟨S16384x512, .f32⟩
  | 11 => ⟨S16384x512, .f32⟩
  | 12 => ⟨S_, .f32⟩
  | 13 => ⟨S512, .f32⟩
  | 14 => ⟨S512, .f32⟩
  | 15 => ⟨S16384x512, .f32⟩
  | 16 => ⟨S16384x512, .f32⟩
  | 17 => ⟨S_, .f32⟩
  | 18 => ⟨S16384x512, .f32⟩
  | 19 => ⟨S16384x512, .f32⟩
  | 20 => ⟨S_, .f32⟩
  | 21 => ⟨S16384x512, .f32⟩
  | 22 => ⟨S16384x512, .f32⟩
  | 23 => ⟨S1x512, .f32⟩
  | 24 => ⟨S16384x512, .f32⟩
  | 25 => ⟨S16384x512, .f32⟩
  | 26 => ⟨S1x512, .f32⟩
  | 27 => ⟨S16384x512, .f32⟩
  | 28 => ⟨S16384x512, .f32⟩
  | 29 => ⟨S16384x512, .f32⟩
  | 30 => ⟨S_, .f32⟩
  | 31 => ⟨S16384x512, .f32⟩
  | 32 => ⟨S16384x512, .f32⟩
  | 33 => ⟨S16384x512, .bf16⟩
  | 34 => ⟨S16384x512, .f32⟩
  | 35 => ⟨S16384x512, .f32⟩
  | 36 => ⟨S_, .f32⟩
  | 37 => ⟨S16384x512, .f32⟩
  | 38 => ⟨S16384x512, .f32⟩
  | 39 => ⟨S_, .f32⟩
  | 40 => ⟨S16384x512, .f32⟩
  | 41 => ⟨S16384x512, .f32⟩
  | 42 => ⟨S16384x512, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_2 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_3 : Ref sig .tc := ⟨.hbm, 47, rfl⟩
abbrev main_v25 : Ref sig .tc := ⟨.hbm, 48, rfl⟩
abbrev main_cst_4 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_5 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_call1_call0_cst : Ref sig .tc := ⟨.hbm, 61, rfl⟩
abbrev main_call1_call0_v0 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_6 : Ref sig .tc := ⟨.hbm, 66, rfl⟩
abbrev main_v39 : Ref sig .tc := ⟨.hbm, 67, rfl⟩
abbrev main_cst_7 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_8 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_call2_call0_cst : Ref sig .tc := ⟨.hbm, 80, rfl⟩
abbrev main_call2_call0_v0 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_cst_9 : Ref sig .tc := ⟨.hbm, 87, rfl⟩
abbrev main_v55 : Ref sig .tc := ⟨.hbm, 88, rfl⟩
abbrev main_v56 : Ref sig .tc := ⟨.hbm, 89, rfl⟩
abbrev main_cst_10 : Ref sig .tc := ⟨.hbm, 90, rfl⟩
abbrev main_v57 : Ref sig .tc := ⟨.hbm, 91, rfl⟩
abbrev main_v58 : Ref sig .tc := ⟨.hbm, 92, rfl⟩
abbrev main_cst_11 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_call3_v0 : Ref sig .tc := ⟨.hbm, 110, rfl⟩
abbrev main_call3_v1 : Ref sig .tc := ⟨.hbm, 111, rfl⟩
abbrev main_call3_cst : Ref sig .tc := ⟨.hbm, 112, rfl⟩
abbrev main_call3_v2 : Ref sig .tc := ⟨.hbm, 113, rfl⟩
abbrev main_call3_v3 : Ref sig .tc := ⟨.hbm, 114, rfl⟩
abbrev main_call3_cst_0 : Ref sig .tc := ⟨.hbm, 115, rfl⟩
abbrev main_call3_v4 : Ref sig .tc := ⟨.hbm, 116, rfl⟩
abbrev main_call3_v5 : Ref sig .tc := ⟨.hbm, 117, rfl⟩
abbrev main_v75 : Ref sig .tc := ⟨.hbm, 118, rfl⟩
abbrev main_cst_12 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_cst_13 : Ref sig .tc := ⟨.hbm, 124, rfl⟩
abbrev main_v80 : Ref sig .tc := ⟨.hbm, 125, rfl⟩
abbrev main_v81 : Ref sig .tc := ⟨.hbm, 126, rfl⟩
abbrev main_cst_14 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_cst_15 : Ref sig .tc := ⟨.hbm, 137, rfl⟩
abbrev main_v91 : Ref sig .tc := ⟨.hbm, 138, rfl⟩
abbrev main_v92 : Ref sig .tc := ⟨.hbm, 139, rfl⟩
abbrev main_cst_16 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_cst_17 : Ref sig .tc := ⟨.hbm, 145, rfl⟩
abbrev main_v97 : Ref sig .tc := ⟨.hbm, 146, rfl⟩
abbrev main_v98 : Ref sig .tc := ⟨.hbm, 147, rfl⟩
abbrev main_cst_18 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_cst_19 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_call4_v0 : Ref sig .tc := ⟨.hbm, 162, rfl⟩
abbrev main_call4_v1 : Ref sig .tc := ⟨.hbm, 163, rfl⟩
abbrev main_call4_cst : Ref sig .tc := ⟨.hbm, 164, rfl⟩
abbrev main_call4_v2 : Ref sig .tc := ⟨.hbm, 165, rfl⟩
abbrev main_call4_v3 : Ref sig .tc := ⟨.hbm, 166, rfl⟩
abbrev main_call4_cst_0 : Ref sig .tc := ⟨.hbm, 167, rfl⟩
abbrev main_call4_v4 : Ref sig .tc := ⟨.hbm, 168, rfl⟩
abbrev main_call4_v5 : Ref sig .tc := ⟨.hbm, 169, rfl⟩
abbrev main_v111 : Ref sig .tc := ⟨.hbm, 170, rfl⟩

abbrev nD : Nat := 1
abbrev τ : Topo := Topo.v7x

variable {F : FTy → Type} [FloatOps F]
-- ==== Kernel3.lean ====
abbrev S65536x1024 : Shape := ⟨2, ![65536, 1024]⟩
abbrev S65536x512 : Shape := ⟨2, ![65536, 512]⟩
abbrev S65536x128 : Shape := ⟨2, ![65536, 128]⟩
abbrev S1x128 : Shape := ⟨2, ![1, 128]⟩
abbrev S1x8 : Shape := ⟨2, ![1, 8]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S128x256 : Shape := ⟨2, ![128, 256]⟩
abbrev S128 : Shape := ⟨1, ![128]⟩
abbrev S8 : Shape := ⟨1, ![8]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S65536x64 : Shape := ⟨2, ![65536, 64]⟩
abbrev S512x1024 : Shape := ⟨2, ![512, 1024]⟩
abbrev S512x512 : Shape := ⟨2, ![512, 512]⟩
abbrev S128x512 : Shape := ⟨2, ![128, 512]⟩
abbrev S2x512x512 : Shape := ⟨3, ![2, 512, 512]⟩
abbrev S128x128 : Shape := ⟨2, ![128, 128]⟩
abbrev S512x128 : Shape := ⟨2, ![512, 128]⟩
abbrev S768x128 : Shape := ⟨2, ![768, 128]⟩
abbrev S384x128 : Shape := ⟨2, ![384, 128]⟩
abbrev S512x384 : Shape := ⟨2, ![512, 384]⟩
abbrev S128x384 : Shape := ⟨2, ![128, 384]⟩
abbrev S1 : Shape := ⟨1, ![1]⟩
abbrev S128x1 : Shape := ⟨2, ![128, 1]⟩
abbrev S1x512x512 : Shape := ⟨3, ![1, 512, 512]⟩
abbrev S1x128x128 : Shape := ⟨3, ![1, 128, 128]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 38
  | .vmem => 29
  | .smem => 1
  | _ => 0

abbrev bufTy : (tb : Table) → Fin (tcTables nBuf tb) → BufTy
  | .hbm, ⟨0, _⟩ => ⟨S65536x1024, .f32⟩
  | .hbm, ⟨1, _⟩ => ⟨S65536x512, .f32⟩
  | .hbm, ⟨2, _⟩ => ⟨S65536x512, .f32⟩
  | .hbm, ⟨3, _⟩ => ⟨S65536x512, .f32⟩
  | .hbm, ⟨4, _⟩ => ⟨S65536x512, .f32⟩
  | .hbm, ⟨5, _⟩ => ⟨S65536x128, .f32⟩
  | .hbm, ⟨6, _⟩ => ⟨S65536x128, .f32⟩
  | .hbm, ⟨7, _⟩ => ⟨S1x128, .f32⟩
  | .hbm, ⟨8, _⟩ => ⟨S1x8, .f32⟩
  | .hbm, ⟨9, _⟩ => ⟨S1x1024x1024, .f32⟩
  | .hbm, ⟨10, _⟩ => ⟨S1x1024, .f32⟩
  | .hbm, ⟨11, _⟩ => ⟨S1x1024x5632, .f32⟩
  | .hbm, ⟨12, _⟩ => ⟨S1x2816x1024, .f32⟩
  | .hbm, ⟨13, _⟩ => ⟨S128x256, .f32⟩
  | .hbm, ⟨14, _⟩ => ⟨S128, .f32⟩
  | .hbm, ⟨15, _⟩ => ⟨S1x128, .f32⟩
  | .hbm, ⟨16, _⟩ => ⟨S8, .f32⟩
  | .hbm, ⟨17, _⟩ => ⟨S1024x1024, .f32⟩
  | .hbm, ⟨18, _⟩ => ⟨S1024x1024, .bf16⟩
  | .hbm, ⟨19, _⟩ => ⟨S1024, .f32⟩
  | .hbm, ⟨20, _⟩ => ⟨S1x1024, .f32⟩
  | .hbm, ⟨21, _⟩ => ⟨S1024x5632, .f32⟩
  | .hbm, ⟨22, _⟩ => ⟨S1024x5632, .bf16⟩
  | .hbm, ⟨23, _⟩ => ⟨S2816x1024, .f32⟩
  | .hbm, ⟨24, _⟩ => ⟨S2816x1024, .bf16⟩
  | .hbm, ⟨25, _⟩ => ⟨S_, .f32⟩
  | .hbm, ⟨26, _⟩ => ⟨S65536x512, .f32⟩
  | .hbm, ⟨27, _⟩ => ⟨S65536x512, .f32⟩
  | .hbm, ⟨28, _⟩ => ⟨S65536x512, .bf16⟩
  | .hbm, ⟨29, _⟩ => ⟨S65536x64, .f32⟩
  | .hbm, ⟨30, _⟩ => ⟨S65536x64, .f32⟩
  | .hbm, ⟨31, _⟩ => ⟨S65536x128, .f32⟩
  | .hbm, ⟨32, _⟩ => ⟨S65536x64, .f32⟩
  | .hbm, ⟨33, _⟩ => ⟨S65536x64, .f32⟩
  | .hbm, ⟨34, _⟩ => ⟨S65536x128, .f32⟩
  | .hbm, ⟨35, _⟩ => ⟨S65536x512, .f32⟩
  | .hbm, ⟨36, _⟩ => ⟨S65536x512, .bf16⟩
  | .hbm, ⟨37, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S1x128, .f32⟩
  | .local _ .vmem, ⟨9, _⟩ => ⟨S1024x1024, .bf16⟩
  | .local _ .vmem, ⟨10, _⟩ => ⟨S1x1024, .f32⟩
  | .local _ .vmem, ⟨11, _⟩ => ⟨S1024x5632, .bf16⟩
  | .local _ .vmem, ⟨12, _⟩ => ⟨S2816x1024, .bf16⟩
  | .local _ .vmem, ⟨13, _⟩ => ⟨S128x256, .f32⟩
  | .local _ .vmem, ⟨14, _⟩ => ⟨S512x512, .bf16⟩
  | .local _ .vmem, ⟨15, _⟩ => ⟨S128x512, .bf16⟩
  | .local _ .vmem, ⟨16, _⟩ => ⟨S512x512, .bf16⟩
  | .local _ .vmem, ⟨17, _⟩ => ⟨S128x512, .bf16⟩
  | .local _ .vmem, ⟨18, _⟩ => ⟨S512x512, .bf16⟩
  | .local _ .vmem, ⟨19, _⟩ => ⟨S512x512, .bf16⟩
  | .local _ .vmem, ⟨20, _⟩ => ⟨S128x512, .bf16⟩
  | .local _ .vmem, ⟨21, _⟩ => ⟨S128x512, .bf16⟩
  | .local _ .vmem, ⟨22, _⟩ => ⟨S512x512, .bf16⟩
  | .local _ .vmem, ⟨23, _⟩ => ⟨S512x512, .bf16⟩
  | .local _ .vmem, ⟨24, _⟩ => ⟨S128x512, .bf16⟩
  | .local _ .vmem, ⟨25, _⟩ => ⟨S128x512, .bf16⟩
  | .local _ .vmem, ⟨26, _⟩ => ⟨S512x1024, .f32⟩
  | .local _ .vmem, ⟨27, _⟩ => ⟨S512x1024, .f32⟩
  | .local _ .vmem, ⟨28, _⟩ => ⟨S2x512x512, .bf16⟩
  | .local _ .smem, ⟨0, _⟩ => ⟨S8, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .smem, ⟨0, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg19_1 : Ref sig .tc := ⟨.vmem, 27, rfl⟩
abbrev cc0_scratch0 : Ref sig .tc := ⟨.vmem, 28, rfl⟩
abbrev cc0_stg9_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26
abbrev cc0_sem19_0 : DmaSem sig := 27
abbrev cc0_sem19_1 : DmaSem sig := 28

abbrev nD : Nat := 1
abbrev τ : Topo := Topo.v7x

variable {F : FTy → Type} [FloatOps F]

abbrev grid0 : Pipeline.Grid := ⟨1, ![128], ![false]⟩

def k0_off1 (i : grid0.Coords) : Fin 3 → Nat :=
  let arg0 : BitVec 32 := BitVec.ofNat 32 (i 0).val
  let c2_i32 : BitVec 32 := 2#32
  let v6 : BitVec 32 := Scalar.remsi arg0 c2_i32
  let v115 : Index := Scalar.indexCast v6
  let c0_50 : Index := 0#32
  let c0_51 : Index := 0#32
  ![v115.toNat, 0, 0]
def k0_off2 (i : grid0.Coords) : Fin 3 → Nat :=
  let c1_i32_1 : BitVec 32 := 1#32
  let arg0 : BitVec 32 := BitVec.ofNat 32 (i 0).val
  let c2_i32 : BitVec 32 := 2#32
  let v6 : BitVec 32 := Scalar.remsi arg0 c2_i32
  let v7 : BitVec 32 := Scalar.subi c1_i32_1 v6
  let c0_i32_193 : BitVec 32 := 0#32
  let c0_i32_194 : BitVec 32 := 0#32
  ![v7.toNat, 0, 0]
def k0_off3 (i : grid0.Coords) : Fin 3 → Nat :=
  let c1_i32_1 : BitVec 32 := 1#32
  let arg0 : BitVec 32 := BitVec.ofNat 32 (i 0).val
  let c2_i32 : BitVec 32 := 2#32
  let v6 : BitVec 32 := Scalar.remsi arg0 c2_i32
  let v7 : BitVec 32 := Scalar.subi c1_i32_1 v6
  let c0_i32_193 : BitVec 32 := 0#32
  let c0_i32_194 : BitVec 32 := 0#32
  ![v7.toNat, 0, 0]
def k0_off4 (i : grid0.Coords) : Fin 3 → Nat :=
  let c1_i32_1 : BitVec 32 := 1#32
  let arg0 : BitVec 32 := BitVec.ofNat 32 (i 0).val
  let c2_i32 : BitVec 32 := 2#32
  let v6 : BitVec 32 := Scalar.remsi arg0 c2_i32
  let v7 : BitVec 32 := Scalar.subi c1_i32_1 v6
  let c0_i32_197 : BitVec 32 := 0#32
  ![v7.toNat, 0, 128]
def k0_off5 (i : grid0.Coords) : Fin 3 → Nat :=
  let c1_i32_1 : BitVec 32 := 1#32
  let arg0 : BitVec 32 := BitVec.ofNat 32 (i 0).val
  let c2_i32 : BitVec 32 := 2#32
  let v6 : BitVec 32 := Scalar.remsi arg0 c2_i32
  let v7 : BitVec 32 := Scalar.subi c1_i32_1 v6
  let c0_i32_201 : BitVec 32 := 0#32
  ![v7.toNat, 0, 256]
def k0_off6 (i : grid0.Coords) : Fin 3 → Nat :=
  let c1_i32_1 : BitVec 32 := 1#32
  let arg0 : BitVec 32 := BitVec.ofNat 32 (i 0).val
  let c2_i32 : BitVec 32 := 2#32
  let v6 : BitVec 32 := Scalar.remsi arg0 c2_i32
  let v7 : BitVec 32 := Scalar.subi c1_i32_1 v6
  let c0_i32_205 : BitVec 32 := 0#32
  ![v7.toNat, 0, 384]
def k0_off7 (i : grid0.Coords) : Fin 3 → Nat :=
  let c1_i32_1 : BitVec 32 := 1#32
  let arg0 : BitVec 32 := BitVec.ofNat 32 (i 0).val
  let c2_i32 : BitVec 32 := 2#32
  let v6 : BitVec 32 := Scalar.remsi arg0 c2_i32
  let v7 : BitVec 32 := Scalar.subi c1_i32_1 v6
  let c0_i32_287 : BitVec 32 := 0#32
  ![v7.toNat, 128, 0]
def k0_off8 (i : grid0.Coords) : Fin 3 → Nat :=
  let c1_i32_1 : BitVec 32 := 1#32
  let arg0 : BitVec 32 := BitVec.ofNat 32 (i 0).val
  let c2_i32 : BitVec 32 := 2#32
  let v6 : BitVec 32 := Scalar.remsi arg0 c2_i32
  let v7 : BitVec 32 := Scalar.subi c1_i32_1 v6
  ![v7.toNat, 128, 128]
def k0_off9 (i : grid0.Coords) : Fin 3 → Nat :=
  let c1_i32_1 : BitVec 32 := 1#32
  let arg0 : BitVec 32 := BitVec.ofNat 32 (i 0).val
  let c2_i32 : BitVec 32 := 2#32
  let v6 : BitVec 32 := Scalar.remsi arg0 c2_i32
  let v7 : BitVec 32 := Scalar.subi c1_i32_1 v6
  ![v7.toNat, 128, 256]
def k0_off10 (i : grid0.Coords) : Fin 3 → Nat :=
  let c1_i32_1 : BitVec 32 := 1#32
  let arg0 : BitVec 32 := BitVec.ofNat 32 (i 0).val
  let c2_i32 : BitVec 32 := 2#32
  let v6 : BitVec 32 := Scalar.remsi arg0 c2_i32
  let v7 : BitVec 32 := Scalar.subi c1_i32_1 v6
  ![v7.toNat, 128, 384]
def k0_off11 (i : grid0.Coords) : Fin 3 → Nat :=
  let c1_i32_1 : BitVec 32 := 1#32
  let arg0 : BitVec 32 := BitVec.ofNat 32 (i 0).val
  let c2_i32 : BitVec 32 := 2#32
  let v6 : BitVec 32 := Scalar.remsi arg0 c2_i32
  let v7 : BitVec 32 := Scalar.subi c1_i32_1 v6
  let c0_i32_380 : BitVec 32 := 0#32
  ![v7.toNat, 256, 0]
def k0_off12 (i : grid0.Coords) : Fin 3 → Nat :=
  let c1_i32_1 : BitVec 32 := 1#32
  let arg0 : BitVec 32 := BitVec.ofNat 32 (i 0).val
  let c2_i32 : BitVec 32 := 2#32
  let v6 : BitVec 32 := Scalar.remsi arg0 c2_i32
  let v7 : BitVec 32 := Scalar.subi c1_i32_1 v6
  ![v7.toNat, 256, 128]
def k0_off13 (i : grid0.Coords) : Fin 3 → Nat :=
  let c1_i32_1 : BitVec 32 := 1#32
  let arg0 : BitVec 32 := BitVec.ofNat 32 (i 0).val
  let c2_i32 : BitVec 32 := 2#32
  let v6 : BitVec 32 := Scalar.remsi arg0 c2_i32
  let v7 : BitVec 32 := Scalar.subi c1_i32_1 v6
  ![v7.toNat, 256, 256]
def k0_off14 (i : grid0.Coords) : Fin 3 → Nat :=
  let c1_i32_1 : BitVec 32 := 1#32
  let arg0 : BitVec 32 := BitVec.ofNat 32 (i 0).val
  let c2_i32 : BitVec 32 := 2#32
  let v6 : BitVec 32 := Scalar.remsi arg0 c2_i32
  let v7 : BitVec 32 := Scalar.subi c1_i32_1 v6
  ![v7.toNat, 256, 384]
def k0_off15 (i : grid0.Coords) : Fin 3 → Nat :=
  let c1_i32_1 : BitVec 32 := 1#32
  let arg0 : BitVec 32 := BitVec.ofNat 32 (i 0).val
  let c2_i32 : BitVec 32 := 2#32
  let v6 : BitVec 32 := Scalar.remsi arg0 c2_i32
  let v7 : BitVec 32 := Scalar.subi c1_i32_1 v6
  let c0_i32_407 : BitVec 32 := 0#32
  ![v7.toNat, 384, 0]
def k0_off16 (i : grid0.Coords) : Fin 3 → Nat :=
  let c1_i32_1 : BitVec 32 := 1#32
  let arg0 : BitVec 32 := BitVec.ofNat 32 (i 0).val
  let c2_i32 : BitVec 32 := 2#32
  let v6 : BitVec 32 := Scalar.remsi arg0 c2_i32
  let v7 : BitVec 32 := Scalar.subi c1_i32_1 v6
  ![v7.toNat, 384, 128]
def k0_off17 (i : grid0.Coords) : Fin 3 → Nat :=
  let c1_i32_1 : BitVec 32 := 1#32
  let arg0 : BitVec 32 := BitVec.ofNat 32 (i 0).val
  let c2_i32 : BitVec 32 := 2#32
  let v6 : BitVec 32 := Scalar.remsi arg0 c2_i32
  let v7 : BitVec 32 := Scalar.subi c1_i32_1 v6
  ![v7.toNat, 384, 256]
def k0_off18 (i : grid0.Coords) : Fin 3 → Nat :=
  let c1_i32_1 : BitVec 32 := 1#32
  let arg0 : BitVec 32 := BitVec.ofNat 32 (i 0).val
  let c2_i32 : BitVec 32 := 2#32
  let v6 : BitVec 32 := Scalar.remsi arg0 c2_i32
  let v7 : BitVec 32 := Scalar.subi c1_i32_1 v6
  ![v7.toNat, 384, 384]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c4_i32 : BitVec 32 := 4#32
  let c0_i32 : BitVec 32 := 0#32
  let c0_i32_0 : BitVec 32 := 0#32
  ![c4_i32.toNat, c0_i32.toNat]

def cc0_transform_15 (i : grid0.Coords) : Fin 2 → Nat :=
  let arg0 : BitVec 32 := BitVec.ofNat 32 (i 0).val
  let c1_i32 : BitVec 32 := 1#32
  let v0 : BitVec 32 := Scalar.addi arg0 c1_i32
  let c127_i32 : BitVec 32 := 127#32
  let v1 : BitVec 32 := Scalar.minsi v0 c127_i32
  let c0_i32 : BitVec 32 := 0#32
  let c0_i32_0 : BitVec 32 := 0#32
  ![v1.toNat, c0_i32.toNat]

def cc0_transform_16 (i : grid0.Coords) : Fin 2 → Nat :=
  let arg0 : BitVec 32 := BitVec.ofNat 32 (i 0).val
  let c1_i32 : BitVec 32 := 1#32
  let v0 : BitVec 32 := Scalar.addi arg0 c1_i32
  let c127_i32 : BitVec 32 := 127#32
  let v1 : BitVec 32 := Scalar.minsi v0 c127_i32
  let c4_i32 : BitVec 32 := 4#32
  let v2 : BitVec 32 := Scalar.muli c4_i32 v1
  let c1_i32_0 : BitVec 32 := 1#32
  let v3 : BitVec 32 := Scalar.subi v2 c1_i32_0
  let c0_i32 : BitVec 32 := 0#32
  let v4 : BitVec 32 := Scalar.maxsi v3 c0_i32
  let c0_i32_1 : BitVec 32 := 0#32
  let c0_i32_2 : BitVec 32 := 0#32
  ![v4.toNat, c0_i32_1.toNat]

def cc0_transform_17 (i : grid0.Coords) : Fin 2 → Nat :=
  let arg0 : BitVec 32 := BitVec.ofNat 32 (i 0).val
  let c1_i32 : BitVec 32 := 1#32
  let v0 : BitVec 32 := Scalar.addi arg0 c1_i32
  let c127_i32 : BitVec 32 := 127#32
  let v1 : BitVec 32 := Scalar.minsi v0 c127_i32
  let c0_i32 : BitVec 32 := 0#32
  let c0_i32_0 : BitVec 32 := 0#32
  ![v1.toNat, c0_i32.toNat]

def cc0_transform_18 (i : grid0.Coords) : Fin 2 → Nat :=
  let arg0 : BitVec 32 := BitVec.ofNat 32 (i 0).val
  let c1_i32 : BitVec 32 := 1#32
  let v0 : BitVec 32 := Scalar.addi arg0 c1_i32
  let c127_i32 : BitVec 32 := 127#32
  let v1 : BitVec 32 := Scalar.minsi v0 c127_i32
  let c4_i32 : BitVec 32 := 4#32
  let v2 : BitVec 32 := Scalar.muli c4_i32 v1
  let c4_i32_0 : BitVec 32 := 4#32
  let v3 : BitVec 32 := Scalar.addi v2 c4_i32_0
  let c511_i32 : BitVec 32 := 511#32
  let v4 : BitVec 32 := Scalar.minsi v3 c511_i32
  let c0_i32 : BitVec 32 := 0#32
  let c0_i32_1 : BitVec 32 := 0#32
  ![v4.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x5632 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .smem S8 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S512x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x512 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S128x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S128x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]
-- ==== Reference3Ideal.lean ====
abbrev S65536x1024 : Shape := ⟨2, ![65536, 1024]⟩
abbrev S65536x512 : Shape := ⟨2, ![65536, 512]⟩
abbrev S65536x128 : Shape := ⟨2, ![65536, 128]⟩
abbrev S1x128 : Shape := ⟨2, ![1, 128]⟩
abbrev S1x8 : Shape := ⟨2, ![1, 8]⟩
abbrev S1x1024x1024 : Shape := ⟨3, ![1, 1024, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S65536x4x128 : Shape := ⟨3, ![65536, 4, 128]⟩
abbrev S128 : Shape := ⟨1, ![128]⟩
abbrev S_ : Shape := ⟨0, ![]⟩
abbrev S65536x4 : Shape := ⟨2, ![65536, 4]⟩
abbrev S65536x4x1 : Shape := ⟨3, ![65536, 4, 1]⟩
abbrev S1x1x128 : Shape := ⟨3, ![1, 1, 128]⟩
abbrev S8x64x128x2x4x64 : Shape := ⟨6, ![8, 64, 128, 2, 4, 64]⟩
abbrev S8x8192x2x64 : Shape := ⟨4, ![8, 8192, 2, 64]⟩
abbrev S8x8448x2x64 : Shape := ⟨4, ![8, 8448, 2, 64]⟩
abbrev S8x66x128x2x64 : Shape := ⟨5, ![8, 66, 128, 2, 64]⟩
abbrev S8x64x128x2x64 : Shape := ⟨5, ![8, 64, 128, 2, 64]⟩
abbrev S8x64x384x2x64 : Shape := ⟨5, ![8, 64, 384, 2, 64]⟩
abbrev S8x64x2x384x128x4 : Shape := ⟨6, ![8, 64, 2, 384, 128, 4]⟩
abbrev S8x64x2x4x128x384 : Shape := ⟨6, ![8, 64, 2, 4, 128, 384]⟩
abbrev S384 : Shape := ⟨1, ![384]⟩
abbrev S1x384 : Shape := ⟨2, ![1, 384]⟩
abbrev S128x1 : Shape := ⟨2, ![128, 1]⟩
abbrev S128x384 : Shape := ⟨2, ![128, 384]⟩
abbrev S64 : Shape := ⟨1, ![64]⟩
abbrev S64x1x1 : Shape := ⟨3, ![64, 1, 1]⟩
abbrev S1x1x384 : Shape := ⟨3, ![1, 1, 384]⟩
abbrev S64x1x384 : Shape := ⟨3, ![64, 1, 384]⟩
abbrev S1x128x384 : Shape := ⟨3, ![1, 128, 384]⟩
abbrev S64x128x384 : Shape := ⟨3, ![64, 128, 384]⟩
abbrev S1x64x1x1x128x384 : Shape := ⟨6, ![1, 64, 1, 1, 128, 384]⟩
abbrev S8 : Shape := ⟨1, ![8]⟩
abbrev S2x4 : Shape := ⟨2, ![2, 4]⟩
abbrev S1x1x2x4x1x1 : Shape := ⟨6, ![1, 1, 2, 4, 1, 1]⟩
abbrev S8x64x2x4x128 : Shape := ⟨5, ![8, 64, 2, 4, 128]⟩
abbrev S8x64x2x4x128x1 : Shape := ⟨6, ![8, 64, 2, 4, 128, 1]⟩
abbrev S8x64x2x64x4x128 : Shape := ⟨6, ![8, 64, 2, 64, 4, 128]⟩
abbrev S1024x1024 : Shape := ⟨2, ![1024, 1024]⟩
abbrev S1024 : Shape := ⟨1, ![1024]⟩
abbrev S65536 : Shape := ⟨1, ![65536]⟩
abbrev S65536x1 : Shape := ⟨2, ![65536, 1]⟩
abbrev S1024x5632 : Shape := ⟨2, ![1024, 5632]⟩
abbrev S65536x5632 : Shape := ⟨2, ![65536, 5632]⟩
abbrev S65536x2816 : Shape := ⟨2, ![65536, 2816]⟩
abbrev S2816x1024 : Shape := ⟨2, ![2816, 1024]⟩

abbrev nBuf : Space → Nat
  | .hbm => 163
  | .vmem => 0
  | .smem => 0
  | _ => 0

abbrev hbmTy0_0 (i : Nat) : BufTy := match i % 128 with
  | 0 => ⟨S65536x1024, .f32⟩
  | 1 => ⟨S65536x512, .f32⟩
  | 2 => ⟨S65536x512, .f32⟩
  | 3 => ⟨S65536x512, .f32⟩
  | 4 => ⟨S65536x512, .f32⟩
  | 5 => ⟨S65536x128, .f32⟩
  | 6 => ⟨S65536x128, .f32⟩
  | 7 => ⟨S1x128, .f32⟩
  | 8 => ⟨S1x8, .f32⟩
  | 9 => ⟨S1x1024x1024, .f32⟩
  | 10 => ⟨S1x1024, .f32⟩
  | 11 => ⟨S1x1024x5632, .f32⟩
  | 12 => ⟨S1x2816x1024, .f32⟩
  | 13 => ⟨S65536x512, .f32⟩
  | 14 => ⟨S65536x4x128, .f32⟩
  | 15 => ⟨S128, .f32⟩
  | 16 => ⟨S65536x4x128, .f32⟩
  | 17 => ⟨S_, .f32⟩
  | 18 => ⟨S65536x4, .f32⟩
  | 19 => ⟨S65536x4x1, .f32⟩
  | 20 => ⟨S_, .f32⟩
  | 21 => ⟨S65536x4x1, .f32⟩
  | 22 => ⟨S65536x4x1, .f32⟩
  | 23 => ⟨S_, .f32⟩
  | 24 => ⟨S65536x4x1, .f32⟩
  | 25 => ⟨S65536x4x1, .f32⟩
  | 26 => ⟨S65536x4x1, .f32⟩
  | 27 => ⟨S65536x4x128, .f32⟩
  | 28 => ⟨S65536x4x128, .f32⟩
  | 29 => ⟨S1x1x128, .f32⟩
  | 30 => ⟨S65536x4x128, .f32⟩
  | 31 => ⟨S65536x4x128, .f32⟩
  | 32 => ⟨S65536x512, .f32⟩
  | 33 => ⟨S65536x512, .f32⟩
  | 34 => ⟨S8x64x128x2x4x64, .f32⟩
  | 35 => ⟨S8x8192x2x64, .f32⟩
  | 36 => ⟨S_, .i32⟩
  | 37 => ⟨S_, .f32⟩
  | 38 => ⟨S8x8448x2x64, .f32⟩
  | 39 => ⟨S8x66x128x2x64, .f32⟩
  | 40 => ⟨S8x64x128x2x64, .f32⟩
  | 41 => ⟨S8x64x128x2x64, .f32⟩
  | 42 => ⟨S8x64x128x2x64, .f32⟩
  | 43 => ⟨S8x64x384x2x64, .f32⟩
  | 44 => ⟨S8x8192x2x64, .f32⟩
  | 45 => ⟨S_, .i32⟩
  | 46 => ⟨S_, .f32⟩
  | 47 => ⟨S8x8448x2x64, .f32⟩
  | 48 => ⟨S8x66x128x2x64, .f32⟩
  | 49 => ⟨S8x64x128x2x64, .f32⟩
  | 50 => ⟨S8x64x128x2x64, .f32⟩
  | 51 => ⟨S8x64x128x2x64, .f32⟩
  | 52 => ⟨S8x64x384x2x64, .f32⟩
  | 53 => ⟨S8x64x2x384x128x4, .f32⟩
  | 54 => ⟨S8x64x2x4x128x384, .f32⟩
  | 55 => ⟨S_, .f32⟩
  | 56 => ⟨S8x64x2x4x128x384, .f32⟩
  | 57 => ⟨S8x64x2x4x128x384, .f32⟩
  | 58 => ⟨S384, .i32⟩
  | 59 => ⟨S_, .i32⟩
  | 60 => ⟨S384, .i32⟩
  | 61 => ⟨S384, .i32⟩
  | 62 => ⟨S1x384, .i32⟩
  | 63 => ⟨S128, .i32⟩
  | 64 => ⟨S128x1, .i32⟩
  | 65 => ⟨S128x384, .i32⟩
  | 66 => ⟨S128x384, .i32⟩
  | 67 => ⟨S128x384, .i32⟩
  | 68 => ⟨S64, .i32⟩
  | 69 => ⟨S64x1x1, .i32⟩
  | 70 => ⟨S_, .i32⟩
  | 71 => ⟨S64x1x1, .i32⟩
  | 72 => ⟨S64x1x1, .i32⟩
  | 73 => ⟨S1x1x384, .i32⟩
  | 74 => ⟨S64x1x384, .i32⟩
  | 75 => ⟨S64x1x384, .i32⟩
  | 76 => ⟨S64x1x384, .i32⟩
  | 77 => ⟨S128x384, .i32⟩
  | 78 => ⟨S_, .i32⟩
  | 79 => ⟨S128x384, .i32⟩
  | 80 => ⟨S128x384, .i1⟩
  | 81 => ⟨S1x128x384, .i1⟩
  | 82 => ⟨S_, .i32⟩
  | 83 => ⟨S64x1x384, .i32⟩
  | 84 => ⟨S64x1x384, .i1⟩
  | 85 => ⟨S64x128x384, .i1⟩
  | 86 => ⟨S64x128x384, .i1⟩
  | 87 => ⟨S64x128x384, .i1⟩
  | 88 => ⟨S_, .i32⟩
  | 89 => ⟨S64x1x384, .i32⟩
  | 90 => ⟨S64x1x384, .i1⟩
  | 91 => ⟨S64x128x384, .i1⟩
  | 92 => ⟨S64x128x384, .i1⟩
  | 93 => ⟨S1x64x1x1x128x384, .i1⟩
  | 94 => ⟨S_, .f32⟩
  | 95 => ⟨S_, .f32⟩
  | 96 => ⟨S8x64x2x4x128x384, .i1⟩
  | 97 => ⟨S8x64x2x4x128x384, .f32⟩
  | 98 => ⟨S8x64x2x4x128x384, .f32⟩
  | 99 => ⟨S8, .f32⟩
  | 100 => ⟨S2x4, .f32⟩
  | 101 => ⟨S1x1x2x4x1x1, .f32⟩
  | 102 => ⟨S_, .f32⟩
  | 103 => ⟨S8x64x2x4x128, .f32⟩
  | 104 => ⟨S8x64x2x4x128x1, .f32⟩
  | 105 => ⟨S8x64x2x4x128x1, .f32⟩
  | 106 => ⟨S8x64x2x4x128x1, .f32⟩
  | 107 => ⟨S8x64x2x4x128x384, .f32⟩
  | 108 => ⟨S8x64x2x4x128x384, .f32⟩
  | 109 => ⟨S8x64x2x4x128x384, .f32⟩
  | 110 => ⟨S_, .f32⟩
  | 111 => ⟨S8x64x2x4x128, .f32⟩
  | 112 => ⟨S8x64x2x4x128x1, .f32⟩
  | 113 => ⟨S8x64x2x4x128x1, .f32⟩
  | 114 => ⟨S8x64x2x4x128x1, .f32⟩
  | 115 => ⟨S8x64x2x4x128x1, .f32⟩
  | 116 => ⟨S8x64x2x4x128x1, .f32⟩
  | 117 => ⟨S8x64x2x4x128x384, .f32⟩
  | 118 => ⟨S8x64x2x4x128x384, .f32⟩
  | 119 => ⟨S8x64x2x64x4x128, .f32⟩
  | 120 => ⟨S8x64x128x2x4x64, .f32⟩
  | 121 => ⟨S65536x512, .f32⟩
  | 122 => ⟨S65536x1024, .f32⟩
  | 123 => ⟨S1024x1024, .f32⟩
  | 124 => ⟨S65536x1024, .f32⟩
  | 125 => ⟨S65536x1024, .f32⟩
  | 126 => ⟨S1024, .f32⟩
  | 127 => ⟨S65536x1024, .f32⟩
  | _ => ⟨S65536x1024, .f32⟩

abbrev hbmTy0_1 (i : Nat) : BufTy := match i % 128 with
  | 0 => ⟨S_, .f32⟩
  | 1 => ⟨S65536, .f32⟩
  | 2 => ⟨S65536x1, .f32⟩
  | 3 => ⟨S_, .f32⟩
  | 4 => ⟨S65536x1, .f32⟩
  | 5 => ⟨S65536x1, .f32⟩
  | 6 => ⟨S_, .f32⟩
  | 7 => ⟨S65536x1, .f32⟩
  | 8 => ⟨S65536x1, .f32⟩
  | 9 => ⟨S65536x1, .f32⟩
  | 10 => ⟨S65536x1024, .f32⟩
  | 11 => ⟨S65536x1024, .f32⟩
  | 12 => ⟨S1x1024, .f32⟩
  | 13 => ⟨S65536x1024, .f32⟩
  | 14 => ⟨S65536x1024, .f32⟩
  | 15 => ⟨S1024x5632, .f32⟩
  | 16 => ⟨S65536x5632, .f32⟩
  | 17 => ⟨S65536x2816, .f32⟩
  | 18 => ⟨S65536x2816, .f32⟩
  | 19 => ⟨S65536x2816, .f32⟩
  | 20 => ⟨S65536x2816, .f32⟩
  | 21 => ⟨S_, .f32⟩
  | 22 => ⟨S65536x2816, .f32⟩
  | 23 => ⟨S65536x2816, .f32⟩
  | 24 => ⟨S_, .f32⟩
  | 25 => ⟨S65536x2816, .f32⟩
  | 26 => ⟨S65536x2816, .f32⟩
  | 27 => ⟨S65536x2816, .f32⟩
  | 28 => ⟨S65536x2816, .f32⟩
  | 29 => ⟨S2816x1024, .f32⟩
  | 30 => ⟨S65536x1024, .f32⟩
  | 31 => ⟨S_, .f32⟩
  | 32 => ⟨S65536x1024, .f32⟩
  | 33 => ⟨S65536x1024, .f32⟩
  | 34 => ⟨S65536x1024, .f32⟩
  | _ => ⟨S65536x1024, .f32⟩

abbrev hbmTy (i : Nat) : BufTy := match i / 128 with
  | 0 => hbmTy0_0 i
  | 1 => hbmTy0_1 i
  | _ => ⟨S65536x1024, .f32⟩

abbrev bufTy : (tb : Table) → Fin (tcTables nBuf tb) → BufTy
  | .hbm, ⟨i, _⟩ => hbmTy i
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c : Ref sig .tc := ⟨.hbm, 36, rfl⟩
abbrev main_call0_v0 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_2 : Ref sig .tc := ⟨.hbm, 45, rfl⟩
abbrev main_call1_v0 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_3 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_c_4 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_c_5 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_c_6 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_c_7 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_c_8 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_9 : Ref sig .tc := ⟨.hbm, 94, rfl⟩
abbrev main_call2_v0 : Ref sig .tc := ⟨.hbm, 95, rfl⟩
abbrev main_call2_v1 : Ref sig .tc := ⟨.hbm, 96, rfl⟩
abbrev main_call2_v2 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_10 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_11 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_cst_12 : Ref sig .tc := ⟨.hbm, 128, rfl⟩
abbrev main_v96 : Ref sig .tc := ⟨.hbm, 129, rfl⟩
abbrev main_v97 : Ref sig .tc := ⟨.hbm, 130, rfl⟩
abbrev main_cst_13 : Ref sig .tc := ⟨.hbm, 131, rfl⟩
abbrev main_v98 : Ref sig .tc := ⟨.hbm, 132, rfl⟩
abbrev main_v99 : Ref sig .tc := ⟨.hbm, 133, rfl⟩
abbrev main_cst_14 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_call3_v0 : Ref sig .tc := ⟨.hbm, 147, rfl⟩
abbrev main_call3_v1 : Ref sig .tc := ⟨.hbm, 148, rfl⟩
abbrev main_call3_cst : Ref sig .tc := ⟨.hbm, 149, rfl⟩
abbrev main_call3_v2 : Ref sig .tc := ⟨.hbm, 150, rfl⟩
abbrev main_call3_v3 : Ref sig .tc := ⟨.hbm, 151, rfl⟩
abbrev main_call3_cst_0 : Ref sig .tc := ⟨.hbm, 152, rfl⟩
abbrev main_call3_v4 : Ref sig .tc := ⟨.hbm, 153, rfl⟩
abbrev main_call3_v5 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_cst_15 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩

abbrev nD : Nat := 1
abbrev τ : Topo := Topo.v7x

variable {F : FTy → Type} [FloatOps F]
-- ==== Kernel4.lean ====
abbrev S65536x1024 : Shape := ⟨2, ![65536, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1x1024x3328 : Shape := ⟨3, ![1, 1024, 3328]⟩
abbrev S2x512 : Shape := ⟨2, ![2, 512]⟩
abbrev S1x64 : Shape := ⟨2, ![1, 64]⟩
abbrev S8192 : Shape := ⟨1, ![8192]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S1x8192x1x32 : Shape := ⟨4, ![1, 8192, 1, 32]⟩
abbrev S1x8192x4x32 : Shape := ⟨4, ![1, 8192, 4, 32]⟩
abbrev S8192x128 : Shape := ⟨2, ![8192, 128]⟩
abbrev S8192x64 : Shape := ⟨2, ![8192, 64]⟩
abbrev S1x8192x1x64 : Shape := ⟨4, ![1, 8192, 1, 64]⟩
abbrev S1x8192x2x64 : Shape := ⟨4, ![1, 8192, 2, 64]⟩
abbrev S2x2 : Shape := ⟨2, ![2, 2]⟩
abbrev S64x64 : Shape := ⟨2, ![64, 64]⟩
abbrev S2x1x2x1 : Shape := ⟨4, ![2, 1, 2, 1]⟩
abbrev S1x64x1x64 : Shape := ⟨4, ![1, 64, 1, 64]⟩
abbrev S2x64x2x64 : Shape := ⟨4, ![2, 64, 2, 64]⟩
abbrev S128x128 : Shape := ⟨2, ![128, 128]⟩
abbrev S256x128 : Shape := ⟨2, ![256, 128]⟩
abbrev S1024 : Shape := ⟨1, ![1024]⟩
abbrev S1024x5632 : Shape := ⟨2, ![1024, 5632]⟩
abbrev S2816x1024 : Shape := ⟨2, ![2816, 1024]⟩
abbrev S1024x3328 : Shape := ⟨2, ![1024, 3328]⟩
abbrev S64 : Shape := ⟨1, ![64]⟩
abbrev S8x64 : Shape := ⟨2, ![8, 64]⟩
abbrev S512 : Shape := ⟨1, ![512]⟩
abbrev S1x512 : Shape := ⟨2, ![1, 512]⟩
abbrev S2x64 : Shape := ⟨2, ![2, 64]⟩
abbrev S128 : Shape := ⟨1, ![128]⟩
abbrev S1x128 : Shape := ⟨2, ![1, 128]⟩
abbrev S65536x512 : Shape := ⟨2, ![65536, 512]⟩
abbrev S512x1024 : Shape := ⟨2, ![512, 1024]⟩
abbrev S512x128 : Shape := ⟨2, ![512, 128]⟩
abbrev S512x512 : Shape := ⟨2, ![512, 512]⟩
abbrev S128x1024 : Shape := ⟨2, ![128, 1024]⟩
abbrev S128x1 : Shape := ⟨2, ![128, 1]⟩
abbrev S1024x256 : Shape := ⟨2, ![1024, 256]⟩
abbrev S128x256 : Shape := ⟨2, ![128, 256]⟩
abbrev S256x1024 : Shape := ⟨2, ![256, 1024]⟩
abbrev S1024x512 : Shape := ⟨2, ![1024, 512]⟩
abbrev S128x512 : Shape := ⟨2, ![128, 512]⟩

abbrev nBuf : Space → Nat
  | .hbm => 85
  | .vmem => 32
  | .smem => 0
  | _ => 0

abbrev bufTy : (tb : Table) → Fin (tcTables nBuf tb) → BufTy
  | .hbm, ⟨0, _⟩ => ⟨S65536x1024, .f32⟩
  | .hbm, ⟨1, _⟩ => ⟨S1x1024, .f32⟩
  | .hbm, ⟨2, _⟩ => ⟨S1x1024x5632, .f32⟩
  | .hbm, ⟨3, _⟩ => ⟨S1x2816x1024, .f32⟩
  | .hbm, ⟨4, _⟩ => ⟨S1x1024, .f32⟩
  | .hbm, ⟨5, _⟩ => ⟨S1x1024x3328, .f32⟩
  | .hbm, ⟨6, _⟩ => ⟨S2x512, .f32⟩
  | .hbm, ⟨7, _⟩ => ⟨S2x512, .f32⟩
  | .hbm, ⟨8, _⟩ => ⟨S1x64, .f32⟩
  | .hbm, ⟨9, _⟩ => ⟨S1x64, .f32⟩
  | .hbm, ⟨10, _⟩ => ⟨S8192, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S_, .f32⟩
  | .hbm, ⟨23, _⟩ => ⟨S32, .f32⟩
  | .hbm, ⟨24, _⟩ => ⟨S32, .f32⟩
  | .hbm, ⟨25, _⟩ => ⟨S8192x1, .f32⟩
  | .hbm, ⟨26, _⟩ => ⟨S1x32, .f32⟩
  | .hbm, ⟨27, _⟩ => ⟨S8192x32, .f32⟩
  | .hbm, ⟨28, _⟩ => ⟨S8192x32, .f32⟩
  | .hbm, ⟨29, _⟩ => ⟨S8192x32, .f32⟩
  | .hbm, ⟨30, _⟩ => ⟨S8192x32, .f32⟩
  | .hbm, ⟨31, _⟩ => ⟨S8192x32, .f32⟩
  | .hbm, ⟨32, _⟩ => ⟨S1x8192x1x32, .f32⟩
  | .hbm, ⟨33, _⟩ => ⟨S1x8192x4x32, .f32⟩
  | .hbm, ⟨34, _⟩ => ⟨S8192x128, .f32⟩
  | .hbm, ⟨35, _⟩ => ⟨S8192x32, .f32⟩
  | .hbm, ⟨36, _⟩ => ⟨S8192x64, .f32⟩
  | .hbm, ⟨37, _⟩ => ⟨S1x8192x1x64, .f32⟩
  | .hbm, ⟨38, _⟩ => ⟨S1x8192x2x64, .f32⟩
  | .hbm, ⟨39, _⟩ => ⟨S8192x128, .f32⟩
  | .hbm, ⟨40, _⟩ => ⟨S2x2, .i32⟩
  | .hbm, ⟨41, _⟩ => ⟨S2x2, .i32⟩
  | .hbm, ⟨42, _⟩ => ⟨S_, .i32⟩
  | .hbm, ⟨43, _⟩ => ⟨S2x2, .i32⟩
  | .hbm, ⟨44, _⟩ => ⟨S2x2, .i32⟩
  | .hbm, ⟨45, _⟩ => ⟨S2x2, .i1⟩
  | .hbm, ⟨46, _⟩ => ⟨S2x2, .f32⟩
  | .hbm, ⟨47, _⟩ => ⟨S_, .f32⟩
  | .hbm, ⟨48, _⟩ => ⟨S64x64, .f32⟩
  | .hbm, ⟨49, _⟩ => ⟨S2x1x2x1, .f32⟩
  | .hbm, ⟨50, _⟩ => ⟨S1x64x1x64, .f32⟩
  | .hbm, ⟨51, _⟩ => ⟨S2x64x2x64, .f32⟩
  | .hbm, ⟨52, _⟩ => ⟨S2x64x2x64, .f32⟩
  | .hbm, ⟨53, _⟩ => ⟨S2x64x2x64, .f32⟩
  | .hbm, ⟨54, _⟩ => ⟨S128x128, .f32⟩
  | .hbm, ⟨55, _⟩ => ⟨S256x128, .f32⟩
  | .hbm, ⟨56, _⟩ => ⟨S1024, .f32⟩
  | .hbm, ⟨57, _⟩ => ⟨S1x1024, .f32⟩
  | .hbm, ⟨58, _⟩ => ⟨S1024x5632, .f32⟩
  | .hbm, ⟨59, _⟩ => ⟨S1024x5632, .bf16⟩
  | .hbm, ⟨60, _⟩ => ⟨S2816x1024, .f32⟩
  | .hbm, ⟨61, _⟩ => ⟨S2816x1024, .bf16⟩
  | .hbm, ⟨62, _⟩ => ⟨S1024, .f32⟩
  | .hbm, ⟨63, _⟩ => ⟨S1x1024, .f32⟩
  | .hbm, ⟨64, _⟩ => ⟨S1024x3328, .f32⟩
  | .hbm, ⟨65, _⟩ => ⟨S1024x3328, .bf16⟩
  | .hbm, ⟨66, _⟩ => ⟨S64, .f32⟩
  | .hbm, ⟨67, _⟩ => ⟨S1x64, .f32⟩
  | .hbm, ⟨68, _⟩ => ⟨S8x64, .f32⟩
  | .hbm, ⟨69, _⟩ => ⟨S512, .f32⟩
  | .hbm, ⟨70, _⟩ => ⟨S1x512, .f32⟩
  | .hbm, ⟨71, _⟩ => ⟨S64, .f32⟩
  | .hbm, ⟨72, _⟩ => ⟨S1x64, .f32⟩
  | .hbm, ⟨73, _⟩ => ⟨S2x64, .f32⟩
  | .hbm, ⟨74, _⟩ => ⟨S128, .f32⟩
  | .hbm, ⟨75, _⟩ => ⟨S1x128, .f32⟩
  | .hbm, ⟨76, _⟩ => ⟨S256x128, .bf16⟩
  | .hbm, ⟨77, _⟩ => ⟨S65536x1024, .f32⟩
  | .hbm, ⟨78, _⟩ => ⟨S65536x512, .f32⟩
  | .hbm, ⟨79, _⟩ => ⟨S65536x512, .f32⟩
  | .hbm, ⟨80, _⟩ => ⟨S65536x512, .f32⟩
  | .hbm, ⟨81, _⟩ => ⟨S65536x512, .bf16⟩
  | .hbm, ⟨82, _⟩ => ⟨S65536x512, .f32⟩
  | .hbm, ⟨83, _⟩ => ⟨S65536x512, .bf16⟩
  | .hbm, ⟨84, _⟩ => ⟨S65536x512, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S1x1024, .f32⟩
  | .local _ .vmem, ⟨6, _⟩ => ⟨S1024x3328, .bf16⟩
  | .local _ .vmem, ⟨7, _⟩ => ⟨S2x512, .f32⟩
  | .local _ .vmem, ⟨8, _⟩ => ⟨S2x512, .f32⟩
  | .local _ .vmem, ⟨9, _⟩ => ⟨S1x512, .f32⟩
  | .local _ .vmem, ⟨10, _⟩ => ⟨S1x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S256x128, .bf16⟩
  | .local _ .vmem, ⟨16, _⟩ => ⟨S512x1024, .f32⟩
  | .local _ .vmem, ⟨17, _⟩ => ⟨S512x1024, .f32⟩
  | .local _ .vmem, ⟨18, _⟩ => ⟨S512x512, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S512x512, .bf16⟩
  | .local _ .vmem, ⟨25, _⟩ => ⟨S512x512, .bf16⟩
  | .local _ .vmem, ⟨26, _⟩ => ⟨S512x512, .f32⟩
  | .local _ .vmem, ⟨27, _⟩ => ⟨S512x512, .f32⟩
  | .local _ .vmem, ⟨28, _⟩ => ⟨S512x512, .bf16⟩
  | .local _ .vmem, ⟨29, _⟩ => ⟨S512x512, .bf16⟩
  | .local _ .vmem, ⟨30, _⟩ => ⟨S512x512, .bf16⟩
  | .local _ .vmem, ⟨31, _⟩ => ⟨S512x512, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_c : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_3 : Ref sig .tc := ⟨.hbm, 47, rfl⟩
abbrev main_v32 : Ref sig .tc := ⟨.hbm, 48, rfl⟩
abbrev main_call0_v0 : Ref sig .tc := ⟨.hbm, 49, rfl⟩
abbrev main_call0_v1 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56_0 : Ref sig .tc := ⟨.hbm, 77, rfl⟩
abbrev main_v56_1 : Ref sig .tc := ⟨.hbm, 78, rfl⟩
abbrev main_v56_2 : Ref sig .tc := ⟨.hbm, 79, rfl⟩
abbrev main_v56_3 : Ref sig .tc := ⟨.hbm, 80, rfl⟩
abbrev main_v56_4 : Ref sig .tc := ⟨.hbm, 81, rfl⟩
abbrev main_v56_5 : Ref sig .tc := ⟨.hbm, 82, rfl⟩
abbrev main_v56_6 : Ref sig .tc := ⟨.hbm, 83, rfl⟩
abbrev main_v56_7 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_stg20_0 : Ref sig .tc := ⟨.vmem, 30, rfl⟩
abbrev cc0_stg20_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29
abbrev cc0_sem20_0 : DmaSem sig := 30
abbrev cc0_sem20_1 : DmaSem sig := 31

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_11 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x3328 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S256x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x512 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x512 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== Reference4Ideal.lean ====
abbrev S65536x1024 : Shape := ⟨2, ![65536, 1024]⟩
abbrev S1x1024 : Shape := ⟨2, ![1, 1024]⟩
abbrev S1x1024x5632 : Shape := ⟨3, ![1, 1024, 5632]⟩
abbrev S1x2816x1024 : Shape := ⟨3, ![1, 2816, 1024]⟩
abbrev S1x1024x3328 : Shape := ⟨3, ![1, 1024, 3328]⟩
abbrev S2x512 : Shape := ⟨2, ![2, 512]⟩
abbrev S1x64 : Shape := ⟨2, ![1, 64]⟩
abbrev S1024 : Shape := ⟨1, ![1024]⟩
abbrev S_ : Shape := ⟨0, ![]⟩
abbrev S65536 : Shape := ⟨1, ![65536]⟩
abbrev S65536x1 : Shape := ⟨2, ![65536, 1]⟩
abbrev S1024x5632 : Shape := ⟨2, ![1024, 5632]⟩
abbrev S65536x5632 : Shape := ⟨2, ![65536, 5632]⟩
abbrev S65536x2816 : Shape := ⟨2, ![65536, 2816]⟩
abbrev S2816x1024 : Shape := ⟨2, ![2816, 1024]⟩
abbrev S512 : Shape := ⟨1, ![512]⟩
abbrev S1x512 : Shape := ⟨2, ![1, 512]⟩
abbrev S1024x3328 : Shape := ⟨2, ![1024, 3328]⟩
abbrev S65536x3328 : Shape := ⟨2, ![65536, 3328]⟩
abbrev S65536x512 : Shape := ⟨2, ![65536, 512]⟩
abbrev S65536x768 : Shape := ⟨2, ![65536, 768]⟩

abbrev nBuf : Space → Nat
  | .hbm => 171
  | .vmem => 0
  | .smem => 0
  | _ => 0

abbrev hbmTy0_0 (i : Nat) : BufTy := match i % 128 with
  | 0 => ⟨S65536x1024, .f32⟩
  | 1 => ⟨S1x1024, .f32⟩
  | 2 => ⟨S1x1024x5632, .f32⟩
  | 3 => ⟨S1x2816x1024, .f32⟩
  | 4 => ⟨S1x1024, .f32⟩
  | 5 => ⟨S1x1024x3328, .f32⟩
  | 6 => ⟨S2x512, .f32⟩
  | 7 => ⟨S2x512, .f32⟩
  | 8 => ⟨S1x64, .f32⟩
  | 9 => ⟨S1x64, .f32⟩
  | 10 => ⟨S1024, .f32⟩
  | 11 => ⟨S65536x1024, .f32⟩
  | 12 => ⟨S_, .f32⟩
  | 13 => ⟨S65536, .f32⟩
  | 14 => ⟨S65536x1, .f32⟩
  | 15 => ⟨S_, .f32⟩
  | 16 => ⟨S65536x1, .f32⟩
  | 17 => ⟨S65536x1, .f32⟩
  | 18 => ⟨S_, .f32⟩
  | 19 => ⟨S65536x1, .f32⟩
  | 20 => ⟨S65536x1, .f32⟩
  | 21 => ⟨S65536x1, .f32⟩
  | 22 => ⟨S65536x1024, .f32⟩
  | 23 => ⟨S65536x1024, .f32⟩
  | 24 => ⟨S1x1024, .f32⟩
  | 25 => ⟨S65536x1024, .f32⟩
  | 26 => ⟨S65536x1024, .f32⟩
  | 27 => ⟨S1024x5632, .f32⟩
  | 28 => ⟨S65536x5632, .f32⟩
  | 29 => ⟨S65536x2816, .f32⟩
  | 30 => ⟨S65536x2816, .f32⟩
  | 31 => ⟨S65536x2816, .f32⟩
  | 32 => ⟨S65536x2816, .f32⟩
  | 33 => ⟨S_, .f32⟩
  | 34 => ⟨S65536x2816, .f32⟩
  | 35 => ⟨S65536x2816, .f32⟩
  | 36 => ⟨S_, .f32⟩
  | 37 => ⟨S65536x2816, .f32⟩
  | 38 => ⟨S65536x2816, .f32⟩
  | 39 => ⟨S65536x2816, .f32⟩
  | 40 => ⟨S65536x2816, .f32⟩
  | 41 => ⟨S2816x1024, .f32⟩
  | 42 => ⟨S65536x1024, .f32⟩
  | 43 => ⟨S_, .f32⟩
  | 44 => ⟨S65536x1024, .f32⟩
  | 45 => ⟨S65536x1024, .f32⟩
  | 46 => ⟨S65536x1024, .f32⟩
  | 47 => ⟨S_, .f32⟩
  | 48 => ⟨S512, .f32⟩
  | 49 => ⟨S_, .f32⟩
  | 50 => ⟨S512, .f32⟩
  | 51 => ⟨S512, .f32⟩
  | 52 => ⟨S1x512, .f32⟩
  | 53 => ⟨S2x512, .f32⟩
  | 54 => ⟨S2x512, .f32⟩
  | 55 => ⟨S2x512, .f32⟩
  | 56 => ⟨S_, .f32⟩
  | 57 => ⟨S512, .f32⟩
  | 58 => ⟨S1x512, .f32⟩
  | 59 => ⟨S2x512, .f32⟩
  | 60 => ⟨S2x512, .f32⟩
  | 61 => ⟨S_, .f32⟩
  | 62 => ⟨S_, .f32⟩
  | 63 => ⟨S2x512, .f32⟩
  | 64 => ⟨S1x512, .f32⟩
  | 65 => ⟨S512, .f32⟩
  | 66 => ⟨S_, .f32⟩
  | 67 => ⟨S512, .f32⟩
  | 68 => ⟨S_, .f32⟩
  | 69 => ⟨S512, .f32⟩
  | 70 => ⟨S512, .f32⟩
  | 71 => ⟨S1x512, .f32⟩
  | 72 => ⟨S2x512, .f32⟩
  | 73 => ⟨S2x512, .f32⟩
  | 74 => ⟨S2x512, .f32⟩
  | 75 => ⟨S_, .f32⟩
  | 76 => ⟨S512, .f32⟩
  | 77 => ⟨S1x512, .f32⟩
  | 78 => ⟨S2x512, .f32⟩
  | 79 => ⟨S2x512, .f32⟩
  | 80 => ⟨S_, .f32⟩
  | 81 => ⟨S_, .f32⟩
  | 82 => ⟨S2x512, .f32⟩
  | 83 => ⟨S1x512, .f32⟩
  | 84 => ⟨S512, .f32⟩
  | 85 => ⟨S1024, .f32⟩
  | 86 => ⟨S65536x1024, .f32⟩
  | 87 => ⟨S_, .f32⟩
  | 88 => ⟨S65536, .f32⟩
  | 89 => ⟨S65536x1, .f32⟩
  | 90 => ⟨S_, .f32⟩
  | 91 => ⟨S65536x1, .f32⟩
  | 92 => ⟨S65536x1, .f32⟩
  | 93 => ⟨S_, .f32⟩
  | 94 => ⟨S65536x1, .f32⟩
  | 95 => ⟨S65536x1, .f32⟩
  | 96 => ⟨S65536x1, .f32⟩
  | 97 => ⟨S65536x1024, .f32⟩
  | 98 => ⟨S65536x1024, .f32⟩
  | 99 => ⟨S1x1024, .f32⟩
  | 100 => ⟨S65536x1024, .f32⟩
  | 101 => ⟨S65536x1024, .f32⟩
  | 102 => ⟨S1024x3328, .f32⟩
  | 103 => ⟨S65536x3328, .f32⟩
  | 104 => ⟨S65536x512, .f32⟩
  | 105 => ⟨S65536x512, .f32⟩
  | 106 => ⟨S65536x512, .f32⟩
  | 107 => ⟨S65536x512, .f32⟩
  | 108 => ⟨S65536x512, .f32⟩
  | 109 => ⟨S65536x768, .f32⟩
  | 110 => ⟨S65536x512, .f32⟩
  | 111 => ⟨S65536x512, .f32⟩
  | 112 => ⟨S_, .f32⟩
  | 113 => ⟨S65536x512, .f32⟩
  | 114 => ⟨S65536x512, .f32⟩
  | 115 => ⟨S_, .f32⟩
  | 116 => ⟨S65536x512, .f32⟩
  | 117 => ⟨S65536x512, .f32⟩
  | 118 => ⟨S65536x512, .f32⟩
  | 119 => ⟨S_, .f32⟩
  | 120 => ⟨S512, .f32⟩
  | 121 => ⟨S512, .f32⟩
  | 122 => ⟨S65536x512, .f32⟩
  | 123 => ⟨S65536x512, .f32⟩
  | 124 => ⟨S_, .f32⟩
  | 125 => ⟨S65536x512, .f32⟩
  | 126 => ⟨S65536x512, .f32⟩
  | 127 => ⟨S_, .f32⟩
  | _ => ⟨S65536x1024, .f32⟩

abbrev hbmTy0_1 (i : Nat) : BufTy := match i % 128 with
  | 0 => ⟨S65536x512, .f32⟩
  | 1 => ⟨S65536x512, .f32⟩
  | 2 => ⟨S1x512, .f32⟩
  | 3 => ⟨S65536x512, .f32⟩
  | 4 => ⟨S65536x512, .f32⟩
  | 5 => ⟨S1x512, .f32⟩
  | 6 => ⟨S65536x512, .f32⟩
  | 7 => ⟨S65536x512, .f32⟩
  | 8 => ⟨S65536x512, .f32⟩
  | 9 => ⟨S_, .f32⟩
  | 10 => ⟨S65536x512, .f32⟩
  | 11 => ⟨S65536x512, .f32⟩
  | 12 => ⟨S_, .f32⟩
  | 13 => ⟨S512, .f32⟩
  | 14 => ⟨S512, .f32⟩
  | 15 => ⟨S65536x512, .f32⟩
  | 16 => ⟨S65536x512, .f32⟩
  | 17 => ⟨S_, .f32⟩
  | 18 => ⟨S65536x512, .f32⟩
  | 19 => ⟨S65536x512, .f32⟩
  | 20 => ⟨S_, .f32⟩
  | 21 => ⟨S65536x512, .f32⟩
  | 22 => ⟨S65536x512, .f32⟩
  | 23 => ⟨S1x512, .f32⟩
  | 24 => ⟨S65536x512, .f32⟩
  | 25 => ⟨S65536x512, .f32⟩
  | 26 => ⟨S1x512, .f32⟩
  | 27 => ⟨S65536x512, .f32⟩
  | 28 => ⟨S65536x512, .f32⟩
  | 29 => ⟨S65536x512, .f32⟩
  | 30 => ⟨S_, .f32⟩
  | 31 => ⟨S65536x512, .f32⟩
  | 32 => ⟨S65536x512, .f32⟩
  | 33 => ⟨S65536x512, .bf16⟩
  | 34 => ⟨S65536x512, .f32⟩
  | 35 => ⟨S65536x512, .f32⟩
  | 36 => ⟨S_, .f32⟩
  | 37 => ⟨S65536x512, .f32⟩
  | 38 => ⟨S65536x512, .f32⟩
  | 39 => ⟨S_, .f32⟩
  | 40 => ⟨S65536x512, .f32⟩
  | 41 => ⟨S65536x512, .f32⟩
  | 42 => ⟨S65536x512, .f32⟩
  | _ => ⟨S65536x1024, .f32⟩

abbrev hbmTy (i : Nat) : BufTy := match i / 128 with
  | 0 => hbmTy0_0 i
  | 1 => hbmTy0_1 i
  | _ => ⟨S65536x1024, .f32⟩

abbrev bufTy : (tb : Table) → Fin (tcTables nBuf tb) → BufTy
  | .hbm, ⟨i, _⟩ => hbmTy i
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_cst_1 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_2 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_cst_3 : Ref sig .tc := ⟨.hbm, 47, rfl⟩
abbrev main_v25 : Ref sig .tc := ⟨.hbm, 48, rfl⟩
abbrev main_cst_4 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_5 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_call1_call0_cst : Ref sig .tc := ⟨.hbm, 61, rfl⟩
abbrev main_call1_call0_v0 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_6 : Ref sig .tc := ⟨.hbm, 66, rfl⟩
abbrev main_v39 : Ref sig .tc := ⟨.hbm, 67, rfl⟩
abbrev main_cst_7 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_8 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_call2_call0_cst : Ref sig .tc := ⟨.hbm, 80, rfl⟩
abbrev main_call2_call0_v0 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_cst_9 : Ref sig .tc := ⟨.hbm, 87, rfl⟩
abbrev main_v55 : Ref sig .tc := ⟨.hbm, 88, rfl⟩
abbrev main_v56 : Ref sig .tc := ⟨.hbm, 89, rfl⟩
abbrev main_cst_10 : Ref sig .tc := ⟨.hbm, 90, rfl⟩
abbrev main_v57 : Ref sig .tc := ⟨.hbm, 91, rfl⟩
abbrev main_v58 : Ref sig .tc := ⟨.hbm, 92, rfl⟩
abbrev main_cst_11 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_call3_v0 : Ref sig .tc := ⟨.hbm, 110, rfl⟩
abbrev main_call3_v1 : Ref sig .tc := ⟨.hbm, 111, rfl⟩
abbrev main_call3_cst : Ref sig .tc := ⟨.hbm, 112, rfl⟩
abbrev main_call3_v2 : Ref sig .tc := ⟨.hbm, 113, rfl⟩
abbrev main_call3_v3 : Ref sig .tc := ⟨.hbm, 114, rfl⟩
abbrev main_call3_cst_0 : Ref sig .tc := ⟨.hbm, 115, rfl⟩
abbrev main_call3_v4 : Ref sig .tc := ⟨.hbm, 116, rfl⟩
abbrev main_call3_v5 : Ref sig .tc := ⟨.hbm, 117, rfl⟩
abbrev main_v75 : Ref sig .tc := ⟨.hbm, 118, rfl⟩
abbrev main_cst_12 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_cst_13 : Ref sig .tc := ⟨.hbm, 124, rfl⟩
abbrev main_v80 : Ref sig .tc := ⟨.hbm, 125, rfl⟩
abbrev main_v81 : Ref sig .tc := ⟨.hbm, 126, rfl⟩
abbrev main_cst_14 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_cst_15 : Ref sig .tc := ⟨.hbm, 137, rfl⟩
abbrev main_v91 : Ref sig .tc := ⟨.hbm, 138, rfl⟩
abbrev main_v92 : Ref sig .tc := ⟨.hbm, 139, rfl⟩
abbrev main_cst_16 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_cst_17 : Ref sig .tc := ⟨.hbm, 145, rfl⟩
abbrev main_v97 : Ref sig .tc := ⟨.hbm, 146, rfl⟩
abbrev main_v98 : Ref sig .tc := ⟨.hbm, 147, rfl⟩
abbrev main_cst_18 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_cst_19 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_call4_v0 : Ref sig .tc := ⟨.hbm, 162, rfl⟩
abbrev main_call4_v1 : Ref sig .tc := ⟨.hbm, 163, rfl⟩
abbrev main_call4_cst : Ref sig .tc := ⟨.hbm, 164, rfl⟩
abbrev main_call4_v2 : Ref sig .tc := ⟨.hbm, 165, rfl⟩
abbrev main_call4_v3 : Ref sig .tc := ⟨.hbm, 166, rfl⟩
abbrev main_call4_cst_0 : Ref sig .tc := ⟨.hbm, 167, rfl⟩
abbrev main_call4_v4 : Ref sig .tc := ⟨.hbm, 168, rfl⟩
abbrev main_call4_v5 : Ref sig .tc := ⟨.hbm, 169, rfl⟩
abbrev main_v111 : Ref sig .tc := ⟨.hbm, 170, rfl⟩

abbrev nD : Nat := 1
abbrev τ : Topo := Topo.v7x

variable {F : FTy → Type} [FloatOps F]
-- ==== Proof.Track.lean ====
/- The frame run of the kernel with what each grid point leaves NAMED: the pieces a point writes (`runA`, `runB`, `runC`, one per
   case of its conditionals), the output block and the attention scratch after each point (`after`), the proof data of the pipeline, the
   body obligation, the run of `main` and the frame claim. -/
module

public import proofs.«01_k».proof.Proof.Gen.KernelIdeal.Frame.RunC
public import Idealize.ShloMosaic.Lib.Claim
public import Idealize.ShloMosaic.Lib.Pipeline.Value

@[expose] public section

set_option maxRecDepth 16384

noncomputable section

namespace Cert.KernelIdeal.Track

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- At even points the offsets `k0_off1` are `![0, 0, 0]`. -/
theorem off1_even : ∀ t : Fin cfg0.N, t.val % 2 = 0 → k0_off1 (grid0.coords t) = ![0, 0, 0] := by decide +kernel
/-- At even points the offsets `k0_off10` are `![1, 128, 384]`. -/
theorem off10_even : ∀ t : Fin cfg0.N, t.val % 2 = 0 → k0_off10 (grid0.coords t) = ![1, 128, 384] := by decide +kernel
/-- At even points the offsets `k0_off11` are `![1, 256, 0]`. -/
theorem off11_even : ∀ t : Fin cfg0.N, t.val % 2 = 0 → k0_off11 (grid0.coords t) = ![1, 256, 0] := by decide +kernel
/-- At even points the offsets `k0_off12` are `![1, 256, 128]`. -/
theorem off12_even : ∀ t : Fin cfg0.N, t.val % 2 = 0 → k0_off12 (grid0.coords t) = ![1, 256, 128] := by decide +kernel
/-- At even points the offsets `k0_off13` are `![1, 256, 256]`. -/
theorem off13_even : ∀ t : Fin cfg0.N, t.val % 2 = 0 → k0_off13 (grid0.coords t) = ![1, 256, 256] := by decide +kernel
/-- At even points the offsets `k0_off14` are `![1, 256, 384]`. -/
theorem off14_even : ∀ t : Fin cfg0.N, t.val % 2 = 0 → k0_off14 (grid0.coords t) = ![1, 256, 384] := by decide +kernel
/-- At even points the offsets `k0_off15` are `![1, 384, 0]`. -/
theorem off15_even : ∀ t : Fin cfg0.N, t.val % 2 = 0 → k0_off15 (grid0.coords t) = ![1, 384, 0] := by decide +kernel
/-- At even points the offsets `k0_off16` are `![1, 384, 128]`. -/
theorem off16_even : ∀ t : Fin cfg0.N, t.val % 2 = 0 → k0_off16 (grid0.coords t) = ![1, 384, 128] := by decide +kernel
/-- At even points the offsets `k0_off17` are `![1, 384, 256]`. -/
theorem off17_even : ∀ t : Fin cfg0.N, t.val % 2 = 0 → k0_off17 (grid0.coords t) = ![1, 384, 256] := by decide +kernel
/-- At even points the offsets `k0_off18` are `![1, 384, 384]`. -/
theorem off18_even : ∀ t : Fin cfg0.N, t.val % 2 = 0 → k0_off18 (grid0.coords t) = ![1, 384, 384] := by decide +kernel
/-- At even points the offsets `k0_off2` are `![1, 0, 0]`. -/
theorem off2_even : ∀ t : Fin cfg0.N, t.val % 2 = 0 → k0_off2 (grid0.coords t) = ![1, 0, 0] := by decide +kernel
/-- At even points the offsets `k0_off3` are `![1, 0, 0]`. -/
theorem off3_even : ∀ t : Fin cfg0.N, t.val % 2 = 0 → k0_off3 (grid0.coords t) = ![1, 0, 0] := by decide +kernel
/-- At even points the offsets `k0_off4` are `![1, 0, 128]`. -/
theorem off4_even : ∀ t : Fin cfg0.N, t.val % 2 = 0 → k0_off4 (grid0.coords t) = ![1, 0, 128] := by decide +kernel
/-- At even points the offsets `k0_off5` are `![1, 0, 256]`. -/
theorem off5_even : ∀ t : Fin cfg0.N, t.val % 2 = 0 → k0_off5 (grid0.coords t) = ![1, 0, 256] := by decide +kernel
/-- At even points the offsets `k0_off6` are `![1, 0, 384]`. -/
theorem off6_even : ∀ t : Fin cfg0.N, t.val % 2 = 0 → k0_off6 (grid0.coords t) = ![1, 0, 384] := by decide +kernel
/-- At even points the offsets `k0_off7` are `![1, 128, 0]`. -/
theorem off7_even : ∀ t : Fin cfg0.N, t.val % 2 = 0 → k0_off7 (grid0.coords t) = ![1, 128, 0] := by decide +kernel
/-- At even points the offsets `k0_off8` are `![1, 128, 128]`. -/
theorem off8_even : ∀ t : Fin cfg0.N, t.val % 2 = 0 → k0_off8 (grid0.coords t) = ![1, 128, 128] := by decide +kernel
/-- At even points the offsets `k0_off9` are `![1, 128, 256]`. -/
theorem off9_even : ∀ t : Fin cfg0.N, t.val % 2 = 0 → k0_off9 (grid0.coords t) = ![1, 128, 256] := by decide +kernel
/-- At odd points the offsets `k0_off1` are `![1, 0, 0]`. -/
theorem off1_odd : ∀ t : Fin cfg0.N, ¬(t.val % 2 = 0) → k0_off1 (grid0.coords t) = ![1, 0, 0] := by decide +kernel
/-- At odd points the offsets `k0_off10` are `![0, 128, 384]`. -/
theorem off10_odd : ∀ t : Fin cfg0.N, ¬(t.val % 2 = 0) → k0_off10 (grid0.coords t) = ![0, 128, 384] := by decide +kernel
/-- At odd points the offsets `k0_off11` are `![0, 256, 0]`. -/
theorem off11_odd : ∀ t : Fin cfg0.N, ¬(t.val % 2 = 0) → k0_off11 (grid0.coords t) = ![0, 256, 0] := by decide +kernel
/-- At odd points the offsets `k0_off12` are `![0, 256, 128]`. -/
theorem off12_odd : ∀ t : Fin cfg0.N, ¬(t.val % 2 = 0) → k0_off12 (grid0.coords t) = ![0, 256, 128] := by decide +kernel
/-- At odd points the offsets `k0_off13` are `![0, 256, 256]`. -/
theorem off13_odd : ∀ t : Fin cfg0.N, ¬(t.val % 2 = 0) → k0_off13 (grid0.coords t) = ![0, 256, 256] := by decide +kernel
/-- At odd points the offsets `k0_off14` are `![0, 256, 384]`. -/
theorem off14_odd : ∀ t : Fin cfg0.N, ¬(t.val % 2 = 0) → k0_off14 (grid0.coords t) = ![0, 256, 384] := by decide +kernel
/-- At odd points the offsets `k0_off15` are `![0, 384, 0]`. -/
theorem off15_odd : ∀ t : Fin cfg0.N, ¬(t.val % 2 = 0) → k0_off15 (grid0.coords t) = ![0, 384, 0] := by decide +kernel
/-- At odd points the offsets `k0_off16` are `![0, 384, 128]`. -/
theorem off16_odd : ∀ t : Fin cfg0.N, ¬(t.val % 2 = 0) → k0_off16 (grid0.coords t) = ![0, 384, 128] := by decide +kernel
/-- At odd points the offsets `k0_off17` are `![0, 384, 256]`. -/
theorem off17_odd : ∀ t : Fin cfg0.N, ¬(t.val % 2 = 0) → k0_off17 (grid0.coords t) = ![0, 384, 256] := by decide +kernel
/-- At odd points the offsets `k0_off18` are `![0, 384, 384]`. -/
theorem off18_odd : ∀ t : Fin cfg0.N, ¬(t.val % 2 = 0) → k0_off18 (grid0.coords t) = ![0, 384, 384] := by decide +kernel
/-- At odd points the offsets `k0_off2` are `![0, 0, 0]`. -/
theorem off2_odd : ∀ t : Fin cfg0.N, ¬(t.val % 2 = 0) → k0_off2 (grid0.coords t) = ![0, 0, 0] := by decide +kernel
/-- At odd points the offsets `k0_off3` are `![0, 0, 0]`. -/
theorem off3_odd : ∀ t : Fin cfg0.N, ¬(t.val % 2 = 0) → k0_off3 (grid0.coords t) = ![0, 0, 0] := by decide +kernel
/-- At odd points the offsets `k0_off4` are `![0, 0, 128]`. -/
theorem off4_odd : ∀ t : Fin cfg0.N, ¬(t.val % 2 = 0) → k0_off4 (grid0.coords t) = ![0, 0, 128] := by decide +kernel
/-- At odd points the offsets `k0_off5` are `![0, 0, 256]`. -/
theorem off5_odd : ∀ t : Fin cfg0.N, ¬(t.val % 2 = 0) → k0_off5 (grid0.coords t) = ![0, 0, 256] := by decide +kernel
/-- At odd points the offsets `k0_off6` are `![0, 0, 384]`. -/
theorem off6_odd : ∀ t : Fin cfg0.N, ¬(t.val % 2 = 0) → k0_off6 (grid0.coords t) = ![0, 0, 384] := by decide +kernel
/-- At odd points the offsets `k0_off7` are `![0, 128, 0]`. -/
theorem off7_odd : ∀ t : Fin cfg0.N, ¬(t.val % 2 = 0) → k0_off7 (grid0.coords t) = ![0, 128, 0] := by decide +kernel
/-- At odd points the offsets `k0_off8` are `![0, 128, 128]`. -/
theorem off8_odd : ∀ t : Fin cfg0.N, ¬(t.val % 2 = 0) → k0_off8 (grid0.coords t) = ![0, 128, 128] := by decide +kernel
/-- At odd points the offsets `k0_off9` are `![0, 128, 256]`. -/
theorem off9_odd : ∀ t : Fin cfg0.N, ¬(t.val % 2 = 0) → k0_off9 (grid0.coords t) = ![0, 128, 256] := by decide +kernel

/-- Point 0 is even. -/
theorem even_of_first {n : ℕ} (h : n % 32 = 0) : n % 2 = 0 := by omega

/-- The body's run at the first point: the pieces it writes, with its triple. -/
def runA (c : Dev nD) (t : Fin cfg0.N) (h0 : t.val % 32 = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) ((hcond0_0 t).mpr h0) (off1_even t (even_of_first h0)) (off10_even t (even_of_first h0)) (off11_even t (even_of_first h0)) (off12_even t (even_of_first h0)) (off13_even t (even_of_first h0)) (off14_even t (even_of_first h0)) (off15_even t (even_of_first h0)) (off16_even t (even_of_first h0)) (off17_even t (even_of_first h0)) (off18_even t (even_of_first h0)) (off2_even t (even_of_first h0)) (off3_even t (even_of_first h0)) (off4_even t (even_of_first h0)) (off5_even t (even_of_first h0)) (off6_even t (even_of_first h0)) (off7_even t (even_of_first h0)) (off8_even t (even_of_first h0)) (off9_even t (even_of_first h0)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)

/-- Its one piece for the output tiles the output block. -/
theorem coverA (c : Dev nD) (t : Fin cfg0.N) (h0 : t.val % 32 = 0) (y : S512x1024.Idx) :
    ∃ pc ∈ (runA m c t h0).1, y ∈ pc.1.set :=
  View.cover_of_tiledL (runA m c t h0).1 S512x1024.size (by sl_kernel_rfl) y

/-- Its 32 pieces for the scratch tile both slots of it. -/
theorem scoverA (c : Dev nD) (t : Fin cfg0.N) (h0 : t.val % 32 = 0) (y : S2x512x512.Idx) :
    ∃ pc ∈ (runA m c t h0).2.1, y ∈ pc.1.set :=
  View.cover_of_tiledL (runA m c t h0).2.1 S1x128x128.size (by sl_kernel_rfl) y

/-- The output block after the first point. -/
def outA (c : Dev nD) (t : Fin cfg0.N) (h0 : t.val % 32 = 0) : Vec F S512x1024 .f32 :=
  VO0_19.read (Elt F) (VO0_19.writes (Elt F) VO0_19.junk (runA m c t h0).1)

/-- The scratch after the first point. -/
def soutA (c : Dev nD) (t : Fin cfg0.N) (h0 : t.val % 32 = 0) : Vec F S2x512x512 .bf16 :=
  VS0_0.read (Elt F) (VS0_0.writes (Elt F) VS0_0.junk (runA m c t h0).2.1)

/-- The body's run at an odd point, over the scratch `xs`: the pieces it writes, with its triple. -/
def runB (c : Dev nD) (t : Fin cfg0.N) (h0 : ¬t.val % 32 = 0) (h1 : ¬t.val % 2 = 0) (xs : Vec F S2x512x512 .bf16) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) (fun h => h0 ((hcond0_0 t).mp h)) (fun h => h1 ((hcond0_1 t).mp h)) (off1_odd t h1) (off10_odd t h1) (off11_odd t h1) (off12_odd t h1) (off13_odd t h1) (off14_odd t h1) (off15_odd t h1) (off16_odd t h1) (off17_odd t h1) (off18_odd t h1) (off2_odd t h1) (off3_odd t h1) (off4_odd t h1) (off5_odd t h1) (off6_odd t h1) (off7_odd t h1) (off8_odd t h1) (off9_odd t h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) xs

/-- Its one piece for the output tiles the output block. -/
theorem coverB (c : Dev nD) (t : Fin cfg0.N) (h0 : ¬t.val % 32 = 0) (h1 : ¬t.val % 2 = 0) (xs : Vec F S2x512x512 .bf16) (y : S512x1024.Idx) :
    ∃ pc ∈ (runB m c t h0 h1 xs).1, y ∈ pc.1.set :=
  View.cover_of_tiledL (runB m c t h0 h1 xs).1 S512x1024.size (by sl_kernel_rfl) y

/-- The output block after an odd point, over the scratch `xs`. -/
def outB (c : Dev nD) (t : Fin cfg0.N) (h0 : ¬t.val % 32 = 0) (h1 : ¬t.val % 2 = 0) (xs : Vec F S2x512x512 .bf16) : Vec F S512x1024 .f32 :=
  VO0_19.read (Elt F) (VO0_19.writes (Elt F) VO0_19.junk (runB m c t h0 h1 xs).1)

/-- The scratch after an odd point, over the scratch `xs`. -/
def soutB (c : Dev nD) (t : Fin cfg0.N) (h0 : ¬t.val % 32 = 0) (h1 : ¬t.val % 2 = 0) (xs : Vec F S2x512x512 .bf16) : Vec F S2x512x512 .bf16 :=
  scM0_0.view.read (Elt F) (scM0_0.view.writes (Elt F) ((Memref.isWhole_whole _ : scM0_0.IsWhole).unread xs) (runB m c t h0 h1 xs).2.1)

/-- The body's run at an even point but the first, over the scratch `xs`: the pieces it writes, with its triple. -/
def runC (c : Dev nD) (t : Fin cfg0.N) (h0 : ¬t.val % 32 = 0) (h1 : t.val % 2 = 0) (xs : Vec F S2x512x512 .bf16) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) (fun h => h0 ((hcond0_0 t).mp h)) ((hcond0_1 t).mpr h1) (off1_even t h1) (off10_even t h1) (off11_even t h1) (off12_even t h1) (off13_even t h1) (off14_even t h1) (off15_even t h1) (off16_even t h1) (off17_even t h1) (off18_even t h1) (off2_even t h1) (off3_even t h1) (off4_even t h1) (off5_even t h1) (off6_even t h1) (off7_even t h1) (off8_even t h1) (off9_even t h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) xs

/-- Its one piece for the output tiles the output block. -/
theorem coverC (c : Dev nD) (t : Fin cfg0.N) (h0 : ¬t.val % 32 = 0) (h1 : t.val % 2 = 0) (xs : Vec F S2x512x512 .bf16) (y : S512x1024.Idx) :
    ∃ pc ∈ (runC m c t h0 h1 xs).1, y ∈ pc.1.set :=
  View.cover_of_tiledL (runC m c t h0 h1 xs).1 S512x1024.size (by sl_kernel_rfl) y

/-- The output block after an even point but the first, over the scratch `xs`. -/
def outC (c : Dev nD) (t : Fin cfg0.N) (h0 : ¬t.val % 32 = 0) (h1 : t.val % 2 = 0) (xs : Vec F S2x512x512 .bf16) : Vec F S512x1024 .f32 :=
  VO0_19.read (Elt F) (VO0_19.writes (Elt F) VO0_19.junk (runC m c t h0 h1 xs).1)

/-- The scratch after an even point but the first, over the scratch `xs`. -/
def soutC (c : Dev nD) (t : Fin cfg0.N) (h0 : ¬t.val % 32 = 0) (h1 : t.val % 2 = 0) (xs : Vec F S2x512x512 .bf16) : Vec F S2x512x512 .bf16 :=
  scM0_0.view.read (Elt F) (scM0_0.view.writes (Elt F) ((Memref.isWhole_whole _ : scM0_0.IsWhole).unread xs) (runC m c t h0 h1 xs).2.1)

/-- What the body at point `t` leaves over the scratch `xs`: the output block and the scratch. -/
def step (c : Dev nD) (t : Fin cfg0.N) (xs : Vec F S2x512x512 .bf16) : Vec F S512x1024 .f32 × Vec F S2x512x512 .bf16 :=
  if h0 : t.val % 32 = 0 then (outA m c t h0, soutA m c t h0)
  else if h1 : t.val % 2 = 0 then (outC m c t h0 h1 xs, soutC m c t h0 h1 xs)
  else (outB m c t h0 h1 xs, soutB m c t h0 h1 xs)

/-- The output block and the scratch after the body at position `n`. -/
def after (c : Dev nD) (n : ℕ) : n < cfg0.N → Vec F S512x1024 .f32 × Vec F S2x512x512 .bf16 :=
  Nat.rec (motive := fun n => n < cfg0.N → Vec F S512x1024 .f32 × Vec F S2x512x512 .bf16)
    (fun hn => (outA m c ⟨0, hn⟩ (Nat.zero_mod _), soutA m c ⟨0, hn⟩ (Nat.zero_mod _)))
    (fun n ih hn => step m c ⟨n + 1, hn⟩ (ih (Nat.lt_of_succ_lt hn)).2) n

/-- The scratch the point before `t` left. -/
def prev (c : Dev nD) (t : Fin cfg0.N) : Vec F S2x512x512 .bf16 :=
  (after m c (t.val - 1) (Nat.lt_of_le_of_lt (Nat.sub_le _ _) t.isLt)).2

/-- `after` at position 0. -/
theorem after_zero (c : Dev nD) (hn : 0 < cfg0.N) :
    after m c 0 hn = (outA m c ⟨0, hn⟩ (Nat.zero_mod _), soutA m c ⟨0, hn⟩ (Nat.zero_mod _)) := rfl

/-- `after` at a later position. -/
theorem after_succ (c : Dev nD) (n : ℕ) (hn : n + 1 < cfg0.N) :
    after m c (n + 1) hn = step m c ⟨n + 1, hn⟩ (prev m c ⟨n + 1, hn⟩) := rfl

/-- `after` at the first point. -/
theorem after_A (c : Dev nD) (t : Fin cfg0.N) (h0 : t.val % 32 = 0) :
    after m c t.val t.isLt = (outA m c t h0, soutA m c t h0) := by
  obtain ⟨n, hn⟩ := t
  cases n with
  | zero => exact after_zero m c hn
  | succ n => rw [after_succ]; exact dif_pos h0

/-- `after` at an odd point. -/
theorem after_B (c : Dev nD) (t : Fin cfg0.N) (h0 : ¬t.val % 32 = 0) (h1 : ¬t.val % 2 = 0) :
    after m c t.val t.isLt = (outB m c t h0 h1 (prev m c t), soutB m c t h0 h1 (prev m c t)) := by
  obtain ⟨n, hn⟩ := t
  cases n with
  | zero => exact absurd (Nat.zero_mod _) h0
  | succ n => rw [after_succ]; exact (dif_neg h0).trans (dif_neg h1)

/-- `after` at an even point but the first. -/
theorem after_C (c : Dev nD) (t : Fin cfg0.N) (h0 : ¬t.val % 32 = 0) (h1 : t.val % 2 = 0) :
    after m c t.val t.isLt = (outC m c t h0 h1 (prev m c t), soutC m c t h0 h1 (prev m c t)) := by
  obtain ⟨n, hn⟩ := t
  cases n with
  | zero => exact absurd (Nat.zero_mod _) h0
  | succ n => rw [after_succ]; exact (dif_neg h0).trans (dif_pos h1)

/-- The region invariant before position `n` with a scratch the kernel CARRIES between points: before the first point the
    class's (Lib/Pipeline/Frame.lean `ΦA`: every scratch at anything); afterwards the scoped rest with each carried scratch
    at what the point before left in it (`after`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((after m c n hn).2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((after m c n hn).2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((after m c (n - 1) (by omega)).2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `after`; the invariant the class's
    (`PhiS`: the class's `ΦA` before the first point, then the scoped rest with the carried scratch at `after`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => (after m c t.val t.isLt).1
    | ⟨_ + 20, h⟩ => absurd h (Nat.not_lt.2 (Nat.le_add_left _ _))
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = (after m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t))

set_option maxHeartbeats 24000000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19]
  rw [show (dats m 0 c).Φ t.succ = PhiS m c (t.val + 1) t.isLt from rfl, PhiS_succ]
  have hN : t.val < 32 := lt_of_lt_of_eq t.isLt (show cfg0.N = 32 from N_0)
  by_cases h0 : t.val % 32 = 0
  · by_cases hz : t.val = 0
    · rw [PhiS_castSucc m c t, PhiS_zero m c _ _ hz, PhiA0_eq]
      rw [after_A m c t h0]
      unfold outA soutA; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
      iapply ((runA m c t h0).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexists _; iexact H19
      isplitl [HS0]; · iexact HS0
      iintro ⟨H0, H1, H2, H3, H4, H5, H6, H7, H8, H9, H10, H11, H12, H13, H14, H15, H16, H17, H18, ⟨%e19, H19⟩, ⟨%es0, HS0⟩⟩
      isplitl [HS0 Hg]
      · isplitl [HS0]
        · unfold owns; iexists _; isplitr
          swap; · iexact HS0
          ipureintro; exact View.read_writes_of_cover _ _ _ _ _ (scoverA m c t h0)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      unfold owns; iexists _; isplitr
      swap; · iexact H19
      ipureintro; exact View.read_writes_of_cover _ _ _ _ _ (coverA m c t h0)
    · exfalso; have hN : t.val < 32 := lt_of_lt_of_eq t.isLt (show cfg0.N = 32 from N_0); omega
  · by_cases h1 : t.val % 2 = 0
    · by_cases hz : t.val = 0
      · exfalso; have hN : t.val < 32 := lt_of_lt_of_eq t.isLt (show cfg0.N = 32 from N_0); omega
      · rw [PhiS_castSucc m c t, PhiS_pos m c _ _ hz]
        rw [after_C m c t h0 h1]
        unfold outC soutC; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
        iapply ((runC m c t h0 h1 (prev m c t)).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexists _; iexact H19
        isplitl [HS0]; · iexact HS0
        iintro ⟨H0, H1, H2, H3, H4, H5, H6, H7, H8, H9, H10, H11, H12, H13, H14, H15, H16, H17, H18, ⟨%e19, H19⟩, HS0⟩
        isplitl [HS0 Hg]
        · isplitl [HS0]
          · unfold owns; iexists _; isplitr
            swap; · iexact HS0
            ipureintro; rfl
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        unfold owns; iexists _; isplitr
        swap; · iexact H19
        ipureintro; exact View.read_writes_of_cover _ _ _ _ _ (coverC m c t h0 h1 (prev m c t))
    · by_cases hz : t.val = 0
      · exfalso; have hN : t.val < 32 := lt_of_lt_of_eq t.isLt (show cfg0.N = 32 from N_0); omega
      · rw [PhiS_castSucc m c t, PhiS_pos m c _ _ hz]
        rw [after_B m c t h0 h1]
        unfold outB soutB; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
        iapply ((runB m c t h0 h1 (prev m c t)).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexists _; iexact H19
        isplitl [HS0]; · iexact HS0
        iintro ⟨H0, H1, H2, H3, H4, H5, H6, H7, H8, H9, H10, H11, H12, H13, H14, H15, H16, H17, H18, ⟨%e19, H19⟩, HS0⟩
        isplitl [HS0 Hg]
        · isplitl [HS0]
          · unfold owns; iexists _; isplitr
            swap; · iexact HS0
            ipureintro; rfl
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        unfold owns; iexists _; isplitr
        swap; · iexact H19
        ipureintro; exact View.read_writes_of_cover _ _ _ _ _ (coverB m c t h0 h1 (prev m c t))

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 32 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (unchanged m ρ) ((θ_run defs _ _).mono (fun _ h => h.2) (run_main_quiescent m ρ))

end Cert.KernelIdeal.Track

end
-- ==== Proof.Twin.lean ====
/- The printed kernel and its idealization are one text, so the frame of the first is the frame of the second read at the bit instance. -/
module

public import proofs.«01_k».proof.Defs
public import proofs.«01_k».proof.Proof.Gen.Kernel
public import proofs.«01_k».proof.Proof.Track

@[expose] public section

set_option maxRecDepth 16384

noncomputable section

namespace Cert.Twin

open Idealize.ShloMosaic Idealize.SL.Sem Cert.KernelIdeal

/-- The frame of the idealized text at the bit instance. -/
def framed : Prop :=
  ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0)

/-- The frame claim of the printed kernel is that statement: the two texts unfold to the same program. -/
theorem frame_eq : Cert.quiescent_Kernel = framed := by sl_kernel_rfl

/-- The frame claim of the printed kernel. -/
theorem frame : Cert.quiescent_Kernel := frame_eq.mpr fun m g _ => Cert.KernelIdeal.Track.frame m g

end Cert.Twin

end
-- ==== Proof.Words.lean ====
/- The kernel's body in words of its own: the masked query tiles, one stack of four heads' scores, the softmax of one
   head's 128 rows over its 384 keys, the weighted values, one stored pair of heads, and the dense part of a point (mixing,
   output projection, second feed-forward). Each is a vector function at any float instance; `Body.lean` says that the
   stores of a grid point are these functions of the staged blocks. -/
module

public import proofs.«01_k».proof.Proof.Gen.KernelIdeal.Skeleton

@[expose] public section

set_option maxRecDepth 16384

noncomputable section

namespace Cert.KernelIdeal.Words

open Cert.KernelIdeal Cert.KernelIdeal.Gen Idealize.ShloMosaic Idealize.SL.Sem

variable {F : FTy → Type} [FloatOps F]

/-! ## Attention -/

/-- Lanes below 64: the even head of a pair. -/
def low : IVec S128x128 1 :=
  cmpi .slt (iota .tc S128x128 32 [1] iota_S128x128_d1_w32) (broadcast S128x128 64#32)

/-- The other lanes: the odd head of a pair. -/
def high : IVec S128x128 1 := xori low (constantI S128x128 1 1#1)

/-- A query tile with the lanes outside the mask set to zero. -/
def keep (w : IVec S128x128 1) (q : Vec F S128x128 .bf16) : FVec F S128x128 .bf16 :=
  select w (shapeCast S128x128 q shapeCasts_S128x128_S128x128) (broadcast S128x128 (Scalar.ofBits .bf16 0x0000#16))

/-- The rows before a tile, the tile's and the rows after it, one below the other. -/
def band3 (p : Vec F S128x128 .bf16) (c : Vec F S512x128 .bf16) (n : Vec F S128x128 .bf16) : FVec F S768x128 .bf16 :=
  concatenate S768x128 0 [⟨S128x128, shapeCast S128x128 p shapeCasts_S128x128_S128x128⟩,
    ⟨S512x128, shapeCast S512x128 c shapeCasts_S512x128_S512x128⟩,
    ⟨S128x128, shapeCast S128x128 n shapeCasts_S128x128_S128x128⟩] concatenates_S128x128_S512x128_S128x128_S768x128_d0

/-- The 384 rows that sub-block `j` of a tile sees. -/
def rows384 (j : Fin 4) (a : FVec F S768x128 .bf16) : FVec F S384x128 .bf16 :=
  match j with
  | 0 => extractStridedSlice S384x128 ![0, 0] a slices_S768x128_o0_0_S384x128
  | 1 => extractStridedSlice S384x128 ![128, 0] a slices_S768x128_o128_0_S384x128
  | 2 => extractStridedSlice S384x128 ![256, 0] a slices_S768x128_o256_0_S384x128
  | 3 => extractStridedSlice S384x128 ![384, 0] a slices_S768x128_o384_0_S384x128

/-- The scores of a stack of four heads against 384 keys. -/
def scores (k : FVec F S384x128 .bf16) (a b c d : FVec F S128x128 .bf16) : FVec F S512x384 .f32 :=
  matmul dot_S512x128_S384x128_S512x384_1_1_0_0_n_n none
    (concatenate S512x128 0 [⟨S128x128, a⟩, ⟨S128x128, b⟩, ⟨S128x128, c⟩, ⟨S128x128, d⟩]
      concatenates_S128x128_S128x128_S128x128_S128x128_S512x128_d0)
    k (constant S512x384 .f32 0x00000000#32)

/-- Head `n` of a stack of scores. -/
def headScores (n : Fin 4) (s : FVec F S512x384 .f32) : FVec F S128x384 .f32 :=
  match n with
  | 0 => extractStridedSlice S128x384 ![0, 0] s slices_S512x384_o0_0_S128x384
  | 1 => extractStridedSlice S128x384 ![128, 0] s slices_S512x384_o128_0_S128x384
  | 2 => extractStridedSlice S128x384 ![256, 0] s slices_S512x384_o256_0_S128x384
  | 3 => extractStridedSlice S128x384 ![384, 0] s slices_S512x384_o384_0_S128x384

/-- Scores against the 128 keys before the sub-block, under their bias. -/
def sPrev (bp : FVec F S128x128 .f32) (s : FVec F S128x384 .f32) : FVec F S128x128 .f32 :=
  addf (extractStridedSlice S128x128 ![0, 0] s slices_S128x384_o0_0_S128x128) bp

/-- Scores against the sub-block's own keys. -/
def sCur (s : FVec F S128x384 .f32) : FVec F S128x128 .f32 :=
  extractStridedSlice S128x128 ![0, 128] s slices_S128x384_o0_128_S128x128

/-- Scores against the 128 keys after the sub-block, under their bias. -/
def sNext (bn : FVec F S128x128 .f32) (s : FVec F S128x384 .f32) : FVec F S128x128 .f32 :=
  addf (extractStridedSlice S128x128 ![0, 256] s slices_S128x384_o0_256_S128x128) bn

/-- A row's maximum, the sink's logit among the scores. -/
def rowMax (bp bn : FVec F S128x128 .f32) (s : FVec F S128x384 .f32) (sink : F .f32) : FVec F S128x1 .f32 :=
  maximumf (shapeCast S128x1 (multiReduction .maximumf [1] S128 (maximumf (maximumf (sPrev bp s) (sCur s)) (sNext bn s))
    0xFF800000#32 reduces_S128x128_S128 (.inl rfl) rfl) shapeCasts_S128_S128x1) (broadcast S128x1 sink)

/-- `exp` of scores less their row's maximum. -/
def expo (s : FVec F S128x128 .f32) (mx : FVec F S128x1 .f32) : FVec F S128x128 .f32 :=
  exp (subf s (broadcastTo S128x128 mx broadcasts_S128x1_S128x128))

/-- A row's denominator, the sink's share in it. -/
def denom (bp bn : FVec F S128x128 .f32) (s : FVec F S128x384 .f32) (sink : F .f32) : FVec F S128x1 .f32 :=
  addf (shapeCast S128x1 (multiReduction .add [1] S128
      (addf (addf (expo (sPrev bp s) (rowMax bp bn s sink)) (expo (sCur s) (rowMax bp bn s sink)))
        (expo (sNext bn s) (rowMax bp bn s sink)))
      0x00000000#32 reduces_S128x128_S128 (.inl rfl) rfl) shapeCasts_S128_S128x1)
    (exp (subf (broadcast S128x1 sink) (rowMax bp bn s sink)))

/-- A head's weights before the division, over all 384 keys. -/
def weights (bp bn : FVec F S128x128 .f32) (s : FVec F S128x384 .f32) (sink : F .f32) : FVec F S128x384 .bf16 :=
  truncf .bf16 (concatenate S128x384 1 [⟨S128x128, expo (sPrev bp s) (rowMax bp bn s sink)⟩,
    ⟨S128x128, expo (sCur s) (rowMax bp bn s sink)⟩, ⟨S128x128, expo (sNext bn s) (rowMax bp bn s sink)⟩]
    concatenates_S128x128_S128x128_S128x128_S128x384_d1) bitsLt_bf16_f32

/-- The weighted values of a stack of four heads. -/
def values (v : FVec F S384x128 .bf16) (a b c d : FVec F S128x384 .bf16) : FVec F S512x128 .f32 :=
  matmul dot_S512x384_S384x128_S512x128_1_0_0_1_n_n none
    (concatenate S512x384 0 [⟨S128x384, a⟩, ⟨S128x384, b⟩, ⟨S128x384, c⟩, ⟨S128x384, d⟩]
      concatenates_S128x384_S128x384_S128x384_S128x384_S512x384_d0)
    v (constant S512x128 .f32 0x00000000#32)

/-- Head `n` of a stack of weighted values. -/
def headValues (n : Fin 4) (s : FVec F S512x128 .f32) : FVec F S128x128 .f32 :=
  match n with
  | 0 => extractStridedSlice S128x128 ![0, 0] s slices_S512x128_o0_0_S128x128
  | 1 => extractStridedSlice S128x128 ![128, 0] s slices_S512x128_o128_0_S128x128
  | 2 => extractStridedSlice S128x128 ![256, 0] s slices_S512x128_o256_0_S128x128
  | 3 => extractStridedSlice S128x128 ![384, 0] s slices_S512x128_o384_0_S128x128

/-- A stack's four heads, from their scores `s`, their values `v` and their sinks: head `n`'s output. -/
def stackOut (bp bn : FVec F S128x128 .f32) (s : FVec F S512x384 .f32) (v : FVec F S384x128 .bf16)
    (sk : Fin 4 → F .f32) (n : Fin 4) : FVec F S128x128 .f32 :=
  divf (headValues n (values v (weights bp bn (headScores 0 s) (sk 0)) (weights bp bn (headScores 1 s) (sk 1))
      (weights bp bn (headScores 2 s) (sk 2)) (weights bp bn (headScores 3 s) (sk 3))))
    (broadcastTo S128x128 (denom bp bn (headScores n s) (sk n)) broadcasts_S128x1_S128x128)

/-- What is stored for a pair of heads: the even head's low lanes and the odd head's high lanes. -/
def pairOut (e o : FVec F S128x128 .f32) : FVec F S128x128 .bf16 :=
  truncf .bf16 (select low e o) bitsLt_bf16_f32

/-- The heads of the stack that meets the keys as they are, by place in the stack. -/
def headsA : Fin 4 → Fin 8 := ![0, 2, 5, 7]
/-- The heads of the stack that meets the keys with their halves swapped, by place in the stack. -/
def headsB : Fin 4 → Fin 8 := ![1, 3, 4, 6]

/-- One sub-block's pair `p` of heads: queries `q p`, keys and values `kA`, `vA` as they are and `kB`, `vB` with their
    halves swapped, the two biases and the sinks of the eight heads. -/
def subPair (bp bn : FVec F S128x128 .f32) (kA kB vA vB : FVec F S384x128 .bf16) (q : Fin 4 → Vec F S128x128 .bf16)
    (sk : Fin 8 → F .f32) (p : Fin 4) : FVec F S128x128 .bf16 :=
  let A := stackOut bp bn (scores kA (keep low (q 0)) (keep low (q 1)) (keep high (q 2)) (keep high (q 3))) vA
    (fun n => sk (headsA n)) p
  let B := stackOut bp bn (scores kB (keep high (q 0)) (keep high (q 1)) (keep low (q 2)) (keep low (q 3))) vB
    (fun n => sk (headsB n)) p
  match p with
  | 0 => pairOut A B
  | 1 => pairOut A B
  | 2 => pairOut B A
  | 3 => pairOut B A

/-! ## The dense part -/

/-- One head of the summed scans, normalised, scaled by the gain and gated. -/
def headNorm (o g : FVec F S512x128 .f32) (gain : Vec F S1x128 .f32) : FVec F S512x128 .bf16 :=
  truncf .bf16 (mulf (mulf (mulf o (broadcastTo S512x128 (rsqrt (addf (divf (shapeCast S512x1
    (multiReduction .add [1] S512 (mulf o o) 0x00000000#32 reduces_S512x128_S512 (.inl rfl) rfl) shapeCasts_S512_S512x1)
    (broadcast S512x1 (Scalar.ofBits .f32 0x43000000#32))) (broadcast S512x1 (Scalar.ofBits .f32 0x358637BD#32))))
    broadcasts_S512x1_S512x128))
    (broadcastTo S512x128 (shapeCast S1x128 gain shapeCasts_S1x128_S1x128) broadcasts_S1x128_S512x128)) g) bitsLt_bf16_f32

/-- Head `h` of a tile of 512 columns. -/
def headCols (h : Fin 4) (a : FVec F S512x512 .f32) : FVec F S512x128 .f32 :=
  match h with
  | 0 => extractStridedSlice S512x128 ![0, 0] a slices_S512x512_o0_0_S512x128
  | 1 => extractStridedSlice S512x128 ![0, 128] a slices_S512x512_o0_128_S512x128
  | 2 => extractStridedSlice S512x128 ![0, 256] a slices_S512x512_o0_256_S512x128
  | 3 => extractStridedSlice S512x128 ![0, 384] a slices_S512x512_o0_384_S512x128

/-- The residual after the mixers: the four gated heads and the attention's tile through the output projection. -/
def mixed (x : Vec F S512x1024 .f32) (f b g : Vec F S512x512 .f32) (gain : Vec F S1x128 .f32)
    (w : Vec F S1024x1024 .bf16) (att : Vec F S1x512x512 .bf16) : FVec F S512x1024 .f32 :=
  addf x (matmul dot_S512x1024_S1024x1024_S512x1024_1_0_0_1_n_n none
    (concatenate S512x1024 1 [⟨S512x128, headNorm (headCols 0 (addf f b)) (headCols 0 g) gain⟩,
      ⟨S512x128, headNorm (headCols 1 (addf f b)) (headCols 1 g) gain⟩,
      ⟨S512x128, headNorm (headCols 2 (addf f b)) (headCols 2 g) gain⟩,
      ⟨S512x128, headNorm (headCols 3 (addf f b)) (headCols 3 g) gain⟩,
      ⟨S512x512, shapeCast S512x512 att shapeCasts_S1x512x512_S512x512⟩]
      concatenates_S512x128_S512x128_S512x128_S512x128_S512x512_S512x1024_d1)
    (shapeCast S1024x1024 w shapeCasts_S1024x1024_S1024x1024) (constant S512x1024 .f32 0x00000000#32))

/-- The second feed-forward's input: the residual normalised. -/
def normed (x : FVec F S512x1024 .f32) (gain : Vec F S1x1024 .f32) : FVec F S512x1024 .bf16 :=
  truncf .bf16 (mulf (mulf x (broadcastTo S512x1024 (rsqrt (addf (divf (shapeCast S512x1
    (multiReduction .add [1] S512 (mulf x x) 0x00000000#32 reduces_S512x1024_S512 (.inl rfl) rfl) shapeCasts_S512_S512x1)
    (broadcast S512x1 (Scalar.ofBits .f32 0x44800000#32))) (broadcast S512x1 (Scalar.ofBits .f32 0x358637BD#32))))
    broadcasts_S512x1_S512x1024))
    (broadcastTo S512x1024 (shapeCast S1x1024 gain shapeCasts_S1x1024_S1x1024) broadcasts_S1x1024_S512x1024)) bitsLt_bf16_f32

/-- A chunk of 256 of the projections to the gate or to the other factor. -/
def proj (h : FVec F S512x1024 .bf16) (w : Vec F S1024x256 .bf16) : FVec F S512x256 .f32 :=
  matmul dot_S512x1024_S1024x256_S512x256_1_0_0_1_n_n none h
    (shapeCast S1024x256 w shapeCasts_S1024x256_S1024x256) (constant S512x256 .f32 0x00000000#32)

/-- A chunk's share of the feed-forward's output. -/
def chunk (h : FVec F S512x1024 .bf16) (wg wu : Vec F S1024x256 .bf16) (wo : Vec F S256x1024 .bf16) : FVec F S512x1024 .f32 :=
  matmul dot_S512x256_S256x1024_S512x1024_1_0_0_1_n_n none
    (truncf .bf16 (mulf (mulf (proj h wg) (logistic (proj h wg))) (proj h wu)) bitsLt_bf16_f32)
    (shapeCast S256x1024 wo shapeCasts_S256x1024_S256x1024) (constant S512x1024 .f32 0x00000000#32)

/-- The chunks added up from the left, chunk `n` last. -/
def chunks (h : FVec F S512x1024 .bf16) (wg wu : Fin 11 → Vec F S1024x256 .bf16) (wo : Fin 11 → Vec F S256x1024 .bf16) :
    (n : ℕ) → n < 11 → FVec F S512x1024 .f32
  | 0, h0 => chunk h (wg ⟨0, h0⟩) (wu ⟨0, h0⟩) (wo ⟨0, h0⟩)
  | n + 1, hn => addf (chunks h wg wu wo n (Nat.lt_of_succ_lt hn))
      (chunk h (wg ⟨n + 1, hn⟩) (wu ⟨n + 1, hn⟩) (wo ⟨n + 1, hn⟩))

/-- A point's output: the residual plus half the feed-forward. -/
def dense (x : FVec F S512x1024 .f32) (gain : Vec F S1x1024 .f32) (wg wu : Fin 11 → Vec F S1024x256 .bf16)
    (wo : Fin 11 → Vec F S256x1024 .bf16) : FVec F S512x1024 .f32 :=
  addf x (mulf (broadcast S512x1024 (Scalar.ofBits .f32 0x3F000000#32)) (chunks (normed x gain) wg wu wo 10 (by decide)))

end Cert.KernelIdeal.Words

end
-- ==== Proof.Body.lean ====
/- What a grid point writes, in the words of `Words.lean`: the output block (`dense` over `mixed`) and the sixteen pieces of the attention's
   scratch, each one pair of heads of one sub-block of 128 rows. -/
module

public import proofs.«01_k».proof.Proof.Track
public import proofs.«01_k».proof.Proof.Words

@[expose] public section

set_option maxRecDepth 16384

noncomputable section

namespace Cert.KernelIdeal.Track

open Cert.KernelIdeal Cert.KernelIdeal.Gen Cert.KernelIdeal.Words Idealize.ShloMosaic Idealize.ShloMosaic.TcCoe Idealize.SL.Sem
open Idealize.ShloMosaic.Tactic

variable {F : FTy → Type} [FloatOps F]

/-- A chunk of 256 gate columns lies inside the first projection. -/
theorem inb_gate (n : Fin 11) : ∀ a, (![0, 256 * n.val] : Fin 2 → ℕ) a + S1024x256.size a ≤ S1024x5632.size a := by
  revert n; decide +kernel
/-- A chunk of 256 columns of the other factor lies inside the first projection. -/
theorem inb_up (n : Fin 11) : ∀ a, (![0, 2816 + 256 * n.val] : Fin 2 → ℕ) a + S1024x256.size a ≤ S1024x5632.size a := by
  revert n; decide +kernel
/-- A chunk of 256 rows lies inside the second projection. -/
theorem inb_down (n : Fin 11) : ∀ a, (![256 * n.val, 0] : Fin 2 → ℕ) a + S256x1024.size a ≤ S2816x1024.size a := by
  revert n; decide +kernel
/-- A place of the scratch's two lies inside it. -/
theorem inb_slot (n : Fin 2) : ∀ a, (![n.val, 0, 0] : Fin 3 → ℕ) a + S1x512x512.size a ≤ S2x512x512.size a := by
  revert n; decide +kernel
/-- A tile of a pair's queries lies inside the queries' block. -/
theorem inb_q (j p : Fin 4) : ∀ a, (![128 * j.val, 128 * p.val] : Fin 2 → ℕ) a + S128x128.size a ≤ S512x512.size a := by
  revert j p; decide +kernel
/-- A tile of 128 rows of keys or values lies inside their block. -/
theorem inb_side (p : Fin 4) : ∀ a, (![0, 128 * p.val] : Fin 2 → ℕ) a + S128x128.size a ≤ S128x512.size a := by
  revert p; decide +kernel
/-- A tile of 512 rows of keys or values lies inside their block. -/
theorem inb_mid (p : Fin 4) : ∀ a, (![0, 128 * p.val] : Fin 2 → ℕ) a + S512x128.size a ≤ S512x512.size a := by
  revert p; decide +kernel
/-- A half of the two biases lies inside them. -/
theorem inb_band (p : Fin 2) : ∀ a, (![0, 128 * p.val] : Fin 2 → ℕ) a + S128x128.size a ≤ S128x256.size a := by
  revert p; decide +kernel
/-- One head's sink lies among the eight. -/
theorem inb_sink (p : Fin 8) : ∀ a, (![p.val] : Fin 1 → ℕ) a + S1.size a ≤ S8.size a := by
  revert p; decide +kernel
/-- A stored piece lies inside the scratch. -/
theorem inb_piece (sl : Fin 2) (j p : Fin 4) : ∀ a, (![sl.val, 128 * j.val, 128 * p.val] : Fin 3 → ℕ) a + S1x128x128.size a ≤ S2x512x512.size a := by
  revert sl j p; decide +kernel

/-- The output block of a point, of the blocks staged in windows 0 to 8 and a place of the scratch. -/
def outWords (x0 : Vec F S512x1024 .f32) (x1 x2 x3 : Vec F S512x512 .f32) (x4 : Vec F S1x128 .f32) (x5 : Vec F S1024x1024 .bf16)
    (x6 : Vec F S1x1024 .f32) (x7 : Vec F S1024x5632 .bf16) (x8 : Vec F S2816x1024 .bf16) (att : Vec F S1x512x512 .bf16) :
    FVec F S512x1024 .f32 :=
  dense (mixed (View.ld x0 (Rect.unit ![0, 0] S512x1024.size inb_S512x1024_S512x1024_0_0))
      (View.ld x1 (Rect.unit ![0, 0] S512x512.size inb_S512x512_S512x512_0_0))
      (View.ld x2 (Rect.unit ![0, 0] S512x512.size inb_S512x512_S512x512_0_0))
      (View.ld x3 (Rect.unit ![0, 0] S512x512.size inb_S512x512_S512x512_0_0))
      (View.ld x4 (Rect.unit ![0, 0] S1x128.size inb_S1x128_S1x128_0_0))
      (View.ld x5 (Rect.unit ![0, 0] S1024x1024.size inb_S1024x1024_S1024x1024_0_0)) att)
    (View.ld x6 (Rect.unit ![0, 0] S1x1024.size inb_S1x1024_S1x1024_0_0))
    (fun n => View.ld x7 (Rect.unit ![0, 256 * n.val] S1024x256.size (inb_gate n)))
    (fun n => View.ld x7 (Rect.unit ![0, 2816 + 256 * n.val] S1024x256.size (inb_up n)))
    (fun n => View.ld x8 (Rect.unit ![256 * n.val, 0] S256x1024.size (inb_down n)))

variable (m : (ℓ : Loc nD τ sig) → Buf (Elt F) ℓ)

/-- One head's sink logit, as the body loads it. -/
def sinkAt (x9 : Vec F S8 .f32) (h : Fin 8) : F .f32 :=
  View.ld x9 (Rect.unit ![h.val] S1.size (inb_sink h)) (Shape.Idx.first (s := S1) (by decide))

/-- A half of the two biases, as the body loads it: 0 before, 1 after. -/
def bandAt (x10 : Vec F S128x256 .f32) (w : Fin 2) : FVec F S128x128 .f32 :=
  View.ld x10 (Rect.unit ![0, 128 * w.val] S128x128.size (inb_band w))

/-- The bias before sub-block `j`: at the first of a tile the tile's flag is added. -/
def biasPrev (x10 : Vec F S128x256 .f32) (f : F .f32) (j : Fin 4) : FVec F S128x128 .f32 :=
  match j with
  | 0 => addf (bandAt x10 0) (broadcast S128x128 f)
  | 1 => bandAt x10 0
  | 2 => bandAt x10 0
  | 3 => bandAt x10 0

/-- The bias after sub-block `j`: at the last of a tile the tile's flag is added. -/
def biasNext (x10 : Vec F S128x256 .f32) (f : F .f32) (j : Fin 4) : FVec F S128x128 .f32 :=
  match j with
  | 0 => bandAt x10 1
  | 1 => bandAt x10 1
  | 2 => bandAt x10 1
  | 3 => addf (bandAt x10 1) (broadcast S128x128 f)

/-- Columns `col` of the keys and values before, in and after a tile. -/
def around (kp : Vec F S128x512 .bf16) (kc : Vec F S512x512 .bf16) (kn : Vec F S128x512 .bf16) (col : Fin 4) : FVec F S768x128 .bf16 :=
  band3 (View.ld kp (Rect.unit ![0, 128 * col.val] S128x128.size (inb_side col)))
    (View.ld kc (Rect.unit ![0, 128 * col.val] S512x128.size (inb_mid col)))
    (View.ld kn (Rect.unit ![0, 128 * col.val] S128x128.size (inb_side col)))

/-- What is stored for pair `p` of heads of sub-block `j`, of the sinks, the biases, the queries of the tile and the keys and values
    before, in and after it, under the flags `f0` before the tile and `f1` after it. -/
def attPiece (x9 : Vec F S8 .f32) (x10 : Vec F S128x256 .f32) (q : Vec F S512x512 .bf16) (kp : Vec F S128x512 .bf16)
    (kc : Vec F S512x512 .bf16) (kn : Vec F S128x512 .bf16) (f0 f1 : F .f32) (j p : Fin 4) : FVec F S1x128x128 .bf16 :=
  shapeCast S1x128x128 (shapeCast S128x128 (subPair (biasPrev x10 f0 j) (biasNext x10 f1 j) (rows384 j (around kp kc kn 0))
    (rows384 j (around kp kc kn 1)) (rows384 j (around kp kc kn 2)) (rows384 j (around kp kc kn 3))
    (fun n => View.ld q (Rect.unit ![128 * j.val, 128 * n.val] S128x128.size (inb_q j n))) (sinkAt x9) p)
    shapeCasts_S128x128_S128x128) shapeCasts_S128x128_S1x128x128

/-- A stored piece: pair `p` of sub-block `j`, in place `sl` of the scratch. -/
def piece (sl : Fin 2) (w : Fin 4 → Fin 4 → FVec F S1x128x128 .bf16) (j p : Fin 4) : View.Piece (Elt F) S2x512x512 .bf16 :=
  ⟨Rect.unit ![sl.val, 128 * j.val, 128 * p.val] S1x128x128.size (inb_piece sl j p), w j p⟩

/-- The first `n` pieces stored in place `sl`, the last one first. -/
def pieces (sl : Fin 2) (w : Fin 4 → Fin 4 → FVec F S1x128x128 .bf16) : ℕ → List (View.Piece (Elt F) S2x512x512 .bf16)
  | 0 => []
  | n + 1 => piece sl w ⟨n / 4 % 4, Nat.mod_lt _ (by decide)⟩ ⟨n % 4, Nat.mod_lt _ (by decide)⟩ :: pieces sl w n

variable (m : (ℓ : Loc nD τ sig) → Buf (Elt F) ℓ)

/-- The pieces of attention a point computes for the next tile. -/
def attMain (c : Dev nD) (t : Fin cfg0.N) : Fin 4 → Fin 4 → FVec F S1x128x128 .bf16 :=
  attPiece (iblk m c 9 t) (iblk m c 10 t) (iblk m c 15 t) (iblk m c 16 t) (iblk m c 17 t) (iblk m c 18 t) (k0_pay418 (grid0.coords t)) (k0_pay419 (grid0.coords t))

/-- The pieces of attention the first point computes for its own tile. -/
def attFirst (c : Dev nD) (t : Fin cfg0.N) : Fin 4 → Fin 4 → FVec F S1x128x128 .bf16 :=
  attPiece (iblk m c 9 t) (iblk m c 10 t) (iblk m c 11 t) (iblk m c 12 t) (iblk m c 13 t) (iblk m c 14 t) k0_pay3 k0_pay4

/-- A point's output block, of the attention `att` of its tile. -/
def outOf (c : Dev nD) (t : Fin cfg0.N) (att : Vec F S1x512x512 .bf16) : FVec F S512x1024 .f32 :=
  outWords (iblk m c 0 t) (iblk m c 1 t) (iblk m c 2 t) (iblk m c 3 t) (iblk m c 4 t) (iblk m c 5 t) (iblk m c 6 t) (iblk m c 7 t) (iblk m c 8 t) att

/-- An odd point writes its output block from the scratch it finds. -/
theorem pieces_out_B (c : Dev nD) (t : Fin cfg0.N) (h0 : ¬t.val % 32 = 0) (h1 : ¬t.val % 2 = 0) (xs : Vec F S2x512x512 .bf16) :
    (runB m c t h0 h1 xs).1 = [⟨Rect.unit ![0, 0] S512x1024.size inb_S512x1024_S512x1024_0_0, outOf m c t (View.ld xs (Rect.unit (s := S2x512x512) (k0_off1 (grid0.coords t)) S1x512x512.size (k0_off1_inb (grid0.coords t))))⟩] := by
  have h : (runB m c t h0 h1 xs).1 = [⟨Rect.unit ![0, 0] S512x1024.size inb_S512x1024_S512x1024_0_0, outWords ((ms0_0 t).view.read (Elt F) ((hs0_0 t).unread (iblk m c 0 t))) ((ms0_1 t).view.read (Elt F) ((hs0_1 t).unread (iblk m c 1 t))) ((ms0_2 t).view.read (Elt F) ((hs0_2 t).unread (iblk m c 2 t))) ((ms0_3 t).view.read (Elt F) ((hs0_3 t).unread (iblk m c 3 t))) ((ms0_4 t).view.read (Elt F) ((hs0_4 t).unread (iblk m c 4 t))) ((ms0_5 t).view.read (Elt F) ((hs0_5 t).unread (iblk m c 5 t))) ((ms0_6 t).view.read (Elt F) ((hs0_6 t).unread (iblk m c 6 t))) ((ms0_7 t).view.read (Elt F) ((hs0_7 t).unread (iblk m c 7 t))) ((ms0_8 t).view.read (Elt F) ((hs0_8 t).unread (iblk m c 8 t))) (View.ld (scM0_0.view.read (Elt F) ((Memref.isWhole_whole _ : scM0_0.IsWhole).unread xs)) (Rect.unit (s := S2x512x512) (k0_off1 (grid0.coords t)) S1x512x512.size (k0_off1_inb (grid0.coords t))))⟩] := by sl_kernel_rfl
  rw [h, (Memref.isWhole_whole _ : scM0_0.IsWhole).read_unread, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread]
  rfl

/-- An odd point stores the next tile's attention in the other place of the scratch. -/
theorem pieces_scr_B (c : Dev nD) (t : Fin cfg0.N) (h0 : ¬t.val % 32 = 0) (h1 : ¬t.val % 2 = 0) (xs : Vec F S2x512x512 .bf16) :
    (runB m c t h0 h1 xs).2.1 = pieces 0 (attMain m c t) 16 := by
  have h : (runB m c t h0 h1 xs).2.1 = pieces 0 (attPiece ((ms0_9 t).view.read (Elt F) ((hs0_9 t).unread (iblk m c 9 t))) ((ms0_10 t).view.read (Elt F) ((hs0_10 t).unread (iblk m c 10 t))) ((ms0_15 t).view.read (Elt F) ((hs0_15 t).unread (iblk m c 15 t))) ((ms0_16 t).view.read (Elt F) ((hs0_16 t).unread (iblk m c 16 t))) ((ms0_17 t).view.read (Elt F) ((hs0_17 t).unread (iblk m c 17 t))) ((ms0_18 t).view.read (Elt F) ((hs0_18 t).unread (iblk m c 18 t))) (k0_pay418 (grid0.coords t)) (k0_pay419 (grid0.coords t))) 16 := by sl_kernel_rfl
  rw [h, (hs0_9 t).read_unread, (hs0_10 t).read_unread, (hs0_15 t).read_unread, (hs0_16 t).read_unread, (hs0_17 t).read_unread, (hs0_18 t).read_unread]
  rfl

/-- An even point but the first writes its output block from the scratch it finds. -/
theorem pieces_out_C (c : Dev nD) (t : Fin cfg0.N) (h0 : ¬t.val % 32 = 0) (h1 : t.val % 2 = 0) (xs : Vec F S2x512x512 .bf16) :
    (runC m c t h0 h1 xs).1 = [⟨Rect.unit ![0, 0] S512x1024.size inb_S512x1024_S512x1024_0_0, outOf m c t (View.ld xs (Rect.unit (s := S2x512x512) (k0_off1 (grid0.coords t)) S1x512x512.size (k0_off1_inb (grid0.coords t))))⟩] := by
  have h : (runC m c t h0 h1 xs).1 = [⟨Rect.unit ![0, 0] S512x1024.size inb_S512x1024_S512x1024_0_0, outWords ((ms0_0 t).view.read (Elt F) ((hs0_0 t).unread (iblk m c 0 t))) ((ms0_1 t).view.read (Elt F) ((hs0_1 t).unread (iblk m c 1 t))) ((ms0_2 t).view.read (Elt F) ((hs0_2 t).unread (iblk m c 2 t))) ((ms0_3 t).view.read (Elt F) ((hs0_3 t).unread (iblk m c 3 t))) ((ms0_4 t).view.read (Elt F) ((hs0_4 t).unread (iblk m c 4 t))) ((ms0_5 t).view.read (Elt F) ((hs0_5 t).unread (iblk m c 5 t))) ((ms0_6 t).view.read (Elt F) ((hs0_6 t).unread (iblk m c 6 t))) ((ms0_7 t).view.read (Elt F) ((hs0_7 t).unread (iblk m c 7 t))) ((ms0_8 t).view.read (Elt F) ((hs0_8 t).unread (iblk m c 8 t))) (View.ld (scM0_0.view.read (Elt F) ((Memref.isWhole_whole _ : scM0_0.IsWhole).unread xs)) (Rect.unit (s := S2x512x512) (k0_off1 (grid0.coords t)) S1x512x512.size (k0_off1_inb (grid0.coords t))))⟩] := by sl_kernel_rfl
  rw [h, (Memref.isWhole_whole _ : scM0_0.IsWhole).read_unread, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread]
  rfl

/-- An even point but the first stores the next tile's attention in the other place of the scratch. -/
theorem pieces_scr_C (c : Dev nD) (t : Fin cfg0.N) (h0 : ¬t.val % 32 = 0) (h1 : t.val % 2 = 0) (xs : Vec F S2x512x512 .bf16) :
    (runC m c t h0 h1 xs).2.1 = pieces 1 (attMain m c t) 16 := by
  have h : (runC m c t h0 h1 xs).2.1 = pieces 1 (attPiece ((ms0_9 t).view.read (Elt F) ((hs0_9 t).unread (iblk m c 9 t))) ((ms0_10 t).view.read (Elt F) ((hs0_10 t).unread (iblk m c 10 t))) ((ms0_15 t).view.read (Elt F) ((hs0_15 t).unread (iblk m c 15 t))) ((ms0_16 t).view.read (Elt F) ((hs0_16 t).unread (iblk m c 16 t))) ((ms0_17 t).view.read (Elt F) ((hs0_17 t).unread (iblk m c 17 t))) ((ms0_18 t).view.read (Elt F) ((hs0_18 t).unread (iblk m c 18 t))) (k0_pay418 (grid0.coords t)) (k0_pay419 (grid0.coords t))) 16 := by sl_kernel_rfl
  rw [h, (hs0_9 t).read_unread, (hs0_10 t).read_unread, (hs0_15 t).read_unread, (hs0_16 t).read_unread, (hs0_17 t).read_unread, (hs0_18 t).read_unread]
  rfl

/-- The first point writes its output block from the attention it has just stored. -/
theorem pieces_out_A (c : Dev nD) (t : Fin cfg0.N) (h0 : t.val % 32 = 0) :
    (runA m c t h0).1 = [⟨Rect.unit ![0, 0] S512x1024.size inb_S512x1024_S512x1024_0_0, outOf m c t (scM0_0.view.readCov (pieces 0 (attFirst m c t) 16) (Rect.unit (s := S2x512x512) (k0_off1 (grid0.coords t)) S1x512x512.size (k0_off1_inb (grid0.coords t))).toLoadRect)⟩] := by
  have h : (runA m c t h0).1 = [⟨Rect.unit ![0, 0] S512x1024.size inb_S512x1024_S512x1024_0_0, outWords ((ms0_0 t).view.read (Elt F) ((hs0_0 t).unread (iblk m c 0 t))) ((ms0_1 t).view.read (Elt F) ((hs0_1 t).unread (iblk m c 1 t))) ((ms0_2 t).view.read (Elt F) ((hs0_2 t).unread (iblk m c 2 t))) ((ms0_3 t).view.read (Elt F) ((hs0_3 t).unread (iblk m c 3 t))) ((ms0_4 t).view.read (Elt F) ((hs0_4 t).unread (iblk m c 4 t))) ((ms0_5 t).view.read (Elt F) ((hs0_5 t).unread (iblk m c 5 t))) ((ms0_6 t).view.read (Elt F) ((hs0_6 t).unread (iblk m c 6 t))) ((ms0_7 t).view.read (Elt F) ((hs0_7 t).unread (iblk m c 7 t))) ((ms0_8 t).view.read (Elt F) ((hs0_8 t).unread (iblk m c 8 t))) (scM0_0.view.readCov (pieces 0 (attPiece ((ms0_9 t).view.read (Elt F) ((hs0_9 t).unread (iblk m c 9 t))) ((ms0_10 t).view.read (Elt F) ((hs0_10 t).unread (iblk m c 10 t))) ((ms0_11 t).view.read (Elt F) ((hs0_11 t).unread (iblk m c 11 t))) ((ms0_12 t).view.read (Elt F) ((hs0_12 t).unread (iblk m c 12 t))) ((ms0_13 t).view.read (Elt F) ((hs0_13 t).unread (iblk m c 13 t))) ((ms0_14 t).view.read (Elt F) ((hs0_14 t).unread (iblk m c 14 t))) k0_pay3 k0_pay4) 16) (Rect.unit (s := S2x512x512) (k0_off1 (grid0.coords t)) S1x512x512.size (k0_off1_inb (grid0.coords t))).toLoadRect)⟩] := by sl_kernel_rfl
  rw [h, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread]
  rfl

/-- The first point stores its own tile's attention and then the next tile's. -/
theorem pieces_scr_A (c : Dev nD) (t : Fin cfg0.N) (h0 : t.val % 32 = 0) :
    (runA m c t h0).2.1 = pieces 1 (attMain m c t) 16 ++ pieces 0 (attFirst m c t) 16 := by
  have h : (runA m c t h0).2.1 = pieces 1 (attPiece ((ms0_9 t).view.read (Elt F) ((hs0_9 t).unread (iblk m c 9 t))) ((ms0_10 t).view.read (Elt F) ((hs0_10 t).unread (iblk m c 10 t))) ((ms0_15 t).view.read (Elt F) ((hs0_15 t).unread (iblk m c 15 t))) ((ms0_16 t).view.read (Elt F) ((hs0_16 t).unread (iblk m c 16 t))) ((ms0_17 t).view.read (Elt F) ((hs0_17 t).unread (iblk m c 17 t))) ((ms0_18 t).view.read (Elt F) ((hs0_18 t).unread (iblk m c 18 t))) (k0_pay418 (grid0.coords t)) (k0_pay419 (grid0.coords t))) 16 ++ pieces 0 (attPiece ((ms0_9 t).view.read (Elt F) ((hs0_9 t).unread (iblk m c 9 t))) ((ms0_10 t).view.read (Elt F) ((hs0_10 t).unread (iblk m c 10 t))) ((ms0_11 t).view.read (Elt F) ((hs0_11 t).unread (iblk m c 11 t))) ((ms0_12 t).view.read (Elt F) ((hs0_12 t).unread (iblk m c 12 t))) ((ms0_13 t).view.read (Elt F) ((hs0_13 t).unread (iblk m c 13 t))) ((ms0_14 t).view.read (Elt F) ((hs0_14 t).unread (iblk m c 14 t))) k0_pay3 k0_pay4) 16 := by sl_kernel_rfl
  rw [h, (hs0_9 t).read_unread, (hs0_10 t).read_unread, (hs0_11 t).read_unread, (hs0_12 t).read_unread, (hs0_13 t).read_unread, (hs0_14 t).read_unread, (hs0_15 t).read_unread, (hs0_16 t).read_unread, (hs0_17 t).read_unread, (hs0_18 t).read_unread]
  rfl

end Cert.KernelIdeal.Track

end
-- ==== Proof.After.lean ====
/- What each grid point leaves: its output block is `outOf` at the attention of its tile, which the point before stored (the first
   point stores its own). -/
module

public import proofs.«01_k».proof.Proof.Body
public import Idealize.ShloMosaic.Lib.Pointwise
public import Idealize.ShloMosaic.Lib.WritesUnit

@[expose] public section

set_option maxRecDepth 16384

noncomputable section

namespace Cert.KernelIdeal.Track

open Cert.KernelIdeal Cert.KernelIdeal.Gen Cert.KernelIdeal.Words Idealize.ShloMosaic Idealize.ShloMosaic.TcCoe Idealize.SL.Sem

variable {F : FTy → Type} [FloatOps F]

/-- Sixteen pieces read as one tile. -/
def tileOf (w : Fin 4 → Fin 4 → FVec F S1x128x128 .bf16) : Vec F S1x512x512 .bf16 := fun x =>
  have h1 : (x 1).val < 512 := (x 1).isLt
  have h2 : (x 2).val < 512 := (x 2).isLt
  w ⟨(x 1).val / 128, by omega⟩ ⟨(x 2).val / 128, by omega⟩
    (ix3 0 ⟨(x 1).val % 128, by omega⟩ ⟨(x 2).val % 128, by omega⟩)

/-- Reading under the pieces of a place gives the piece the index lies in. -/
theorem read_pieces {κ : Kind} {sp : Space} (v : View sig κ sp S2x512x512 .bf16) (f : v.ty.Contents (Elt F)) (sl : Fin 2)
    (w : Fin 4 → Fin 4 → FVec F S1x128x128 .bf16) (L : List (View.Piece (Elt F) S2x512x512 .bf16)) (a b : Fin 512) :
    ∀ n, n ≤ 16 → a.val / 128 * 4 + b.val / 128 < n →
      v.read (Elt F) (v.writes (Elt F) f (pieces sl w n ++ L)) (ix3 sl a b)
        = w ⟨a.val / 128, by omega⟩ ⟨b.val / 128, by omega⟩ (ix3 0 ⟨a.val % 128, by omega⟩ ⟨b.val % 128, by omega⟩)
  | 0, _, h => absurd h (Nat.not_lt_zero _)
  | n + 1, hn, h => by
    have ha := a.isLt
    have hb := b.isLt
    rcases Nat.lt_or_ge (a.val / 128 * 4 + b.val / 128) n with h' | h'
    · rw [← read_pieces v f sl w L a b n (by omega) h']
      have hne : ¬(n / 4 % 4 = a.val / 128 ∧ n % 4 = b.val / 128) := by omega
      rcases Nat.lt_or_ge (n / 4 % 4) (a.val / 128) with h1 | h1
      · exact View.read_writes_cons_unit_of_not_mem v f (inb_piece sl _ _) _ _ _ rfl (1 : Fin 3)
          (Or.inr (show 128 * (n / 4 % 4) + 128 ≤ a.val by omega))
      rcases Nat.lt_or_ge (a.val / 128) (n / 4 % 4) with h2 | h2
      · exact View.read_writes_cons_unit_of_not_mem v f (inb_piece sl _ _) _ _ _ rfl (1 : Fin 3)
          (Or.inl (show a.val < 128 * (n / 4 % 4) by omega))
      rcases Nat.lt_or_ge (n % 4) (b.val / 128) with h3 | h3
      · exact View.read_writes_cons_unit_of_not_mem v f (inb_piece sl _ _) _ _ _ rfl (2 : Fin 3)
          (Or.inr (show 128 * (n % 4) + 128 ≤ b.val by omega))
      · exact View.read_writes_cons_unit_of_not_mem v f (inb_piece sl _ _) _ _ _ rfl (2 : Fin 3)
          (Or.inl (show b.val < 128 * (n % 4) by omega))
    · have e1 : (⟨n / 4 % 4, Nat.mod_lt _ (by decide)⟩ : Fin 4) = ⟨a.val / 128, by omega⟩ := Fin.ext (by show n / 4 % 4 = a.val / 128; omega)
      have e2 : (⟨n % 4, Nat.mod_lt _ (by decide)⟩ : Fin 4) = ⟨b.val / 128, by omega⟩ := Fin.ext (by show n % 4 = b.val / 128; omega)
      show v.read (Elt F) (v.writes (Elt F) f (piece sl w ⟨n / 4 % 4, Nat.mod_lt _ (by decide)⟩ ⟨n % 4, Nat.mod_lt _ (by decide)⟩ :: (pieces sl w n ++ L))) (ix3 sl a b) = _
      rw [e1, e2]
      refine View.read_writes_cons_unit_of_mem v f (inb_piece sl _ _) _ _ _ _ rfl fun x => ?_
      match x with
      | 0 => rfl
      | 1 => show a.val = 128 * (a.val / 128) + a.val % 128; omega
      | 2 => show b.val = 128 * (b.val / 128) + b.val % 128; omega

/-- Reading a whole place gives the tile of its pieces. -/
theorem ld_pieces {κ : Kind} {sp : Space} (v : View sig κ sp S2x512x512 .bf16) (f : v.ty.Contents (Elt F)) (sl : Fin 2)
    (w : Fin 4 → Fin 4 → FVec F S1x128x128 .bf16) (L : List (View.Piece (Elt F) S2x512x512 .bf16)) (off : Fin 3 → ℕ)
    (inb : ∀ a, off a + S1x512x512.size a ≤ S2x512x512.size a) (ho : off = ![sl.val, 0, 0]) :
    View.ld (v.read (Elt F) (v.writes (Elt F) f (pieces sl w 16 ++ L))) (Rect.unit (s := S2x512x512) off S1x512x512.size inb) = tileOf w := by
  subst ho
  funext x
  have h0 : (x 0).val < 1 := (x 0).isLt
  have h1 : (x 1).val < 512 := (x 1).isLt
  have h2 : (x 2).val < 512 := (x 2).isLt
  have e : (Rect.unit (s := S2x512x512) ![sl.val, 0, 0] S1x512x512.size inb).idx x = ix3 sl ⟨(x 1).val, h1⟩ ⟨(x 2).val, h2⟩ := by
    funext a
    apply Fin.ext
    match a with
    | 0 => show sl.val + 1 * (x 0).val = sl.val; omega
    | 1 => show 0 + 1 * (x 1).val = (x 1).val; omega
    | 2 => show 0 + 1 * (x 2).val = (x 2).val; omega
  show v.read (Elt F) (v.writes (Elt F) f (pieces sl w 16 ++ L)) ((Rect.unit (s := S2x512x512) ![sl.val, 0, 0] S1x512x512.size inb).idx x) = _
  rw [e]
  exact read_pieces v f sl w L _ _ 16 le_rfl (by show (x 1).val / 128 * 4 + (x 2).val / 128 < 16; omega)

variable (m : (ℓ : Loc nD τ sig) → Buf (Elt F) ℓ)

/-- The attention of the tile of point `t`: stored by the point before, and by the first point for its own. -/
def attOf (c : Dev nD) (t : Fin cfg0.N) : Fin 4 → Fin 4 → FVec F S1x128x128 .bf16 :=
  if t.val = 0 then attFirst m c t else attMain m c ⟨t.val - 1, by have := t.isLt; omega⟩

/-- The place the next point reads holds the tile just stored. -/
theorem ld_after (c : Dev nD) (t : Fin cfg0.N) (off : Fin 3 → ℕ) (inb : ∀ a, off a + S1x512x512.size a ≤ S2x512x512.size a)
    (ho : off = if t.val % 2 = 0 then ![1, 0, 0] else ![0, 0, 0]) :
    View.ld (after m c t.val t.isLt).2 (Rect.unit (s := S2x512x512) off S1x512x512.size inb) = tileOf (attMain m c t) := by
  by_cases h0 : t.val % 32 = 0
  · rw [after_A m c t h0]
    dsimp only
    unfold soutA
    rw [pieces_scr_A]
    exact ld_pieces _ _ 1 _ _ off inb (ho.trans (if_pos (even_of_first h0)))
  · by_cases h1 : t.val % 2 = 0
    · rw [after_C m c t h0 h1]
      dsimp only
      unfold soutC
      rw [pieces_scr_C, ← List.append_nil (pieces _ _ _)]
      exact ld_pieces _ _ 1 _ _ off inb (ho.trans (if_pos h1))
    · rw [after_B m c t h0 h1]
      dsimp only
      unfold soutB
      rw [pieces_scr_B, ← List.append_nil (pieces _ _ _)]
      exact ld_pieces _ _ 0 _ _ off inb (ho.trans (if_neg h1))

/-- The place a later point reads holds its tile's attention. -/
theorem ld_prev (c : Dev nD) (t : Fin cfg0.N) (h0 : ¬t.val % 32 = 0) :
    View.ld (prev m c t) (Rect.unit (s := S2x512x512) (k0_off1 (grid0.coords t)) S1x512x512.size (k0_off1_inb (grid0.coords t)))
      = tileOf (attOf m c t) := by
  have hz : ¬t.val = 0 := fun h => h0 (by rw [h])
  unfold attOf
  rw [if_neg hz]
  refine ld_after m c ⟨t.val - 1, by have := t.isLt; omega⟩ _ _ ?_
  by_cases h1 : t.val % 2 = 0
  · rw [off1_even t h1, if_neg (by show ¬(t.val - 1) % 2 = 0; omega)]
  · rw [off1_odd t h1, if_pos (by show (t.val - 1) % 2 = 0; omega)]

/-- The offsets of a whole block. -/
theorem zeros2 : (![0, 0] : Fin 2 → ℕ) = fun _ => 0 := by decide

/-- A point leaves `outOf` at its tile's attention. -/
theorem after_out (c : Dev nD) (t : Fin cfg0.N) :
    (after m c t.val t.isLt).1 = outOf m c t (tileOf (attOf m c t)) := by
  by_cases h0 : t.val % 32 = 0
  · rw [after_A m c t h0]
    dsimp only
    unfold outA
    rw [View.read_writes_eq_canon _ _ _ (coverA m c t h0), pieces_out_A, View.canon_unit_zero (S := S512x1024) zeros2]
    have hz : t.val = 0 := by
      have h := t.isLt
      have hN : cfg0.N = 32 := by decide
      omega
    have e : scM0_0.view.readCov (pieces 0 (attFirst m c t) 16) (Rect.unit (s := S2x512x512) (k0_off1 (grid0.coords t)) S1x512x512.size (k0_off1_inb (grid0.coords t))).toLoadRect
        = tileOf (attOf m c t) := by
      unfold attOf
      rw [if_pos hz, ← List.append_nil (pieces 0 (attFirst m c t) 16)]
      exact ld_pieces (F := F) scM0_0.view scM0_0.view.junk 0 _ [] _ _ (off1_even t (even_of_first h0))
    rw [e]
  · by_cases h1 : t.val % 2 = 0
    · rw [after_C m c t h0 h1]
      dsimp only
      unfold outC
      rw [View.read_writes_eq_canon _ _ _ (coverC m c t h0 h1 _), pieces_out_C, View.canon_unit_zero (S := S512x1024) zeros2, ld_prev m c t h0]
    · rw [after_B m c t h0 h1]
      dsimp only
      unfold outB
      rw [View.read_writes_eq_canon _ _ _ (coverB m c t h0 h1 _), pieces_out_B, View.canon_unit_zero (S := S512x1024) zeros2, ld_prev m c t h0]

end Cert.KernelIdeal.Track

end
-- ==== Proof.Spec.lean ====
/- The function that both programs compute, entry by entry over the extended reals: the softmax of one query over its 384 keys with a
   sink's logit, and one row of the dense part. -/
module

public import Idealize.ShloMosaic.PureOps
public import Idealize.ShloMosaic.Lib.Pointwise

@[expose] public section

set_option maxRecDepth 16384

noncomputable section

namespace Cert.Spec

open Idealize.ShloMosaic

/-- The largest of a row's logits and its sink's. -/
def top (s : Fin 384 → EReal) (sk : EReal) : EReal := max (Finset.univ.fold max ⊥ s) sk

/-- A key's weight before the division. -/
def wgt (s : Fin 384 → EReal) (sk : EReal) (k : Fin 384) : EReal := Ideal.exp (s k - top s sk)

/-- A row's denominator, the sink's share in it. -/
def den (s : Fin 384 → EReal) (sk : EReal) : EReal := (∑ k, wgt s sk k) + Ideal.exp (sk - top s sk)

/-- The weighted values over the denominator. -/
def attn (s : Fin 384 → EReal) (sk : EReal) (v : Fin 384 → EReal) : EReal := Ideal.div (∑ k, wgt s sk k * v k) (den s sk)

/-- A key's weight is zero where its logit is the lower infinity. -/
theorem wgt_bot {s : Fin 384 → EReal} {sk : EReal} {k : Fin 384} (h : s k = ⊥) : wgt s sk k = 0 := by
  unfold wgt; rw [h, EReal.bot_sub]; rfl

/-- Only the values of keys that are not masked matter. -/
theorem attn_congr {s s' : Fin 384 → EReal} {sk sk' : EReal} {v v' : Fin 384 → EReal} (hs : ∀ k, s k = s' k) (hsk : sk = sk')
    (hv : ∀ k, s k ≠ ⊥ → v k = v' k) : attn s sk v = attn s' sk' v' := by
  have e : s = s' := funext hs
  subst e; subst hsk
  unfold attn
  congr 1
  refine Finset.sum_congr rfl fun k _ => ?_
  by_cases h : s k = ⊥
  · rw [wgt_bot h, zero_mul, zero_mul]
  · rw [hv k h]

/-- The cast of a sum of reals is the sum of the casts. -/
theorem coe_sum {ι : Type} (t : Finset ι) (f : ι → ℝ) : ((∑ k ∈ t, f k : ℝ) : EReal) = ∑ k ∈ t, (f k : EReal) := by
  classical
  induction t using Finset.induction_on with
  | empty => simp
  | insert a t ha ih => rw [Finset.sum_insert ha, Finset.sum_insert ha, EReal.coe_add, ih]

/-- The logits are reals or masked, and the sink is a real: the division goes under the sum. -/
theorem attn_inside {s : Fin 384 → EReal} {sk : EReal} (v : Fin 384 → EReal) (hs : ∀ k, s k ≠ ⊤) (x : ℝ) (hk : sk = (x : EReal)) :
    attn s sk v = ∑ k, v k * Ideal.div (wgt s sk k) (den s sk) := by
  have hM : ∃ M : ℝ, top s sk = (M : EReal) := by
    have h1 : top s sk ≠ ⊤ := by
      unfold top
      intro h
      have h2 : Finset.univ.fold max ⊥ s < ⊤ := by
        rw [Finset.fold_max_lt]
        exact ⟨bot_lt_top, fun k _ => lt_top_iff_ne_top.mpr (hs k)⟩
      have h3 : max (Finset.univ.fold max ⊥ s) sk < ⊤ := max_lt h2 (by rw [hk]; exact EReal.coe_lt_top x)
      exact absurd h h3.ne
    have h2 : top s sk ≠ ⊥ := by
      unfold top
      intro h
      have h3 : sk ≤ ⊥ := h ▸ le_max_right _ _
      rw [hk] at h3
      exact absurd h3 (not_le.mpr (EReal.bot_lt_coe x))
    exact ⟨(top s sk).toReal, (EReal.coe_toReal h1 h2).symm⟩
  obtain ⟨M, hM⟩ := hM
  have hw : ∀ k, ∃ e : ℝ, 0 ≤ e ∧ wgt s sk k = (e : EReal) := by
    intro k
    unfold wgt
    rw [hM]
    by_cases h : s k = ⊥
    · exact ⟨0, le_refl _, by rw [h, EReal.bot_sub]; rfl⟩
    · refine ⟨Real.exp ((s k).toReal - M), (Real.exp_pos _).le, ?_⟩
      conv_lhs => rw [← EReal.coe_toReal (hs k) h, ← EReal.coe_sub]
      rfl
  choose e he0 he using hw
  have hD : den s sk = (((∑ k, e k) + Real.exp (x - M) : ℝ) : EReal) := by
    unfold den
    rw [hM, hk, ← EReal.coe_sub, EReal.coe_add]
    congr 1
    rw [coe_sum]
    exact Finset.sum_congr rfl fun k _ => hk ▸ he k
  have hpos : 0 < (∑ k, e k) + Real.exp (x - M) := add_pos_of_nonneg_of_pos (Finset.sum_nonneg fun k _ => he0 k) (Real.exp_pos _)
  unfold attn
  rw [hD]
  generalize (∑ k, e k) + Real.exp (x - M) = D at hpos
  rw [Ideal.div_coe hpos.ne']
  have hi : (0 : EReal) ≤ ((1 / D : ℝ) : EReal) := by exact_mod_cast (one_div_pos.mpr hpos).le
  have hd : ∀ (f : Fin 384 → EReal) (t : Finset (Fin 384)), (∑ k ∈ t, f k) * ((1 / D : ℝ) : EReal) = ∑ k ∈ t, f k * ((1 / D : ℝ) : EReal) := by
    intro f t
    induction t using Finset.induction_on with
    | empty => simp
    | insert a t ha ih =>
      rw [Finset.sum_insert ha, Finset.sum_insert ha, ← ih]
      exact EReal.right_distrib_of_nonneg_of_ne_top hi (EReal.coe_ne_top _) _ _
  rw [hd]
  refine Finset.sum_congr rfl fun k _ => ?_
  rw [Ideal.div_coe hpos.ne', mul_comm (wgt s sk k), mul_assoc]

/-! ## The attention of one query -/

/-- Key `k` of the 384 around block `B` is in the window of the block's row `r` and in the block's sequence of 64 blocks. -/
abbrev Okay {n : ℕ} (B : Fin n) (r : Fin 128) (k : Fin 384) : Prop :=
  r.val ≤ k.val ∧ k.val ≤ r.val + 256 ∧ 128 ≤ 128 * (B.val % 64) + k.val ∧ 128 * (B.val % 64) + k.val < 8320

/-- The row of key `k` of the 384 around block `B`. -/
def keyRow (B : Fin 128) (k : Fin 384) : Fin 16384 := ⟨(128 * B.val + k.val - 128) % 16384, Nat.mod_lt _ (by decide)⟩

/-- A query's logit against a key: their product over the head's lanes, scaled, and the lower infinity where masked. -/
def logit (Q : Fin 16384 → Fin 512 → EReal) (K : Fin 16384 → Fin 128 → EReal) (B : Fin 128) (r : Fin 128) (h : Fin 8) (k : Fin 384) : EReal :=
  if Okay B r k then (∑ d : Fin 64, Q ⟨128 * B.val + r.val, by omega⟩ ⟨64 * h.val + d.val, by omega⟩ * K (keyRow B k) ⟨64 * (h.val / 4) + d.val, by omega⟩)
    * Ideal.ofBits .f32 0x3E000000#32 else ⊥

/-- The attention's output for a query and a head at a lane. -/
def attRow (Q : Fin 16384 → Fin 512 → EReal) (K V : Fin 16384 → Fin 128 → EReal) (S : Fin 8 → EReal) (B : Fin 128) (r : Fin 128) (h : Fin 8)
    (d : Fin 64) : EReal :=
  attn (logit Q K B r h) (S h) (fun k => V (keyRow B k) ⟨64 * (h.val / 4) + d.val, by omega⟩)

/-! ## The dense part, one row -/

/-- One of the four heads' columns, normalised over its head, scaled by the gain and gated. -/
def headRow (o g : Fin 512 → EReal) (gain : Fin 128 → EReal) (h : Fin 4) (d : Fin 128) : EReal :=
  o ⟨128 * h.val + d.val, by omega⟩ * Ideal.rsqrt (Ideal.div (∑ k : Fin 128, o ⟨128 * h.val + k.val, by omega⟩ * o ⟨128 * h.val + k.val, by omega⟩)
    (Ideal.ofBits .f32 0x43000000#32) + Ideal.ofBits .f32 0x358637BD#32) * gain d * g ⟨128 * h.val + d.val, by omega⟩

/-- The mixers' row: the four heads, then the attention. -/
def mixRow (o g : Fin 512 → EReal) (gain : Fin 128 → EReal) (att : Fin 512 → EReal) (k : Fin 1024) : EReal :=
  if h : k.val < 512 then headRow o g gain ⟨k.val / 128, by omega⟩ ⟨k.val % 128, by omega⟩ else att ⟨k.val - 512, by omega⟩

/-- The residual row after the mixers. -/
def resRow (x : Fin 1024 → EReal) (mx : Fin 1024 → EReal) (w : Fin 1024 → Fin 1024 → EReal) (c : Fin 1024) : EReal :=
  x c + ∑ k, mx k * w k c

/-- A row normalised and scaled by the gain. -/
def normRow (x gain : Fin 1024 → EReal) (c : Fin 1024) : EReal :=
  x c * Ideal.rsqrt (Ideal.div (∑ k, x k * x k) (Ideal.ofBits .f32 0x44800000#32) + Ideal.ofBits .f32 0x358637BD#32) * gain c

/-- The feed-forward's hidden row. -/
def hidRow (h : Fin 1024 → EReal) (wi : Fin 1024 → Fin 5632 → EReal) (n : Fin 2816) : EReal :=
  (∑ k, h k * wi k ⟨n.val, by omega⟩) * Ideal.logistic (∑ k, h k * wi k ⟨n.val, by omega⟩) * ∑ k, h k * wi k ⟨2816 + n.val, by omega⟩

/-- The layer's output row. -/
def outRow (x gain : Fin 1024 → EReal) (wi : Fin 1024 → Fin 5632 → EReal) (wo : Fin 2816 → Fin 1024 → EReal) (c : Fin 1024) : EReal :=
  x c + Ideal.ofBits .f32 0x3F000000#32 * ∑ n, hidRow (normRow x gain) wi n * wo n c

/-- The layer's output at a row and a column. -/
def layer (X : Fin 16384 → Fin 1024 → EReal) (O1 O2 G Q : Fin 16384 → Fin 512 → EReal) (K V : Fin 16384 → Fin 128 → EReal) (gain : Fin 128 → EReal)
    (S : Fin 8 → EReal) (W : Fin 1024 → Fin 1024 → EReal) (n2 : Fin 1024 → EReal) (wi : Fin 1024 → Fin 5632 → EReal)
    (wo : Fin 2816 → Fin 1024 → EReal) (a : Fin 16384) (c : Fin 1024) : EReal :=
  outRow (resRow (X a) (mixRow (fun k => O1 a k + O2 a k) (G a) gain
    (fun k => attRow Q K V S ⟨a.val / 128, by omega⟩ ⟨a.val % 128, by omega⟩ ⟨k.val / 64, by omega⟩ ⟨k.val % 64, by omega⟩)) W) n2 wi wo c

end Cert.Spec

end
-- ==== Proof.AttRead.lean ====
/- The attention of a pair of heads at an index, over the ideal numbers: a head's lane is the softmax row of `Spec.lean`. -/
module

public import proofs.«01_k».proof.Proof.Body
public import proofs.«01_k».proof.Proof.Spec
public import Idealize.ShloMosaic.Lib.Pointwise

@[expose] public section

set_option maxRecDepth 16384

noncomputable section

namespace Cert.KernelIdeal.Words

open Cert.KernelIdeal Cert.KernelIdeal.Gen Idealize.ShloMosaic Idealize.ShloMosaic.TcCoe Idealize.ShloMosaic.Tactic
open Cert.Spec

/-- Lane `d` of half `f` of a pair of heads. -/
abbrev lane (f : Fin 2) (d : Fin 64) : Fin 128 := ⟨64 * f.val + d.val, by omega⟩

/-- The mask of a half of the lanes. -/
def half (f : Fin 2) : IVec S128x128 1 := match f with | 0 => low | 1 => high

/-- The low mask at a lane. -/
theorem low_apply (r l : Fin 128) : low (ix2 r l) = if l.val < 64 then 1#1 else 0#1 := by
  pointwise [low]
  exact (by decide +kernel : ∀ l : Fin 128, IntOp.cmpi CmpIPredicate.slt (BitVec.ofNat 32 l.val) 64#32 = if l.val < 64 then 1#1 else 0#1) l

/-- The high mask at a lane. -/
theorem high_apply (r l : Fin 128) : high (ix2 r l) = if l.val < 64 then 0#1 else 1#1 := by
  have h : high (ix2 r l) = IntOp.xori (low (ix2 r l)) 1#1 := by pointwise [high]
  rw [h, low_apply]
  split <;> rfl

/-- The mask of a half at a lane. -/
theorem half_apply (f : Fin 2) (r l : Fin 128) : half f (ix2 r l) = if l.val / 64 = f.val then 1#1 else 0#1 := by
  fin_cases f
  · show low (ix2 r l) = _
    rw [low_apply]
    by_cases h : l.val < 64
    · rw [if_pos h, if_pos (by show l.val / 64 = 0; omega)]
    · rw [if_neg h, if_neg (by show ¬l.val / 64 = 0; omega)]
  · show high (ix2 r l) = _
    rw [high_apply]
    by_cases h : l.val < 64
    · rw [if_pos h, if_neg (by show ¬l.val / 64 = 1; omega)]
    · rw [if_neg h, if_pos (by show l.val / 64 = 1; omega)]

/-- A masked tile at an index. -/
theorem keep_apply (w : IVec S128x128 1) (q : Vec Ideal S128x128 .bf16) (r l : Fin 128) :
    (keep w q (ix2 r l) : EReal) = if w (ix2 r l) = 1#1 then (q (ix2 r l) : EReal) else 0 := by
  pointwise [keep]
  rfl

/-- A row of a masked tile against a row of keys: only the half's lanes count. -/
theorem keep_sum (f : Fin 2) (q : Vec Ideal S128x128 .bf16) (g : Fin 128 → EReal) (r : Fin 128) :
    ∑ l : Fin 128, (keep (half f) q (ix2 r l) : EReal) * g l = ∑ d : Fin 64, (q (ix2 r (lane f d)) : EReal) * g (lane f d) := by
  rw [Fin.sum_univ_two_halves 64 64 rfl]
  simp only [keep_apply, half_apply]
  have hlo : ∀ d : Fin 64, d.val / 64 = 0 := fun d => by omega
  have hhi : ∀ d : Fin 64, (64 + d.val) / 64 = 1 := fun d => by omega
  fin_cases f
  · simp [hlo, hhi, lane]
  · simp [hlo, hhi, lane]

/-- A head's scores are rows of the stack's. -/
theorem headScores_apply (n : Fin 4) (s : FVec Ideal S512x384 .f32) (r : Fin 128) (k : Fin 384) :
    headScores n s (ix2 r k) = s (ix2 ⟨128 * n.val + r.val, by omega⟩ k) := by
  fin_cases n <;> (pointwise [headScores]; try rfl)

/-- A head's weighted values are rows of the stack's. -/
theorem headValues_apply (n : Fin 4) (s : FVec Ideal S512x128 .f32) (r : Fin 128) (l : Fin 128) :
    headValues n s (ix2 r l) = s (ix2 ⟨128 * n.val + r.val, by omega⟩ l) := by
  fin_cases n <;> (pointwise [headValues]; try rfl)

/-- A row of a stack of four belongs to one of them. -/
theorem stack4 {α : Type} (w : Fin 4 → Fin 128 → α) (n : Fin 4) (r : Fin 128) :
    (if h : 128 * n.val + r.val < 128 then w 0 ⟨128 * n.val + r.val, h⟩
      else if h : 128 * n.val + r.val - 128 < 128 then w 1 ⟨128 * n.val + r.val - 128, h⟩
      else if h : 128 * n.val + r.val - 128 - 128 < 128 then w 2 ⟨128 * n.val + r.val - 128 - 128, h⟩
      else w 3 ⟨128 * n.val + r.val - 128 - 128 - 128, by omega⟩) = w n r := by
  fin_cases n
  · rw [dif_pos (by dsimp only; omega)]; exact congrArg (w 0) (Fin.ext (by dsimp only; omega))
  · rw [dif_neg (by dsimp only; omega), dif_pos (by dsimp only; omega)]; exact congrArg (w 1) (Fin.ext (by dsimp only; omega))
  · rw [dif_neg (by dsimp only; omega), dif_neg (by dsimp only; omega), dif_pos (by dsimp only; omega)]; exact congrArg (w 2) (Fin.ext (by dsimp only; omega))
  · rw [dif_neg (by dsimp only; omega), dif_neg (by dsimp only; omega), dif_neg (by dsimp only; omega)]; exact congrArg (w 3) (Fin.ext (by dsimp only; omega))

/-- A head's scores at an index. -/
theorem scores_apply (K : FVec Ideal S384x128 .bf16) (w : Fin 4 → FVec Ideal S128x128 .bf16) (n : Fin 4) (r : Fin 128) (k : Fin 384) :
    (headScores n (scores K (w 0) (w 1) (w 2) (w 3)) (ix2 r k) : EReal) = ∑ l : Fin 128, (w n (ix2 r l) : EReal) * K (ix2 k l) := by
  rw [headScores_apply]
  pointwise [scores]
  exact Finset.sum_congr rfl fun l _ => congrArg (· * _) (stack4 (fun n r => (w n (ix2 r l) : EReal)) n r)

/-- A head's weighted values at an index. -/
theorem values_apply (v : FVec Ideal S384x128 .bf16) (w : Fin 4 → FVec Ideal S128x384 .bf16) (n : Fin 4) (r : Fin 128) (l : Fin 128) :
    (headValues n (values v (w 0) (w 1) (w 2) (w 3)) (ix2 r l) : EReal) = ∑ k : Fin 384, (w n (ix2 r k) : EReal) * v (ix2 k l) := by
  rw [headValues_apply]
  pointwise [values]
  exact Finset.sum_congr rfl fun k _ => congrArg (· * _) (stack4 (fun n r => (w n (ix2 r k) : EReal)) n r)

/-- A head's row of logits: the scores under the two biases. -/
def logits (bp bn : FVec Ideal S128x128 .f32) (s : FVec Ideal S128x384 .f32) (r : Fin 128) (k : Fin 384) : EReal :=
  if h : k.val < 128 then (s (ix2 r k) : EReal) + bp (ix2 r ⟨k.val, h⟩)
  else if h : k.val - 128 < 128 then s (ix2 r k)
  else (s (ix2 r k) : EReal) + bn (ix2 r ⟨k.val - 128 - 128, by omega⟩)

/-- The keys before. -/
theorem logits_prev (bp bn : FVec Ideal S128x128 .f32) (s : FVec Ideal S128x384 .f32) (r x : Fin 128) :
    (s (ix2 r ⟨x.val, by omega⟩) : EReal) + bp (ix2 r x) = logits bp bn s r ⟨x.val, by omega⟩ := by
  unfold logits; rw [dif_pos (show x.val < 128 from x.isLt)]
/-- The block's own keys. -/
theorem logits_cur (bp bn : FVec Ideal S128x128 .f32) (s : FVec Ideal S128x384 .f32) (r x : Fin 128) :
    (s (ix2 r ⟨128 + x.val, by omega⟩) : EReal) = logits bp bn s r ⟨128 + x.val, by omega⟩ := by
  unfold logits; rw [dif_neg (by dsimp only; omega), dif_pos (by dsimp only; omega)]
/-- The keys after. -/
theorem logits_next (bp bn : FVec Ideal S128x128 .f32) (s : FVec Ideal S128x384 .f32) (r x : Fin 128) :
    (s (ix2 r ⟨256 + x.val, by omega⟩) : EReal) + bn (ix2 r x) = logits bp bn s r ⟨256 + x.val, by omega⟩ := by
  unfold logits; rw [dif_neg (by dsimp only; omega), dif_neg (by dsimp only; omega)]
  exact congrArg (fun y => (s (ix2 r ⟨256 + x.val, by omega⟩) : EReal) + bn (ix2 r y)) (Fin.ext (by dsimp only; omega))

/-- The lower infinity's pattern. -/
theorem ofBits_bot : Ideal.ofBits .f32 0xFF800000#32 = ⊥ := by simp [Ideal.ofBits, Ideal.ieee]

/-- The maximum of three thirds, lane by lane, is the maximum of all. -/
theorem fold_thirds (f : Fin 384 → EReal) :
    Finset.univ.fold max ⊥ (fun x : Fin 128 => max (max (f ⟨x.val, by omega⟩) (f ⟨128 + x.val, by omega⟩)) (f ⟨256 + x.val, by omega⟩))
      = Finset.univ.fold max ⊥ f := by
  apply le_antisymm
  · rw [Finset.fold_max_le]
    refine ⟨bot_le, fun x _ => ?_⟩
    refine max_le (max_le ?_ ?_) ?_ <;> (rw [Finset.le_fold_max]; exact Or.inr ⟨_, Finset.mem_univ _, le_refl _⟩)
  · rw [Finset.fold_max_le]
    refine ⟨bot_le, fun k _ => ?_⟩
    rw [Finset.le_fold_max]
    refine Or.inr ?_
    by_cases h1 : k.val < 128
    · exact ⟨⟨k.val, h1⟩, Finset.mem_univ _, le_max_of_le_left (le_max_left _ _)⟩
    by_cases h2 : k.val < 256
    · refine ⟨⟨k.val - 128, by omega⟩, Finset.mem_univ _, le_max_of_le_left (le_max_of_le_right (le_of_eq ?_))⟩
      exact congrArg f (Fin.ext (by dsimp only; omega))
    · refine ⟨⟨k.val - 256, by omega⟩, Finset.mem_univ _, le_max_of_le_right (le_of_eq ?_)⟩
      exact congrArg f (Fin.ext (by dsimp only; omega))

/-- The sum of three thirds, lane by lane, is the sum of all. -/
theorem sum_thirds (f : Fin 384 → EReal) :
    ∑ x : Fin 128, (f ⟨x.val, by omega⟩ + f ⟨128 + x.val, by omega⟩ + f ⟨256 + x.val, by omega⟩) = ∑ k, f k := by
  rw [Finset.sum_add_distrib, Finset.sum_add_distrib, Fin.sum_univ_two_halves 128 256 rfl f,
    Fin.sum_univ_two_halves 128 128 rfl (fun i : Fin 256 => f ⟨128 + i.val, by omega⟩), ← add_assoc]
  refine congrArg₂ (· + ·) rfl (Finset.sum_congr rfl fun x _ => congrArg f (Fin.ext (show 256 + x.val = 128 + (128 + x.val) by omega)))

/-- A row's maximum. -/
theorem rowMax_apply (bp bn : FVec Ideal S128x128 .f32) (s : FVec Ideal S128x384 .f32) (sink : EReal) (r : Fin 128) :
    (rowMax (F := Ideal) bp bn s sink (ix2 r 0) : EReal) = top (logits bp bn s r) sink := by
  pointwise [rowMax, sPrev, sCur, sNext]
  unfold top
  rw [ofBits_bot, ← fold_thirds]
  simp only [← logits_prev, ← logits_cur, ← logits_next]

/-- A row's denominator. -/
theorem denom_apply (bp bn : FVec Ideal S128x128 .f32) (s : FVec Ideal S128x384 .f32) (sink : EReal) (r : Fin 128) :
    (denom (F := Ideal) bp bn s sink (ix2 r 0) : EReal) = den (logits bp bn s r) sink := by
  have hm := rowMax_apply bp bn s sink r
  unfold denom
  generalize rowMax (F := Ideal) bp bn s sink = mx at hm ⊢
  pointwise [expo, sPrev, sCur, sNext]
  unfold den wgt
  rw [← hm, ← sum_thirds]
  simp only [← logits_prev, ← logits_cur, ← logits_next]

/-- A head's weights before the division. -/
theorem weights_apply (bp bn : FVec Ideal S128x128 .f32) (s : FVec Ideal S128x384 .f32) (sink : EReal) (r : Fin 128) (k : Fin 384) :
    (weights (F := Ideal) bp bn s sink (ix2 r k) : EReal) = wgt (logits bp bn s r) sink k := by
  have hm := rowMax_apply bp bn s sink r
  unfold weights
  generalize rowMax (F := Ideal) bp bn s sink = mx at hm ⊢
  pointwise [expo, sPrev, sCur, sNext]
  unfold wgt
  rw [← hm]
  unfold logits
  by_cases h1 : k.val < 128
  · rw [dif_pos h1, dif_pos h1]
  by_cases h2 : k.val - 128 < 128
  · rw [dif_neg h1, dif_pos h2, dif_neg h1, dif_pos h2]
    exact congrArg (fun y => Ideal.exp ((s (ix2 r y) : EReal) - mx (ix2 r 0))) (Fin.ext (by dsimp only; omega))
  · rw [dif_neg h1, dif_neg h2, dif_neg h1, dif_neg h2]
    exact congrArg (fun y => Ideal.exp ((s (ix2 r y) : EReal) + bn (ix2 r ⟨k.val - 128 - 128, by omega⟩) - mx (ix2 r 0))) (Fin.ext (by dsimp only; omega))

/-- A head of a stack at an index: the softmax row over the values' lane. -/
theorem stackOut_apply (bp bn : FVec Ideal S128x128 .f32) (s : FVec Ideal S512x384 .f32) (v : FVec Ideal S384x128 .bf16)
    (sk : Fin 4 → EReal) (n : Fin 4) (r l : Fin 128) :
    (stackOut (F := Ideal) bp bn s v sk n (ix2 r l) : EReal) = attn (logits bp bn (headScores n s) r) (sk n) (fun k => v (ix2 k l)) := by
  have hd := denom_apply bp bn (headScores n s) (sk n) r
  have hv := values_apply v (fun i => weights (F := Ideal) bp bn (headScores i s) (sk i)) n r l
  unfold stackOut attn
  generalize denom (F := Ideal) bp bn (headScores n s) (sk n) = dd at hd ⊢
  rw [← hd]
  simp only [weights_apply] at hv
  rw [← hv]
  generalize headValues n _ = nn
  pointwise

/-- Logits under the two biases. -/
def biased (bp bn : FVec Ideal S128x128 .f32) (dt : Fin 384 → EReal) (r : Fin 128) (k : Fin 384) : EReal :=
  if h : k.val < 128 then dt k + bp (ix2 r ⟨k.val, h⟩)
  else if h : k.val - 128 < 128 then dt k
  else dt k + bn (ix2 r ⟨k.val - 128 - 128, by omega⟩)

/-- A row of queries against a row of keys, over the lanes of a half. -/
def dots (q : Vec Ideal S128x128 .bf16) (K : FVec Ideal S384x128 .bf16) (f : Fin 2) (r : Fin 128) (k : Fin 384) : EReal :=
  ∑ d : Fin 64, (q (ix2 r (lane f d)) : EReal) * K (ix2 k (lane f d))

/-- A stack's row of logits, at a place whose queries are masked to a half. -/
theorem logits_stack (bp bn : FVec Ideal S128x128 .f32) (K : FVec Ideal S384x128 .bf16) (w : Fin 4 → FVec Ideal S128x128 .bf16) (n : Fin 4)
    (f : Fin 2) (q : Vec Ideal S128x128 .bf16) (hw : w n = keep (half f) q) (r : Fin 128) :
    logits bp bn (headScores n (scores K (w 0) (w 1) (w 2) (w 3))) r = biased bp bn (dots q K f r) r := by
  funext k
  unfold logits biased
  have h : ∀ k, (headScores n (scores K (w 0) (w 1) (w 2) (w 3)) (ix2 r k) : EReal) = dots q K f r k := fun k => by
    rw [scores_apply, hw]
    exact keep_sum f q (fun l => K (ix2 k l)) r
  simp only [h]

/-- The queries' masks of the stack that meets the keys as they are. -/
def stackA (q : Fin 4 → Vec Ideal S128x128 .bf16) : Fin 4 → FVec Ideal S128x128 .bf16 :=
  ![keep low (q 0), keep low (q 1), keep high (q 2), keep high (q 3)]
/-- The queries' masks of the stack that meets the keys with their halves swapped. -/
def stackB (q : Fin 4 → Vec Ideal S128x128 .bf16) : Fin 4 → FVec Ideal S128x128 .bf16 :=
  ![keep high (q 0), keep high (q 1), keep low (q 2), keep low (q 3)]

/-- A pair's output at a lane of the low half. -/
theorem pairOut_low (e o : FVec Ideal S128x128 .f32) (r : Fin 128) (d : Fin 64) : (pairOut e o (ix2 r (lane 0 d)) : EReal) = e (ix2 r (lane 0 d)) := by
  have h := low_apply r (lane 0 d)
  rw [if_pos (by show 64 * 0 + d.val < 64; omega)] at h
  unfold pairOut
  generalize low = w at h ⊢
  pointwise
  rw [h]
  rfl

/-- A pair's output at a lane of the high half. -/
theorem pairOut_high (e o : FVec Ideal S128x128 .f32) (r : Fin 128) (d : Fin 64) : (pairOut e o (ix2 r (lane 1 d)) : EReal) = o (ix2 r (lane 1 d)) := by
  have h := low_apply r (lane 1 d)
  rw [if_neg (by show ¬64 * 1 + d.val < 64; omega)] at h
  unfold pairOut
  generalize low = w at h ⊢
  pointwise
  rw [h]
  rfl

/-- The stack and the values that a half of a pair takes: 0 as they are, 1 with the halves swapped. -/
def side (p : Fin 4) (f : Fin 2) : Fin 2 := if f.val = p.val / 2 then 0 else 1

/-- A pair of heads at a lane: the softmax row of the lane's head. -/
theorem subPair_apply (bp bn : FVec Ideal S128x128 .f32) (K V : Fin 2 → FVec Ideal S384x128 .bf16) (q : Fin 4 → Vec Ideal S128x128 .bf16)
    (sk : Fin 8 → EReal) (p : Fin 4) (r : Fin 128) (f : Fin 2) (d : Fin 64) :
    (subPair (F := Ideal) bp bn (K 0) (K 1) (V 0) (V 1) q sk p (ix2 r (lane f d)) : EReal)
      = attn (biased bp bn (dots (q p) (K (side p f)) f r) r) (sk ⟨2 * p.val + f.val, by omega⟩) (fun k => V (side p f) (ix2 k (lane f d))) := by
  have hA : ∀ (n : Fin 4) (f : Fin 2), stackA q n = keep (half f) (q n) →
      (stackOut (F := Ideal) bp bn (scores (K 0) (keep low (q 0)) (keep low (q 1)) (keep high (q 2)) (keep high (q 3))) (V 0)
        (fun n => sk (headsA n)) n (ix2 r (lane f d)) : EReal)
      = attn (biased bp bn (dots (q n) (K 0) f r) r) (sk (headsA n)) (fun k => V 0 (ix2 k (lane f d))) := fun n f h => by
    rw [stackOut_apply, ← logits_stack bp bn (K 0) (stackA q) n f (q n) h r]
    rfl
  have hB : ∀ (n : Fin 4) (f : Fin 2), stackB q n = keep (half f) (q n) →
      (stackOut (F := Ideal) bp bn (scores (K 1) (keep high (q 0)) (keep high (q 1)) (keep low (q 2)) (keep low (q 3))) (V 1)
        (fun n => sk (headsB n)) n (ix2 r (lane f d)) : EReal)
      = attn (biased bp bn (dots (q n) (K 1) f r) r) (sk (headsB n)) (fun k => V 1 (ix2 k (lane f d))) := fun n f h => by
    rw [stackOut_apply, ← logits_stack bp bn (K 1) (stackB q) n f (q n) h r]
    rfl
  unfold subPair
  fin_cases p <;> fin_cases f
  · exact (pairOut_low _ _ r d).trans (hA 0 0 rfl)
  · exact (pairOut_high _ _ r d).trans (hB 0 1 rfl)
  · exact (pairOut_low _ _ r d).trans (hA 1 0 rfl)
  · exact (pairOut_high _ _ r d).trans (hB 1 1 rfl)
  · exact (pairOut_low _ _ r d).trans (hB 2 0 rfl)
  · exact (pairOut_high _ _ r d).trans (hA 2 1 rfl)
  · exact (pairOut_low _ _ r d).trans (hB 3 0 rfl)
  · exact (pairOut_high _ _ r d).trans (hA 3 1 rfl)

end Cert.KernelIdeal.Words

end
-- ==== Proof.Lit.lean ====
/- The literal biases before and after a sub-block. -/
module

public import proofs.«01_k».proof.Proof.Gen.KernelIdeal.Skeleton
public import Idealize.ShloMosaic.Lib.Pointwise

@[expose] public section

set_option maxRecDepth 16384

namespace Cert.KernelIdeal.Words

open Cert.KernelIdeal Cert.KernelIdeal.Gen Idealize.ShloMosaic Idealize.ShloMosaic.Tactic

/-- A place of the biases' table. -/
theorem lit_bound (r l : Fin 128) (w : ℕ) (hw : w ≤ 128) : 256 * r.val + (w + l.val) < S128x256.numel :=
  Nat.lt_of_lt_of_le (by omega : 256 * r.val + (w + l.val) < 32768) (by decide)

/-- The table's literals before: zero from the diagonal on, else the lower infinity's pattern. -/
theorem lit_prev_table : ∀ r l : Fin 128, lit0 ⟨256 * r.val + (0 + l.val), lit_bound r l 0 (by decide)⟩ = if r.val ≤ l.val then 0x00000000#32 else 0xFF800000#32 := by
  decide +kernel

/-- The literal biases before: zero from the diagonal on, else the lower infinity's pattern. -/
theorem lit_prev (r l : Fin 128) : lit0 (S128x256.rowMajor (ix2 r ⟨l.val, by omega⟩)) = if r.val ≤ l.val then 0x00000000#32 else 0xFF800000#32 := by
  have e : S128x256.rowMajor (ix2 r ⟨l.val, by omega⟩) = ⟨256 * r.val + (0 + l.val), lit_bound r l 0 (by decide)⟩ := by
    apply Fin.ext
    rw [Shape.rowMajor_val_two]
    show r.val * 256 + l.val = 256 * r.val + (0 + l.val)
    omega
  rw [e, lit_prev_table]

/-- The table's literals after: zero up to the diagonal, else the lower infinity's pattern. -/
theorem lit_next_table : ∀ r l : Fin 128, lit0 ⟨256 * r.val + (128 + l.val), lit_bound r l 128 (by decide)⟩ = if l.val ≤ r.val then 0x00000000#32 else 0xFF800000#32 := by
  decide +kernel

/-- The literal biases after: zero up to the diagonal, else the lower infinity's pattern. -/
theorem lit_next (r l : Fin 128) : lit0 (S128x256.rowMajor (ix2 r ⟨128 + l.val, by omega⟩)) = if l.val ≤ r.val then 0x00000000#32 else 0xFF800000#32 := by
  have e : S128x256.rowMajor (ix2 r ⟨128 + l.val, by omega⟩) = ⟨256 * r.val + (128 + l.val), lit_bound r l 128 (by decide)⟩ := by
    apply Fin.ext
    rw [Shape.rowMajor_val_two]
    show r.val * 256 + (128 + l.val) = 256 * r.val + (128 + l.val)
    omega
  rw [e, lit_next_table]

end Cert.KernelIdeal.Words

end
-- ==== Proof.AttTile.lean ====
/- The attention's tile: what is stored for a pair of heads of a sub-block, in terms of the rows of queries, keys and values. -/
module

public import proofs.«01_k».proof.Proof.AttRead
public import proofs.«01_k».proof.Proof.Lit

@[expose] public section

set_option maxRecDepth 16384

noncomputable section

namespace Cert.KernelIdeal.Words

open Cert.KernelIdeal Cert.KernelIdeal.Gen Idealize.ShloMosaic Idealize.ShloMosaic.TcCoe Idealize.ShloMosaic.Tactic
open Cert.Spec

/-- A row of the 768 around a tile. -/
theorem around_apply (kp : Vec Ideal S128x512 .bf16) (kc : Vec Ideal S512x512 .bf16) (kn : Vec Ideal S128x512 .bf16) (col : Fin 4)
    (R : Fin 768) (l : Fin 128) :
    (Track.around kp kc kn col (ix2 R l) : EReal) = if h : R.val < 128 then kp (ix2 ⟨R.val, h⟩ ⟨128 * col.val + l.val, by omega⟩)
      else if h' : R.val - 128 < 512 then kc (ix2 ⟨R.val - 128, h'⟩ ⟨128 * col.val + l.val, by omega⟩)
      else kn (ix2 ⟨R.val - 128 - 512, by omega⟩ ⟨128 * col.val + l.val, by omega⟩) := by
  pointwise [Track.around, band3]

/-- The 384 rows of a sub-block. -/
theorem rows384_apply (j : Fin 4) (a : FVec Ideal S768x128 .bf16) (k : Fin 384) (l : Fin 128) :
    (rows384 j a (ix2 k l) : EReal) = a (ix2 ⟨128 * j.val + k.val, by omega⟩ l) := by
  fin_cases j <;> (pointwise [rows384]; try rfl)

/-- A sink as the body loads it. -/
theorem sinkAt_apply (x9 : Vec Ideal S8 .f32) (h : Fin 8) : (Track.sinkAt x9 h : EReal) = x9 (ix1 h) := by
  pointwise [Track.sinkAt]

/-- A half of the biases at an index. -/
theorem bandAt_apply (x10 : Vec Ideal S128x256 .f32) (w : Fin 2) (r l : Fin 128) :
    (Track.bandAt x10 w (ix2 r l) : EReal) = x10 (ix2 r ⟨128 * w.val + l.val, by omega⟩) := by
  pointwise [Track.bandAt]

/-- The zero pattern. -/
theorem ofBits_zero : Ideal.ofBits .f32 0x00000000#32 = 0 := Ideal.ofBits_zero_f32

section
variable {n : ℕ} (T : Fin n) (x9 : Vec Ideal S8 .f32) (x10 : Vec Ideal S128x256 .f32) (q : Vec Ideal S512x512 .bf16) (kp : Vec Ideal S128x512 .bf16)
  (kc : Vec Ideal S512x512 .bf16) (kn : Vec Ideal S128x512 .bf16) (f0 f1 : EReal)
  (h10 : ∀ r l, (x10 (ix2 r l) : EReal) = Ideal.ofBits .f32 (lit0 (S128x256.rowMajor (ix2 r l))))

include h10 in
/-- The bias before a sub-block. -/
theorem biasPrev_apply (hf0 : f0 = if T.val % 16 = 0 then ⊥ else 0) (j : Fin 4) (r l : Fin 128) :
    (Track.biasPrev (F := Ideal) x10 f0 j (ix2 r l) : EReal) = if r.val ≤ l.val ∧ ¬(j.val = 0 ∧ T.val % 16 = 0) then 0 else ⊥ := by
  have hb : (Track.bandAt x10 0 (ix2 r l) : EReal) = if r.val ≤ l.val then 0 else ⊥ := by
    rw [bandAt_apply, h10]
    have h := lit_prev r l
    have e : (⟨128 * (0 : Fin 2).val + l.val, by simp; omega⟩ : Fin 256) = ⟨l.val, by omega⟩ := Fin.ext (by simp)
    rw [e, h]
    split
    · exact ofBits_zero
    · exact ofBits_bot
  have h0 : (Track.biasPrev (F := Ideal) x10 f0 0 (ix2 r l) : EReal) = Track.bandAt x10 0 (ix2 r l) + f0 := by
    unfold Track.biasPrev
    generalize Track.bandAt x10 0 = b
    pointwise
  fin_cases j
  · show (Track.biasPrev (F := Ideal) x10 f0 0 (ix2 r l) : EReal) = _
    rw [h0, hb, hf0]
    by_cases h1 : r.val ≤ l.val <;> by_cases h2 : T.val % 16 = 0 <;> simp [h1, h2]
  all_goals
    refine hb.trans ?_
    by_cases h1 : r.val ≤ l.val <;> simp [h1]

include h10 in
/-- The bias after a sub-block. -/
theorem biasNext_apply (hf1 : f1 = if T.val % 16 = 15 then ⊥ else 0) (j : Fin 4) (r l : Fin 128) :
    (Track.biasNext (F := Ideal) x10 f1 j (ix2 r l) : EReal) = if l.val ≤ r.val ∧ ¬(j.val = 3 ∧ T.val % 16 = 15) then 0 else ⊥ := by
  have hb : (Track.bandAt x10 1 (ix2 r l) : EReal) = if l.val ≤ r.val then 0 else ⊥ := by
    rw [bandAt_apply, h10]
    have h := lit_next r l
    have e : (⟨128 * (1 : Fin 2).val + l.val, by simp; omega⟩ : Fin 256) = ⟨128 + l.val, by omega⟩ := Fin.ext (by simp)
    rw [e, h]
    split
    · exact ofBits_zero
    · exact ofBits_bot
  have h0 : (Track.biasNext (F := Ideal) x10 f1 3 (ix2 r l) : EReal) = Track.bandAt x10 1 (ix2 r l) + f1 := by
    unfold Track.biasNext
    generalize Track.bandAt x10 1 = b
    pointwise
  fin_cases j
  case «3» =>
    show (Track.biasNext (F := Ideal) x10 f1 3 (ix2 r l) : EReal) = _
    rw [h0, hb, hf1]
    by_cases h1 : l.val ≤ r.val <;> by_cases h2 : T.val % 16 = 15 <;> simp [h1, h2]
  all_goals
    refine hb.trans ?_
    by_cases h1 : l.val ≤ r.val <;> simp [h1]

/-- Logits under the two biases of a sub-block: masked where the window or the sequence ends. -/
theorem biased_apply (hf0 : f0 = if T.val % 16 = 0 then ⊥ else 0) (hf1 : f1 = if T.val % 16 = 15 then ⊥ else 0)
    (h10 : ∀ r l, (x10 (ix2 r l) : EReal) = Ideal.ofBits .f32 (lit0 (S128x256.rowMajor (ix2 r l))))
    (j : Fin 4) (dt : Fin 384 → EReal) (r : Fin 128) (k : Fin 384) :
    biased (Track.biasPrev (F := Ideal) x10 f0 j) (Track.biasNext (F := Ideal) x10 f1 j) dt r k
      = if Okay (⟨4 * T.val + j.val, by omega⟩ : Fin (4 * n)) r k then dt k else ⊥ := by
  unfold biased
  have hr := r.isLt
  have hk := k.isLt
  have hj := j.isLt
  by_cases h1 : k.val < 128
  · rw [dif_pos h1, biasPrev_apply T x10 f0 h10 hf0]
    by_cases h : Okay (⟨4 * T.val + j.val, by omega⟩ : Fin (4 * n)) r k
    · rw [if_pos h, if_pos ⟨h.1, by have := h.2.2.1; dsimp only at this; omega⟩, add_zero]
    · rw [if_neg h, if_neg, EReal.add_bot]
      intro hh
      refine h ⟨hh.1, ?_, ?_, ?_⟩ <;> (try dsimp only) <;> (have := hh.2; omega)
  by_cases h2 : k.val - 128 < 128
  · rw [dif_neg h1, dif_pos h2, if_pos]
    refine ⟨?_, ?_, ?_, ?_⟩ <;> (try dsimp only) <;> omega
  · rw [dif_neg h1, dif_neg h2, biasNext_apply T x10 f1 h10 hf1]
    by_cases h : Okay (⟨4 * T.val + j.val, by omega⟩ : Fin (4 * n)) r k
    · rw [if_pos h, if_pos ⟨by have := h.2.1; dsimp only; omega, by have := h.2.2.2; dsimp only at this; omega⟩, add_zero]
    · rw [if_neg h, if_neg, EReal.add_bot]
      intro hh
      have h3 := hh.1
      dsimp only at h3
      refine h ⟨?_, ?_, ?_, ?_⟩ <;> (try dsimp only) <;> (have := hh.2; omega)

end

end Cert.KernelIdeal.Words

end
-- ==== Proof.AttEntry.lean ====
/- A stored piece of attention at an index: the attention row of its query and head. -/
module

public import proofs.«01_k».proof.Proof.AttTile

@[expose] public section

set_option maxRecDepth 16384

noncomputable section

namespace Cert.KernelIdeal.Words

open Cert.KernelIdeal Cert.KernelIdeal.Gen Idealize.ShloMosaic Idealize.ShloMosaic.TcCoe Idealize.ShloMosaic.Tactic
open Cert.Spec

/-- The two stacks' keys or values of a sub-block: columns 0 and 1, or 2 and 3, of the staged rows. -/
def sides (kp : Vec Ideal S128x512 .bf16) (kc : Vec Ideal S512x512 .bf16) (kn : Vec Ideal S128x512 .bf16) (j : Fin 4) (w : Fin 2) (s : Fin 2) :
    FVec Ideal S384x128 .bf16 := rows384 j (Track.around kp kc kn ⟨2 * w.val + s.val, by omega⟩)

/-- A piece at an index is its pair of heads at the index. -/
theorem attPiece_read (x9 : Vec Ideal S8 .f32) (x10 : Vec Ideal S128x256 .f32) (q : Vec Ideal S512x512 .bf16) (kp : Vec Ideal S128x512 .bf16)
    (kc : Vec Ideal S512x512 .bf16) (kn : Vec Ideal S128x512 .bf16) (f0 f1 : EReal) (j p : Fin 4) (r : Fin 128) (f : Fin 2) (d : Fin 64) :
    (Track.attPiece (F := Ideal) x9 x10 q kp kc kn f0 f1 j p (ix3 0 r (lane f d)) : EReal)
      = attn (biased (Track.biasPrev (F := Ideal) x10 f0 j) (Track.biasNext (F := Ideal) x10 f1 j)
          (dots (View.ld q (Rect.unit ![128 * j.val, 128 * p.val] S128x128.size (Track.inb_q j p))) (sides kp kc kn j 0 (side p f)) f r) r)
        (x9 (ix1 ⟨2 * p.val + f.val, by omega⟩)) (fun k => sides kp kc kn j 1 (side p f) (ix2 k (lane f d))) := by
  rw [← sinkAt_apply x9]
  refine Eq.trans ?_ (subPair_apply (Track.biasPrev (F := Ideal) x10 f0 j) (Track.biasNext (F := Ideal) x10 f1 j) (sides kp kc kn j 0)
    (sides kp kc kn j 1) (fun n => View.ld q (Rect.unit ![128 * j.val, 128 * n.val] S128x128.size (Track.inb_q j n))) (Track.sinkAt x9) p r f d)
  unfold Track.attPiece
  show _ = (subPair (F := Ideal) (Track.biasPrev (F := Ideal) x10 f0 j) (Track.biasNext (F := Ideal) x10 f1 j) (rows384 j (Track.around kp kc kn 0))
    (rows384 j (Track.around kp kc kn 1)) (rows384 j (Track.around kp kc kn 2)) (rows384 j (Track.around kp kc kn 3)) _ _ p (ix2 r (lane f d)) : EReal)
  generalize subPair (F := Ideal) (Track.biasPrev (F := Ideal) x10 f0 j) (Track.biasNext (F := Ideal) x10 f1 j) (rows384 j (Track.around kp kc kn 0))
    (rows384 j (Track.around kp kc kn 1)) (rows384 j (Track.around kp kc kn 2)) (rows384 j (Track.around kp kc kn 3)) _ _ p = sp
  generalize lane f d = l
  pointwise

/-- A row of a sub-block's keys or values that is not masked, among all rows. -/
theorem sides_apply (T : Fin 32) (KV : Fin 16384 → Fin 512 → EReal) (kp : Vec Ideal S128x512 .bf16)
    (kc : Vec Ideal S512x512 .bf16) (kn : Vec Ideal S128x512 .bf16)
    (hp : ∀ (r : Fin 128) (l : Fin 512), 0 < T.val → (kp (ix2 r l) : EReal) = KV ⟨512 * T.val - 128 + r.val, by omega⟩ l)
    (hc : ∀ (r : Fin 512) (l : Fin 512), (kc (ix2 r l) : EReal) = KV ⟨512 * T.val + r.val, by omega⟩ l)
    (hn : ∀ (r : Fin 128) (l : Fin 512) (h : T.val < 31), (kn (ix2 r l) : EReal) = KV ⟨512 * T.val + 512 + r.val, by omega⟩ l)
    (j : Fin 4) (w s : Fin 2) (r : Fin 128) (k : Fin 384) (l : Fin 128) (hk : Okay (⟨4 * T.val + j.val, by omega⟩ : Fin 128) r k) :
    (sides kp kc kn j w s (ix2 k l) : EReal) = KV (keyRow ⟨4 * T.val + j.val, by omega⟩ k) ⟨128 * (2 * w.val + s.val) + l.val, by omega⟩ := by
  unfold sides
  rw [rows384_apply, around_apply]
  have h3 := hk.2.2.1
  have h4 := hk.2.2.2
  dsimp only at h3 h4
  have hT := T.isLt
  have hj := j.isLt
  have hkk := k.isLt
  dsimp only
  by_cases h1 : 128 * j.val + k.val < 128
  · rw [dif_pos h1, hp _ _ (by omega)]
    exact congrArg (fun R => KV R _) (Fin.ext (by simp only [keyRow]; omega))
  by_cases h2 : 128 * j.val + k.val - 128 < 512
  · rw [dif_neg h1, dif_pos h2, hc]
    exact congrArg (fun R => KV R _) (Fin.ext (by simp only [keyRow]; omega))
  · rw [dif_neg h1, dif_neg h2, hn _ _ (by omega)]
    exact congrArg (fun R => KV R _) (Fin.ext (by simp only [keyRow]; omega))

/-- A pair's queries as the body loads them, at an index. -/
theorem ldq_apply (q : Vec Ideal S512x512 .bf16) (j p : Fin 4) (r l : Fin 128) :
    (View.ld q (Rect.unit ![128 * j.val, 128 * p.val] S128x128.size (Track.inb_q j p)) (ix2 r l) : EReal)
      = q (ix2 ⟨128 * j.val + r.val, by omega⟩ ⟨128 * p.val + l.val, by omega⟩) := by
  pointwise

/-- A stored piece at an index is the attention row of its query and head, the queries and keys being reals. -/
theorem attPiece_apply (T : Fin 32) (Q : Fin 16384 → Fin 512 → EReal) (K V : Fin 16384 → Fin 128 → EReal) (S : Fin 8 → EReal)
    (KV : Fin 16384 → Fin 512 → EReal) (x9 : Vec Ideal S8 .f32) (x10 : Vec Ideal S128x256 .f32) (q : Vec Ideal S512x512 .bf16)
    (kp : Vec Ideal S128x512 .bf16) (kc : Vec Ideal S512x512 .bf16) (kn : Vec Ideal S128x512 .bf16) (f0 f1 : EReal)
    (hf0 : f0 = if T.val % 16 = 0 then ⊥ else 0) (hf1 : f1 = if T.val % 16 = 15 then ⊥ else 0)
    (h9 : ∀ h, (x9 (ix1 h) : EReal) = S h)
    (h10 : ∀ r l, (x10 (ix2 r l) : EReal) = Ideal.ofBits .f32 (lit0 (S128x256.rowMajor (ix2 r l))))
    (hq : ∀ (r : Fin 512) (l : Fin 512), (q (ix2 r l) : EReal) = Q ⟨512 * T.val + r.val, by omega⟩ l * Ideal.ofBits .f32 0x3E000000#32)
    (hp : ∀ (r : Fin 128) (l : Fin 512), 0 < T.val → (kp (ix2 r l) : EReal) = KV ⟨512 * T.val - 128 + r.val, by omega⟩ l)
    (hc : ∀ (r : Fin 512) (l : Fin 512), (kc (ix2 r l) : EReal) = KV ⟨512 * T.val + r.val, by omega⟩ l)
    (hn : ∀ (r : Fin 128) (l : Fin 512) (h : T.val < 31), (kn (ix2 r l) : EReal) = KV ⟨512 * T.val + 512 + r.val, by omega⟩ l)
    (hK : ∀ R (p : Fin 4) (f : Fin 2) (d : Fin 64), KV R ⟨128 * (2 * (0 : Fin 2).val + (side p f).val) + (lane f d).val, by have := (side p f).isLt; have := (lane f d).isLt; simp only [Fin.val_zero]; omega⟩ = K R ⟨64 * (p.val / 2) + d.val, by omega⟩)
    (hV : ∀ R (p : Fin 4) (f : Fin 2) (d : Fin 64), KV R ⟨128 * (2 * (1 : Fin 2).val + (side p f).val) + (lane f d).val, by have := (side p f).isLt; have := (lane f d).isLt; simp only [Fin.val_one]; omega⟩ = V R ⟨64 * (p.val / 2) + d.val, by omega⟩)
    (hQr : ∀ a b, ∃ x : ℝ, Q a b = (x : EReal)) (hKr : ∀ a b, ∃ x : ℝ, K a b = (x : EReal))
    (j p : Fin 4) (r : Fin 128) (f : Fin 2) (d : Fin 64) :
    (Track.attPiece (F := Ideal) x9 x10 q kp kc kn f0 f1 j p (ix3 0 r (lane f d)) : EReal)
      = attRow Q K V S ⟨4 * T.val + j.val, by omega⟩ r ⟨2 * p.val + f.val, by omega⟩ d := by
  rw [attPiece_read]
  unfold attRow
  have hb : ∀ k, biased (Track.biasPrev (F := Ideal) x10 f0 j) (Track.biasNext (F := Ideal) x10 f1 j)
      (dots (View.ld q (Rect.unit ![128 * j.val, 128 * p.val] S128x128.size (Track.inb_q j p))) (sides kp kc kn j 0 (side p f)) f r) r k
      = if Okay (⟨4 * T.val + j.val, by omega⟩ : Fin 128) r k then
          dots (View.ld q (Rect.unit ![128 * j.val, 128 * p.val] S128x128.size (Track.inb_q j p))) (sides kp kc kn j 0 (side p f)) f r k
        else ⊥ :=
    biased_apply T x10 f0 f1 hf0 hf1 h10 j _ r
  have hh : (2 * p.val + f.val) / 4 = p.val / 2 := by omega
  refine attn_congr (fun k => ?_) (h9 _) (fun k hk => ?_)
  · rw [hb]
    unfold logit
    by_cases h : Okay (⟨4 * T.val + j.val, by omega⟩ : Fin 128) r k
    · rw [if_pos h, if_pos h]
      unfold dots
      have he : ∀ d : Fin 64, (View.ld q (Rect.unit ![128 * j.val, 128 * p.val] S128x128.size (Track.inb_q j p)) (ix2 r (lane f d)) : EReal)
          = Q ⟨128 * (4 * T.val + j.val) + r.val, by omega⟩ ⟨64 * (2 * p.val + f.val) + d.val, by omega⟩ * Ideal.ofBits .f32 0x3E000000#32 := fun d => by
        rw [ldq_apply, hq]
        refine congrArg₂ (fun a b => Q a b * Ideal.ofBits .f32 0x3E000000#32) (Fin.ext ?_) (Fin.ext ?_)
        · show 512 * T.val + (128 * j.val + r.val) = 128 * (4 * T.val + j.val) + r.val; omega
        · show 128 * p.val + (64 * f.val + d.val) = 64 * (2 * p.val + f.val) + d.val; omega
      have hs : ∀ d : Fin 64, (sides kp kc kn j 0 (side p f) (ix2 k (lane f d)) : EReal)
          = K (keyRow ⟨4 * T.val + j.val, by omega⟩ k) ⟨64 * ((2 * p.val + f.val) / 4) + d.val, by omega⟩ := fun d => by
        rw [sides_apply T KV kp kc kn hp hc hn j 0 (side p f) r k (lane f d) h, hK]
        exact congrArg (K _) (Fin.ext (by simp only [hh]))
      simp only [he, hs]
      choose Q' hQ' using hQr
      choose K' hK' using hKr
      have hc8 : ∃ x : ℝ, Ideal.ofBits .f32 0x3E000000#32 = (x : EReal) := by
        refine ⟨1 / 8, ?_⟩
        simp [Ideal.ofBits, Ideal.ieee, -EReal.coe_mul]; norm_num
      obtain ⟨x, hx⟩ := hc8
      simp only [hQ', hK', hx, ← EReal.coe_mul, ← coe_sum]
      refine congrArg _ ?_
      rw [Finset.sum_mul]
      exact Finset.sum_congr rfl fun d _ => by ring
    · rw [if_neg h, if_neg h]
  · have h : Okay (⟨4 * T.val + j.val, by omega⟩ : Fin 128) r k := by
      by_contra h
      rw [hb, if_neg h] at hk
      exact hk rfl
    rw [sides_apply T KV kp kc kn hp hc hn j 1 (side p f) r k (lane f d) h, hV]
    exact congrArg (V _) (Fin.ext (by simp only [hh]))

end Cert.KernelIdeal.Words

end
-- ==== Proof.DenseRead.lean ====
/- The dense part of a grid point at an index, over the ideal numbers: each row is the row function of `Spec.lean`. -/
module

public import proofs.«01_k».proof.Proof.Body
public import proofs.«01_k».proof.Proof.Spec
public import Idealize.ShloMosaic.Lib.Pointwise

@[expose] public section

set_option maxRecDepth 16384

noncomputable section

namespace Cert.KernelIdeal.Words

open Cert.KernelIdeal Cert.KernelIdeal.Gen Idealize.ShloMosaic Idealize.ShloMosaic.TcCoe Idealize.ShloMosaic.Tactic
open Cert.Spec

/-- One head's columns are columns of the tile. -/
theorem headCols_apply (h : Fin 4) (a : FVec Ideal S512x512 .f32) (r : Fin 512) (d : Fin 128) :
    headCols h a (ix2 r d) = a (ix2 r ⟨128 * h.val + d.val, by omega⟩) := by
  fin_cases h <;> (pointwise [headCols]; try rfl)

/-- One normalised and gated head at an index. -/
theorem headNorm_apply (o g : FVec Ideal S512x128 .f32) (gain : Vec Ideal S1x128 .f32) (r : Fin 512) (d : Fin 128) :
    (headNorm o g gain (ix2 r d) : EReal) = (o (ix2 r d) : EReal) * Ideal.rsqrt (Ideal.div (∑ k : Fin 128, (o (ix2 r k) : EReal) * o (ix2 r k))
    (Ideal.ofBits .f32 0x43000000#32) + Ideal.ofBits .f32 0x358637BD#32) * (gain (ix2 0 d) : EReal) * (g (ix2 r d) : EReal) := by
  pointwise [headNorm]

/-- A chunk's projection at an index. -/
theorem proj_apply (h : FVec Ideal S512x1024 .bf16) (w : Vec Ideal S1024x256 .bf16) (r : Fin 512) (n : Fin 256) :
    (proj h w (ix2 r n) : EReal) = ∑ k : Fin 1024, (h (ix2 r k) : EReal) * w (ix2 k n) := by
  pointwise [proj]

/-- A chunk's share at an index. -/
theorem chunk_apply (h : FVec Ideal S512x1024 .bf16) (wg wu : Vec Ideal S1024x256 .bf16) (wo : Vec Ideal S256x1024 .bf16) (r : Fin 512) (c : Fin 1024) :
    (chunk h wg wu wo (ix2 r c) : EReal) = ∑ n : Fin 256, ((∑ k : Fin 1024, (h (ix2 r k) : EReal) * wg (ix2 k n))
      * Ideal.logistic (∑ k : Fin 1024, (h (ix2 r k) : EReal) * wg (ix2 k n)) * ∑ k : Fin 1024, (h (ix2 r k) : EReal) * wu (ix2 k n))
      * (wo (ix2 n c) : EReal) := by
  simp only [← proj_apply]
  generalize hg : proj h wg = pg
  generalize hu : proj h wu = pu
  unfold chunk
  rw [hg, hu]
  pointwise

/-- The normalised residual at an index. -/
theorem normed_apply (x : FVec Ideal S512x1024 .f32) (gain : Vec Ideal S1x1024 .f32) (r : Fin 512) (c : Fin 1024) :
    (normed x gain (ix2 r c) : EReal) = normRow (fun k => x (ix2 r k)) (fun k => gain (ix2 0 k)) c := by
  unfold normRow
  pointwise [normed]

/-- A normalised and gated head of the tile at an index. -/
theorem headMix (f b g : Vec Ideal S512x512 .f32) (gain : Vec Ideal S1x128 .f32) (r : Fin 512) (h : Fin 4) (d : Fin 128) :
    (headNorm (headCols h (addf f b)) (headCols h g) gain (ix2 r d) : EReal)
      = headRow (fun k => (f (ix2 r k) : EReal) + b (ix2 r k)) (fun k => g (ix2 r k)) (fun k => gain (ix2 0 k)) h d := by
  rw [headNorm_apply]
  simp only [headCols_apply]
  rfl

/-- The residual after the mixers at an index. -/
theorem mixed_apply (x : Vec Ideal S512x1024 .f32) (f b g : Vec Ideal S512x512 .f32) (gain : Vec Ideal S1x128 .f32)
    (w : Vec Ideal S1024x1024 .bf16) (att : Vec Ideal S1x512x512 .bf16) (r : Fin 512) (c : Fin 1024) :
    (mixed x f b g gain w att (ix2 r c) : EReal) = resRow (fun k => x (ix2 r k)) (mixRow (fun k => (f (ix2 r k) : EReal) + b (ix2 r k)) (fun k => g (ix2 r k))
      (fun k => gain (ix2 0 k)) (fun k => att (ix3 0 r k))) (fun k n => w (ix2 k n)) c := by
  unfold resRow
  pointwise [mixed]
  refine congrArg (_ + ·) (Finset.sum_congr rfl fun k _ => congrArg (· * _) ?_)
  simp only [headMix]
  unfold mixRow
  have hk := k.isLt
  by_cases h1 : k.val < 128
  · rw [dif_pos h1, dif_pos (show k.val < 512 by omega)]
    exact congrArg₂ (headRow _ _ _) (Fin.ext (by show 0 = k.val / 128; omega)) (Fin.ext (by show k.val = k.val % 128; omega))
  by_cases h2 : k.val - 128 < 128
  · rw [dif_neg h1, dif_pos h2, dif_pos (show k.val < 512 by omega)]
    exact congrArg₂ (headRow _ _ _) (Fin.ext (by show 1 = k.val / 128; omega)) (Fin.ext (by show k.val - 128 = k.val % 128; omega))
  by_cases h3 : k.val - 128 - 128 < 128
  · rw [dif_neg h1, dif_neg h2, dif_pos h3, dif_pos (show k.val < 512 by omega)]
    exact congrArg₂ (headRow _ _ _) (Fin.ext (by show 2 = k.val / 128; omega)) (Fin.ext (by show k.val - 128 - 128 = k.val % 128; omega))
  by_cases h4 : k.val - 128 - 128 - 128 < 128
  · rw [dif_neg h1, dif_neg h2, dif_neg h3, dif_pos h4, dif_pos (show k.val < 512 by omega)]
    exact congrArg₂ (headRow _ _ _) (Fin.ext (by show 3 = k.val / 128; omega)) (Fin.ext (by show k.val - 128 - 128 - 128 = k.val % 128; omega))
  rw [dif_neg h1, dif_neg h2, dif_neg h3, dif_neg h4, dif_neg (show ¬k.val < 512 by omega)]
  exact congrArg (fun q => att (ix3 0 r q)) (Fin.ext (by show k.val - 128 - 128 - 128 - 128 = k.val - 512; omega))

/-- The chunks added up from the left are their sum. -/
theorem chunks_apply (h : FVec Ideal S512x1024 .bf16) (wg wu : Fin 11 → Vec Ideal S1024x256 .bf16) (wo : Fin 11 → Vec Ideal S256x1024 .bf16)
    (x : S512x1024.Idx) : (n : ℕ) → (hn : n < 11) → (chunks h wg wu wo n hn x : EReal)
      = ∑ i : Fin (n + 1), (chunk h (wg ⟨i.val, by omega⟩) (wu ⟨i.val, by omega⟩) (wo ⟨i.val, by omega⟩) x : EReal)
  | 0, h0 => by rw [Fin.sum_univ_one]; rfl
  | n + 1, hn => by
      rw [Fin.sum_univ_castSucc]
      exact congrArg (· + _) (chunks_apply h wg wu wo x n (Nat.lt_of_succ_lt hn))

/-- A sum over eleven chunks of 256 is the sum over all. -/
theorem sum_chunks (f : Fin 2816 → EReal) : ∑ i : Fin 11, ∑ n : Fin 256, f ⟨256 * i.val + n.val, by omega⟩ = ∑ n, f n := by
  rw [← Fintype.sum_prod_type']
  refine Fintype.sum_equiv (finProdFinEquiv : Fin 11 × Fin 256 ≃ Fin (11 * 256)) _ (fun n => f n) fun x => ?_
  congr 1
  apply Fin.ext
  show 256 * x.1.val + x.2.val = x.2.val + 256 * x.1.val
  omega

/-- A point's output block at an index. -/
theorem outWords_apply (x0 : Vec Ideal S512x1024 .f32) (x1 x2 x3 : Vec Ideal S512x512 .f32) (x4 : Vec Ideal S1x128 .f32) (x5 : Vec Ideal S1024x1024 .bf16)
    (x6 : Vec Ideal S1x1024 .f32) (x7 : Vec Ideal S1024x5632 .bf16) (x8 : Vec Ideal S2816x1024 .bf16) (att : Vec Ideal S1x512x512 .bf16)
    (r : Fin 512) (c : Fin 1024) :
    (Track.outWords x0 x1 x2 x3 x4 x5 x6 x7 x8 att (ix2 r c) : EReal)
      = outRow (resRow (fun k => x0 (ix2 r k)) (mixRow (fun k => (x1 (ix2 r k) : EReal) + x2 (ix2 r k)) (fun k => x3 (ix2 r k))
        (fun k => x4 (ix2 0 k)) (fun k => att (ix3 0 r k))) (fun k n => x5 (ix2 k n)))
        (fun k => x6 (ix2 0 k)) (fun k n => x7 (ix2 k n)) (fun n k => x8 (ix2 n k)) c := by
  have e0 : ∀ k, View.ld x0 (Rect.unit ![0, 0] S512x1024.size inb_S512x1024_S512x1024_0_0) (ix2 r k) = x0 (ix2 r k) := fun k => by pointwise
  have e1 : ∀ k, View.ld x1 (Rect.unit ![0, 0] S512x512.size inb_S512x512_S512x512_0_0) (ix2 r k) = x1 (ix2 r k) := fun k => by pointwise
  have e2 : ∀ k, View.ld x2 (Rect.unit ![0, 0] S512x512.size inb_S512x512_S512x512_0_0) (ix2 r k) = x2 (ix2 r k) := fun k => by pointwise
  have e3 : ∀ k, View.ld x3 (Rect.unit ![0, 0] S512x512.size inb_S512x512_S512x512_0_0) (ix2 r k) = x3 (ix2 r k) := fun k => by pointwise
  have e4 : ∀ k, View.ld x4 (Rect.unit ![0, 0] S1x128.size inb_S1x128_S1x128_0_0) (ix2 0 k) = x4 (ix2 0 k) := fun k => by pointwise
  have e5 : ∀ k n, View.ld x5 (Rect.unit ![0, 0] S1024x1024.size inb_S1024x1024_S1024x1024_0_0) (ix2 k n) = x5 (ix2 k n) := fun k n => by pointwise
  have e6 : ∀ k, View.ld x6 (Rect.unit ![0, 0] S1x1024.size inb_S1x1024_S1x1024_0_0) (ix2 0 k) = x6 (ix2 0 k) := fun k => by pointwise
  have e7 : ∀ (i : Fin 11) (k : Fin 1024) (n : Fin 256), View.ld x7 (Rect.unit ![0, 256 * i.val] S1024x256.size (Track.inb_gate i)) (ix2 k n)
      = x7 (ix2 k ⟨256 * i.val + n.val, by omega⟩) := fun i k n => by pointwise
  have e7' : ∀ (i : Fin 11) (k : Fin 1024) (n : Fin 256), View.ld x7 (Rect.unit ![0, 2816 + 256 * i.val] S1024x256.size (Track.inb_up i)) (ix2 k n)
      = x7 (ix2 k ⟨2816 + (256 * i.val + n.val), by omega⟩) := fun i k n => by
    pointwise
    exact congrArg (fun q => x7 (ix2 k q)) (Fin.ext (Nat.add_assoc _ _ _))
  have e8 : ∀ (i : Fin 11) (n : Fin 256) (k : Fin 1024), View.ld x8 (Rect.unit ![256 * i.val, 0] S256x1024.size (Track.inb_down i)) (ix2 n k)
      = x8 (ix2 ⟨256 * i.val + n.val, by omega⟩ k) := fun i n k => by pointwise
  unfold Track.outWords dense outRow
  have hm : ∀ k, (mixed (View.ld x0 (Rect.unit ![0, 0] S512x1024.size inb_S512x1024_S512x1024_0_0))
      (View.ld x1 (Rect.unit ![0, 0] S512x512.size inb_S512x512_S512x512_0_0))
      (View.ld x2 (Rect.unit ![0, 0] S512x512.size inb_S512x512_S512x512_0_0))
      (View.ld x3 (Rect.unit ![0, 0] S512x512.size inb_S512x512_S512x512_0_0))
      (View.ld x4 (Rect.unit ![0, 0] S1x128.size inb_S1x128_S1x128_0_0))
      (View.ld x5 (Rect.unit ![0, 0] S1024x1024.size inb_S1024x1024_S1024x1024_0_0)) att (ix2 r k) : EReal)
      = resRow (fun k => x0 (ix2 r k)) (mixRow (fun k => (x1 (ix2 r k) : EReal) + x2 (ix2 r k)) (fun k => x3 (ix2 r k))
        (fun k => x4 (ix2 0 k)) (fun k => att (ix3 0 r k))) (fun k n => x5 (ix2 k n)) k := fun k => by
    rw [mixed_apply]
    simp only [e0, e1, e2, e3, e4, e5]
  generalize mixed (View.ld x0 (Rect.unit ![0, 0] S512x1024.size inb_S512x1024_S512x1024_0_0))
      (View.ld x1 (Rect.unit ![0, 0] S512x512.size inb_S512x512_S512x512_0_0))
      (View.ld x2 (Rect.unit ![0, 0] S512x512.size inb_S512x512_S512x512_0_0))
      (View.ld x3 (Rect.unit ![0, 0] S512x512.size inb_S512x512_S512x512_0_0))
      (View.ld x4 (Rect.unit ![0, 0] S1x128.size inb_S1x128_S1x128_0_0))
      (View.ld x5 (Rect.unit ![0, 0] S1024x1024.size inb_S1024x1024_S1024x1024_0_0)) att = mx at hm ⊢
  generalize resRow (fun k => x0 (ix2 r k)) (mixRow (fun k => (x1 (ix2 r k) : EReal) + x2 (ix2 r k)) (fun k => x3 (ix2 r k))
        (fun k => x4 (ix2 0 k)) (fun k => att (ix3 0 r k))) (fun k n => x5 (ix2 k n)) = rr at hm ⊢
  have hn : ∀ k, (normed mx (View.ld x6 (Rect.unit ![0, 0] S1x1024.size inb_S1x1024_S1x1024_0_0)) (ix2 r k) : EReal)
      = normRow rr (fun k => x6 (ix2 0 k)) k := fun k => by
    rw [normed_apply]
    simp only [hm, e6]
  generalize normed mx (View.ld x6 (Rect.unit ![0, 0] S1x1024.size inb_S1x1024_S1x1024_0_0)) = nn at hn ⊢
  generalize normRow rr (fun k => x6 (ix2 0 k)) = nr at hn ⊢
  refine congrArg₂ (fun a b : EReal => a + Ideal.ofBits .f32 0x3F000000#32 * b) (hm c) ?_
  rw [chunks_apply, ← sum_chunks]
  refine Finset.sum_congr rfl fun i _ => ?_
  rw [chunk_apply]
  refine Finset.sum_congr rfl fun n _ => ?_
  unfold hidRow
  simp only [hn, e7, e7', e8]

end Cert.KernelIdeal.Words

end
-- ==== Proof.Entry.lean ====
/- The arrays that the windows stage, at an index, in terms of the arguments: casts and reshapes are the identity on elements, the
   queries are scaled by the literal 1/8, the keys and values stand beside their copies with the two heads swapped. -/
module

public import proofs.«01_k».proof.Proof.Gen.KernelIdeal.Frame.Runs
public import Idealize.ShloMosaic.Lib.Claim
public import Idealize.ShloMosaic.Lib.Pointwise
public import Idealize.ShloMosaic.Lib.StableHlo.ReadAt

@[expose] public section

set_option maxRecDepth 16384

noncomputable section

namespace Cert.KernelIdeal.Entry

open Cert.KernelIdeal Cert.KernelIdeal.Gen Idealize.ShloMosaic Idealize.ShloMosaic.TcCoe Idealize.ShloMosaic.Tactic

variable (m : (ℓ : Loc nD τ sig) → Buf (Elt Ideal) ℓ) (c : Dev nD)

/-- The rows after the first feed-forward. -/
abbrev aX : S16384x1024.Idx → EReal := m ((c : Thread nD τ).loc main_arg0)

/-- The forward scan's outputs. -/
abbrev aOf : S16384x512.Idx → EReal := m ((c : Thread nD τ).loc main_arg1)

/-- The backward scan's outputs. -/
abbrev aOb : S16384x512.Idx → EReal := m ((c : Thread nD τ).loc main_arg2)

/-- The gates. -/
abbrev aG : S16384x512.Idx → EReal := m ((c : Thread nD τ).loc main_arg3)

/-- The rotated queries. -/
abbrev aQ : S16384x512.Idx → EReal := m ((c : Thread nD τ).loc main_arg4)

/-- The rotated keys. -/
abbrev aK : S16384x128.Idx → EReal := m ((c : Thread nD τ).loc main_arg5)

/-- The values. -/
abbrev aV : S16384x128.Idx → EReal := m ((c : Thread nD τ).loc main_arg6)

/-- The heads' gain. -/
abbrev aHg : S1x128.Idx → EReal := m ((c : Thread nD τ).loc main_arg7)

/-- The sinks. -/
abbrev aSink : S1x8.Idx → EReal := m ((c : Thread nD τ).loc main_arg8)

/-- The output projection. -/
abbrev aWo : S1x1024x1024.Idx → EReal := m ((c : Thread nD τ).loc main_arg9)

/-- The second feed-forward's gain. -/
abbrev aN2 : S1x1024.Idx → EReal := m ((c : Thread nD τ).loc main_arg10)

/-- The second feed-forward's first projection. -/
abbrev aWi : S1x1024x5632.Idx → EReal := m ((c : Thread nD τ).loc main_arg11)

/-- The second feed-forward's second projection. -/
abbrev aW2 : S1x2816x1024.Idx → EReal := m ((c : Thread nD τ).loc main_arg12)

/-- The heads' gain, one row. -/
theorem V_v1 (b : Fin 128) : (V m c main_v1 : Vec Ideal S1x128 .f32) (ix2 0 b)
    = aHg m c (ix2 0 b) := by
  unfold V; after_reads_at

/-- The sinks. -/
theorem V_v2 (b : Fin 8) : (V m c main_v2 : Vec Ideal S8 .f32) (ix1 b)
    = aSink m c (ix2 0 b) := by
  unfold V; after_reads_at

/-- The output projection. -/
theorem V_v4 (a b : Fin 1024) : (V m c main_v4 : Vec Ideal S1024x1024 .bf16) (ix2 a b)
    = aWo m c (ix3 0 a b) := by
  unfold V; after_reads_at

/-- The feed-forward's gain, one row. -/
theorem V_v6 (b : Fin 1024) : (V m c main_v6 : Vec Ideal S1x1024 .f32) (ix2 0 b)
    = aN2 m c (ix2 0 b) := by
  unfold V; after_reads_at

/-- The first projection of the feed-forward. -/
theorem V_v8 (a : Fin 1024) (b : Fin 5632) : (V m c main_v8 : Vec Ideal S1024x5632 .bf16) (ix2 a b)
    = aWi m c (ix3 0 a b) := by
  unfold V; after_reads_at

/-- The second projection of the feed-forward. -/
theorem V_v10 (a : Fin 2816) (b : Fin 1024) : (V m c main_v10 : Vec Ideal S2816x1024 .bf16) (ix2 a b)
    = aW2 m c (ix3 0 a b) := by
  unfold V; after_reads_at

/-- The queries, scaled. -/
theorem V_v13 (a : Fin 16384) (b : Fin 512) : (V m c main_v13 : Vec Ideal S16384x512 .bf16) (ix2 a b)
    = aQ m c (ix2 a b) * Ideal.ofBits .f32 0x3E000000#32 := by
  unfold V; after_reads_at

/-- The biases, a literal table. -/
theorem V_cst (a : Fin 128) (b : Fin 256) : (V m c main_cst : Vec Ideal S128x256 .f32) (ix2 a b)
    = Ideal.ofBits .f32 (lit0 (S128x256.rowMajor (ix2 a b))) := by
  unfold V; after_reads_at

/-- The keys. -/
theorem V_v21_k (a : Fin 16384) (b : Fin 512) (b' : Fin 128) (h : b.val = b'.val) :
    (V m c main_v21 : Vec Ideal S16384x512 .bf16) (ix2 a b) = aK m c (ix2 a b') := by
  unfold V; after_reads_at
  rw [dif_pos (by omega)]
  after_reads_at
  exact congrArg (aK m c) (congrArg (ix2 a) (Fin.ext (by dsimp only; omega)))

/-- The keys with the two heads swapped. -/
theorem V_v21_ks (a : Fin 16384) (b : Fin 512) (b' : Fin 128) (h : b.val = 128 + (b'.val + 64) % 128) :
    (V m c main_v21 : Vec Ideal S16384x512 .bf16) (ix2 a b) = aK m c (ix2 a b') := by
  unfold V; after_reads_at
  rw [dif_neg (by omega), dif_pos (by omega)]
  after_reads_at
  split
  · exact congrArg (aK m c) (congrArg (ix2 a) (Fin.ext (by dsimp only; omega)))
  · exact congrArg (aK m c) (congrArg (ix2 a) (Fin.ext (by dsimp only; omega)))

/-- The values. -/
theorem V_v21_v (a : Fin 16384) (b : Fin 512) (b' : Fin 128) (h : b.val = 256 + b'.val) :
    (V m c main_v21 : Vec Ideal S16384x512 .bf16) (ix2 a b) = aV m c (ix2 a b') := by
  unfold V; after_reads_at
  rw [dif_neg (by omega), dif_neg (by omega), dif_pos (by omega)]
  after_reads_at
  exact congrArg (aV m c) (congrArg (ix2 a) (Fin.ext (by dsimp only; omega)))

/-- The values with the two heads swapped. -/
theorem V_v21_vs (a : Fin 16384) (b : Fin 512) (b' : Fin 128) (h : b.val = 384 + (b'.val + 64) % 128) :
    (V m c main_v21 : Vec Ideal S16384x512 .bf16) (ix2 a b) = aV m c (ix2 a b') := by
  unfold V; after_reads_at
  rw [dif_neg (by omega), dif_neg (by omega), dif_neg (by omega)]
  after_reads_at
  split
  · exact congrArg (aV m c) (congrArg (ix2 a) (Fin.ext (by dsimp only; omega)))
  · exact congrArg (aV m c) (congrArg (ix2 a) (Fin.ext (by dsimp only; omega)))

end Cert.KernelIdeal.Entry

end
-- ==== Proof.Stage.lean ====
/- The windows' blocks at an index: each is a read of the array it stages. -/
module

public import proofs.«01_k».proof.Proof.Entry
public import Idealize.ShloMosaic.Lib.Pipeline.ValueKit.Point

@[expose] public section

set_option maxRecDepth 16384

noncomputable section

namespace Cert.KernelIdeal.Entry

open Cert.KernelIdeal Cert.KernelIdeal.Gen Idealize.ShloMosaic Idealize.ShloMosaic.TcCoe Idealize.ShloMosaic.Tactic

variable (m : (ℓ : Loc nD τ sig) → Buf (Elt Ideal) ℓ) (c : Dev nD)

/-- Which block of the rows after the first feed-forward window 0 stages. -/
theorem idx0 : ∀ t : Fin cfg0.N, win0_0.index t = ![t.val, 0] :=
  (by decide +kernel : ∀ t : Fin grid0.N, win0_0.index t = ![t.val, 0])

/-- Window 0's block at an index. -/
theorem blk0 (t : Fin cfg0.N) (r : Fin 512) (l : Fin 1024) : (iblk m c 0 t : Vec Ideal S512x1024 .f32) (ix2 r l)
    = (V m c main_arg0 : Vec Ideal S16384x1024 .f32) (ix2 ⟨512 * t.val + r.val, by have := t.isLt; have h : cfg0.N = 32 := rfl; omega⟩ l) := by
  unfold iblk
  generalize V m c = W
  blk_ext! [idx0 t]

/-- Which block of the forward scan window 1 stages. -/
theorem idx1 : ∀ t : Fin cfg0.N, win0_1.index t = ![t.val, 0] :=
  (by decide +kernel : ∀ t : Fin grid0.N, win0_1.index t = ![t.val, 0])

/-- Window 1's block at an index. -/
theorem blk1 (t : Fin cfg0.N) (r : Fin 512) (l : Fin 512) : (iblk m c 1 t : Vec Ideal S512x512 .f32) (ix2 r l)
    = (V m c main_arg1 : Vec Ideal S16384x512 .f32) (ix2 ⟨512 * t.val + r.val, by have := t.isLt; have h : cfg0.N = 32 := rfl; omega⟩ l) := by
  unfold iblk
  generalize V m c = W
  blk_ext! [idx1 t]

/-- Which block of the backward scan window 2 stages. -/
theorem idx2 : ∀ t : Fin cfg0.N, win0_2.index t = ![t.val, 0] :=
  (by decide +kernel : ∀ t : Fin grid0.N, win0_2.index t = ![t.val, 0])

/-- Window 2's block at an index. -/
theorem blk2 (t : Fin cfg0.N) (r : Fin 512) (l : Fin 512) : (iblk m c 2 t : Vec Ideal S512x512 .f32) (ix2 r l)
    = (V m c main_arg2 : Vec Ideal S16384x512 .f32) (ix2 ⟨512 * t.val + r.val, by have := t.isLt; have h : cfg0.N = 32 := rfl; omega⟩ l) := by
  unfold iblk
  generalize V m c = W
  blk_ext! [idx2 t]

/-- Which block of the gates window 3 stages. -/
theorem idx3 : ∀ t : Fin cfg0.N, win0_3.index t = ![t.val, 0] :=
  (by decide +kernel : ∀ t : Fin grid0.N, win0_3.index t = ![t.val, 0])

/-- Window 3's block at an index. -/
theorem blk3 (t : Fin cfg0.N) (r : Fin 512) (l : Fin 512) : (iblk m c 3 t : Vec Ideal S512x512 .f32) (ix2 r l)
    = (V m c main_arg3 : Vec Ideal S16384x512 .f32) (ix2 ⟨512 * t.val + r.val, by have := t.isLt; have h : cfg0.N = 32 := rfl; omega⟩ l) := by
  unfold iblk
  generalize V m c = W
  blk_ext! [idx3 t]

/-- Which block of the heads' gain window 4 stages. -/
theorem idx4 : ∀ t : Fin cfg0.N, win0_4.index t = ![0, 0] :=
  (by decide +kernel : ∀ t : Fin grid0.N, win0_4.index t = ![0, 0])

/-- Window 4's block at an index. -/
theorem blk4 (t : Fin cfg0.N) (r : Fin 1) (l : Fin 128) : (iblk m c 4 t : Vec Ideal S1x128 .f32) (ix2 r l)
    = (V m c main_v1 : Vec Ideal S1x128 .f32) (ix2 r l) := by
  unfold iblk
  generalize V m c = W
  blk_ext! [idx4 t]

/-- Which block of the output projection window 5 stages. -/
theorem idx5 : ∀ t : Fin cfg0.N, win0_5.index t = ![0, 0] :=
  (by decide +kernel : ∀ t : Fin grid0.N, win0_5.index t = ![0, 0])

/-- Window 5's block at an index. -/
theorem blk5 (t : Fin cfg0.N) (r : Fin 1024) (l : Fin 1024) : (iblk m c 5 t : Vec Ideal S1024x1024 .bf16) (ix2 r l)
    = (V m c main_v4 : Vec Ideal S1024x1024 .bf16) (ix2 r l) := by
  unfold iblk
  generalize V m c = W
  blk_ext! [idx5 t]

/-- Which block of the feed-forward's gain window 6 stages. -/
theorem idx6 : ∀ t : Fin cfg0.N, win0_6.index t = ![0, 0] :=
  (by decide +kernel : ∀ t : Fin grid0.N, win0_6.index t = ![0, 0])

/-- Window 6's block at an index. -/
theorem blk6 (t : Fin cfg0.N) (r : Fin 1) (l : Fin 1024) : (iblk m c 6 t : Vec Ideal S1x1024 .f32) (ix2 r l)
    = (V m c main_v6 : Vec Ideal S1x1024 .f32) (ix2 r l) := by
  unfold iblk
  generalize V m c = W
  blk_ext! [idx6 t]

/-- Which block of the first projection window 7 stages. -/
theorem idx7 : ∀ t : Fin cfg0.N, win0_7.index t = ![0, 0] :=
  (by decide +kernel : ∀ t : Fin grid0.N, win0_7.index t = ![0, 0])

/-- Window 7's block at an index. -/
theorem blk7 (t : Fin cfg0.N) (r : Fin 1024) (l : Fin 5632) : (iblk m c 7 t : Vec Ideal S1024x5632 .bf16) (ix2 r l)
    = (V m c main_v8 : Vec Ideal S1024x5632 .bf16) (ix2 r l) := by
  unfold iblk
  generalize V m c = W
  blk_ext! [idx7 t]

/-- Which block of the second projection window 8 stages. -/
theorem idx8 : ∀ t : Fin cfg0.N, win0_8.index t = ![0, 0] :=
  (by decide +kernel : ∀ t : Fin grid0.N, win0_8.index t = ![0, 0])

/-- Window 8's block at an index. -/
theorem blk8 (t : Fin cfg0.N) (r : Fin 2816) (l : Fin 1024) : (iblk m c 8 t : Vec Ideal S2816x1024 .bf16) (ix2 r l)
    = (V m c main_v10 : Vec Ideal S2816x1024 .bf16) (ix2 r l) := by
  unfold iblk
  generalize V m c = W
  blk_ext! [idx8 t]

/-- Which block of the biases window 10 stages. -/
theorem idx10 : ∀ t : Fin cfg0.N, win0_10.index t = ![0, 0] :=
  (by decide +kernel : ∀ t : Fin grid0.N, win0_10.index t = ![0, 0])

/-- Window 10's block at an index. -/
theorem blk10 (t : Fin cfg0.N) (r : Fin 128) (l : Fin 256) : (iblk m c 10 t : Vec Ideal S128x256 .f32) (ix2 r l)
    = (V m c main_cst : Vec Ideal S128x256 .f32) (ix2 r l) := by
  unfold iblk
  generalize V m c = W
  blk_ext! [idx10 t]

/-- Which block of the queries window 11 stages. -/
theorem idx11 : ∀ t : Fin cfg0.N, win0_11.index t = ![0, 0] :=
  (by decide +kernel : ∀ t : Fin grid0.N, win0_11.index t = ![0, 0])

/-- Window 11's block at an index. -/
theorem blk11 (t : Fin cfg0.N) (r : Fin 512) (l : Fin 512) : (iblk m c 11 t : Vec Ideal S512x512 .bf16) (ix2 r l)
    = (V m c main_v13 : Vec Ideal S16384x512 .bf16) (ix2 ⟨512 * 0 + r.val, by have := t.isLt; have h : cfg0.N = 32 := rfl; omega⟩ l) := by
  unfold iblk
  generalize V m c = W
  blk_ext! [idx11 t]

/-- Which block of the keys and values window 12 stages. -/
theorem idx12 : ∀ t : Fin cfg0.N, win0_12.index t = ![0, 0] :=
  (by decide +kernel : ∀ t : Fin grid0.N, win0_12.index t = ![0, 0])

/-- Window 12's block at an index. -/
theorem blk12 (t : Fin cfg0.N) (r : Fin 128) (l : Fin 512) : (iblk m c 12 t : Vec Ideal S128x512 .bf16) (ix2 r l)
    = (V m c main_v21 : Vec Ideal S16384x512 .bf16) (ix2 ⟨128 * 0 + r.val, by have := t.isLt; have h : cfg0.N = 32 := rfl; omega⟩ l) := by
  unfold iblk
  generalize V m c = W
  blk_ext! [idx12 t]

/-- Which block of the keys and values window 13 stages. -/
theorem idx13 : ∀ t : Fin cfg0.N, win0_13.index t = ![0, 0] :=
  (by decide +kernel : ∀ t : Fin grid0.N, win0_13.index t = ![0, 0])

/-- Window 13's block at an index. -/
theorem blk13 (t : Fin cfg0.N) (r : Fin 512) (l : Fin 512) : (iblk m c 13 t : Vec Ideal S512x512 .bf16) (ix2 r l)
    = (V m c main_v21 : Vec Ideal S16384x512 .bf16) (ix2 ⟨512 * 0 + r.val, by have := t.isLt; have h : cfg0.N = 32 := rfl; omega⟩ l) := by
  unfold iblk
  generalize V m c = W
  blk_ext! [idx13 t]

/-- Which block of the keys and values window 14 stages. -/
theorem idx14 : ∀ t : Fin cfg0.N, win0_14.index t = ![4, 0] :=
  (by decide +kernel : ∀ t : Fin grid0.N, win0_14.index t = ![4, 0])

/-- Window 14's block at an index. -/
theorem blk14 (t : Fin cfg0.N) (r : Fin 128) (l : Fin 512) : (iblk m c 14 t : Vec Ideal S128x512 .bf16) (ix2 r l)
    = (V m c main_v21 : Vec Ideal S16384x512 .bf16) (ix2 ⟨128 * 4 + r.val, by have := t.isLt; have h : cfg0.N = 32 := rfl; omega⟩ l) := by
  unfold iblk
  generalize V m c = W
  blk_ext! [idx14 t]

/-- Which block of the queries window 15 stages. -/
theorem idx15 : ∀ t : Fin cfg0.N, win0_15.index t = ![min (t.val + 1) 31, 0] :=
  (by decide +kernel : ∀ t : Fin grid0.N, win0_15.index t = ![min (t.val + 1) 31, 0])

/-- Window 15's block at an index. -/
theorem blk15 (t : Fin cfg0.N) (r : Fin 512) (l : Fin 512) : (iblk m c 15 t : Vec Ideal S512x512 .bf16) (ix2 r l)
    = (V m c main_v13 : Vec Ideal S16384x512 .bf16) (ix2 ⟨512 * min (t.val + 1) 31 + r.val, by have := t.isLt; have h : cfg0.N = 32 := rfl; omega⟩ l) := by
  unfold iblk
  generalize V m c = W
  blk_ext! [idx15 t]

/-- Which block of the keys and values window 16 stages. -/
theorem idx16 : ∀ t : Fin cfg0.N, win0_16.index t = ![(4 * min (t.val + 1) 31 - 1), 0] :=
  (by decide +kernel : ∀ t : Fin grid0.N, win0_16.index t = ![(4 * min (t.val + 1) 31 - 1), 0])

/-- Window 16's block at an index. -/
theorem blk16 (t : Fin cfg0.N) (r : Fin 128) (l : Fin 512) : (iblk m c 16 t : Vec Ideal S128x512 .bf16) (ix2 r l)
    = (V m c main_v21 : Vec Ideal S16384x512 .bf16) (ix2 ⟨128 * (4 * min (t.val + 1) 31 - 1) + r.val, by have := t.isLt; have h : cfg0.N = 32 := rfl; omega⟩ l) := by
  unfold iblk
  generalize V m c = W
  blk_ext! [idx16 t]

/-- Which block of the keys and values window 17 stages. -/
theorem idx17 : ∀ t : Fin cfg0.N, win0_17.index t = ![min (t.val + 1) 31, 0] :=
  (by decide +kernel : ∀ t : Fin grid0.N, win0_17.index t = ![min (t.val + 1) 31, 0])

/-- Window 17's block at an index. -/
theorem blk17 (t : Fin cfg0.N) (r : Fin 512) (l : Fin 512) : (iblk m c 17 t : Vec Ideal S512x512 .bf16) (ix2 r l)
    = (V m c main_v21 : Vec Ideal S16384x512 .bf16) (ix2 ⟨512 * min (t.val + 1) 31 + r.val, by have := t.isLt; have h : cfg0.N = 32 := rfl; omega⟩ l) := by
  unfold iblk
  generalize V m c = W
  blk_ext! [idx17 t]

/-- Which block of the keys and values window 18 stages. -/
theorem idx18 : ∀ t : Fin cfg0.N, win0_18.index t = ![min (4 * min (t.val + 1) 31 + 4) 127, 0] :=
  (by decide +kernel : ∀ t : Fin grid0.N, win0_18.index t = ![min (4 * min (t.val + 1) 31 + 4) 127, 0])

/-- Window 18's block at an index. -/
theorem blk18 (t : Fin cfg0.N) (r : Fin 128) (l : Fin 512) : (iblk m c 18 t : Vec Ideal S128x512 .bf16) (ix2 r l)
    = (V m c main_v21 : Vec Ideal S16384x512 .bf16) (ix2 ⟨128 * min (4 * min (t.val + 1) 31 + 4) 127 + r.val, by have := t.isLt; have h : cfg0.N = 32 := rfl; omega⟩ l) := by
  unfold iblk
  generalize V m c = W
  blk_ext! [idx18 t]

/-- The sinks' block at an index. -/
theorem blk9 (t : Fin cfg0.N) (l : Fin 8) : (iblk m c 9 t : Vec Ideal S8 .f32) (ix1 l) = (V m c main_v2 : Vec Ideal S8 .f32) (ix1 l) := by
  unfold iblk
  generalize V m c = W
  blk_ext! [(by decide +kernel : ∀ t : Fin grid0.N, win0_9.index t = ![0]) t]

end Cert.KernelIdeal.Entry

end
-- ==== Proof.Result.lean ====
/- What a grid point leaves in its output block, at an index: the layer's function of the arguments. -/
module

public import proofs.«01_k».proof.Proof.After
public import proofs.«01_k».proof.Proof.AttEntry
public import proofs.«01_k».proof.Proof.DenseRead
public import proofs.«01_k».proof.Proof.Stage

@[expose] public section

set_option maxRecDepth 16384

noncomputable section

namespace Cert.KernelIdeal.Entry

open Cert.KernelIdeal Cert.KernelIdeal.Gen Idealize.ShloMosaic Idealize.ShloMosaic.TcCoe Idealize.ShloMosaic.Tactic
open Cert.Spec Cert.KernelIdeal.Words

variable (m : (ℓ : Loc nD τ sig) → Buf (Elt Ideal) ℓ) (c : Dev nD)

/-- The flag before the tile ahead of a point. -/
theorem flag0 (t : Fin cfg0.N) (T : Fin 32) (hT : T.val = min (t.val + 1) 31) :
    (k0_pay418 (F := Ideal) (grid0.coords t) : EReal) = if T.val % 16 = 0 then ⊥ else 0 := by
  have h : ∀ t : Fin cfg0.N, Scalar.cmpi .eq (Scalar.remsi (Scalar.minsi (Scalar.addi (BitVec.ofNat 32 ((grid0.coords t) 0).val) 1#32) 31#32) 16#32) 0#32
      = if min (t.val + 1) 31 % 16 = 0 then 1#1 else 0#1 :=
    (by decide +kernel : ∀ t : Fin grid0.N, Scalar.cmpi .eq (Scalar.remsi (Scalar.minsi (Scalar.addi (BitVec.ofNat 32 ((grid0.coords t) 0).val) 1#32) 31#32) 16#32) 0#32
      = if min (t.val + 1) 31 % 16 = 0 then 1#1 else 0#1)
  show Scalar.select (Scalar.cmpi .eq (Scalar.remsi (Scalar.minsi (Scalar.addi (BitVec.ofNat 32 ((grid0.coords t) 0).val) 1#32) 31#32) 16#32) 0#32)
    (Ideal.ofBits .f32 0xFF800000#32) (Ideal.ofBits .f32 0x00000000#32) = _
  rw [h t, hT, ofBits_bot, ofBits_zero]
  split <;> rfl

/-- The flag after the tile ahead of a point. -/
theorem flag1 (t : Fin cfg0.N) (T : Fin 32) (hT : T.val = min (t.val + 1) 31) :
    (k0_pay419 (F := Ideal) (grid0.coords t) : EReal) = if T.val % 16 = 15 then ⊥ else 0 := by
  have h : ∀ t : Fin cfg0.N, Scalar.cmpi .eq (Scalar.remsi (Scalar.minsi (Scalar.addi (BitVec.ofNat 32 ((grid0.coords t) 0).val) 1#32) 31#32) 16#32) 15#32
      = if min (t.val + 1) 31 % 16 = 15 then 1#1 else 0#1 :=
    (by decide +kernel : ∀ t : Fin grid0.N, Scalar.cmpi .eq (Scalar.remsi (Scalar.minsi (Scalar.addi (BitVec.ofNat 32 ((grid0.coords t) 0).val) 1#32) 31#32) 16#32) 15#32
      = if min (t.val + 1) 31 % 16 = 15 then 1#1 else 0#1)
  show Scalar.select (Scalar.cmpi .eq (Scalar.remsi (Scalar.minsi (Scalar.addi (BitVec.ofNat 32 ((grid0.coords t) 0).val) 1#32) 31#32) 16#32) 15#32)
    (Ideal.ofBits .f32 0xFF800000#32) (Ideal.ofBits .f32 0x00000000#32) = _
  rw [h t, hT, ofBits_bot, ofBits_zero]
  split <;> rfl

/-- The staged rows of keys and values. -/
def kv (R : Fin 16384) (b : Fin 512) : EReal := (V m c main_v21 : Vec Ideal S16384x512 .bf16) (ix2 R b)

/-- The keys that a stack's half of a pair meets. -/
theorem keyAt (R : Fin 16384) (p : Fin 4) (f : Fin 2) (d : Fin 64) (b : Fin 512) (hb : b.val = 128 * (2 * (0 : Fin 2).val + (side p f).val) + (lane f d).val) :
    kv m c R b = aK m c (ix2 R ⟨64 * (p.val / 2) + d.val, by omega⟩) := by
  unfold kv
  unfold side at hb
  have hd := d.isLt
  have hf := f.isLt
  by_cases h : f.val = p.val / 2
  · rw [if_pos h] at hb
    exact V_v21_k m c R b _ (by rw [hb]; show 128 * (2 * 0 + 0) + (64 * f.val + d.val) = 64 * (p.val / 2) + d.val; omega)
  · rw [if_neg h] at hb
    exact V_v21_ks m c R b _ (by rw [hb]; show 128 * (2 * 0 + 1) + (64 * f.val + d.val) = 128 + (64 * (p.val / 2) + d.val + 64) % 128; omega)

/-- The values that a stack's half of a pair meets. -/
theorem valAt (R : Fin 16384) (p : Fin 4) (f : Fin 2) (d : Fin 64) (b : Fin 512) (hb : b.val = 128 * (2 * (1 : Fin 2).val + (side p f).val) + (lane f d).val) :
    kv m c R b = aV m c (ix2 R ⟨64 * (p.val / 2) + d.val, by omega⟩) := by
  unfold kv
  unfold side at hb
  have hd := d.isLt
  have hf := f.isLt
  by_cases h : f.val = p.val / 2
  · rw [if_pos h] at hb
    exact V_v21_v m c R b _ (by rw [hb]; show 128 * (2 * 1 + 0) + (64 * f.val + d.val) = 256 + (64 * (p.val / 2) + d.val); omega)
  · rw [if_neg h] at hb
    exact V_v21_vs m c R b _ (by rw [hb]; show 128 * (2 * 1 + 1) + (64 * f.val + d.val) = 384 + (64 * (p.val / 2) + d.val + 64) % 128; omega)

/-- Window 12's rows among all rows of keys and values. -/
theorem kv12 (t : Fin cfg0.N) (r : Fin 128) (l : Fin 512) (R : Fin 16384) (hR : R.val = 128 * 0 + r.val) :
    ((iblk m c 12 t : Vec Ideal S128x512 .bf16) (ix2 r l) : EReal) = kv m c R l := by
  rw [blk12]
  unfold kv
  exact congrArg (fun R => (V m c main_v21 : Vec Ideal S16384x512 .bf16) (ix2 R l)) (Fin.ext hR.symm)

/-- Window 13's rows among all rows of keys and values. -/
theorem kv13 (t : Fin cfg0.N) (r : Fin 512) (l : Fin 512) (R : Fin 16384) (hR : R.val = 512 * 0 + r.val) :
    ((iblk m c 13 t : Vec Ideal S512x512 .bf16) (ix2 r l) : EReal) = kv m c R l := by
  rw [blk13]
  unfold kv
  exact congrArg (fun R => (V m c main_v21 : Vec Ideal S16384x512 .bf16) (ix2 R l)) (Fin.ext hR.symm)

/-- Window 14's rows among all rows of keys and values. -/
theorem kv14 (t : Fin cfg0.N) (r : Fin 128) (l : Fin 512) (R : Fin 16384) (hR : R.val = 128 * 4 + r.val) :
    ((iblk m c 14 t : Vec Ideal S128x512 .bf16) (ix2 r l) : EReal) = kv m c R l := by
  rw [blk14]
  unfold kv
  exact congrArg (fun R => (V m c main_v21 : Vec Ideal S16384x512 .bf16) (ix2 R l)) (Fin.ext hR.symm)

/-- Window 16's rows among all rows of keys and values. -/
theorem kv16 (t : Fin cfg0.N) (r : Fin 128) (l : Fin 512) (R : Fin 16384) (hR : R.val = 128 * (4 * min (t.val + 1) 31 - 1) + r.val) :
    ((iblk m c 16 t : Vec Ideal S128x512 .bf16) (ix2 r l) : EReal) = kv m c R l := by
  rw [blk16]
  unfold kv
  exact congrArg (fun R => (V m c main_v21 : Vec Ideal S16384x512 .bf16) (ix2 R l)) (Fin.ext hR.symm)

/-- Window 17's rows among all rows of keys and values. -/
theorem kv17 (t : Fin cfg0.N) (r : Fin 512) (l : Fin 512) (R : Fin 16384) (hR : R.val = 512 * min (t.val + 1) 31 + r.val) :
    ((iblk m c 17 t : Vec Ideal S512x512 .bf16) (ix2 r l) : EReal) = kv m c R l := by
  rw [blk17]
  unfold kv
  exact congrArg (fun R => (V m c main_v21 : Vec Ideal S16384x512 .bf16) (ix2 R l)) (Fin.ext hR.symm)

/-- Window 18's rows among all rows of keys and values. -/
theorem kv18 (t : Fin cfg0.N) (r : Fin 128) (l : Fin 512) (R : Fin 16384) (hR : R.val = 128 * min (4 * min (t.val + 1) 31 + 4) 127 + r.val) :
    ((iblk m c 18 t : Vec Ideal S128x512 .bf16) (ix2 r l) : EReal) = kv m c R l := by
  rw [blk18]
  unfold kv
  exact congrArg (fun R => (V m c main_v21 : Vec Ideal S16384x512 .bf16) (ix2 R l)) (Fin.ext hR.symm)

/-- Window 11's rows among all rows of queries. -/
theorem qs11 (t : Fin cfg0.N) (r : Fin 512) (l : Fin 512) (R : Fin 16384) (hR : R.val = 512 * 0 + r.val) :
    ((iblk m c 11 t : Vec Ideal S512x512 .bf16) (ix2 r l) : EReal) = aQ m c (ix2 R l) * Ideal.ofBits .f32 0x3E000000#32 := by
  rw [blk11, V_v13]
  exact congrArg (fun R => aQ m c (ix2 R l) * Ideal.ofBits .f32 0x3E000000#32) (Fin.ext hR.symm)

/-- Window 15's rows among all rows of queries. -/
theorem qs15 (t : Fin cfg0.N) (r : Fin 512) (l : Fin 512) (R : Fin 16384) (hR : R.val = 512 * min (t.val + 1) 31 + r.val) :
    ((iblk m c 15 t : Vec Ideal S512x512 .bf16) (ix2 r l) : EReal) = aQ m c (ix2 R l) * Ideal.ofBits .f32 0x3E000000#32 := by
  rw [blk15, V_v13]
  exact congrArg (fun R => aQ m c (ix2 R l) * Ideal.ofBits .f32 0x3E000000#32) (Fin.ext hR.symm)

/-- The sinks' block. -/
theorem sk9 (t : Fin cfg0.N) (h : Fin 8) : ((iblk m c 9 t : Vec Ideal S8 .f32) (ix1 h) : EReal) = aSink m c (ix2 0 h) := by rw [blk9, V_v2]

/-- The biases' block. -/
theorem bs10 (t : Fin cfg0.N) (r : Fin 128) (l : Fin 256) : ((iblk m c 10 t : Vec Ideal S128x256 .f32) (ix2 r l) : EReal)
    = Ideal.ofBits .f32 (lit0 (S128x256.rowMajor (ix2 r l))) := by rw [blk10, V_cst]

/-- The attention's row of the arguments. -/
abbrev att (B : Fin 128) (r : Fin 128) (h : Fin 8) (d : Fin 64) : EReal :=
  attRow (fun a b => aQ m c (ix2 a b)) (fun a b => aK m c (ix2 a b)) (fun a b => aV m c (ix2 a b)) (fun h => aSink m c (ix2 0 h)) B r h d

/-- The first tile's pieces at an index, the queries and keys being reals. -/
theorem attFirst_apply (hQ : ∀ i, ∃ x : ℝ, aQ m c i = (x : EReal)) (hK : ∀ i, ∃ x : ℝ, aK m c i = (x : EReal)) (t : Fin cfg0.N)
    (T : Fin 32) (hT : T.val = 0) (j p : Fin 4) (r : Fin 128) (f : Fin 2) (d : Fin 64) :
    (Track.attFirst m c t j p (ix3 0 r (lane f d)) : EReal) = att m c ⟨4 * T.val + j.val, by omega⟩ r ⟨2 * p.val + f.val, by omega⟩ d := by
  have hN : cfg0.N = 32 := rfl
  have ht := t.isLt
  have hT' := T.isLt
  have hq : ∀ (r : Fin 512) (l : Fin 512), ((iblk m c 11 t : Vec Ideal S512x512 .bf16) (ix2 r l) : EReal) = aQ m c (ix2 ⟨512 * T.val + r.val, by omega⟩ l) * Ideal.ofBits .f32 0x3E000000#32 :=
    fun r l => qs11 m c t r l _ (by dsimp only; omega)
  have hp : ∀ (r : Fin 128) (l : Fin 512), 0 < T.val → ((iblk m c 12 t : Vec Ideal S128x512 .bf16) (ix2 r l) : EReal) = kv m c ⟨512 * T.val - 128 + r.val, by omega⟩ l :=
    fun r l h => kv12 m c t r l _ (by dsimp only; omega)
  have hc : ∀ (r : Fin 512) (l : Fin 512), ((iblk m c 13 t : Vec Ideal S512x512 .bf16) (ix2 r l) : EReal) = kv m c ⟨512 * T.val + r.val, by omega⟩ l :=
    fun r l => kv13 m c t r l _ (by dsimp only; omega)
  have hn : ∀ (r : Fin 128) (l : Fin 512) (h : T.val < 31), ((iblk m c 14 t : Vec Ideal S128x512 .bf16) (ix2 r l) : EReal) = kv m c ⟨512 * T.val + 512 + r.val, by omega⟩ l :=
    fun r l h => kv14 m c t r l _ (by dsimp only; omega)
  have h9 := sk9 m c t
  have h10 := bs10 m c t
  have hf0 : (k0_pay3 (F := Ideal) : EReal) = if T.val % 16 = 0 then ⊥ else 0 := by rw [if_pos (by omega)]; exact ofBits_bot
  have hf1 : (k0_pay4 (F := Ideal) : EReal) = if T.val % 16 = 15 then ⊥ else 0 := by rw [if_neg (by omega)]; exact ofBits_zero
  unfold Track.attFirst
  generalize iblk m c 9 t = b9 at *
  generalize iblk m c 10 t = b10 at *
  generalize iblk m c 11 t = bq at *
  generalize iblk m c 12 t = bp at *
  generalize iblk m c 13 t = bc at *
  generalize iblk m c 14 t = bn at *
  exact attPiece_apply T (fun a b => aQ m c (ix2 a b)) (fun a b => aK m c (ix2 a b)) (fun a b => aV m c (ix2 a b)) (fun h => aSink m c (ix2 0 h)) (kv m c)
    b9 b10 bq bp bc bn _ _ hf0 hf1 h9 h10 hq hp hc hn (fun R p f d => keyAt m c R p f d _ rfl) (fun R p f d => valAt m c R p f d _ rfl)
    (fun a b => hQ _) (fun a b => hK _) j p r f d

/-- The pieces of the tile ahead of a point at an index, the queries and keys being reals. -/
theorem attMain_apply (hQ : ∀ i, ∃ x : ℝ, aQ m c i = (x : EReal)) (hK : ∀ i, ∃ x : ℝ, aK m c i = (x : EReal)) (t : Fin cfg0.N)
    (T : Fin 32) (hT : T.val = min (t.val + 1) 31) (j p : Fin 4) (r : Fin 128) (f : Fin 2) (d : Fin 64) :
    (Track.attMain m c t j p (ix3 0 r (lane f d)) : EReal) = att m c ⟨4 * T.val + j.val, by omega⟩ r ⟨2 * p.val + f.val, by omega⟩ d := by
  have hN : cfg0.N = 32 := rfl
  have ht := t.isLt
  have hT' := T.isLt
  have hq : ∀ (r : Fin 512) (l : Fin 512), ((iblk m c 15 t : Vec Ideal S512x512 .bf16) (ix2 r l) : EReal) = aQ m c (ix2 ⟨512 * T.val + r.val, by omega⟩ l) * Ideal.ofBits .f32 0x3E000000#32 :=
    fun r l => qs15 m c t r l _ (by dsimp only; omega)
  have hp : ∀ (r : Fin 128) (l : Fin 512), 0 < T.val → ((iblk m c 16 t : Vec Ideal S128x512 .bf16) (ix2 r l) : EReal) = kv m c ⟨512 * T.val - 128 + r.val, by omega⟩ l :=
    fun r l h => kv16 m c t r l _ (by dsimp only; omega)
  have hc : ∀ (r : Fin 512) (l : Fin 512), ((iblk m c 17 t : Vec Ideal S512x512 .bf16) (ix2 r l) : EReal) = kv m c ⟨512 * T.val + r.val, by omega⟩ l :=
    fun r l => kv17 m c t r l _ (by dsimp only; omega)
  have hn : ∀ (r : Fin 128) (l : Fin 512) (h : T.val < 31), ((iblk m c 18 t : Vec Ideal S128x512 .bf16) (ix2 r l) : EReal) = kv m c ⟨512 * T.val + 512 + r.val, by omega⟩ l :=
    fun r l h => kv18 m c t r l _ (by dsimp only; omega)
  have h9 := sk9 m c t
  have h10 := bs10 m c t
  have hf0 : (k0_pay418 (F := Ideal) (grid0.coords t) : EReal) = if T.val % 16 = 0 then ⊥ else 0 := flag0 t T hT
  have hf1 : (k0_pay419 (F := Ideal) (grid0.coords t) : EReal) = if T.val % 16 = 15 then ⊥ else 0 := flag1 t T hT
  unfold Track.attMain
  generalize iblk m c 9 t = b9 at *
  generalize iblk m c 10 t = b10 at *
  generalize iblk m c 15 t = bq at *
  generalize iblk m c 16 t = bp at *
  generalize iblk m c 17 t = bc at *
  generalize iblk m c 18 t = bn at *
  exact attPiece_apply T (fun a b => aQ m c (ix2 a b)) (fun a b => aK m c (ix2 a b)) (fun a b => aV m c (ix2 a b)) (fun h => aSink m c (ix2 0 h)) (kv m c)
    b9 b10 bq bp bc bn _ _ hf0 hf1 h9 h10 hq hp hc hn (fun R p f d => keyAt m c R p f d _ rfl) (fun R p f d => valAt m c R p f d _ rfl)
    (fun a b => hQ _) (fun a b => hK _) j p r f d

/-- A tile's pieces at an index, the queries and keys being reals. -/
theorem attOf_apply (hQ : ∀ i, ∃ x : ℝ, aQ m c i = (x : EReal)) (hK : ∀ i, ∃ x : ℝ, aK m c i = (x : EReal)) (t : Fin cfg0.N)
    (B : Fin 128) (j p : Fin 4) (hB : B.val = 4 * t.val + j.val) (r : Fin 128) (f : Fin 2) (d : Fin 64) :
    (Track.attOf m c t j p (ix3 0 r (lane f d)) : EReal) = att m c B r ⟨2 * p.val + f.val, by omega⟩ d := by
  have hN : cfg0.N = 32 := rfl
  have ht := t.isLt
  have e : B = ⟨4 * (⟨t.val, by omega⟩ : Fin 32).val + j.val, by clear hB; have := j.isLt; dsimp only; omega⟩ := Fin.ext hB
  rw [e]
  unfold Track.attOf
  by_cases h0 : t.val = 0
  · rw [if_pos h0]
    exact attFirst_apply m c hQ hK t ⟨t.val, by omega⟩ h0 j p r f d
  · rw [if_neg h0]
    exact attMain_apply m c hQ hK ⟨t.val - 1, by omega⟩ ⟨t.val, by omega⟩ (by dsimp only; omega) j p r f d

/-- The layer's function of the arguments. -/
abbrev out (a : Fin 16384) (b : Fin 1024) : EReal :=
  layer (fun a b => aX m c (ix2 a b)) (fun a b => aOf m c (ix2 a b)) (fun a b => aOb m c (ix2 a b)) (fun a b => aG m c (ix2 a b))
    (fun a b => aQ m c (ix2 a b)) (fun a b => aK m c (ix2 a b)) (fun a b => aV m c (ix2 a b)) (fun b => aHg m c (ix2 0 b)) (fun h => aSink m c (ix2 0 h))
    (fun a b => aWo m c (ix3 0 a b)) (fun b => aN2 m c (ix2 0 b)) (fun a b => aWi m c (ix3 0 a b)) (fun a b => aW2 m c (ix3 0 a b)) a b

/-- A point's output block at an index, the queries and keys being reals. -/
theorem out_apply (hQ : ∀ i, ∃ x : ℝ, aQ m c i = (x : EReal)) (hK : ∀ i, ∃ x : ℝ, aK m c i = (x : EReal)) (t : Fin cfg0.N) (r : Fin 512) (b : Fin 1024)
    (a : Fin 16384) (ha : a.val = 512 * t.val + r.val) :
    ((Track.after m c t.val t.isLt).1 (ix2 r b) : EReal) = out m c a b := by
  have hN : cfg0.N = 32 := rfl
  have ht := t.isLt
  obtain rfl : a = ⟨512 * t.val + r.val, by clear ha; omega⟩ := Fin.ext ha
  rw [Track.after_out]
  unfold Track.outOf
  have hatt : ∀ k : Fin 512, (Track.tileOf (Track.attOf m c t) (ix3 0 r k) : EReal)
      = att m c ⟨(512 * t.val + r.val) / 128, by omega⟩ ⟨(512 * t.val + r.val) % 128, by omega⟩ ⟨k.val / 64, by omega⟩ ⟨k.val % 64, by omega⟩ := fun k => by
    have hk := k.isLt
    have hr := r.isLt
    refine Eq.trans ?_ ((attOf_apply m c hQ hK t ⟨(512 * t.val + r.val) / 128, by omega⟩ ⟨r.val / 128, by omega⟩ ⟨k.val / 128, by omega⟩ (by dsimp only; omega)
      ⟨(512 * t.val + r.val) % 128, by omega⟩ ⟨k.val % 128 / 64, by omega⟩ ⟨k.val % 64, by omega⟩).trans ?_)
    · show (Track.attOf m c t ⟨r.val / 128, _⟩ ⟨k.val / 128, _⟩ (ix3 0 ⟨r.val % 128, _⟩ ⟨k.val % 128, _⟩) : EReal) = _
      refine congrArg₂ (fun x y => (Track.attOf m c t ⟨r.val / 128, by omega⟩ ⟨k.val / 128, by omega⟩ (ix3 0 x y) : EReal)) (Fin.ext ?_) (Fin.ext ?_)
      · dsimp only; omega
      · show k.val % 128 = 64 * (k.val % 128 / 64) + k.val % 64; omega
    · exact congrArg (fun h => att m c _ _ h _) (Fin.ext (by dsimp only; omega))
  generalize Track.tileOf (Track.attOf m c t) = tl at hatt ⊢
  rw [outWords_apply]
  have e0 : ∀ k, (iblk m c 0 t (ix2 r k) : EReal) = aX m c (ix2 ⟨512 * t.val + r.val, by omega⟩ k) := fun k => by rw [blk0]; rfl
  have e1 : ∀ k, (iblk m c 1 t (ix2 r k) : EReal) = aOf m c (ix2 ⟨512 * t.val + r.val, by omega⟩ k) := fun k => by rw [blk1]; rfl
  have e2 : ∀ k, (iblk m c 2 t (ix2 r k) : EReal) = aOb m c (ix2 ⟨512 * t.val + r.val, by omega⟩ k) := fun k => by rw [blk2]; rfl
  have e3 : ∀ k, (iblk m c 3 t (ix2 r k) : EReal) = aG m c (ix2 ⟨512 * t.val + r.val, by omega⟩ k) := fun k => by rw [blk3]; rfl
  have e4 : ∀ k, (iblk m c 4 t (ix2 0 k) : EReal) = aHg m c (ix2 0 k) := fun k => by rw [blk4, V_v1]
  have e5 : ∀ k n, (iblk m c 5 t (ix2 k n) : EReal) = aWo m c (ix3 0 k n) := fun k n => by rw [blk5, V_v4]
  have e6 : ∀ k, (iblk m c 6 t (ix2 0 k) : EReal) = aN2 m c (ix2 0 k) := fun k => by rw [blk6, V_v6]
  have e7 : ∀ k n, (iblk m c 7 t (ix2 k n) : EReal) = aWi m c (ix3 0 k n) := fun k n => by rw [blk7, V_v8]
  have e8 : ∀ k n, (iblk m c 8 t (ix2 k n) : EReal) = aW2 m c (ix3 0 k n) := fun k n => by rw [blk8, V_v10]
  simp only [e0, e1, e2, e3, e4, e5, e6, e7, e8, hatt]
  rfl

end Cert.KernelIdeal.Entry

end
-- ==== Proof.Blocks.lean ====
/- The run of `main` with the output array named, block by block: block `t` of it is what grid point `t` leaves (`Track.after`). -/
module

public import proofs.«01_k».proof.Proof.Track

@[expose] public section

noncomputable section

namespace Cert.KernelIdeal.Track

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- WHAT POINT `t` WRITES BACK to output window 19's array: the run's contents for that window after the body (`Gen.after`: its component 0), read through the window's block. -/
theorem flushed19 (c : Dev nD) (t : Fin cfg0.N) :
    (dats m 0 c).flushed 19 t = (cfg0.win 19).cut (grid0.coords t) ((after m c t.val t.isLt).1) := by
  show (cfg0.win 19).cut (grid0.coords t) ((dats m 0 c).after 19 t) = _
  rw [after0_19]

/-- The index map sends distinct grid points to distinct block indices (decided over the 32 points). -/
theorem idx_inj19 : ∀ t t' : Fin cfg0.N, win0_19.index t = win0_19.index t' → t = t' :=
  (by decide +kernel : ∀ t t' : Fin grid0.N, win0_19.index t = win0_19.index t' → t = t')

/-- So two flushing points' blocks share no array index (Lib/Pipeline/Cells.lean `Window.disjoint_blk`). -/
theorem disjoint19 : ∀ t t' : Fin cfg0.N, (cfg0.win 19).flush t = true → (cfg0.win 19).flush t' = true → t ≠ t' →
    Disjoint ((cfg0.win 19).blk t).view.set ((cfg0.win 19).blk t').view.set :=
  fun t t' _ _ hne => (cfg0.win 19).disjoint_blk fun h => hne (idx_inj19 t t' h)

/-- BLOCK `t` OF THE FINAL ARRAY, read back through the window, is what point `t` wrote back (`flushed19`), for every
    point that writes back: no other point's block meets it. -/
theorem blocks19 (c : Dev nD) (t : Fin cfg0.N) (hf : (cfg0.win 19).flush t = true) :
    ((cfg0.win 19).blk t).view.read (Elt F) ((dats m 0 c).arrAt 19 cfg0.N) = (dats m 0 c).flushed 19 t :=
  (dats m 0 c).read_blk_arrAt_eq_flushed 19 disjoint19 cfg0.N t t.isLt hf

/-- An index that no flushing point's block covers keeps output window 19's array contents at region entry. -/
theorem entry19 (c : Dev nD) (i : S16384x1024.Idx) (h : ∀ t : Fin cfg0.N, (cfg0.win 19).flush t = true → i ∉ ((cfg0.win 19).blk t).view.set) :
    (dats m 0 c).arrAt 19 cfg0.N i = V m c (Pipeline.arrRef spec0 19) i := by
  rw [(dats m 0 c).arrAt_apply_of_forall_not_mem 19 cfg0.N i (fun t _ hf => h t hf), A_eq]

/-- After the frame run, output window 19's array is `(dats m 0 c).arrAt 19 N`. -/
theorem post19 (r : PUnit × MemSt nD τ sig (Elt F)) (h : Pipeline.FramePost cfgs (dats m) 0 (V m) r) (c : Dev nD) :
    r.2.mem ((c : Thread nD τ).loc main_v22) = (dats m 0 c).arrAt 19 cfg0.N :=
  (h c).1 19

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- After the frame run, argument `main_arg9` is as launched: no window stages it, and the run leaves the region's other buffers as they were. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- After the frame run, argument `main_arg10` is as launched: no window stages it, and the run leaves the region's other buffers as they were. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

/-- After the frame run, argument `main_arg11` is as launched: no window stages it, and the run leaves the region's other buffers as they were. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

/-- After the frame run, argument `main_arg12` is as launched: no window stages it, and the run leaves the region's other buffers as they were. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v22) = (dats m 0 c).arrAt 19 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨post19 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c⟩)
    (run_main m ρ)

end Cert.KernelIdeal.Track

end
-- ==== Proof.Whole.lean ====
/- The kernel's whole result array, and what the precondition says of the arguments it reads. -/
module

public import proofs.«01_k».proof.Proof.Result
public import proofs.«01_k».proof.Proof.Blocks
public import proofs.«01_k».proof.Pre_finite_logits
public import Idealize.ShloMosaic.Lib.Pipeline.ValueKit.Point
public import Idealize.ShloMosaic.Lib.KernelVsHost

@[expose] public section

set_option maxRecDepth 16384

noncomputable section

namespace Cert.KernelIdeal.Entry

open Cert.KernelIdeal Cert.KernelIdeal.Gen Idealize.ShloMosaic Idealize.ShloMosaic.TcCoe Idealize.ShloMosaic.Tactic

variable (m : (ℓ : Loc nD τ sig) → Buf (Elt Ideal) ℓ) (c : Dev nD)

/-- Which block of the result a grid point writes: the block of its own number. -/
theorem idx19 : ∀ t : Fin cfg0.N, win0_19.index t = ![t.val, 0] :=
  (by decide +kernel : ∀ t : Fin grid0.N, win0_19.index t = ![t.val, 0])

/-- Every index is its two coordinates. -/
theorem eq_ix2 {a b : Nat} (i : (⟨2, ![a, b]⟩ : Shape).Idx) : i = ix2 (i 0) (i 1) :=
  funext fun d => match d with
    | ⟨0, _⟩ => rfl
    | ⟨1, _⟩ => rfl

/-- The result array after the run is the layer's function of the arguments, the queries and keys being reals. -/
theorem final (hQ : ∀ i, ∃ x : ℝ, aQ m c i = (x : EReal)) (hK : ∀ i, ∃ x : ℝ, aK m c i = (x : EReal)) :
    (Track.dats m 0 c).arrAt 19 cfg0.N = (fun i => out m c (i 0) (i 1) : Vec Ideal S16384x1024 .f32) := by
  refine (Track.dats m 0 c).arrAt_eq_of_covers 19 _ (by decide +kernel) fun t hf y => ?_
  blk_simp
  rw [Track.after0_19]
  have e : ∀ (r : Fin 512) (b : Fin 1024), y = ix2 r b →
      ((Track.after m c t.val t.isLt).1 (ix2 r b) : EReal) = out m c (((cfg0.win 19).blk t).view.emb y 0) (((cfg0.win 19).blk t).view.emb y 1) := by
    intro r b hy
    have h1 : (((cfg0.win 19).blk t).view.emb y 1 : Fin 1024) = b := by
      apply Fin.ext
      blk_simp [idx19 t]
      rw [hy]
      rfl
    rw [h1]
    refine out_apply m c hQ hK t r b _ ?_
    blk_simp [idx19 t]
    rw [hy]
    show t.val * 512 + r.val = 512 * t.val + r.val
    omega
  rw [eq_ix2 (a := 512) (b := 1024) y]
  exact e _ _ (eq_ix2 (a := 512) (b := 1024) y)

/-- An absolute value below the top is a real's. -/
theorem real_of_abs_lt {x : EReal} (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  unfold Ideal.cmp at h
  dsimp only at h
  induction x with
  | bot => simp at h
  | top => simp at h
  | coe r => exact ⟨r, rfl⟩

end Cert.KernelIdeal.Entry

end
-- ==== Proof.RefAtt.lean ====
/- The reference's attention at an index, over the ideal numbers. -/
module

public import proofs.«01_k».proof.Proof.Gen.ReferenceIdeal.Read
public import proofs.«01_k».proof.Proof.Spec
public import Idealize.ShloMosaic.Lib.Pointwise
public import Idealize.ShloMosaic.Lib.KernelVsHost

@[expose] public section

set_option maxRecDepth 16384

noncomputable section

namespace Cert.ReferenceIdeal.Layer

open Cert.ReferenceIdeal Cert.ReferenceIdeal.Gen Cert.ReferenceIdeal.Read Idealize.ShloMosaic Idealize.ShloMosaic.TcCoe
open Idealize.ShloMosaic.Tactic Cert.Spec

variable (x0 : Vec Ideal S16384x1024 .f32) (x1 x2 x3 x4 : Vec Ideal S16384x512 .f32) (x5 x6 : Vec Ideal S16384x128 .f32)
  (x7 : Vec Ideal S1x128 .f32) (x8 : Vec Ideal S1x8 .f32) (x9 : Vec Ideal S1x1024x1024 .f32) (x10 : Vec Ideal S1x1024 .f32)
  (x11 : Vec Ideal S1x1024x5632 .f32) (x12 : Vec Ideal S1x2816x1024 .f32)

/-- The queries, their axis of rows split in sequences and blocks and their columns in heads. -/
theorem q_apply (b : Fin 2) (n : Fin 64) (r : Fin 128) (h : Fin 2) (g : Fin 4) (d : Fin 64) (B : Fin 128) (H : Fin 8)
    (hB : B.val = 64 * b.val + n.val) (hH : H.val = 4 * h.val + g.val) :
    val_main_v18 (F := Ideal) x4 (ix6 b n r h g d) = x4 (ix2 ⟨128 * B.val + r.val, by omega⟩ ⟨64 * H.val + d.val, by omega⟩) := by
  unfold val_main_v18
  refine shapeCast_apply x4 _ _ _ ?_
  rewrite [Shape.rowMajor_val_two, Shape.rowMajor_val_six]
  show (128 * B.val + r.val) * 512 + (64 * H.val + d.val) = ((((b.val * 64 + n.val) * 128 + r.val) * 2 + h.val) * 4 + g.val) * 64 + d.val
  omega

/-- The distance between a query's row and a key's is at most 128. -/
theorem near (r : Fin 128) (k : Fin 384) :
    IntOp.cmpi CmpIPredicate.sle (IntOp.absi (IntOp.subi (IntOp.subi (BitVec.ofNat 32 k.val) 128#32) (BitVec.ofNat 32 r.val))) 128#32
      = if r.val ≤ k.val ∧ k.val ≤ r.val + 256 then 1#1 else 0#1 := by
  have e : IntOp.subi (IntOp.subi (BitVec.ofNat 32 k.val) 128#32) (BitVec.ofNat 32 r.val) = BitVec.ofNat 32 (k.val + 127 - r.val) - 255#32 := by
    apply BitVec.eq_of_toNat_eq
    show (BitVec.ofNat 32 k.val - 128#32 - BitVec.ofNat 32 r.val).toNat = _
    simp only [BitVec.toNat_sub, BitVec.toNat_ofNat]
    omega
  rw [e]
  have t := (by decide +kernel : ∀ e : Fin 512, IntOp.cmpi CmpIPredicate.sle (IntOp.absi (BitVec.ofNat 32 e.val - 255#32)) 128#32
    = if 127 ≤ e.val ∧ e.val ≤ 383 then 1#1 else 0#1) ⟨k.val + 127 - r.val, by omega⟩
  refine t.trans ?_
  exact if_congr (by dsimp only; omega) rfl rfl

/-- A key's row is not before its sequence. -/
theorem after (n : Fin 64) (k : Fin 384) :
    IntOp.cmpi CmpIPredicate.sge (IntOp.addi (IntOp.muli (BitVec.ofNat 32 n.val) 128#32) (IntOp.subi (BitVec.ofNat 32 k.val) 128#32)) 0#32
      = if 128 ≤ 128 * n.val + k.val then 1#1 else 0#1 := by
  have e : IntOp.addi (IntOp.muli (BitVec.ofNat 32 n.val) 128#32) (IntOp.subi (BitVec.ofNat 32 k.val) 128#32) = BitVec.ofNat 32 (128 * n.val + k.val) - 128#32 := by
    apply BitVec.eq_of_toNat_eq
    show (BitVec.ofNat 32 n.val * 128#32 + (BitVec.ofNat 32 k.val - 128#32)).toNat = _
    simp only [BitVec.toNat_sub, BitVec.toNat_ofNat, BitVec.toNat_add, BitVec.toNat_mul]
    omega
  rw [e]
  exact (by decide +kernel : ∀ e : Fin 8448, IntOp.cmpi CmpIPredicate.sge (BitVec.ofNat 32 e.val - 128#32) 0#32
    = if 128 ≤ e.val then 1#1 else 0#1) ⟨128 * n.val + k.val, by omega⟩

/-- A key's row is not past its sequence. -/
theorem before (n : Fin 64) (k : Fin 384) :
    IntOp.cmpi CmpIPredicate.slt (IntOp.addi (IntOp.muli (BitVec.ofNat 32 n.val) 128#32) (IntOp.subi (BitVec.ofNat 32 k.val) 128#32)) 8192#32
      = if 128 * n.val + k.val < 8320 then 1#1 else 0#1 := by
  have e : IntOp.addi (IntOp.muli (BitVec.ofNat 32 n.val) 128#32) (IntOp.subi (BitVec.ofNat 32 k.val) 128#32) = BitVec.ofNat 32 (128 * n.val + k.val) - 128#32 := by
    apply BitVec.eq_of_toNat_eq
    show (BitVec.ofNat 32 n.val * 128#32 + (BitVec.ofNat 32 k.val - 128#32)).toNat = _
    simp only [BitVec.toNat_sub, BitVec.toNat_ofNat, BitVec.toNat_add, BitVec.toNat_mul]
    omega
  rw [e]
  exact (by decide +kernel : ∀ e : Fin 8448, IntOp.cmpi CmpIPredicate.slt (BitVec.ofNat 32 e.val - 128#32) 8192#32
    = if e.val < 8320 then 1#1 else 0#1) ⟨128 * n.val + k.val, by omega⟩

/-- The mask's bit: the key is in the query's window and in its sequence. -/
theorem mask (n : Fin 64) (r : Fin 128) (k : Fin 384) (B : Fin 128) (hB : B.val % 64 = n.val) :
    val_main_v66 (F := Ideal) (ix3 n r k) = if Okay B r k then 1#1 else 0#1 := by
  pointwise [val_main_v66, val_main_v65, val_main_v64, val_main_v63, val_main_c_8, val_main_v62, val_main_v61, val_main_v60, val_main_v59, val_main_v58, val_main_c_7, val_main_v57, val_main_v56, val_main_v55, val_main_c_6, val_main_v54, val_main_v53, val_main_v52, val_main_v51, val_main_v50, val_main_v49, val_main_v48, val_main_c_5, val_main_v47, val_main_v46, val_main_v45, val_main_v44, val_main_v43, val_main_v42, val_main_v41, val_main_v40, val_main_v39, val_main_v38, val_main_c_4, val_main_v37]
  rw [near, after, before]
  unfold Okay
  rw [hB]
  by_cases h1 : r.val ≤ k.val ∧ k.val ≤ r.val + 256 <;> by_cases h2 : 128 ≤ 128 * n.val + k.val <;> by_cases h3 : 128 * n.val + k.val < 8320 <;>
    simp only [h1, h2, h3, if_true, if_false, and_true, and_false, true_and, false_and, and_self] <;> first | rfl | (rw [if_neg (by omega)]; rfl) | (rw [if_pos (by omega)]; rfl)

/-- The masked logits at an index. -/
theorem masked (b : Fin 2) (n : Fin 64) (r : Fin 128) (h : Fin 2) (g : Fin 4) (k : Fin 384) :
    val_main_v68 (F := Ideal) x4 x5 (ix6 b n h g r k) = if val_main_v66 (F := Ideal) (ix3 n r k) = 1#1
      then val_main_v33 (F := Ideal) x4 x5 (ix6 b n h k r g) * Ideal.ofBits .f32 0x3E000000#32 else Ideal.ofBits .f32 0xFF800000#32 := by
  pointwise [val_main_v68, val_main_call2_v2, val_main_call2_v0, val_main_cst_9, val_main_call2_v1, val_main_v67, val_main_v36, val_main_v35, val_main_cst_3, val_main_v34]
  rfl

/-- The keys around a block at an index of the padded rows. -/
theorem kBand (b : Fin 2) (n : Fin 64) (k : Fin 384) (h : Fin 2) (d : Fin 64) :
    val_main_v25 (F := Ideal) x5 (ix5 b n k h d) = val_main_v20 (F := Ideal) x5 (ix4 b ⟨128 * n.val + k.val, by omega⟩ h d) := by
  pointwise [val_main_v25, val_main_v24, val_main_v23, val_main_v22, val_main_v21]
  have hk := k.isLt
  have hn := n.isLt
  have key : ∀ (x y : Fin 8448), x.val = y.val → val_main_v20 (F := Ideal) x5 (ix4 b x h d) = val_main_v20 (F := Ideal) x5 (ix4 b y h d) :=
    fun x y e => congrArg (fun z => val_main_v20 (F := Ideal) x5 (ix4 b z h d)) (Fin.ext e)
  split
  · exact key _ _ (by show n.val * 128 + k.val = 128 * n.val + k.val; omega)
  · split
    · exact key _ _ (by show (1 + n.val) * 128 + (k.val - 128) = 128 * n.val + k.val; omega)
    · exact key _ _ (by show (2 + n.val) * 128 + (k.val - 128 - 128) = 128 * n.val + k.val; omega)

/-- The keys around a block where the padded row is in the sequence. -/
theorem k_apply (b : Fin 2) (n : Fin 64) (k : Fin 384) (h : Fin 2) (d : Fin 64) (B : Fin 128) (H : Fin 8) (hB : B.val = 64 * b.val + n.val)
    (hH : H.val / 4 = h.val) (h0 : 128 ≤ 128 * n.val + k.val) (h1 : 128 * n.val + k.val < 8320) :
    val_main_v25 (F := Ideal) x5 (ix5 b n k h d) = x5 (ix2 (keyRow B k) ⟨64 * (H.val / 4) + d.val, by omega⟩) := by
  have hk := k.isLt
  have hn := n.isLt
  have hb := b.isLt
  rw [kBand]
  unfold val_main_v20
  rw [pad_apply_of_inside _ _ _ _ _ _ _ _ (ix4 b ⟨128 * n.val + k.val - 128, by omega⟩ h d) (fun a => match a with
    | ⟨0, _⟩ => by show b.val = 0 + b.val * 1; omega
    | ⟨1, _⟩ => by show 128 * n.val + k.val = 128 + (128 * n.val + k.val - 128) * 1; omega
    | ⟨2, _⟩ => by show h.val = 0 + h.val * 1; omega
    | ⟨3, _⟩ => by show d.val = 0 + d.val * 1; omega), val_main_v19_apply]
  exact congrArg x5 (funext fun a => match a with
    | ⟨0, _⟩ => Fin.ext (by show (((b.val * 8192 + (128 * n.val + k.val - 128)) * 2 + h.val) * 64 + d.val) / 128 = (128 * B.val + k.val - 128) % 16384; omega)
    | ⟨1, _⟩ => Fin.ext (by show (((b.val * 8192 + (128 * n.val + k.val - 128)) * 2 + h.val) * 64 + d.val) % 128 = 64 * (H.val / 4) + d.val; omega))

/-- The values around a block at an index of the padded rows. -/
theorem vBand (b : Fin 2) (n : Fin 64) (k : Fin 384) (h : Fin 2) (d : Fin 64) :
    val_main_v32 (F := Ideal) x6 (ix5 b n k h d) = val_main_v27 (F := Ideal) x6 (ix4 b ⟨128 * n.val + k.val, by omega⟩ h d) := by
  pointwise [val_main_v32, val_main_v31, val_main_v30, val_main_v29, val_main_v28]
  have hk := k.isLt
  have hn := n.isLt
  have key : ∀ (x y : Fin 8448), x.val = y.val → val_main_v27 (F := Ideal) x6 (ix4 b x h d) = val_main_v27 (F := Ideal) x6 (ix4 b y h d) :=
    fun x y e => congrArg (fun z => val_main_v27 (F := Ideal) x6 (ix4 b z h d)) (Fin.ext e)
  split
  · exact key _ _ (by show n.val * 128 + k.val = 128 * n.val + k.val; omega)
  · split
    · exact key _ _ (by show (1 + n.val) * 128 + (k.val - 128) = 128 * n.val + k.val; omega)
    · exact key _ _ (by show (2 + n.val) * 128 + (k.val - 128 - 128) = 128 * n.val + k.val; omega)

/-- The values around a block where the padded row is in the sequence. -/
theorem v_apply (b : Fin 2) (n : Fin 64) (k : Fin 384) (h : Fin 2) (d : Fin 64) (B : Fin 128) (H : Fin 8) (hB : B.val = 64 * b.val + n.val)
    (hH : H.val / 4 = h.val) (h0 : 128 ≤ 128 * n.val + k.val) (h1 : 128 * n.val + k.val < 8320) :
    val_main_v32 (F := Ideal) x6 (ix5 b n k h d) = x6 (ix2 (keyRow B k) ⟨64 * (H.val / 4) + d.val, by omega⟩) := by
  have hk := k.isLt
  have hn := n.isLt
  have hb := b.isLt
  rw [vBand]
  unfold val_main_v27
  rw [pad_apply_of_inside _ _ _ _ _ _ _ _ (ix4 b ⟨128 * n.val + k.val - 128, by omega⟩ h d) (fun a => match a with
    | ⟨0, _⟩ => by show b.val = 0 + b.val * 1; omega
    | ⟨1, _⟩ => by show 128 * n.val + k.val = 128 + (128 * n.val + k.val - 128) * 1; omega
    | ⟨2, _⟩ => by show h.val = 0 + h.val * 1; omega
    | ⟨3, _⟩ => by show d.val = 0 + d.val * 1; omega), val_main_v26_apply]
  exact congrArg x6 (funext fun a => match a with
    | ⟨0, _⟩ => Fin.ext (by show (((b.val * 8192 + (128 * n.val + k.val - 128)) * 2 + h.val) * 64 + d.val) / 128 = (128 * B.val + k.val - 128) % 16384; omega)
    | ⟨1, _⟩ => Fin.ext (by show (((b.val * 8192 + (128 * n.val + k.val - 128)) * 2 + h.val) * 64 + d.val) % 128 = 64 * (H.val / 4) + d.val; omega))

/-- The word of the lower infinity. -/
theorem bits_bot : Ideal.ofBits .f32 0xFF800000#32 = ⊥ := by simp [Ideal.ofBits, Ideal.ieee]

/-- The query's product with a key. -/
theorem dot_apply (b : Fin 2) (n : Fin 64) (r : Fin 128) (h : Fin 2) (g : Fin 4) (k : Fin 384) :
    val_main_v33 (F := Ideal) x4 x5 (ix6 b n h k r g)
      = ∑ d : Fin 64, val_main_v25 (F := Ideal) x5 (ix5 b n k h d) * val_main_v18 (F := Ideal) x4 (ix6 b n r h g d) := by
  rw [val_main_v33_apply]
  refine Finset.sum_congr rfl fun d _ => ?_
  exact congrArg₂ (fun i j => val_main_v25 (F := Ideal) x5 i * val_main_v18 (F := Ideal) x4 j)
    (funext fun a => match a with | ⟨0, _⟩ => rfl | ⟨1, _⟩ => rfl | ⟨2, _⟩ => rfl | ⟨3, _⟩ => rfl | ⟨4, _⟩ => rfl)
    (funext fun a => match a with | ⟨0, _⟩ => rfl | ⟨1, _⟩ => rfl | ⟨2, _⟩ => rfl | ⟨3, _⟩ => rfl | ⟨4, _⟩ => rfl | ⟨5, _⟩ => rfl)

/-- The masked logits are the specification's. -/
theorem logit_apply (b : Fin 2) (n : Fin 64) (r : Fin 128) (h : Fin 2) (g : Fin 4) (k : Fin 384) (B : Fin 128) (H : Fin 8)
    (hB : B.val = 64 * b.val + n.val) (hH : H.val = 4 * h.val + g.val) :
    val_main_v68 (F := Ideal) x4 x5 (ix6 b n h g r k) = logit (fun a c => x4 (ix2 a c)) (fun a c => x5 (ix2 a c)) B r H k := by
  have hn := n.isLt
  have hg := g.isLt
  rw [masked, mask n r k B (by omega)]
  unfold logit
  by_cases ok : Okay B r k
  · rw [if_pos ok, if_pos rfl, if_pos ok, dot_apply]
    refine congrArg (· * Ideal.ofBits .f32 0x3E000000#32) (Finset.sum_congr rfl fun d _ => ?_)
    have ok' := ok
    unfold Okay at ok'
    rw [k_apply x5 b n k h d B H hB (by omega) (by omega) (by omega), q_apply x4 b n r h g d B H hB hH]
    exact mul_comm _ _
  · rw [if_neg ok, if_neg (by decide), if_neg ok, bits_bot]

/-- A row's largest logit. -/
theorem largest (b : Fin 2) (n : Fin 64) (r : Fin 128) (h : Fin 2) (g : Fin 4) :
    val_main_v72 (F := Ideal) x4 x5 (ix5 b n h g r) = Finset.univ.fold max ⊥ (fun k : Fin 384 => val_main_v68 (F := Ideal) x4 x5 (ix6 b n h g r k)) := by
  unfold val_main_v72
  generalize val_main_v68 (F := Ideal) x4 x5 = y
  refine (Host.reduce_eq_fold_single (f := (max : EReal → EReal → EReal)) y _ reducesTo_S2x64x2x4x128x384_S2x64x2x4x128_d5 (by decide) h_S_ (ix5 b n h g r)).trans ?_
  rw [val_main_cst_10_apply]
  show Finset.fold max (Ideal.ofBits .f32 0xFF800000#32) _ _ = _
  rw [bits_bot]
  refine congrArg (fun f => Finset.fold max ⊥ f Finset.univ) (funext fun k => ?_)
  exact congrArg y (funext fun a => Fin.ext (by match a with | ⟨0, _⟩ => rfl | ⟨1, _⟩ => rfl | ⟨2, _⟩ => rfl | ⟨3, _⟩ => rfl | ⟨4, _⟩ => rfl | ⟨5, _⟩ => rfl))

/-- The larger of a row's largest logit and its sink. -/
theorem peak (b : Fin 2) (n : Fin 64) (r : Fin 128) (h : Fin 2) (g : Fin 4) (H : Fin 8) (hH : H.val = 4 * h.val + g.val) :
    val_main_v75 (F := Ideal) x4 x5 x8 (ix6 b n h g r 0) = max (val_main_v72 (F := Ideal) x4 x5 (ix5 b n h g r)) (x8 (ix2 0 H)) := by
  have e : H = ⟨h.val * 4 + g.val, by omega⟩ := Fin.ext (by dsimp only; omega)
  rw [e]
  have s : val_main_v74 (F := Ideal) x8 (ix6 b n h g r 0) = x8 (ix2 0 ⟨h.val * 4 + g.val, by omega⟩) := by
    pointwise [val_main_v74, val_main_v71, val_main_v70, val_main_v69]
  have t : val_main_v73 (F := Ideal) x4 x5 (ix6 b n h g r 0) = val_main_v72 (F := Ideal) x4 x5 (ix5 b n h g r) := by
    rw [val_main_v73_apply]
    exact congrArg (val_main_v72 (F := Ideal) x4 x5) (funext fun a => match a with | ⟨0, _⟩ => rfl | ⟨1, _⟩ => rfl | ⟨2, _⟩ => rfl | ⟨3, _⟩ => rfl | ⟨4, _⟩ => rfl)
  exact (val_main_v75_apply x4 x5 x8 _).trans (congrArg₂ (max : EReal → EReal → EReal) t s)

/-- A key's weight. -/
theorem weight (b : Fin 2) (n : Fin 64) (r : Fin 128) (h : Fin 2) (g : Fin 4) (k : Fin 384) :
    val_main_v78 (F := Ideal) x4 x5 x8 (ix6 b n h g r k)
      = Ideal.exp (val_main_v68 (F := Ideal) x4 x5 (ix6 b n h g r k) - val_main_v75 (F := Ideal) x4 x5 x8 (ix6 b n h g r 0)) := by
  pointwise [val_main_v78, val_main_v77, val_main_v76]

/-- The sum of a row's weights. -/
theorem weights (b : Fin 2) (n : Fin 64) (r : Fin 128) (h : Fin 2) (g : Fin 4) :
    val_main_v79 (F := Ideal) x4 x5 x8 (ix5 b n h g r) = ∑ k : Fin 384, val_main_v78 (F := Ideal) x4 x5 x8 (ix6 b n h g r k) := by
  rw [val_main_v79_apply, val_main_cst_11_apply]
  show Ideal.ofBits .f32 0x00000000#32 + _ = _
  rw [Ideal.ofBits_zero_f32, zero_add]
  refine Finset.sum_congr rfl fun k _ => ?_
  exact congrArg (val_main_v78 (F := Ideal) x4 x5 x8) (funext fun a => match a with | ⟨0, _⟩ => rfl | ⟨1, _⟩ => rfl | ⟨2, _⟩ => rfl | ⟨3, _⟩ => rfl | ⟨4, _⟩ => rfl | ⟨5, _⟩ => rfl)

/-- A key's share. -/
theorem share (b : Fin 2) (n : Fin 64) (r : Fin 128) (h : Fin 2) (g : Fin 4) (k : Fin 384) (H : Fin 8) (hH : H.val = 4 * h.val + g.val) :
    val_main_v86 (F := Ideal) x4 x5 x8 (ix6 b n h g r k)
      = Ideal.div (val_main_v78 (F := Ideal) x4 x5 x8 (ix6 b n h g r k))
          (val_main_v79 (F := Ideal) x4 x5 x8 (ix5 b n h g r) + Ideal.exp (x8 (ix2 0 H) - val_main_v75 (F := Ideal) x4 x5 x8 (ix6 b n h g r 0))) := by
  have e : H = ⟨h.val * 4 + g.val, by omega⟩ := Fin.ext (by dsimp only; omega)
  rw [e]
  pointwise [val_main_v86, val_main_v85, val_main_v84, val_main_v83, val_main_v82, val_main_v81, val_main_v80, val_main_v71, val_main_v70, val_main_v69]

/-- The values' mean by the shares. -/
theorem mean_apply (b : Fin 2) (n : Fin 64) (r : Fin 128) (h : Fin 2) (g : Fin 4) (d : Fin 64) :
    val_main_v87 (F := Ideal) x4 x5 x6 x8 (ix6 b n h d g r)
      = ∑ k : Fin 384, val_main_v32 (F := Ideal) x6 (ix5 b n k h d) * val_main_v86 (F := Ideal) x4 x5 x8 (ix6 b n h g r k) := by
  rw [val_main_v87_apply]
  refine Finset.sum_congr rfl fun d _ => ?_
  exact congrArg₂ (fun i j => val_main_v32 (F := Ideal) x6 i * val_main_v86 (F := Ideal) x4 x5 x8 j)
    (funext fun a => match a with | ⟨0, _⟩ => rfl | ⟨1, _⟩ => rfl | ⟨2, _⟩ => rfl | ⟨3, _⟩ => rfl | ⟨4, _⟩ => rfl)
    (funext fun a => match a with | ⟨0, _⟩ => rfl | ⟨1, _⟩ => rfl | ⟨2, _⟩ => rfl | ⟨3, _⟩ => rfl | ⟨4, _⟩ => rfl | ⟨5, _⟩ => rfl)

/-- A logit of real queries and keys is not the upper infinity. -/
theorem logit_ne_top {Q : Fin 16384 → Fin 512 → EReal} {K : Fin 16384 → Fin 128 → EReal} (hQ : ∀ a c, ∃ x : ℝ, Q a c = (x : EReal))
    (hK : ∀ a c, ∃ x : ℝ, K a c = (x : EReal)) (B r : Fin 128) (H : Fin 8) (k : Fin 384) : logit Q K B r H k ≠ ⊤ := by
  unfold logit
  split
  · choose q hq using hQ
    choose y hy using hK
    have hc8 : ∃ x : ℝ, Ideal.ofBits .f32 0x3E000000#32 = (x : EReal) := by
      refine ⟨0.125, ?_⟩
      simp [Ideal.ofBits, Ideal.ieee, -EReal.coe_mul]
      norm_num
    obtain ⟨e, he⟩ := hc8
    simp only [hq, hy, he, ← EReal.coe_mul]
    rw [← coe_sum, ← EReal.coe_mul]
    exact EReal.coe_ne_top _
  · exact bot_ne_top

/-- The reference's attention is the specification's row, the queries, keys and sinks being reals. -/
theorem mean_row (hQ : ∀ i, ∃ x : ℝ, x4 i = (x : EReal)) (hK : ∀ i, ∃ x : ℝ, x5 i = (x : EReal)) (hS : ∀ i, ∃ x : ℝ, x8 i = (x : EReal))
    (b : Fin 2) (n : Fin 64) (r : Fin 128) (h : Fin 2) (g : Fin 4) (d : Fin 64) (B : Fin 128) (H : Fin 8)
    (hB : B.val = 64 * b.val + n.val) (hH : H.val = 4 * h.val + g.val) :
    val_main_v87 (F := Ideal) x4 x5 x6 x8 (ix6 b n h d g r)
      = attRow (fun a c => x4 (ix2 a c)) (fun a c => x5 (ix2 a c)) (fun a c => x6 (ix2 a c)) (fun h => x8 (ix2 0 h)) B r H d := by
  have hn := n.isLt
  have hg := g.isLt
  have hl : ∀ k, val_main_v68 (F := Ideal) x4 x5 (ix6 b n h g r k) = logit (fun a c => x4 (ix2 a c)) (fun a c => x5 (ix2 a c)) B r H k :=
    fun k => logit_apply x4 x5 b n r h g k B H hB hH
  have hs : ∀ k, logit (fun a c => x4 (ix2 a c)) (fun a c => x5 (ix2 a c)) B r H k ≠ ⊤ := fun k => logit_ne_top (fun _ _ => hQ _) (fun _ _ => hK _) B r H k
  obtain ⟨x, hx⟩ := hS (ix2 0 H)
  have hp : val_main_v75 (F := Ideal) x4 x5 x8 (ix6 b n h g r 0) = top (logit (fun a c => x4 (ix2 a c)) (fun a c => x5 (ix2 a c)) B r H) (x8 (ix2 0 H)) := by
    rw [peak x4 x5 x8 b n r h g H hH, largest]
    simp only [hl]
    rfl
  have hw : ∀ k, val_main_v78 (F := Ideal) x4 x5 x8 (ix6 b n h g r k) = wgt (logit (fun a c => x4 (ix2 a c)) (fun a c => x5 (ix2 a c)) B r H) (x8 (ix2 0 H)) k := by
    intro k
    rw [weight, hl, hp]
    rfl
  have hd : val_main_v79 (F := Ideal) x4 x5 x8 (ix5 b n h g r) + Ideal.exp (x8 (ix2 0 H) - val_main_v75 (F := Ideal) x4 x5 x8 (ix6 b n h g r 0))
      = den (logit (fun a c => x4 (ix2 a c)) (fun a c => x5 (ix2 a c)) B r H) (x8 (ix2 0 H)) := by
    rw [weights, hp]
    simp only [hw]
    rfl
  have e : val_main_v87 (F := Ideal) x4 x5 x6 x8 (ix6 b n h d g r)
      = attn (logit (fun a c => x4 (ix2 a c)) (fun a c => x5 (ix2 a c)) B r H) (x8 (ix2 0 H)) (fun k => val_main_v32 (F := Ideal) x6 (ix5 b n k h d)) := by
    rw [attn_inside _ hs x hx, mean_apply]
    refine Finset.sum_congr rfl fun k _ => ?_
    rw [share x4 x5 x8 b n r h g k H hH, hd, hw]
  rw [e]
  unfold attRow
  refine attn_congr (fun _ => rfl) rfl fun k hk => ?_
  have ok : Okay B r k := by
    by_contra hc
    exact hk (by unfold logit; rw [if_neg hc])
  unfold Okay at ok
  exact v_apply x6 b n k h d B H hB (by omega) (by omega) (by omega)

/-- The attention's output at a row and a column. -/
theorem att_apply (hQ : ∀ i, ∃ x : ℝ, x4 i = (x : EReal)) (hK : ∀ i, ∃ x : ℝ, x5 i = (x : EReal)) (hS : ∀ i, ∃ x : ℝ, x8 i = (x : EReal))
    (a : Fin 16384) (k : Fin 512) :
    val_main_v89 (F := Ideal) x4 x5 x6 x8 (ix2 a k)
      = attRow (fun a c => x4 (ix2 a c)) (fun a c => x5 (ix2 a c)) (fun a c => x6 (ix2 a c)) (fun h => x8 (ix2 0 h))
          ⟨a.val / 128, by omega⟩ ⟨a.val % 128, by omega⟩ ⟨k.val / 64, by omega⟩ ⟨k.val % 64, by omega⟩ := by
  have ha := a.isLt
  have hk := k.isLt
  rw [← mean_row x4 x5 x6 x8 hQ hK hS ⟨a.val / 8192, by omega⟩ ⟨a.val / 128 % 64, by omega⟩ ⟨a.val % 128, by omega⟩ ⟨k.val / 256, by omega⟩
    ⟨k.val / 64 % 4, by omega⟩ ⟨k.val % 64, by omega⟩ ⟨a.val / 128, by omega⟩ ⟨k.val / 64, by omega⟩ (by dsimp only; omega) (by dsimp only; omega)]
  unfold val_main_v89
  refine (shapeCast_apply _ _ _ (ix6 ⟨a.val / 8192, by omega⟩ ⟨a.val / 128 % 64, by omega⟩ ⟨a.val % 128, by omega⟩ ⟨k.val / 256, by omega⟩
    ⟨k.val / 64 % 4, by omega⟩ ⟨k.val % 64, by omega⟩) ?_).trans ?_
  · rewrite [Shape.rowMajor_val_two, Shape.rowMajor_val_six]
    show ((((a.val / 8192 * 64 + a.val / 128 % 64) * 128 + a.val % 128) * 2 + k.val / 256) * 4 + k.val / 64 % 4) * 64 + k.val % 64 = a.val * 512 + k.val
    omega
  · pointwise [val_main_v88]

end Cert.ReferenceIdeal.Layer

end
-- ==== Proof.RefDense.lean ====
/- The reference's result at an index is the layer of `Spec.lean`, over the ideal numbers. -/
module

public import proofs.«01_k».proof.Proof.Gen.ReferenceIdeal.Read
public import proofs.«01_k».proof.Proof.RefAtt
public import Idealize.ShloMosaic.Lib.Pointwise
public import Idealize.ShloMosaic.Lib.KernelVsHost

@[expose] public section

set_option maxRecDepth 16384

noncomputable section

namespace Cert.ReferenceIdeal.Layer

open Cert.ReferenceIdeal Cert.ReferenceIdeal.Gen Cert.ReferenceIdeal.Read Idealize.ShloMosaic Idealize.ShloMosaic.TcCoe
open Idealize.ShloMosaic.Tactic Cert.Spec

variable (x0 : Vec Ideal S16384x1024 .f32) (x1 x2 x3 x4 : Vec Ideal S16384x512 .f32) (x5 x6 : Vec Ideal S16384x128 .f32)
  (x7 : Vec Ideal S1x128 .f32) (x8 : Vec Ideal S1x8 .f32) (x9 : Vec Ideal S1x1024x1024 .f32) (x10 : Vec Ideal S1x1024 .f32)
  (x11 : Vec Ideal S1x1024x5632 .f32) (x12 : Vec Ideal S1x2816x1024 .f32)

/-- The scans' heads, normalised and gated. -/
theorem heads_apply (a : Fin 16384) (k : Fin 512) :
    val_main_v17 (F := Ideal) x1 x2 x3 x7 (ix2 a k) = headRow (fun k => x1 (ix2 a k) + x2 (ix2 a k)) (fun k => x3 (ix2 a k)) (fun d => x7 (ix2 0 d))
      ⟨k.val / 128, by omega⟩ ⟨k.val % 128, by omega⟩ := by
  have e : ∀ x : Fin 128, (⟨k.val / 128 * 128 + x.val, by omega⟩ : Fin 512) = ⟨128 * (k.val / 128) + x.val, by omega⟩ := fun x => Fin.ext (by dsimp only; omega)
  have e' : k = ⟨128 * (k.val / 128) + k.val % 128, by omega⟩ := Fin.ext (by dsimp only; omega)
  unfold headRow
  dsimp only
  rw [← e']
  pointwise [val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  simp only [e]

/-- The mixers' columns: the scans' heads and the attention's. -/
theorem mixed_apply (a : Fin 16384) (k : Fin 1024) :
    val_main_v90 (F := Ideal) x1 x2 x3 x4 x5 x6 x7 x8 (ix2 a k) = if h : k.val < 512 then val_main_v17 (F := Ideal) x1 x2 x3 x7 (ix2 a ⟨k.val, h⟩)
      else val_main_v89 (F := Ideal) x4 x5 x6 x8 (ix2 a ⟨k.val - 512, by omega⟩) := by
  pointwise [val_main_v90]

/-- The residual after the mixers. -/
theorem resid_apply (a : Fin 16384) (c : Fin 1024) :
    val_main_v93 (F := Ideal) x0 x1 x2 x3 x4 x5 x6 x7 x8 x9 (ix2 a c)
      = resRow (fun k => x0 (ix2 a k)) (fun k => val_main_v90 (F := Ideal) x1 x2 x3 x4 x5 x6 x7 x8 (ix2 a k)) (fun k c => x9 (ix3 0 k c)) c := by
  unfold resRow
  pointwise [val_main_v93, val_main_v92, val_main_v91]

/-- The residual's row normalised. -/
theorem norm_apply (a : Fin 16384) (c : Fin 1024) :
    val_main_v107 (F := Ideal) x0 x1 x2 x3 x4 x5 x6 x7 x8 x9 x10 (ix2 a c)
      = normRow (fun k => val_main_v93 (F := Ideal) x0 x1 x2 x3 x4 x5 x6 x7 x8 x9 (ix2 a k)) (fun k => x10 (ix2 0 k)) c := by
  unfold normRow
  pointwise [val_main_v107, val_main_v106, val_main_v105, val_main_v104, val_main_v103, val_main_v102, val_main_v101, val_main_v100, val_main_v99, val_main_v98, val_main_v97, val_main_v96, val_main_v95, val_main_v94, val_main_cst_12, val_main_cst_13, val_main_cst_14]

/-- The first projection of the feed-forward. -/
theorem wide_apply (a : Fin 16384) (n : Fin 5632) :
    val_main_v109 (F := Ideal) x0 x1 x2 x3 x4 x5 x6 x7 x8 x9 x10 x11 (ix2 a n)
      = ∑ k : Fin 1024, val_main_v107 (F := Ideal) x0 x1 x2 x3 x4 x5 x6 x7 x8 x9 x10 (ix2 a k) * x11 (ix3 0 k n) := by
  pointwise [val_main_v109, val_main_v108]

/-- The gated hidden row from the first projection. -/
theorem gate_apply (a : Fin 16384) (n : Fin 2816) :
    val_main_v113 (F := Ideal) x0 x1 x2 x3 x4 x5 x6 x7 x8 x9 x10 x11 (ix2 a n)
      = val_main_v109 (F := Ideal) x0 x1 x2 x3 x4 x5 x6 x7 x8 x9 x10 x11 (ix2 a ⟨n.val, by omega⟩)
        * Ideal.logistic (val_main_v109 (F := Ideal) x0 x1 x2 x3 x4 x5 x6 x7 x8 x9 x10 x11 (ix2 a ⟨n.val, by omega⟩))
        * val_main_v109 (F := Ideal) x0 x1 x2 x3 x4 x5 x6 x7 x8 x9 x10 x11 (ix2 a ⟨2816 + n.val, by omega⟩) := by
  unfold Ideal.logistic
  pointwise [val_main_v113, val_main_v112, val_main_v111, val_main_v110, val_main_call3_v5, val_main_call3_v4, val_main_call3_v3, val_main_call3_v2, val_main_call3_v1, val_main_call3_v0, val_main_call3_cst, val_main_call3_cst_0]

/-- The hidden row is the specification's. -/
theorem hid_apply (a : Fin 16384) (n : Fin 2816) :
    val_main_v113 (F := Ideal) x0 x1 x2 x3 x4 x5 x6 x7 x8 x9 x10 x11 (ix2 a n)
      = hidRow (fun k => val_main_v107 (F := Ideal) x0 x1 x2 x3 x4 x5 x6 x7 x8 x9 x10 (ix2 a k)) (fun k n => x11 (ix3 0 k n)) n := by
  rw [gate_apply, wide_apply, wide_apply]
  rfl

/-- The result from the residual and the hidden row. -/
theorem last_apply (a : Fin 16384) (c : Fin 1024) :
    val_main_v118 (F := Ideal) x0 x1 x2 x3 x4 x5 x6 x7 x8 x9 x10 x11 x12 (ix2 a c)
      = val_main_v93 (F := Ideal) x0 x1 x2 x3 x4 x5 x6 x7 x8 x9 (ix2 a c) + Ideal.ofBits .f32 0x3F000000#32
        * ∑ n : Fin 2816, val_main_v113 (F := Ideal) x0 x1 x2 x3 x4 x5 x6 x7 x8 x9 x10 x11 (ix2 a n) * x12 (ix3 0 n c) := by
  pointwise [val_main_v118, val_main_v117, val_main_v116, val_main_v115, val_main_v114, val_main_cst_15]

/-- The reference's result is the layer of its arguments, the queries, keys and sinks being reals. -/
theorem result_apply (hQ : ∀ i, ∃ x : ℝ, x4 i = (x : EReal)) (hK : ∀ i, ∃ x : ℝ, x5 i = (x : EReal)) (hS : ∀ i, ∃ x : ℝ, x8 i = (x : EReal))
    (a : Fin 16384) (c : Fin 1024) :
    val_main_v118 (F := Ideal) x0 x1 x2 x3 x4 x5 x6 x7 x8 x9 x10 x11 x12 (ix2 a c)
      = layer (fun a b => x0 (ix2 a b)) (fun a b => x1 (ix2 a b)) (fun a b => x2 (ix2 a b)) (fun a b => x3 (ix2 a b)) (fun a b => x4 (ix2 a b))
          (fun a b => x5 (ix2 a b)) (fun a b => x6 (ix2 a b)) (fun d => x7 (ix2 0 d)) (fun h => x8 (ix2 0 h)) (fun a b => x9 (ix3 0 a b))
          (fun k => x10 (ix2 0 k)) (fun a b => x11 (ix3 0 a b)) (fun a b => x12 (ix3 0 a b)) a c := by
  have hm : (fun k => val_main_v90 (F := Ideal) x1 x2 x3 x4 x5 x6 x7 x8 (ix2 a k))
      = mixRow (fun k => x1 (ix2 a k) + x2 (ix2 a k)) (fun k => x3 (ix2 a k)) (fun d => x7 (ix2 0 d))
        (fun k => attRow (fun a c => x4 (ix2 a c)) (fun a c => x5 (ix2 a c)) (fun a c => x6 (ix2 a c)) (fun h => x8 (ix2 0 h))
          ⟨a.val / 128, by omega⟩ ⟨a.val % 128, by omega⟩ ⟨k.val / 64, by omega⟩ ⟨k.val % 64, by omega⟩) := by
    funext k
    rw [mixed_apply]
    unfold mixRow
    by_cases h : k.val < 512
    · rw [dif_pos h, dif_pos h, heads_apply]
    · rw [dif_neg h, dif_neg h, att_apply x4 x5 x6 x8 hQ hK hS]
  have hr : (fun k => val_main_v93 (F := Ideal) x0 x1 x2 x3 x4 x5 x6 x7 x8 x9 (ix2 a k))
      = resRow (fun k => x0 (ix2 a k)) (mixRow (fun k => x1 (ix2 a k) + x2 (ix2 a k)) (fun k => x3 (ix2 a k)) (fun d => x7 (ix2 0 d))
        (fun k => attRow (fun a c => x4 (ix2 a c)) (fun a c => x5 (ix2 a c)) (fun a c => x6 (ix2 a c)) (fun h => x8 (ix2 0 h))
          ⟨a.val / 128, by omega⟩ ⟨a.val % 128, by omega⟩ ⟨k.val / 64, by omega⟩ ⟨k.val % 64, by omega⟩)) (fun k c => x9 (ix3 0 k c)) := by
    funext k
    rw [resid_apply, hm]
  have hn : (fun k => val_main_v107 (F := Ideal) x0 x1 x2 x3 x4 x5 x6 x7 x8 x9 x10 (ix2 a k)) = normRow (fun k => val_main_v93 (F := Ideal) x0 x1 x2 x3 x4 x5 x6 x7 x8 x9 (ix2 a k)) (fun k => x10 (ix2 0 k)) := by
    funext k
    rw [norm_apply]
  rw [last_apply]
  unfold layer outRow
  rw [← hr, ← hn]
  refine congrArg (fun z => _ + _ * z) (Finset.sum_congr rfl fun n _ => ?_)
  rw [hid_apply]

end Cert.ReferenceIdeal.Layer

end
-- ==== Proof.Claims.lean ====
/- The claims of the certificate. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Twin
public import proofs.«01_k».proof.Proof.Whole
public import proofs.«01_k».proof.Proof.RefDense
public import Idealize.ShloMosaic.Adequacy
public import Idealize.ShloMosaic.Init

@[expose] public section

set_option maxRecDepth 16384

noncomputable section

namespace Cert.Proof

open Idealize.ShloMosaic Idealize.ShloMosaic.StableHlo Idealize.ShloMosaic.Tactic Idealize.SL.Sem Cert.KernelIdeal.Entry

/-- The shape relations the precondition's operations take. -/
theorem logits : Cert.Pre_finite_logits.Facts where
  bcast_S_S16384x512 := by decide
  bcast_S_S16384x128 := by decide
  bcast_S_S1x8 := by decide

attribute [local instance] Cert.Kernel.Gen.facts Cert.KernelIdeal.Gen.facts Cert.ReferenceIdeal.Gen.facts logits

/-- The idealized kernel runs, leaves its arguments and ends quiescent. -/
theorem kernel : Cert.quiescent_KernelIdeal := fun m ρ _ => Cert.KernelIdeal.Track.frame m ρ

/-- The same at the memories of the value claim. -/
theorem kernel_pre : Cert.quiescent_KernelIdeal_pre_finite_logits := fun m ρ _ => Cert.KernelIdeal.Track.frame m ρ

/-- The reference runs, leaves its arguments and ends quiescent. -/
theorem reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The same at the memories of the value claim. -/
theorem reference_pre : Cert.quiescent_ReferenceIdeal_pre_finite_logits := fun m ρ _ => reference m ρ trivial

/-- Under the precondition the queries are reals. -/
theorem queries_real (m) (h : Cert.Pre_KernelIdeal_finite_logits m) (c : Dev Cert.KernelIdeal.nD) (i) : ∃ x : ℝ, aQ m c i = (x : EReal) :=
  real_of_abs_lt (congrFun (h c).1 i)

/-- Under the precondition the keys are reals. -/
theorem keys_real (m) (h : Cert.Pre_KernelIdeal_finite_logits m) (c : Dev Cert.KernelIdeal.nD) (i) : ∃ x : ℝ, aK m c i = (x : EReal) :=
  real_of_abs_lt (congrFun (h c).2.1 i)

/-- Under the precondition the sinks are reals. -/
theorem sinks_real (m) (h : Cert.Pre_KernelIdeal_finite_logits m) (c : Dev Cert.KernelIdeal.nD) (i) : ∃ x : ℝ, aSink m c i = (x : EReal) :=
  real_of_abs_lt (congrFun (h c).2.2 i)

/-- The reference's result on the kernel's arguments is the layer's function of them, the queries, keys and sinks being reals. -/
theorem reference_out (m : (ℓ : Loc Cert.KernelIdeal.nD Cert.KernelIdeal.τ Cert.KernelIdeal.sig) → Buf (Elt Ideal) ℓ) (c : Dev Cert.KernelIdeal.nD)
    (hQ : ∀ i, ∃ x : ℝ, aQ m c i = (x : EReal)) (hK : ∀ i, ∃ x : ℝ, aK m c i = (x : EReal)) (hS : ∀ i, ∃ x : ℝ, aSink m c i = (x : EReal)) :
    Cert.ReferenceIdeal.Read.val_main_v118 (F := Ideal) (aX m c) (aOf m c) (aOb m c) (aG m c) (aQ m c) (aK m c) (aV m c) (aHg m c) (aSink m c) (aWo m c) (aN2 m c) (aWi m c) (aW2 m c)
      = (fun i => out m c (i 0) (i 1) : Vec Ideal Cert.KernelIdeal.S16384x1024 .f32) := by
  funext i
  rw [eq_ix2 (a := 16384) (b := 1024) i]
  exact Cert.ReferenceIdeal.Layer.result_apply (aX m c) (aOf m c) (aOb m c) (aG m c) (aQ m c) (aK m c) (aV m c) (aHg m c) (aSink m c) (aWo m c) (aN2 m c) (aWi m c) (aW2 m c) hQ hK hS (i 0) (i 1)

/-- Equal arguments give the reference equal results. -/
theorem reference_congr {x0 y0 : Vec Ideal Cert.ReferenceIdeal.S16384x1024 .f32} {x1 y1 : Vec Ideal Cert.ReferenceIdeal.S16384x512 .f32} {x2 y2 : Vec Ideal Cert.ReferenceIdeal.S16384x512 .f32} {x3 y3 : Vec Ideal Cert.ReferenceIdeal.S16384x512 .f32} {x4 y4 : Vec Ideal Cert.ReferenceIdeal.S16384x512 .f32} {x5 y5 : Vec Ideal Cert.ReferenceIdeal.S16384x128 .f32} {x6 y6 : Vec Ideal Cert.ReferenceIdeal.S16384x128 .f32} {x7 y7 : Vec Ideal Cert.ReferenceIdeal.S1x128 .f32} {x8 y8 : Vec Ideal Cert.ReferenceIdeal.S1x8 .f32} {x9 y9 : Vec Ideal Cert.ReferenceIdeal.S1x1024x1024 .f32} {x10 y10 : Vec Ideal Cert.ReferenceIdeal.S1x1024 .f32} {x11 y11 : Vec Ideal Cert.ReferenceIdeal.S1x1024x5632 .f32} {x12 y12 : Vec Ideal Cert.ReferenceIdeal.S1x2816x1024 .f32} (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) (h12 : x12 = y12) :
    Cert.ReferenceIdeal.Read.val_main_v118 (F := Ideal) x0 x1 x2 x3 x4 x5 x6 x7 x8 x9 x10 x11 x12 = Cert.ReferenceIdeal.Read.val_main_v118 (F := Ideal) y0 y1 y2 y3 y4 y5 y6 y7 y8 y9 y10 y11 y12 := by
  subst h0 h1 h2 h3 h4 h5 h6 h7 h8 h9 h10 h11 h12
  rfl

/-- The idealized kernel and the reference leave one result: the layer's function of the arguments. -/
theorem same : Cert.algebraic_KernelIdeal_ReferenceIdeal_pre_finite_logits := by
  intro m ρ m' ρ' hpre hagree
  refine ⟨fun c => (fun i => out m c (i 0) (i 1) : Vec Ideal Cert.KernelIdeal.S16384x1024 .f32), ?_, ?_⟩
  · exact (θ_run Cert.KernelIdeal.defs _ _).mono
      (fun _ h c => ⟨(h c).1.trans (final m c (queries_real m hpre c) (keys_real m hpre c)), (h c).2⟩) (Cert.KernelIdeal.Track.run_blocks m ρ)
  · refine (θ_run Cert.ReferenceIdeal.defs _ _).mono (fun _ h c => ⟨(h c).1.trans ?_, (h c).2⟩) (Cert.ReferenceIdeal.Value.run (F := Ideal) m' ρ')
    obtain ⟨h0, h1, h2, h3, h4, h5, h6, h7, h8, h9, h10, h11, h12⟩ := hagree c
    exact (Cert.ReferenceIdeal.Read.val_main_v118_eq (F := Ideal) (launchContents m' c)).trans ((reference_congr h0 h1 h2 h3 h4 h5 h6 h7 h8 h9 h10 h11 h12).trans
      (reference_out m c (queries_real m hpre c) (keys_real m hpre c) (sinks_real m hpre c)))

end Cert.Proof

end
-- ==== Proof.Twin2.lean ====
/- The first call and its idealization are one text, so the frame of the first is the frame of the second read at the bit instance. -/
module

public import proofs.«01_k».proof.Defs
public import proofs.«01_k».proof.Proof.Gen.Kernel2
public import proofs.«01_k».proof.Proof.Gen.Kernel2Ideal.Frame

@[expose] public section

set_option maxRecDepth 16384

noncomputable section

namespace Cert.Twin2

open Idealize.ShloMosaic Idealize.SL.Sem Cert.Kernel2Ideal

/-- The frame of the idealized text at the bit instance. -/
def framed : Prop :=
  ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0)

/-- The frame claim of the printed kernel is that statement: the two texts unfold to the same program. -/
theorem frame_eq : Cert.quiescent_Kernel2 = framed := by sl_kernel_rfl

/-- The frame claim of the printed kernel. -/
theorem frame : Cert.quiescent_Kernel2 := frame_eq.mpr fun m g _ => Cert.Kernel2Ideal.Gen.frame m g

end Cert.Twin2

end
-- ==== Proof.Forget.lean ====
/- A forget gate of the layer over the extended reals. -/
module

public import proofs.«01_k».proof.Proof.Spec

@[expose] public section

noncomputable section

namespace Cert.Spec

open Idealize.ShloMosaic

/-- A forget gate's lower bound: the first weight of the softmax of two entries. -/
def boundOf (a b : EReal) : EReal :=
  Ideal.div (Ideal.exp (a - max a b)) (Ideal.exp (a - max a b) + Ideal.exp (b - max a b))

/-- A forget gate's logarithm to base 2, of its projection and the two entries of its bound. -/
def forgetOf (p a b : EReal) : EReal :=
  Ideal.log (boundOf a b + (Ideal.ofBits .f32 0x3F800000#32 - boundOf a b) * Ideal.logistic p) * Ideal.ofBits .f32 0x3FB8AA3B#32

end Cert.Spec

end
-- ==== Proof.InWords.lean ====
/- The first call's body in words of its own: one slice of 128 rows through the first feed-forward and one projection of the normalised
   result; at an index of the ideal numbers each is the row function of `Spec.lean`. -/
module

public import proofs.«01_k».proof.Proof.Gen.Kernel2Ideal.Skeleton
public import proofs.«01_k».proof.Proof.Forget
public import Idealize.ShloMosaic.Lib.Pointwise

@[expose] public section

set_option maxRecDepth 16384

noncomputable section

namespace Cert.Kernel2Ideal.Words

open Cert.Kernel2Ideal Cert.Kernel2Ideal.Gen Idealize.ShloMosaic Idealize.ShloMosaic.TcCoe Idealize.ShloMosaic.Tactic
open Cert.Spec

section words

variable {F : FTy → Type} [FloatOps F]

/-- A slice normalised and scaled by the gain. -/
def normed (x : FVec F S128x1024 .f32) (gain : Vec F S1x1024 .f32) : FVec F S128x1024 .bf16 :=
  truncf .bf16 (mulf (mulf x (broadcastTo S128x1024 (rsqrt (addf (divf (shapeCast S128x1
    (multiReduction .add [1] S128 (mulf x x) 0x00000000#32 reduces_S128x1024_S128 (.inl rfl) rfl) shapeCasts_S128_S128x1)
    (broadcast S128x1 (Scalar.ofBits .f32 0x44800000#32))) (broadcast S128x1 (Scalar.ofBits .f32 0x358637BD#32))))
    broadcasts_S128x1_S128x1024))
    (broadcastTo S128x1024 (shapeCast S1x1024 gain shapeCasts_S1x1024_S1x1024) broadcasts_S1x1024_S128x1024)) bitsLt_bf16_f32

/-- A chunk of 256 of the projections to the gate or to the other factor. -/
def proj (h : FVec F S128x1024 .bf16) (w : Vec F S1024x256 .bf16) : FVec F S128x256 .f32 :=
  matmul dot_S128x1024_S1024x256_S128x256_1_0_0_1_n_n none h
    (shapeCast S1024x256 w shapeCasts_S1024x256_S1024x256) (constant S128x256 .f32 0x00000000#32)

/-- A chunk's share of the feed-forward's output. -/
def chunk (h : FVec F S128x1024 .bf16) (wg wu : Vec F S1024x256 .bf16) (wo : Vec F S256x1024 .bf16) : FVec F S128x1024 .f32 :=
  matmul dot_S128x256_S256x1024_S128x1024_1_0_0_1_n_n none
    (truncf .bf16 (mulf (mulf (proj h wg) (logistic (proj h wg))) (proj h wu)) bitsLt_bf16_f32)
    (shapeCast S256x1024 wo shapeCasts_S256x1024_S256x1024) (constant S128x1024 .f32 0x00000000#32)

/-- The chunks added up from the left, chunk `n` last. -/
def chunks (h : FVec F S128x1024 .bf16) (wg wu : Fin 11 → Vec F S1024x256 .bf16) (wo : Fin 11 → Vec F S256x1024 .bf16) :
    (n : ℕ) → n < 11 → FVec F S128x1024 .f32
  | 0, h0 => chunk h (wg ⟨0, h0⟩) (wu ⟨0, h0⟩) (wo ⟨0, h0⟩)
  | n + 1, hn => addf (chunks h wg wu wo n (Nat.lt_of_succ_lt hn))
      (chunk h (wg ⟨n + 1, hn⟩) (wu ⟨n + 1, hn⟩) (wo ⟨n + 1, hn⟩))

/-- A slice's output of the feed-forward: the rows plus half of it. -/
def dense (x : FVec F S128x1024 .f32) (gain : Vec F S1x1024 .f32) (wg wu : Fin 11 → Vec F S1024x256 .bf16)
    (wo : Fin 11 → Vec F S256x1024 .bf16) : FVec F S128x1024 .f32 :=
  addf x (mulf (broadcast S128x1024 (Scalar.ofBits .f32 0x3F000000#32)) (chunks (normed x gain) wg wu wo 10 (by decide)))

/-- Five hundred and twelve columns of the in-projection. -/
def wide (h : FVec F S128x1024 .bf16) (w : Vec F S1024x512 .bf16) : FVec F S128x512 .f32 :=
  matmul dot_S128x1024_S1024x512_S128x512_1_0_0_1_n_n none h
    (shapeCast S1024x512 w shapeCasts_S1024x512_S1024x512) (constant S128x512 .f32 0x00000000#32)

/-- A projection times its sigmoid. -/
def swish (p : FVec F S128x512 .f32) : FVec F S128x512 .f32 := mulf p (logistic p)

/-- A projection cast down. -/
def down (p : FVec F S128x512 .f32) : FVec F S128x512 .bf16 := truncf .bf16 p bitsLt_bf16_f32

/-- A forget gate's lower bound from the two rows of its table. -/
def bound (a b : Vec F S1x512 .f32) : FVec F S1x512 .f32 :=
  divf (exp (subf a (maximumf a b))) (addf (exp (subf a (maximumf a b))) (exp (subf b (maximumf a b))))

/-- A forget gate's logarithm to base 2. -/
def forget (p : FVec F S128x512 .f32) (a b : Vec F S1x512 .f32) : FVec F S128x512 .f32 :=
  mulf (log (addf (broadcastTo S128x512 (bound a b) broadcasts_S1x512_S128x512)
    (mulf (broadcastTo S128x512 (subf (broadcast S1x512 (Scalar.ofBits .f32 0x3F800000#32)) (bound a b)) broadcasts_S1x512_S128x512) (logistic p))))
    (broadcast S128x512 (Scalar.ofBits .f32 0x3FB8AA3B#32))

theorem inb_row (s : Fin 4) : ∀ a, (![128 * s.val, 0] : Fin 2 → ℕ) a + S128x1024.size a ≤ S512x1024.size a := by
  fin_cases s <;> decide

theorem inb_piece (s : Fin 4) : ∀ a, (![128 * s.val, 0] : Fin 2 → ℕ) a + S128x512.size a ≤ S512x512.size a := by
  fin_cases s <;> decide

theorem inb_gate (n : Fin 11) : ∀ a, (![0, 256 * n.val] : Fin 2 → ℕ) a + S1024x256.size a ≤ S1024x5632.size a := by
  fin_cases n <;> decide

theorem inb_up (n : Fin 11) : ∀ a, (![0, 2816 + 256 * n.val] : Fin 2 → ℕ) a + S1024x256.size a ≤ S1024x5632.size a := by
  fin_cases n <;> decide

theorem inb_down (n : Fin 11) : ∀ a, (![256 * n.val, 0] : Fin 2 → ℕ) a + S256x1024.size a ≤ S2816x1024.size a := by
  fin_cases n <;> decide

theorem inb_part (p : Fin 6) : ∀ a, (![0, 512 * p.val] : Fin 2 → ℕ) a + S1024x512.size a ≤ S1024x3328.size a := by
  fin_cases p <;> decide

/-- Slice `s` of a tile's output of the feed-forward. -/
def rows (s : Fin 4) (x0 : Vec F S512x1024 .f32) (x1 : Vec F S1x1024 .f32) (x2 : Vec F S1024x5632 .bf16) (x3 : Vec F S2816x1024 .bf16) :
    FVec F S128x1024 .f32 :=
  dense (View.ld x0 (Rect.unit (s := S512x1024) ![128 * s.val, 0] S128x1024.size (inb_row s)))
    (View.ld x1 (Rect.unit (s := S1x1024) ![0, 0] S1x1024.size inb_S1x1024_S1x1024_0_0))
    (fun n => View.ld x2 (Rect.unit (s := S1024x5632) ![0, 256 * n.val] S1024x256.size (inb_gate n)))
    (fun n => View.ld x2 (Rect.unit (s := S1024x5632) ![0, 2816 + 256 * n.val] S1024x256.size (inb_up n)))
    (fun n => View.ld x3 (Rect.unit (s := S2816x1024) ![256 * n.val, 0] S256x1024.size (inb_down n)))

/-- Part `p` of the in-projection of normalised rows. -/
def part (p : Fin 6) (h : FVec F S128x1024 .f32) (x4 : Vec F S1x1024 .f32) (x5 : Vec F S1024x3328 .bf16) : FVec F S128x512 .f32 :=
  wide (normed h (View.ld x4 (Rect.unit (s := S1x1024) ![0, 0] S1x1024.size inb_S1x1024_S1x1024_0_0)))
    (View.ld x5 (Rect.unit (s := S1024x3328) ![0, 512 * p.val] S1024x512.size (inb_part p)))

/-- A forget gate's logarithm from a projection and its table. -/
def gate (p : FVec F S128x512 .f32) (t : Vec F S2x512 .f32) : FVec F S128x512 .f32 :=
  forget p (View.ld t (Rect.unit (s := S2x512) ![0, 0] S1x512.size inb_S2x512_S1x512_0_0))
    (View.ld t (Rect.unit (s := S2x512) ![1, 0] S1x512.size inb_S2x512_S1x512_1_0))

end words

/-! ## At an index -/

/-- A chunk's projection at an index. -/
theorem proj_apply (h : FVec Ideal S128x1024 .bf16) (w : Vec Ideal S1024x256 .bf16) (r : Fin 128) (n : Fin 256) :
    (proj h w (ix2 r n) : EReal) = ∑ k : Fin 1024, (h (ix2 r k) : EReal) * w (ix2 k n) := by
  pointwise [proj]

/-- A chunk's share at an index. -/
theorem chunk_apply (h : FVec Ideal S128x1024 .bf16) (wg wu : Vec Ideal S1024x256 .bf16) (wo : Vec Ideal S256x1024 .bf16) (r : Fin 128) (c : Fin 1024) :
    (chunk h wg wu wo (ix2 r c) : EReal) = ∑ n : Fin 256, ((∑ k : Fin 1024, (h (ix2 r k) : EReal) * wg (ix2 k n))
      * Ideal.logistic (∑ k : Fin 1024, (h (ix2 r k) : EReal) * wg (ix2 k n)) * ∑ k : Fin 1024, (h (ix2 r k) : EReal) * wu (ix2 k n))
      * (wo (ix2 n c) : EReal) := by
  simp only [← proj_apply]
  generalize hg : proj h wg = pg
  generalize hu : proj h wu = pu
  unfold chunk
  rw [hg, hu]
  pointwise

/-- The normalised rows at an index. -/
theorem normed_apply (x : FVec Ideal S128x1024 .f32) (gain : Vec Ideal S1x1024 .f32) (r : Fin 128) (c : Fin 1024) :
    (normed x gain (ix2 r c) : EReal) = normRow (fun k => x (ix2 r k)) (fun k => gain (ix2 0 k)) c := by
  unfold normRow
  pointwise [normed]

/-- The chunks added up from the left are their sum. -/
theorem chunks_apply (h : FVec Ideal S128x1024 .bf16) (wg wu : Fin 11 → Vec Ideal S1024x256 .bf16) (wo : Fin 11 → Vec Ideal S256x1024 .bf16)
    (x : S128x1024.Idx) : (n : ℕ) → (hn : n < 11) → (chunks h wg wu wo n hn x : EReal)
      = ∑ i : Fin (n + 1), (chunk h (wg ⟨i.val, by omega⟩) (wu ⟨i.val, by omega⟩) (wo ⟨i.val, by omega⟩) x : EReal)
  | 0, h0 => by rw [Fin.sum_univ_one]; rfl
  | n + 1, hn => by
      rw [Fin.sum_univ_castSucc]
      exact congrArg (· + _) (chunks_apply h wg wu wo x n (Nat.lt_of_succ_lt hn))

/-- A sum over eleven chunks of 256 is the sum over all. -/
theorem sum_chunks (f : Fin 2816 → EReal) : ∑ i : Fin 11, ∑ n : Fin 256, f ⟨256 * i.val + n.val, by omega⟩ = ∑ n, f n := by
  rw [← Fintype.sum_prod_type']
  refine Fintype.sum_equiv (finProdFinEquiv : Fin 11 × Fin 256 ≃ Fin (11 * 256)) _ (fun n => f n) fun x => ?_
  congr 1
  apply Fin.ext
  show 256 * x.1.val + x.2.val = x.2.val + 256 * x.1.val
  omega

/-- A slice's output of the feed-forward at an index. -/
theorem rows_apply (s : Fin 4) (x0 : Vec Ideal S512x1024 .f32) (x1 : Vec Ideal S1x1024 .f32) (x2 : Vec Ideal S1024x5632 .bf16)
    (x3 : Vec Ideal S2816x1024 .bf16) (r : Fin 128) (c : Fin 1024) :
    (rows s x0 x1 x2 x3 (ix2 r c) : EReal)
      = outRow (fun k => x0 (ix2 ⟨128 * s.val + r.val, by omega⟩ k)) (fun k => x1 (ix2 0 k)) (fun k n => x2 (ix2 k n)) (fun n k => x3 (ix2 n k)) c := by
  have e0 : ∀ k, View.ld x0 (Rect.unit (s := S512x1024) ![128 * s.val, 0] S128x1024.size (inb_row s)) (ix2 r k)
      = x0 (ix2 ⟨128 * s.val + r.val, by omega⟩ k) := fun k => by pointwise
  have e1 : ∀ k, View.ld x1 (Rect.unit (s := S1x1024) ![0, 0] S1x1024.size inb_S1x1024_S1x1024_0_0) (ix2 0 k) = x1 (ix2 0 k) := fun k => by pointwise
  have e2 : ∀ (i : Fin 11) (k : Fin 1024) (n : Fin 256), View.ld x2 (Rect.unit (s := S1024x5632) ![0, 256 * i.val] S1024x256.size (inb_gate i)) (ix2 k n)
      = x2 (ix2 k ⟨256 * i.val + n.val, by omega⟩) := fun i k n => by pointwise
  have e2' : ∀ (i : Fin 11) (k : Fin 1024) (n : Fin 256), View.ld x2 (Rect.unit (s := S1024x5632) ![0, 2816 + 256 * i.val] S1024x256.size (inb_up i)) (ix2 k n)
      = x2 (ix2 k ⟨2816 + (256 * i.val + n.val), by omega⟩) := fun i k n => by
    pointwise
    exact congrArg (fun q => x2 (ix2 k q)) (Fin.ext (Nat.add_assoc _ _ _))
  have e3 : ∀ (i : Fin 11) (n : Fin 256) (k : Fin 1024), View.ld x3 (Rect.unit (s := S2816x1024) ![256 * i.val, 0] S256x1024.size (inb_down i)) (ix2 n k)
      = x3 (ix2 ⟨256 * i.val + n.val, by omega⟩ k) := fun i n k => by pointwise
  unfold rows dense outRow
  generalize View.ld x0 (Rect.unit (s := S512x1024) ![128 * s.val, 0] S128x1024.size (inb_row s)) = mx at e0 ⊢
  have hn : ∀ k, (normed mx (View.ld x1 (Rect.unit (s := S1x1024) ![0, 0] S1x1024.size inb_S1x1024_S1x1024_0_0)) (ix2 r k) : EReal)
      = normRow (fun k => x0 (ix2 ⟨128 * s.val + r.val, by omega⟩ k)) (fun k => x1 (ix2 0 k)) k := fun k => by
    rw [normed_apply]
    simp only [e0, e1]
  generalize normed mx (View.ld x1 (Rect.unit (s := S1x1024) ![0, 0] S1x1024.size inb_S1x1024_S1x1024_0_0)) = nn at hn ⊢
  generalize normRow (fun k => x0 (ix2 ⟨128 * s.val + r.val, by omega⟩ k)) (fun k => x1 (ix2 0 k)) = nr at hn ⊢
  refine congrArg₂ (fun a b : EReal => a + Ideal.ofBits .f32 0x3F000000#32 * b) (e0 c) ?_
  rw [chunks_apply, ← sum_chunks]
  refine Finset.sum_congr rfl fun i _ => ?_
  rw [chunk_apply]
  refine Finset.sum_congr rfl fun n _ => ?_
  unfold hidRow
  simp only [hn, e2, e2', e3]

/-- A part of the in-projection at an index. -/
theorem part_apply (p : Fin 6) (h : FVec Ideal S128x1024 .f32) (x4 : Vec Ideal S1x1024 .f32) (x5 : Vec Ideal S1024x3328 .bf16)
    (r : Fin 128) (c : Fin 512) :
    (part p h x4 x5 (ix2 r c) : EReal)
      = ∑ k : Fin 1024, normRow (fun k => h (ix2 r k)) (fun k => x4 (ix2 0 k)) k * x5 (ix2 k ⟨512 * p.val + c.val, by omega⟩) := by
  have e4 : ∀ k, View.ld x4 (Rect.unit (s := S1x1024) ![0, 0] S1x1024.size inb_S1x1024_S1x1024_0_0) (ix2 0 k) = x4 (ix2 0 k) := fun k => by pointwise
  have e5 : ∀ k, View.ld x5 (Rect.unit (s := S1024x3328) ![0, 512 * p.val] S1024x512.size (inb_part p)) (ix2 k c)
      = x5 (ix2 k ⟨512 * p.val + c.val, by omega⟩) := fun k => by pointwise
  have hn : ∀ k, (normed h (View.ld x4 (Rect.unit (s := S1x1024) ![0, 0] S1x1024.size inb_S1x1024_S1x1024_0_0)) (ix2 r k) : EReal)
      = normRow (fun k => h (ix2 r k)) (fun k => x4 (ix2 0 k)) k := fun k => by
    rw [normed_apply]
    simp only [e4]
  unfold part
  generalize normed h (View.ld x4 (Rect.unit (s := S1x1024) ![0, 0] S1x1024.size inb_S1x1024_S1x1024_0_0)) = nn at hn ⊢
  generalize normRow (fun k => h (ix2 r k)) (fun k => x4 (ix2 0 k)) = nr at hn ⊢
  generalize View.ld x5 (Rect.unit (s := S1024x3328) ![0, 512 * p.val] S1024x512.size (inb_part p)) = ww at e5 ⊢
  have hw : (wide nn ww (ix2 r c) : EReal) = ∑ k : Fin 1024, (nn (ix2 r k) : EReal) * ww (ix2 k c) := by
    pointwise [wide]
  rw [hw]
  simp only [hn, e5]

/-- A projection times its sigmoid at an index. -/
theorem swish_apply (p : FVec Ideal S128x512 .f32) (r : Fin 128) (c : Fin 512) :
    (swish p (ix2 r c) : EReal) = (p (ix2 r c) : EReal) * Ideal.logistic (p (ix2 r c)) := by
  pointwise [swish]

/-- A projection cast down at an index. -/
theorem down_apply (p : FVec Ideal S128x512 .f32) (r : Fin 128) (c : Fin 512) : (down p (ix2 r c) : EReal) = p (ix2 r c) := by
  pointwise [down]

/-- A forget gate's logarithm at an index. -/
theorem gate_apply (p : FVec Ideal S128x512 .f32) (t : Vec Ideal S2x512 .f32) (r : Fin 128) (c : Fin 512) :
    (gate p t (ix2 r c) : EReal) = forgetOf (p (ix2 r c)) (t (ix2 0 c)) (t (ix2 1 c)) := by
  have e0 : View.ld t (Rect.unit (s := S2x512) ![0, 0] S1x512.size inb_S2x512_S1x512_0_0) (ix2 0 c) = t (ix2 0 c) := by pointwise
  have e1 : View.ld t (Rect.unit (s := S2x512) ![1, 0] S1x512.size inb_S2x512_S1x512_1_0) (ix2 0 c) = t (ix2 1 c) := by pointwise
  unfold gate forgetOf boundOf
  rw [← e0, ← e1]
  generalize View.ld t (Rect.unit (s := S2x512) ![0, 0] S1x512.size inb_S2x512_S1x512_0_0) = a
  generalize View.ld t (Rect.unit (s := S2x512) ![1, 0] S1x512.size inb_S2x512_S1x512_1_0) = b
  pointwise [forget, bound]

end Cert.Kernel2Ideal.Words

end
-- ==== Proof.InEntry.lean ====
/- The first call's arrays at an index in terms of the arguments, and the windows' blocks as reads of them. -/
module

public import proofs.«01_k».proof.Proof.Gen.Kernel2Ideal.Frame
public import Idealize.ShloMosaic.Lib.Claim
public import Idealize.ShloMosaic.Lib.Pointwise
public import Idealize.ShloMosaic.Lib.StableHlo.ReadAt
public import Idealize.ShloMosaic.Lib.Pipeline.ValueKit.Point

@[expose] public section

set_option maxRecDepth 16384

noncomputable section

namespace Cert.Kernel2Ideal.Entry

open Cert.Kernel2Ideal Cert.Kernel2Ideal.Gen Idealize.ShloMosaic Idealize.ShloMosaic.TcCoe Idealize.ShloMosaic.Tactic

variable (m : (ℓ : Loc nD τ sig) → Buf (Elt Ideal) ℓ) (c : Dev nD)

/-- The layer's rows. -/
abbrev aX : S16384x1024.Idx → EReal := m ((c : Thread nD τ).loc main_arg0)

/-- The feed-forward's gain. -/
abbrev aN : S1x1024.Idx → EReal := m ((c : Thread nD τ).loc main_arg1)

/-- The feed-forward's first projection. -/
abbrev aWi : S1x1024x5632.Idx → EReal := m ((c : Thread nD τ).loc main_arg2)

/-- The feed-forward's second projection. -/
abbrev aWo : S1x2816x1024.Idx → EReal := m ((c : Thread nD τ).loc main_arg3)

/-- The mixers' gain. -/
abbrev aM : S1x1024.Idx → EReal := m ((c : Thread nD τ).loc main_arg4)

/-- The in-projection. -/
abbrev aIn : S1x1024x3328.Idx → EReal := m ((c : Thread nD τ).loc main_arg5)

/-- The forward forget gates' table of bounds. -/
abbrev aLf : S2x512.Idx → EReal := m ((c : Thread nD τ).loc main_arg6)

/-- The backward forget gates' table of bounds. -/
abbrev aLb : S2x512.Idx → EReal := m ((c : Thread nD τ).loc main_arg7)

/-- The rows. -/
theorem V_arg0 (a : Fin 16384) (b : Fin 1024) : (V m c main_arg0 : Vec Ideal S16384x1024 .f32) (ix2 a b) = aX m c (ix2 a b) := by
  unfold V; after_reads_at

/-- The feed-forward's gain, one row. -/
theorem V_v36 (b : Fin 1024) : (V m c main_v36 : Vec Ideal S1x1024 .f32) (ix2 0 b) = aN m c (ix2 0 b) := by
  unfold V; after_reads_at

/-- The feed-forward's first projection. -/
theorem V_v38 (a : Fin 1024) (b : Fin 5632) : (V m c main_v38 : Vec Ideal S1024x5632 .bf16) (ix2 a b) = aWi m c (ix3 0 a b) := by
  unfold V; after_reads_at

/-- The feed-forward's second projection. -/
theorem V_v40 (a : Fin 2816) (b : Fin 1024) : (V m c main_v40 : Vec Ideal S2816x1024 .bf16) (ix2 a b) = aWo m c (ix3 0 a b) := by
  unfold V; after_reads_at

/-- The mixers' gain, one row. -/
theorem V_v42 (b : Fin 1024) : (V m c main_v42 : Vec Ideal S1x1024 .f32) (ix2 0 b) = aM m c (ix2 0 b) := by
  unfold V; after_reads_at

/-- The in-projection. -/
theorem V_v44 (a : Fin 1024) (b : Fin 3328) : (V m c main_v44 : Vec Ideal S1024x3328 .bf16) (ix2 a b) = aIn m c (ix3 0 a b) := by
  unfold V; after_reads_at

/-- The forward table. -/
theorem V_arg6 (a : Fin 2) (b : Fin 512) : (V m c main_arg6 : Vec Ideal S2x512 .f32) (ix2 a b) = aLf m c (ix2 a b) := by
  unfold V; after_reads_at

/-- The backward table. -/
theorem V_arg7 (a : Fin 2) (b : Fin 512) : (V m c main_arg7 : Vec Ideal S2x512 .f32) (ix2 a b) = aLb m c (ix2 a b) := by
  unfold V; after_reads_at

/-- Which block of the rows window 0 stages. -/
theorem idx0 : ∀ t : Fin cfg0.N, win0_0.index t = ![t.val, 0] :=
  (by decide +kernel : ∀ t : Fin grid0.N, win0_0.index t = ![t.val, 0])

/-- Which block of the gain window 1 stages. -/
theorem idx1 : ∀ t : Fin cfg0.N, win0_1.index t = ![0, 0] :=
  (by decide +kernel : ∀ t : Fin grid0.N, win0_1.index t = ![0, 0])

/-- Which block of the first projection window 2 stages. -/
theorem idx2 : ∀ t : Fin cfg0.N, win0_2.index t = ![0, 0] :=
  (by decide +kernel : ∀ t : Fin grid0.N, win0_2.index t = ![0, 0])

/-- Which block of the second projection window 3 stages. -/
theorem idx3 : ∀ t : Fin cfg0.N, win0_3.index t = ![0, 0] :=
  (by decide +kernel : ∀ t : Fin grid0.N, win0_3.index t = ![0, 0])

/-- Which block of the mixers' gain window 4 stages. -/
theorem idx4 : ∀ t : Fin cfg0.N, win0_4.index t = ![0, 0] :=
  (by decide +kernel : ∀ t : Fin grid0.N, win0_4.index t = ![0, 0])

/-- Which block of the in-projection window 5 stages. -/
theorem idx5 : ∀ t : Fin cfg0.N, win0_5.index t = ![0, 0] :=
  (by decide +kernel : ∀ t : Fin grid0.N, win0_5.index t = ![0, 0])

/-- Window 0's block at an index. -/
theorem blk0 (t : Fin cfg0.N) (r : Fin 512) (l : Fin 1024) : (iblk m c 0 t : Vec Ideal S512x1024 .f32) (ix2 r l)
    = aX m c (ix2 ⟨512 * t.val + r.val, by have := t.isLt; have h : cfg0.N = 32 := rfl; omega⟩ l) := by
  rw [← V_arg0]
  unfold iblk
  generalize V m c = W
  blk_ext! [idx0 t]

/-- Window 1's block at an index. -/
theorem blk1 (t : Fin cfg0.N) (l : Fin 1024) : (iblk m c 1 t : Vec Ideal S1x1024 .f32) (ix2 0 l) = aN m c (ix2 0 l) := by
  rw [← V_v36]
  unfold iblk
  generalize V m c = W
  blk_ext! [idx1 t]

/-- Window 2's block at an index. -/
theorem blk2 (t : Fin cfg0.N) (r : Fin 1024) (l : Fin 5632) : (iblk m c 2 t : Vec Ideal S1024x5632 .bf16) (ix2 r l) = aWi m c (ix3 0 r l) := by
  rw [← V_v38]
  unfold iblk
  generalize V m c = W
  blk_ext! [idx2 t]

/-- Window 3's block at an index. -/
theorem blk3 (t : Fin cfg0.N) (r : Fin 2816) (l : Fin 1024) : (iblk m c 3 t : Vec Ideal S2816x1024 .bf16) (ix2 r l) = aWo m c (ix3 0 r l) := by
  rw [← V_v40]
  unfold iblk
  generalize V m c = W
  blk_ext! [idx3 t]

/-- Window 4's block at an index. -/
theorem blk4 (t : Fin cfg0.N) (l : Fin 1024) : (iblk m c 4 t : Vec Ideal S1x1024 .f32) (ix2 0 l) = aM m c (ix2 0 l) := by
  rw [← V_v42]
  unfold iblk
  generalize V m c = W
  blk_ext! [idx4 t]

/-- Window 5's block at an index. -/
theorem blk5 (t : Fin cfg0.N) (r : Fin 1024) (l : Fin 3328) : (iblk m c 5 t : Vec Ideal S1024x3328 .bf16) (ix2 r l) = aIn m c (ix3 0 r l) := by
  rw [← V_v44]
  unfold iblk
  generalize V m c = W
  blk_ext! [idx5 t]

/-- Which block of the forward table window 6 stages. -/
theorem idx6 : ∀ t : Fin cfg0.N, win0_6.index t = ![0, 0] :=
  (by decide +kernel : ∀ t : Fin grid0.N, win0_6.index t = ![0, 0])

/-- Window 6's block at an index. -/
theorem blk6 (t : Fin cfg0.N) (r : Fin 2) (l : Fin 512) : (iblk m c 6 t : Vec Ideal S2x512 .f32) (ix2 r l) = aLf m c (ix2 r l) := by
  rw [← V_arg6]
  unfold iblk
  generalize V m c = W
  blk_ext! [idx6 t]

/-- Which block of the backward table window 7 stages. -/
theorem idx7 : ∀ t : Fin cfg0.N, win0_7.index t = ![0, 0] :=
  (by decide +kernel : ∀ t : Fin grid0.N, win0_7.index t = ![0, 0])

/-- Window 7's block at an index. -/
theorem blk7 (t : Fin cfg0.N) (r : Fin 2) (l : Fin 512) : (iblk m c 7 t : Vec Ideal S2x512 .f32) (ix2 r l) = aLb m c (ix2 r l) := by
  rw [← V_arg7]
  unfold iblk
  generalize V m c = W
  blk_ext! [idx7 t]

end Cert.Kernel2Ideal.Entry

end
-- ==== Proof.InWhole.lean ====
/- The first call's result arrays at an index, as row functions of the arguments. -/
module

public import proofs.«01_k».proof.Proof.InBody
public import proofs.«01_k».proof.Proof.InEntry

@[expose] public section

set_option maxRecDepth 16384

noncomputable section

namespace Cert.Kernel2Ideal.Entry

open Cert.Kernel2Ideal Cert.Kernel2Ideal.Gen Cert.Kernel2Ideal.Words Idealize.ShloMosaic Idealize.ShloMosaic.TcCoe Idealize.ShloMosaic.Tactic
open Cert.Spec

/-- Every index is its two coordinates. -/
theorem eq_ix2 {a b : Nat} (i : (⟨2, ![a, b]⟩ : Shape).Idx) : i = ix2 (i 0) (i 1) :=
  funext fun d => match d with
    | ⟨0, _⟩ => rfl
    | ⟨1, _⟩ => rfl

section tile

variable (x0 : Vec Ideal S512x1024 .f32) (x1 : Vec Ideal S1x1024 .f32) (x2 : Vec Ideal S1024x5632 .bf16) (x3 : Vec Ideal S2816x1024 .bf16) (x4 : Vec Ideal S1x1024 .f32) (x5 : Vec Ideal S1024x3328 .bf16)
  (x6 : Vec Ideal S2x512 .f32) (x7 : Vec Ideal S2x512 .f32) (x8 : Vec Ideal S1x512 .f32) (x9 : Vec Ideal S1x128 .f32) (x10 : Vec Ideal S512x128 .f32) (x11 : Vec Ideal S512x128 .f32) (x12 : Vec Ideal S256x128 .bf16)

/-- A tile's rows after the feed-forward. -/
def tileX (a : Fin 512) (b : Fin 1024) : EReal :=
  outRow (fun k => x0 (ix2 a k)) (fun k => x1 (ix2 0 k)) (fun k n => x2 (ix2 k n)) (fun n k => x3 (ix2 n k)) b

/-- Column `b` of part `p` of the in-projection. -/
def col (p : Fin 6) (b : Fin 512) : Fin 3328 := ⟨512 * p.val + b.val, by omega⟩

/-- A part of a tile's in-projection. -/
def tileP (p : Fin 6) (a b : Fin 512) : EReal :=
  ∑ k : Fin 1024, normRow (tileX x0 x1 x2 x3 a) (fun k => x4 (ix2 0 k)) k * x5 (ix2 k (col p b))

/-- The same times its sigmoid. -/
def tileS (p : Fin 6) (a b : Fin 512) : EReal := tileP x0 x1 x2 x3 x4 x5 p a b * Ideal.logistic (tileP x0 x1 x2 x3 x4 x5 p a b)

/-- A part's forget gates under a table of bounds. -/
def tileF (tb : Vec Ideal S2x512 .f32) (p : Fin 6) (a b : Fin 512) : EReal :=
  forgetOf (tileP x0 x1 x2 x3 x4 x5 p a b) (tb (ix2 0 b)) (tb (ix2 1 b))

/-- A slice's rows are the tile's. -/
theorem rows_tile (s : Fin 4) (r : Fin 128) (a : Fin 512) (ha : a.val = 128 * s.val + r.val) (b : Fin 1024) :
    (rows s x0 x1 x2 x3 (ix2 r b) : EReal) = tileX x0 x1 x2 x3 a b := by
  have e : (⟨128 * s.val + r.val, by omega⟩ : Fin 512) = a := Fin.ext ha.symm
  rw [← e]
  exact rows_apply s x0 x1 x2 x3 r b

/-- A slice's part of the in-projection is the tile's. -/
theorem part_tile (p : Fin 6) (s : Fin 4) (r : Fin 128) (a : Fin 512) (ha : a.val = 128 * s.val + r.val) (b : Fin 512) :
    (part p (rows s x0 x1 x2 x3) x4 x5 (ix2 r b) : EReal) = tileP x0 x1 x2 x3 x4 x5 p a b := by
  have h : (fun k => (rows s x0 x1 x2 x3 (ix2 r k) : EReal)) = tileX x0 x1 x2 x3 a := funext fun k => rows_tile x0 x1 x2 x3 s r a ha k
  rw [part_apply]
  unfold tileP
  refine Finset.sum_congr rfl fun k _ => ?_
  exact congrArg (fun z => normRow z (fun k => x4 (ix2 0 k)) k * x5 (ix2 k (col p b))) h

/-- Where slice `s` of the rows lies in the tile. -/
theorem emb_rows (s : Fin 4) (r : Fin 128) (b : Fin 1024) :
    (Rect.unit (s := S512x1024) ![128 * s.val, 0] S128x1024.size (inb_row s)).emb (ix2 r b) = ix2 ⟨128 * s.val + r.val, by omega⟩ b := by
  funext a
  apply Fin.ext
  match a with
  | 0 => show 128 * s.val + 1 * r.val = 128 * s.val + r.val; omega
  | 1 => show 0 + 1 * b.val = b.val; omega

/-- Where slice `s` of a part lies in the tile. -/
theorem emb_part (s : Fin 4) (r : Fin 128) (b : Fin 512) :
    (Rect.unit (s := S512x512) ![128 * s.val, 0] S128x512.size (inb_piece s)).emb (ix2 r b) = ix2 ⟨128 * s.val + r.val, by omega⟩ b := by
  funext a
  apply Fin.ext
  match a with
  | 0 => show 128 * s.val + 1 * r.val = 128 * s.val + r.val; omega
  | 1 => show 0 + 1 * b.val = b.val; omega

/-- The first result's block at an index. -/
theorem out13_apply (y : S512x1024.Idx) :
    (out0_13 x0 x1 x2 x3 x4 x5 x6 x7 x8 x9 x10 x11 x12 y : EReal) = tileX x0 x1 x2 x3 (y 0) (y 1) := by
  have key : ∀ (s : Fin 4) (j : S128x1024.Idx), (rows s x0 x1 x2 x3 j : EReal)
      = (fun y : S512x1024.Idx => tileX x0 x1 x2 x3 (y 0) (y 1)) ((Rect.unit (s := S512x1024) ![128 * s.val, 0] S128x1024.size (inb_row s)).emb j) := by
    intro s j
    obtain ⟨r, b, rfl⟩ : ∃ (r : Fin 128) (b : Fin 1024), j = ix2 r b := ⟨j 0, j 1, eq_ix2 (a := 128) (b := 1024) j⟩
    rw [emb_rows]
    exact rows_tile x0 x1 x2 x3 s r ⟨128 * s.val + r.val, by omega⟩ rfl b
  refine View.canon_apply_of_pieces (Val := Elt Ideal) (fun y => tileX x0 x1 x2 x3 (y 0) (y 1) : Vec Ideal S512x1024 .f32) _ (fun p hp j => ?_) y (cover0_13 _ _ _ _ y)
  simp only [List.mem_cons, List.mem_nil_iff, or_false] at hp
  rcases hp with rfl | rfl | rfl | rfl
  · exact (congrFun (rows_3 x0 x1 x2 x3 x4 x5 x6 x7 x8 x9 x10 x11 x12) j).trans (key 3 j)
  · exact (congrFun (rows_2 x0 x1 x2 x3 x4 x5 x6 x7 x8 x9 x10 x11 x12) j).trans (key 2 j)
  · exact (congrFun (rows_1 x0 x1 x2 x3 x4 x5 x6 x7 x8 x9 x10 x11 x12) j).trans (key 1 j)
  · exact (congrFun (rows_0 x0 x1 x2 x3 x4 x5 x6 x7 x8 x9 x10 x11 x12) j).trans (key 0 j)

/-- The second result's block at an index. -/
theorem out14_apply (y : S512x512.Idx) :
    (out0_14 x0 x1 x2 x3 x4 x5 x6 x7 x8 x9 x10 x11 x12 y : EReal) = tileS x0 x1 x2 x3 x4 x5 0 (y 0) (y 1) := by
  have key : ∀ (s : Fin 4) (j : S128x512.Idx), (swish (part 0 (rows s x0 x1 x2 x3) x4 x5) j : EReal)
      = (fun y : S512x512.Idx => tileS x0 x1 x2 x3 x4 x5 0 (y 0) (y 1)) ((Rect.unit (s := S512x512) ![128 * s.val, 0] S128x512.size (inb_piece s)).emb j) := by
    intro s j
    obtain ⟨r, b, rfl⟩ : ∃ (r : Fin 128) (b : Fin 512), j = ix2 r b := ⟨j 0, j 1, eq_ix2 (a := 128) (b := 512) j⟩
    rw [emb_part]
    rw [swish_apply, part_tile x0 x1 x2 x3 x4 x5 0 s r ⟨128 * s.val + r.val, by omega⟩ rfl b]
    rfl
  refine View.canon_apply_of_pieces (Val := Elt Ideal) (fun y => tileS x0 x1 x2 x3 x4 x5 0 (y 0) (y 1) : Vec Ideal S512x512 .f32) _ (fun p hp j => ?_) y (cover0_14 _ _ _ _ y)
  simp only [List.mem_cons, List.mem_nil_iff, or_false] at hp
  rcases hp with rfl | rfl | rfl | rfl
  · exact (congrFun (q_3 x0 x1 x2 x3 x4 x5 x6 x7 x8 x9 x10 x11 x12) j).trans (key 3 j)
  · exact (congrFun (q_2 x0 x1 x2 x3 x4 x5 x6 x7 x8 x9 x10 x11 x12) j).trans (key 2 j)
  · exact (congrFun (q_1 x0 x1 x2 x3 x4 x5 x6 x7 x8 x9 x10 x11 x12) j).trans (key 1 j)
  · exact (congrFun (q_0 x0 x1 x2 x3 x4 x5 x6 x7 x8 x9 x10 x11 x12) j).trans (key 0 j)

/-- The third result's block at an index. -/
theorem out15_apply (y : S512x512.Idx) :
    (out0_15 x0 x1 x2 x3 x4 x5 x6 x7 x8 x9 x10 x11 x12 y : EReal) = tileF x0 x1 x2 x3 x4 x5 x6 1 (y 0) (y 1) := by
  have key : ∀ (s : Fin 4) (j : S128x512.Idx), (gate (part 1 (rows s x0 x1 x2 x3) x4 x5) x6 j : EReal)
      = (fun y : S512x512.Idx => tileF x0 x1 x2 x3 x4 x5 x6 1 (y 0) (y 1)) ((Rect.unit (s := S512x512) ![128 * s.val, 0] S128x512.size (inb_piece s)).emb j) := by
    intro s j
    obtain ⟨r, b, rfl⟩ : ∃ (r : Fin 128) (b : Fin 512), j = ix2 r b := ⟨j 0, j 1, eq_ix2 (a := 128) (b := 512) j⟩
    rw [emb_part]
    rw [gate_apply, part_tile x0 x1 x2 x3 x4 x5 1 s r ⟨128 * s.val + r.val, by omega⟩ rfl b]
    rfl
  refine View.canon_apply_of_pieces (Val := Elt Ideal) (fun y => tileF x0 x1 x2 x3 x4 x5 x6 1 (y 0) (y 1) : Vec Ideal S512x512 .f32) _ (fun p hp j => ?_) y (cover0_15 _ _ _ _ y)
  simp only [List.mem_cons, List.mem_nil_iff, or_false] at hp
  rcases hp with rfl | rfl | rfl | rfl
  · exact (congrFun (lff_3 x0 x1 x2 x3 x4 x5 x6 x7 x8 x9 x10 x11 x12) j).trans (key 3 j)
  · exact (congrFun (lff_2 x0 x1 x2 x3 x4 x5 x6 x7 x8 x9 x10 x11 x12) j).trans (key 2 j)
  · exact (congrFun (lff_1 x0 x1 x2 x3 x4 x5 x6 x7 x8 x9 x10 x11 x12) j).trans (key 1 j)
  · exact (congrFun (lff_0 x0 x1 x2 x3 x4 x5 x6 x7 x8 x9 x10 x11 x12) j).trans (key 0 j)

/-- The fourth result's block at an index. -/
theorem out16_apply (y : S512x512.Idx) :
    (out0_16 x0 x1 x2 x3 x4 x5 x6 x7 x8 x9 x10 x11 x12 y : EReal) = tileF x0 x1 x2 x3 x4 x5 x7 2 (y 0) (y 1) := by
  have key : ∀ (s : Fin 4) (j : S128x512.Idx), (gate (part 2 (rows s x0 x1 x2 x3) x4 x5) x7 j : EReal)
      = (fun y : S512x512.Idx => tileF x0 x1 x2 x3 x4 x5 x7 2 (y 0) (y 1)) ((Rect.unit (s := S512x512) ![128 * s.val, 0] S128x512.size (inb_piece s)).emb j) := by
    intro s j
    obtain ⟨r, b, rfl⟩ : ∃ (r : Fin 128) (b : Fin 512), j = ix2 r b := ⟨j 0, j 1, eq_ix2 (a := 128) (b := 512) j⟩
    rw [emb_part]
    rw [gate_apply, part_tile x0 x1 x2 x3 x4 x5 2 s r ⟨128 * s.val + r.val, by omega⟩ rfl b]
    rfl
  refine View.canon_apply_of_pieces (Val := Elt Ideal) (fun y => tileF x0 x1 x2 x3 x4 x5 x7 2 (y 0) (y 1) : Vec Ideal S512x512 .f32) _ (fun p hp j => ?_) y (cover0_16 _ _ _ _ y)
  simp only [List.mem_cons, List.mem_nil_iff, or_false] at hp
  rcases hp with rfl | rfl | rfl | rfl
  · exact (congrFun (lfb_3 x0 x1 x2 x3 x4 x5 x6 x7 x8 x9 x10 x11 x12) j).trans (key 3 j)
  · exact (congrFun (lfb_2 x0 x1 x2 x3 x4 x5 x6 x7 x8 x9 x10 x11 x12) j).trans (key 2 j)
  · exact (congrFun (lfb_1 x0 x1 x2 x3 x4 x5 x6 x7 x8 x9 x10 x11 x12) j).trans (key 1 j)
  · exact (congrFun (lfb_0 x0 x1 x2 x3 x4 x5 x6 x7 x8 x9 x10 x11 x12) j).trans (key 0 j)

/-- The fifth result's block at an index. -/
theorem out17_apply (y : S512x512.Idx) :
    (out0_17 x0 x1 x2 x3 x4 x5 x6 x7 x8 x9 x10 x11 x12 y : EReal) = tileP x0 x1 x2 x3 x4 x5 3 (y 0) (y 1) := by
  have key : ∀ (s : Fin 4) (j : S128x512.Idx), (down (part 3 (rows s x0 x1 x2 x3) x4 x5) j : EReal)
      = (fun y : S512x512.Idx => tileP x0 x1 x2 x3 x4 x5 3 (y 0) (y 1)) ((Rect.unit (s := S512x512) ![128 * s.val, 0] S128x512.size (inb_piece s)).emb j) := by
    intro s j
    obtain ⟨r, b, rfl⟩ : ∃ (r : Fin 128) (b : Fin 512), j = ix2 r b := ⟨j 0, j 1, eq_ix2 (a := 128) (b := 512) j⟩
    rw [emb_part]
    rw [down_apply, part_tile x0 x1 x2 x3 x4 x5 3 s r ⟨128 * s.val + r.val, by omega⟩ rfl b]
    rfl
  refine View.canon_apply_of_pieces (Val := Elt Ideal) (fun y => tileP x0 x1 x2 x3 x4 x5 3 (y 0) (y 1) : Vec Ideal S512x512 .bf16) _ (fun p hp j => ?_) y (cover0_17 _ _ _ _ y)
  simp only [List.mem_cons, List.mem_nil_iff, or_false] at hp
  rcases hp with rfl | rfl | rfl | rfl
  · exact (congrFun (v_3 x0 x1 x2 x3 x4 x5 x6 x7 x8 x9 x10 x11 x12) j).trans (key 3 j)
  · exact (congrFun (v_2 x0 x1 x2 x3 x4 x5 x6 x7 x8 x9 x10 x11 x12) j).trans (key 2 j)
  · exact (congrFun (v_1 x0 x1 x2 x3 x4 x5 x6 x7 x8 x9 x10 x11 x12) j).trans (key 1 j)
  · exact (congrFun (v_0 x0 x1 x2 x3 x4 x5 x6 x7 x8 x9 x10 x11 x12) j).trans (key 0 j)

/-- The sixth result's block at an index. -/
theorem out18_apply (y : S512x512.Idx) :
    (out0_18 x0 x1 x2 x3 x4 x5 x6 x7 x8 x9 x10 x11 x12 y : EReal) = tileS x0 x1 x2 x3 x4 x5 4 (y 0) (y 1) := by
  have key : ∀ (s : Fin 4) (j : S128x512.Idx), (swish (part 4 (rows s x0 x1 x2 x3) x4 x5) j : EReal)
      = (fun y : S512x512.Idx => tileS x0 x1 x2 x3 x4 x5 4 (y 0) (y 1)) ((Rect.unit (s := S512x512) ![128 * s.val, 0] S128x512.size (inb_piece s)).emb j) := by
    intro s j
    obtain ⟨r, b, rfl⟩ : ∃ (r : Fin 128) (b : Fin 512), j = ix2 r b := ⟨j 0, j 1, eq_ix2 (a := 128) (b := 512) j⟩
    rw [emb_part]
    rw [swish_apply, part_tile x0 x1 x2 x3 x4 x5 4 s r ⟨128 * s.val + r.val, by omega⟩ rfl b]
    rfl
  refine View.canon_apply_of_pieces (Val := Elt Ideal) (fun y => tileS x0 x1 x2 x3 x4 x5 4 (y 0) (y 1) : Vec Ideal S512x512 .f32) _ (fun p hp j => ?_) y (cover0_18 _ _ _ _ y)
  simp only [List.mem_cons, List.mem_nil_iff, or_false] at hp
  rcases hp with rfl | rfl | rfl | rfl
  · exact (congrFun (g_3 x0 x1 x2 x3 x4 x5 x6 x7 x8 x9 x10 x11 x12) j).trans (key 3 j)
  · exact (congrFun (g_2 x0 x1 x2 x3 x4 x5 x6 x7 x8 x9 x10 x11 x12) j).trans (key 2 j)
  · exact (congrFun (g_1 x0 x1 x2 x3 x4 x5 x6 x7 x8 x9 x10 x11 x12) j).trans (key 1 j)
  · exact (congrFun (g_0 x0 x1 x2 x3 x4 x5 x6 x7 x8 x9 x10 x11 x12) j).trans (key 0 j)

end tile

variable (m : (ℓ : Loc nD τ sig) → Buf (Elt Ideal) ℓ) (c : Dev nD)

/-- The rows after the feed-forward, of the arguments. -/
def resX (a : Fin 16384) (b : Fin 1024) : EReal :=
  outRow (fun k => aX m c (ix2 a k)) (fun k => aN m c (ix2 0 k)) (fun k n => aWi m c (ix3 0 k n)) (fun n k => aWo m c (ix3 0 n k)) b

/-- A part of the in-projection, of the arguments. -/
def resP (p : Fin 6) (a : Fin 16384) (b : Fin 512) : EReal :=
  ∑ k : Fin 1024, normRow (resX m c a) (fun k => aM m c (ix2 0 k)) k * aIn m c (ix3 0 k (col p b))

/-- The same times its sigmoid. -/
def resS (p : Fin 6) (a : Fin 16384) (b : Fin 512) : EReal := resP m c p a b * Ideal.logistic (resP m c p a b)

/-- A part's forget gates under a table of bounds, of the arguments. -/
def resF (tb : S2x512.Idx → EReal) (p : Fin 6) (a : Fin 16384) (b : Fin 512) : EReal :=
  forgetOf (resP m c p a b) (tb (ix2 0 b)) (tb (ix2 1 b))

/-- A tile's rows are the arguments'. -/
theorem tileX_res (t : Fin cfg0.N) (r : Fin 512) (a : Fin 16384) (ha : a.val = 512 * t.val + r.val) :
    tileX (iblk m c 0 t) (iblk m c 1 t) (iblk m c 2 t) (iblk m c 3 t) r = resX m c a := by
  have e : (⟨512 * t.val + r.val, by have := t.isLt; have h : cfg0.N = 32 := rfl; omega⟩ : Fin 16384) = a := Fin.ext ha.symm
  have h0 : (fun k => (iblk m c 0 t : Vec Ideal S512x1024 .f32) (ix2 r k)) = fun k => aX m c (ix2 a k) := funext fun k => by rw [← e]; exact blk0 m c t r k
  have h1 : (fun k => (iblk m c 1 t : Vec Ideal S1x1024 .f32) (ix2 0 k)) = fun k => aN m c (ix2 0 k) := funext fun k => blk1 m c t k
  have h2 : (fun (k : Fin 1024) (n : Fin 5632) => (iblk m c 2 t : Vec Ideal S1024x5632 .bf16) (ix2 k n)) = fun k n => aWi m c (ix3 0 k n) :=
    funext fun k => funext fun n => blk2 m c t k n
  have h3 : (fun (n : Fin 2816) (k : Fin 1024) => (iblk m c 3 t : Vec Ideal S2816x1024 .bf16) (ix2 n k)) = fun n k => aWo m c (ix3 0 n k) :=
    funext fun n => funext fun k => blk3 m c t n k
  funext b
  unfold tileX resX
  exact congr (congr (congr (congr (congrArg outRow h0) h1) h2) h3) (rfl : b = b)

/-- A tile's in-projection is the arguments'. -/
theorem tileP_res (t : Fin cfg0.N) (r : Fin 512) (a : Fin 16384) (ha : a.val = 512 * t.val + r.val) (p : Fin 6) (b : Fin 512) :
    tileP (iblk m c 0 t) (iblk m c 1 t) (iblk m c 2 t) (iblk m c 3 t) (iblk m c 4 t) (iblk m c 5 t) p r b = resP m c p a b := by
  have h4 : (fun k => (iblk m c 4 t : Vec Ideal S1x1024 .f32) (ix2 0 k)) = fun k => aM m c (ix2 0 k) := funext fun k => blk4 m c t k
  unfold tileP resP
  refine Finset.sum_congr rfl fun k _ => ?_
  exact congr (congrArg HMul.hMul (congr (congr (congrArg normRow (tileX_res m c t r a ha)) h4) (rfl : k = k))) (blk5 m c t k (col p b))

/-- Which block of result window 13 a grid point writes: the block of its own number. -/
theorem idx13 : ∀ t : Fin cfg0.N, win0_13.index t = ![t.val, 0] :=
  (by decide +kernel : ∀ t : Fin grid0.N, win0_13.index t = ![t.val, 0])

/-- The first result array. -/
theorem final13 : (dats m 0 c).arrAt 13 cfg0.N = (fun i => resX m c (i 0) (i 1) : Vec Ideal S16384x1024 .f32) := by
  refine (dats m 0 c).arrAt_eq_of_covers 13 _ (by decide +kernel) fun t hf y => ?_
  blk_simp
  rw [after0_13]
  have e : ∀ (r : Fin 512) (b : Fin 1024), y = ix2 r b →
      (out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r b) : EReal)
        = resX m c (((cfg0.win 13).blk t).view.emb y 0) (((cfg0.win 13).blk t).view.emb y 1) := by
    intro r b hy
    have h1 : (((cfg0.win 13).blk t).view.emb y 1 : Fin 1024) = b := by
      apply Fin.ext
      blk_simp [idx13 t]
      rw [hy]
      rfl
    have h0 : (((cfg0.win 13).blk t).view.emb y 0 : Fin 16384).val = 512 * t.val + r.val := by
      blk_simp [idx13 t]
      rw [hy]
      show t.val * 512 + r.val = 512 * t.val + r.val
      omega
    rw [h1]
    generalize (((cfg0.win 13).blk t).view.emb y 0 : Fin 16384) = a at h0 ⊢
    refine (out13_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r b)).trans ?_
    exact congrFun (tileX_res m c t r a h0) b
  rw [eq_ix2 (a := 512) (b := 1024) y]
  exact e _ _ (eq_ix2 (a := 512) (b := 1024) y)

/-- Which block of result window 14 a grid point writes: the block of its own number. -/
theorem idx14 : ∀ t : Fin cfg0.N, win0_14.index t = ![t.val, 0] :=
  (by decide +kernel : ∀ t : Fin grid0.N, win0_14.index t = ![t.val, 0])

/-- The second result array. -/
theorem final14 : (dats m 0 c).arrAt 14 cfg0.N = (fun i => resS m c 0 (i 0) (i 1) : Vec Ideal S16384x512 .f32) := by
  refine (dats m 0 c).arrAt_eq_of_covers 14 _ (by decide +kernel) fun t hf y => ?_
  blk_simp
  rw [after0_14]
  have e : ∀ (r : Fin 512) (b : Fin 512), y = ix2 r b →
      (out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r b) : EReal)
        = resS m c 0 (((cfg0.win 14).blk t).view.emb y 0) (((cfg0.win 14).blk t).view.emb y 1) := by
    intro r b hy
    have h1 : (((cfg0.win 14).blk t).view.emb y 1 : Fin 512) = b := by
      apply Fin.ext
      blk_simp [idx14 t]
      rw [hy]
      rfl
    have h0 : (((cfg0.win 14).blk t).view.emb y 0 : Fin 16384).val = 512 * t.val + r.val := by
      blk_simp [idx14 t]
      rw [hy]
      show t.val * 512 + r.val = 512 * t.val + r.val
      omega
    rw [h1]
    generalize (((cfg0.win 14).blk t).view.emb y 0 : Fin 16384) = a at h0 ⊢
    refine (out14_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r b)).trans ?_
    exact congrArg (fun z : EReal => z * Ideal.logistic z) (tileP_res m c t r a h0 0 b)
  rw [eq_ix2 (a := 512) (b := 512) y]
  exact e _ _ (eq_ix2 (a := 512) (b := 512) y)

/-- Which block of result window 15 a grid point writes: the block of its own number. -/
theorem idx15 : ∀ t : Fin cfg0.N, win0_15.index t = ![t.val, 0] :=
  (by decide +kernel : ∀ t : Fin grid0.N, win0_15.index t = ![t.val, 0])

/-- The third result array. -/
theorem final15 : (dats m 0 c).arrAt 15 cfg0.N = (fun i => resF m c (aLf m c) 1 (i 0) (i 1) : Vec Ideal S16384x512 .f32) := by
  refine (dats m 0 c).arrAt_eq_of_covers 15 _ (by decide +kernel) fun t hf y => ?_
  blk_simp
  rw [after0_15]
  have e : ∀ (r : Fin 512) (b : Fin 512), y = ix2 r b →
      (out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r b) : EReal)
        = resF m c (aLf m c) 1 (((cfg0.win 15).blk t).view.emb y 0) (((cfg0.win 15).blk t).view.emb y 1) := by
    intro r b hy
    have h1 : (((cfg0.win 15).blk t).view.emb y 1 : Fin 512) = b := by
      apply Fin.ext
      blk_simp [idx15 t]
      rw [hy]
      rfl
    have h0 : (((cfg0.win 15).blk t).view.emb y 0 : Fin 16384).val = 512 * t.val + r.val := by
      blk_simp [idx15 t]
      rw [hy]
      show t.val * 512 + r.val = 512 * t.val + r.val
      omega
    rw [h1]
    generalize (((cfg0.win 15).blk t).view.emb y 0 : Fin 16384) = a at h0 ⊢
    refine (out15_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r b)).trans ?_
    show forgetOf _ _ _ = forgetOf _ _ _
    exact congr (congr (congrArg forgetOf (tileP_res m c t r a h0 1 b)) (blk6 m c t 0 b)) (blk6 m c t 1 b)
  rw [eq_ix2 (a := 512) (b := 512) y]
  exact e _ _ (eq_ix2 (a := 512) (b := 512) y)

/-- Which block of result window 16 a grid point writes: the block of its own number. -/
theorem idx16 : ∀ t : Fin cfg0.N, win0_16.index t = ![t.val, 0] :=
  (by decide +kernel : ∀ t : Fin grid0.N, win0_16.index t = ![t.val, 0])

/-- The fourth result array. -/
theorem final16 : (dats m 0 c).arrAt 16 cfg0.N = (fun i => resF m c (aLb m c) 2 (i 0) (i 1) : Vec Ideal S16384x512 .f32) := by
  refine (dats m 0 c).arrAt_eq_of_covers 16 _ (by decide +kernel) fun t hf y => ?_
  blk_simp
  rw [after0_16]
  have e : ∀ (r : Fin 512) (b : Fin 512), y = ix2 r b →
      (out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r b) : EReal)
        = resF m c (aLb m c) 2 (((cfg0.win 16).blk t).view.emb y 0) (((cfg0.win 16).blk t).view.emb y 1) := by
    intro r b hy
    have h1 : (((cfg0.win 16).blk t).view.emb y 1 : Fin 512) = b := by
      apply Fin.ext
      blk_simp [idx16 t]
      rw [hy]
      rfl
    have h0 : (((cfg0.win 16).blk t).view.emb y 0 : Fin 16384).val = 512 * t.val + r.val := by
      blk_simp [idx16 t]
      rw [hy]
      show t.val * 512 + r.val = 512 * t.val + r.val
      omega
    rw [h1]
    generalize (((cfg0.win 16).blk t).view.emb y 0 : Fin 16384) = a at h0 ⊢
    refine (out16_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r b)).trans ?_
    show forgetOf _ _ _ = forgetOf _ _ _
    exact congr (congr (congrArg forgetOf (tileP_res m c t r a h0 2 b)) (blk7 m c t 0 b)) (blk7 m c t 1 b)
  rw [eq_ix2 (a := 512) (b := 512) y]
  exact e _ _ (eq_ix2 (a := 512) (b := 512) y)

/-- Which block of result window 17 a grid point writes: the block of its own number. -/
theorem idx17 : ∀ t : Fin cfg0.N, win0_17.index t = ![t.val, 0] :=
  (by decide +kernel : ∀ t : Fin grid0.N, win0_17.index t = ![t.val, 0])

/-- The fifth result array. -/
theorem final17 : (dats m 0 c).arrAt 17 cfg0.N = (fun i => resP m c 3 (i 0) (i 1) : Vec Ideal S16384x512 .bf16) := by
  refine (dats m 0 c).arrAt_eq_of_covers 17 _ (by decide +kernel) fun t hf y => ?_
  blk_simp
  rw [after0_17]
  have e : ∀ (r : Fin 512) (b : Fin 512), y = ix2 r b →
      (out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r b) : EReal)
        = resP m c 3 (((cfg0.win 17).blk t).view.emb y 0) (((cfg0.win 17).blk t).view.emb y 1) := by
    intro r b hy
    have h1 : (((cfg0.win 17).blk t).view.emb y 1 : Fin 512) = b := by
      apply Fin.ext
      blk_simp [idx17 t]
      rw [hy]
      rfl
    have h0 : (((cfg0.win 17).blk t).view.emb y 0 : Fin 16384).val = 512 * t.val + r.val := by
      blk_simp [idx17 t]
      rw [hy]
      show t.val * 512 + r.val = 512 * t.val + r.val
      omega
    rw [h1]
    generalize (((cfg0.win 17).blk t).view.emb y 0 : Fin 16384) = a at h0 ⊢
    refine (out17_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r b)).trans ?_
    exact tileP_res m c t r a h0 3 b
  rw [eq_ix2 (a := 512) (b := 512) y]
  exact e _ _ (eq_ix2 (a := 512) (b := 512) y)

/-- Which block of result window 18 a grid point writes: the block of its own number. -/
theorem idx18 : ∀ t : Fin cfg0.N, win0_18.index t = ![t.val, 0] :=
  (by decide +kernel : ∀ t : Fin grid0.N, win0_18.index t = ![t.val, 0])

/-- The sixth result array. -/
theorem final18 : (dats m 0 c).arrAt 18 cfg0.N = (fun i => resS m c 4 (i 0) (i 1) : Vec Ideal S16384x512 .f32) := by
  refine (dats m 0 c).arrAt_eq_of_covers 18 _ (by decide +kernel) fun t hf y => ?_
  blk_simp
  rw [after0_18]
  have e : ∀ (r : Fin 512) (b : Fin 512), y = ix2 r b →
      (out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r b) : EReal)
        = resS m c 4 (((cfg0.win 18).blk t).view.emb y 0) (((cfg0.win 18).blk t).view.emb y 1) := by
    intro r b hy
    have h1 : (((cfg0.win 18).blk t).view.emb y 1 : Fin 512) = b := by
      apply Fin.ext
      blk_simp [idx18 t]
      rw [hy]
      rfl
    have h0 : (((cfg0.win 18).blk t).view.emb y 0 : Fin 16384).val = 512 * t.val + r.val := by
      blk_simp [idx18 t]
      rw [hy]
      show t.val * 512 + r.val = 512 * t.val + r.val
      omega
    rw [h1]
    generalize (((cfg0.win 18).blk t).view.emb y 0 : Fin 16384) = a at h0 ⊢
    refine (out18_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r b)).trans ?_
    exact congrArg (fun z : EReal => z * Ideal.logistic z) (tileP_res m c t r a h0 4 b)
  rw [eq_ix2 (a := 512) (b := 512) y]
  exact e _ _ (eq_ix2 (a := 512) (b := 512) y)

end Cert.Kernel2Ideal.Entry

end
-- ==== Proof.RefIn.lean ====
/- The second reference's results at an index are the row functions of `Spec.lean`, over the ideal numbers. -/
module

public import proofs.«01_k».proof.Proof.Gen.Reference2Ideal.Read
public import proofs.«01_k».proof.Proof.Forget
public import Idealize.ShloMosaic.Lib.Pointwise
public import Idealize.ShloMosaic.Lib.KernelVsHost

@[expose] public section

set_option maxRecDepth 16384

noncomputable section

namespace Cert.Reference2Ideal.Layer

open Cert.Reference2Ideal Cert.Reference2Ideal.Gen Cert.Reference2Ideal.Read Idealize.ShloMosaic Idealize.ShloMosaic.TcCoe
open Idealize.ShloMosaic.Tactic Cert.Spec

variable (x0 : Vec Ideal S16384x1024 .f32) (x1 : Vec Ideal S1x1024 .f32) (x2 : Vec Ideal S1x1024x5632 .f32) (x3 : Vec Ideal S1x2816x1024 .f32)
  (x4 : Vec Ideal S1x1024 .f32) (x5 : Vec Ideal S1x1024x3328 .f32)

/-- The rows normalised. -/
theorem norm_apply (a : Fin 16384) (c : Fin 1024) :
    val_main_v13 (F := Ideal) x0 x1 (ix2 a c) = normRow (fun k => x0 (ix2 a k)) (fun k => x1 (ix2 0 k)) c := by
  unfold normRow
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]

/-- The feed-forward's first projection. -/
theorem wide_apply (a : Fin 16384) (n : Fin 5632) :
    val_main_v15 (F := Ideal) x0 x1 x2 (ix2 a n) = ∑ k : Fin 1024, val_main_v13 (F := Ideal) x0 x1 (ix2 a k) * x2 (ix3 0 k n) := by
  pointwise [val_main_v15, val_main_v14]

/-- The gated hidden row from the first projection. -/
theorem gate_apply (a : Fin 16384) (n : Fin 2816) :
    val_main_v19 (F := Ideal) x0 x1 x2 (ix2 a n)
      = val_main_v15 (F := Ideal) x0 x1 x2 (ix2 a ⟨n.val, by omega⟩)
        * Ideal.logistic (val_main_v15 (F := Ideal) x0 x1 x2 (ix2 a ⟨n.val, by omega⟩))
        * val_main_v15 (F := Ideal) x0 x1 x2 (ix2 a ⟨2816 + n.val, by omega⟩) := by
  unfold Ideal.logistic
  pointwise [val_main_v19, val_main_v18, val_main_v17, val_main_v16, val_main_call0_v5, val_main_call0_v4, val_main_call0_v3, val_main_call0_v2, val_main_call0_v1, val_main_call0_v0, val_main_call0_cst, val_main_call0_cst_0]

/-- The hidden row is the specification's. -/
theorem hid_apply (a : Fin 16384) (n : Fin 2816) :
    val_main_v19 (F := Ideal) x0 x1 x2 (ix2 a n)
      = hidRow (fun k => val_main_v13 (F := Ideal) x0 x1 (ix2 a k)) (fun k n => x2 (ix3 0 k n)) n := by
  rw [gate_apply, wide_apply, wide_apply]
  rfl

/-- The feed-forward's output from the hidden row. -/
theorem last_apply (a : Fin 16384) (c : Fin 1024) :
    val_main_v24 (F := Ideal) x0 x1 x2 x3 (ix2 a c)
      = x0 (ix2 a c) + Ideal.ofBits .f32 0x3F000000#32 * ∑ n : Fin 2816, val_main_v19 (F := Ideal) x0 x1 x2 (ix2 a n) * x3 (ix3 0 n c) := by
  pointwise [val_main_v24, val_main_v23, val_main_v22, val_main_v21, val_main_v20, val_main_cst_2]

/-- The first result: the rows after the feed-forward. -/
theorem x1_apply (a : Fin 16384) (c : Fin 1024) :
    val_main_v24 (F := Ideal) x0 x1 x2 x3 (ix2 a c)
      = outRow (fun k => x0 (ix2 a k)) (fun k => x1 (ix2 0 k)) (fun k n => x2 (ix3 0 k n)) (fun n c => x3 (ix3 0 n c)) c := by
  have hn : (fun k => val_main_v13 (F := Ideal) x0 x1 (ix2 a k)) = normRow (fun k => x0 (ix2 a k)) (fun k => x1 (ix2 0 k)) := by
    funext k
    rw [norm_apply]
  rw [last_apply]
  unfold outRow
  rw [← hn]
  refine congrArg (fun z => _ + _ * z) (Finset.sum_congr rfl fun n _ => ?_)
  rw [hid_apply]

/-- Those rows normalised. -/
theorem norm2_apply (a : Fin 16384) (c : Fin 1024) :
    val_main_v66 (F := Ideal) x0 x1 x2 x3 x4 (ix2 a c) = normRow (fun k => val_main_v24 (F := Ideal) x0 x1 x2 x3 (ix2 a k)) (fun k => x4 (ix2 0 k)) c := by
  unfold normRow
  pointwise [val_main_v66, val_main_v65, val_main_v64, val_main_v63, val_main_v62, val_main_v61, val_main_v60, val_main_v59, val_main_v58, val_main_v57, val_main_v56, val_main_v55, val_main_v54, val_main_v53, val_main_cst_9, val_main_cst_10, val_main_cst_11]

/-- The in-projection. -/
theorem in_apply (a : Fin 16384) (n : Fin 3328) :
    val_main_v68 (F := Ideal) x0 x1 x2 x3 x4 x5 (ix2 a n) = ∑ k : Fin 1024, val_main_v66 (F := Ideal) x0 x1 x2 x3 x4 (ix2 a k) * x5 (ix3 0 k n) := by
  pointwise [val_main_v68, val_main_v67]

/-- The second result from the in-projection. -/
theorem q_apply (a : Fin 16384) (c : Fin 512) :
    val_main_v75 (F := Ideal) x0 x1 x2 x3 x4 x5 (ix2 a c)
      = val_main_v68 (F := Ideal) x0 x1 x2 x3 x4 x5 (ix2 a ⟨512 * 0 + c.val, by omega⟩)
        * Ideal.logistic (val_main_v68 (F := Ideal) x0 x1 x2 x3 x4 x5 (ix2 a ⟨512 * 0 + c.val, by omega⟩)) := by
  have e : (⟨512 * 0 + c.val, by omega⟩ : Fin 3328) = ⟨c.val, by omega⟩ := Fin.ext (by dsimp only; omega)
  rw [e]
  unfold Ideal.logistic
  pointwise [val_main_v75, val_main_v69, val_main_call3_v5, val_main_call3_v4, val_main_call3_v3, val_main_call3_v2, val_main_call3_v1, val_main_call3_v0, val_main_call3_cst, val_main_call3_cst_0]

/-- The fifth result from the in-projection. -/
theorem v_apply (a : Fin 16384) (c : Fin 512) :
    val_main_v110 (F := Ideal) x0 x1 x2 x3 x4 x5 (ix2 a c) = val_main_v68 (F := Ideal) x0 x1 x2 x3 x4 x5 (ix2 a ⟨512 * 3 + c.val, by omega⟩) := by
  have e : (⟨512 * 3 + c.val, by omega⟩ : Fin 3328) = ⟨1536 + c.val, by omega⟩ := rfl
  rw [e]
  pointwise [val_main_v110, val_main_v72]

/-- The sixth result from the in-projection. -/
theorem g_apply (a : Fin 16384) (c : Fin 512) :
    val_main_v111 (F := Ideal) x0 x1 x2 x3 x4 x5 (ix2 a c)
      = val_main_v68 (F := Ideal) x0 x1 x2 x3 x4 x5 (ix2 a ⟨512 * 4 + c.val, by omega⟩)
        * Ideal.logistic (val_main_v68 (F := Ideal) x0 x1 x2 x3 x4 x5 (ix2 a ⟨512 * 4 + c.val, by omega⟩)) := by
  have e : (⟨512 * 4 + c.val, by omega⟩ : Fin 3328) = ⟨2048 + c.val, by omega⟩ := rfl
  rw [e]
  unfold Ideal.logistic
  pointwise [val_main_v111, val_main_v73, val_main_call4_v5, val_main_call4_v4, val_main_call4_v3, val_main_call4_v2, val_main_call4_v1, val_main_call4_v0, val_main_call4_cst, val_main_call4_cst_0]

/-- The first row of a running sum of two rows is the first row. -/
theorem run_apply (v : Vec Ideal S2x512 .f32) (z : S_.Idx → EReal) (hz : ∀ i, z i = 0) (b : Fin 512) :
    (Host.reduceWindowAdd (F := Ideal) (φ := .f32) ![2, 1] ![1, 1] ![1, 0] ![0, 0] v z reduceWindows_S2x512_S2x512_w2s1p1_0_w1s1p0_0 h_S_ (ix2 0 b) : EReal)
      = v (ix2 0 b) := by
  have hl : List.finRange (⟨2, ![2, 1]⟩ : Shape).numel = [⟨0, by decide⟩, ⟨1, by decide⟩] := by decide
  unfold Host.reduceWindowAdd
  rw [Ideal.hostReduceWindowAdd_def]
  unfold Ideal.hostReduceWindowAdd Host.reduceWindow
  rw [hz]
  dsimp only
  rw [hl]
  simp only [List.foldl_cons, List.foldl_nil]
  have r0 : (((⟨2, ![2, 1]⟩ : Shape).rowMajor.symm ⟨0, by decide⟩ 0).val : ℕ) = 0 := by decide
  have r1 : ((⟨2, ![2, 1]⟩ : Shape).rowMajor.symm ⟨1, by decide⟩ 0).val = 1 := by decide
  have r2 : ((⟨2, ![2, 1]⟩ : Shape).rowMajor.symm ⟨1, by decide⟩ 1).val = 0 := by decide
  rw [dif_neg, dif_pos]
  · simp only [zero_add]
    congr 1
    funext a
    apply Fin.ext
    match a with
    | 0 =>
      show 0 * 1 + ((⟨2, ![2, 1]⟩ : Shape).rowMajor.symm ⟨1, by decide⟩ 0).val - 1 = 0
      rw [r1]
    | 1 =>
      show b.val * 1 + ((⟨2, ![2, 1]⟩ : Shape).rowMajor.symm ⟨1, by decide⟩ 1).val - 0 = b.val
      rw [r2]
      omega
  · intro a
    match a with
    | 0 =>
      show 1 ≤ 0 * 1 + ((⟨2, ![2, 1]⟩ : Shape).rowMajor.symm ⟨1, by decide⟩ 0).val ∧ 0 * 1 + ((⟨2, ![2, 1]⟩ : Shape).rowMajor.symm ⟨1, by decide⟩ 0).val - 1 < 2
      rw [r1]
      decide
    | 1 =>
      show 0 ≤ b.val * 1 + ((⟨2, ![2, 1]⟩ : Shape).rowMajor.symm ⟨1, by decide⟩ 1).val ∧ b.val * 1 + ((⟨2, ![2, 1]⟩ : Shape).rowMajor.symm ⟨1, by decide⟩ 1).val - 0 < 512
      rw [r2]
      omega
  · intro h
    have h0 : 1 ≤ 0 * 1 + ((⟨2, ![2, 1]⟩ : Shape).rowMajor.symm ⟨0, by decide⟩ 0).val := (h 0).1
    rw [r0] at h0
    omega

/-- The pattern of minus infinity is below everything. -/
theorem bottom : Ideal.ofBits .f32 0xFF800000#32 = ⊥ := by simp [Ideal.ofBits, Ideal.ieee]

/-- The greatest entry of a column of the forward table. -/
theorem lff_max (t : Vec Ideal S2x512 .f32) (b : Fin 512) : val_main_v25 (F := Ideal) t (ix1 b) = max (t (ix2 0 b)) (t (ix2 1 b)) := by
  pointwise [val_main_v25, val_main_cst_3]
  rw [bottom]
  simp [Fin.univ_succ, Finset.fold_insert]

/-- The forward gates' bound. -/
theorem lff_bound (t : Vec Ideal S2x512 .f32) (b : Fin 512) : val_main_v36 (F := Ideal) t (ix2 0 b) = boundOf (t (ix2 0 b)) (t (ix2 1 b)) := by
  have h : val_main_v35 (F := Ideal) t (ix2 0 b) = boundOf (t (ix2 0 b)) (t (ix2 1 b)) := by
    unfold boundOf
    pointwise [val_main_v35, val_main_v34, val_main_v33, val_main_v32, val_main_v31, val_main_v30, val_main_v29, val_main_v28, val_main_v27, val_main_v26, val_main_cst_4, val_main_cst_5]
    rw [lff_max, bottom, Fin.sum_univ_two, max_eq_right bot_le]
  rw [← h]
  refine run_apply (val_main_v35 (F := Ideal) t) _ (fun i => ?_) b
  pointwise [val_main_call1_call0_v0, val_main_call1_call0_cst]

/-- The third result from the in-projection and the table. -/
theorem lff_apply (x6 : Vec Ideal S2x512 .f32) (a : Fin 16384) (c : Fin 512) :
    val_main_v92 (F := Ideal) x0 x1 x2 x3 x4 x5 x6 (ix2 a c)
      = forgetOf (val_main_v68 (F := Ideal) x0 x1 x2 x3 x4 x5 (ix2 a ⟨512 * 1 + c.val, by omega⟩)) (x6 (ix2 0 c)) (x6 (ix2 1 c)) := by
  have e : (⟨512 * 1 + c.val, by omega⟩ : Fin 3328) = ⟨512 + c.val, by omega⟩ := rfl
  rw [e]
  unfold forgetOf
  rw [← lff_bound x6 c]
  unfold Ideal.logistic
  pointwise [val_main_v92, val_main_v91, val_main_v90, val_main_v89, val_main_v88, val_main_v87, val_main_v86, val_main_v85, val_main_v84, val_main_v83, val_main_v82, val_main_v81, val_main_v80, val_main_v79, val_main_v78, val_main_v77, val_main_v76, val_main_v70, val_main_v38, val_main_v37, val_main_cst_12, val_main_cst_13, val_main_cst_14, val_main_cst_15]

/-- The greatest entry of a column of the backward table. -/
theorem lfb_max (t : Vec Ideal S2x512 .f32) (b : Fin 512) : val_main_v39 (F := Ideal) t (ix1 b) = max (t (ix2 0 b)) (t (ix2 1 b)) := by
  pointwise [val_main_v39, val_main_cst_6]
  rw [bottom]
  simp [Fin.univ_succ, Finset.fold_insert]

/-- The backward gates' bound. -/
theorem lfb_bound (t : Vec Ideal S2x512 .f32) (b : Fin 512) : val_main_v50 (F := Ideal) t (ix2 0 b) = boundOf (t (ix2 0 b)) (t (ix2 1 b)) := by
  have h : val_main_v49 (F := Ideal) t (ix2 0 b) = boundOf (t (ix2 0 b)) (t (ix2 1 b)) := by
    unfold boundOf
    pointwise [val_main_v49, val_main_v48, val_main_v47, val_main_v46, val_main_v45, val_main_v44, val_main_v43, val_main_v42, val_main_v41, val_main_v40, val_main_cst_7, val_main_cst_8]
    rw [lfb_max, bottom, Fin.sum_univ_two, max_eq_right bot_le]
  rw [← h]
  refine run_apply (val_main_v49 (F := Ideal) t) _ (fun i => ?_) b
  pointwise [val_main_call2_call0_v0, val_main_call2_call0_cst]

/-- The fourth result from the in-projection and the table. -/
theorem lfb_apply (x7 : Vec Ideal S2x512 .f32) (a : Fin 16384) (c : Fin 512) :
    val_main_v109 (F := Ideal) x0 x1 x2 x3 x4 x5 x7 (ix2 a c)
      = forgetOf (val_main_v68 (F := Ideal) x0 x1 x2 x3 x4 x5 (ix2 a ⟨512 * 2 + c.val, by omega⟩)) (x7 (ix2 0 c)) (x7 (ix2 1 c)) := by
  have e : (⟨512 * 2 + c.val, by omega⟩ : Fin 3328) = ⟨1024 + c.val, by omega⟩ := rfl
  rw [e]
  unfold forgetOf
  rw [← lfb_bound x7 c]
  unfold Ideal.logistic
  pointwise [val_main_v109, val_main_v108, val_main_v107, val_main_v106, val_main_v105, val_main_v104, val_main_v103, val_main_v102, val_main_v101, val_main_v100, val_main_v99, val_main_v98, val_main_v97, val_main_v96, val_main_v95, val_main_v94, val_main_v93, val_main_v71, val_main_v52, val_main_v51, val_main_cst_16, val_main_cst_17, val_main_cst_18, val_main_cst_19]

/-- The in-projection of the arguments. -/
theorem proj_apply (a : Fin 16384) (n : Fin 3328) :
    val_main_v68 (F := Ideal) x0 x1 x2 x3 x4 x5 (ix2 a n)
      = ∑ k : Fin 1024, normRow (outRow (fun k => x0 (ix2 a k)) (fun k => x1 (ix2 0 k)) (fun k n => x2 (ix3 0 k n)) (fun n c => x3 (ix3 0 n c)))
          (fun k => x4 (ix2 0 k)) k * x5 (ix3 0 k n) := by
  have h : (fun k => val_main_v24 (F := Ideal) x0 x1 x2 x3 (ix2 a k))
      = outRow (fun k => x0 (ix2 a k)) (fun k => x1 (ix2 0 k)) (fun k n => x2 (ix3 0 k n)) (fun n c => x3 (ix3 0 n c)) := by
    funext k
    exact x1_apply x0 x1 x2 x3 a k
  rw [in_apply]
  refine Finset.sum_congr rfl fun k _ => ?_
  rw [norm2_apply, h]

end Cert.Reference2Ideal.Layer

end
-- ==== Proof.Claims2.lean ====
/- The claims of the second program of the certificate, the first call. -/
module

public import proofs.«01_k».proof.Defs
public import proofs.«01_k».proof.Proof.Gen.Kernel2
public import proofs.«01_k».proof.Proof.Gen.Kernel2Ideal
public import proofs.«01_k».proof.Proof.Gen.Reference2Ideal
public import proofs.«01_k».proof.Proof.Gen.Kernel2Ideal.Value
public import proofs.«01_k».proof.Proof.Gen.Reference2Ideal.Run
public import proofs.«01_k».proof.Proof.Gen.Reference2Ideal.Read
public import proofs.«01_k».proof.Proof.Twin2
public import proofs.«01_k».proof.Proof.InWhole
public import proofs.«01_k».proof.Proof.RefIn
public import Idealize.ShloMosaic.Adequacy
public import Idealize.ShloMosaic.Init

@[expose] public section

set_option maxRecDepth 16384

noncomputable section

namespace Cert.Proof2

open Idealize.ShloMosaic Idealize.ShloMosaic.StableHlo Idealize.ShloMosaic.Tactic Idealize.SL.Sem Cert.Kernel2Ideal.Entry Cert.Spec

attribute [local instance] Cert.Kernel2.Gen.facts Cert.Kernel2Ideal.Gen.facts Cert.Reference2Ideal.Gen.facts

/-- The idealized first call runs, leaves its arguments and ends quiescent. -/
theorem kernel : Cert.quiescent_Kernel2Ideal := fun m ρ _ => Cert.Kernel2Ideal.Gen.frame m ρ

/-- The reference runs, leaves its arguments and ends quiescent. -/
theorem reference : Cert.quiescent_Reference2Ideal := fun m ρ _ =>
  (θ_run Cert.Reference2Ideal.defs _ _).mono (fun r h => ⟨fun c => (h c).2.2.2.2.2.2, Idealize.ShloMosaic.sem_eq_zero_of_no_sems (by decide) r.2⟩)
    (Cert.Reference2Ideal.Value.run (F := Ideal) m ρ)

section values

variable (m : (ℓ : Loc Cert.Kernel2Ideal.nD Cert.Kernel2Ideal.τ Cert.Kernel2Ideal.sig) → Buf (Elt Ideal) ℓ) (c : Dev Cert.Kernel2Ideal.nD)

/-- The rows after the feed-forward. -/
abbrev vX : Vec Ideal Cert.Kernel2Ideal.S16384x1024 .f32 := fun i => resX m c (i 0) (i 1)

/-- The scans' queries. -/
abbrev vQ : Vec Ideal Cert.Kernel2Ideal.S16384x512 .f32 := fun i => resS m c 0 (i 0) (i 1)

/-- The forward forget gates. -/
abbrev vF : Vec Ideal Cert.Kernel2Ideal.S16384x512 .f32 := fun i => resF m c (aLf m c) 1 (i 0) (i 1)

/-- The backward forget gates. -/
abbrev vB : Vec Ideal Cert.Kernel2Ideal.S16384x512 .f32 := fun i => resF m c (aLb m c) 2 (i 0) (i 1)

/-- The scans' values. -/
abbrev vV : Vec Ideal Cert.Kernel2Ideal.S16384x512 .bf16 := fun i => resP m c 3 (i 0) (i 1)

/-- The gates. -/
abbrev vG : Vec Ideal Cert.Kernel2Ideal.S16384x512 .f32 := fun i => resS m c 4 (i 0) (i 1)

/-- The reference's first result on the kernel's arguments. -/
theorem reference_24 : Cert.Reference2Ideal.Read.val_main_v24 (F := Ideal) (aX m c) (aN m c) (aWi m c) (aWo m c) = vX m c := by
  funext i
  obtain ⟨a, b, rfl⟩ : ∃ (a : Fin 16384) (b : Fin 1024), i = ix2 a b := ⟨i 0, i 1, eq_ix2 (a := 16384) (b := 1024) i⟩
  exact Cert.Reference2Ideal.Layer.x1_apply (aX m c) (aN m c) (aWi m c) (aWo m c) a b

/-- The reference's second result on the kernel's arguments. -/
theorem reference_75 : Cert.Reference2Ideal.Read.val_main_v75 (F := Ideal) (aX m c) (aN m c) (aWi m c) (aWo m c) (aM m c) (aIn m c) = vQ m c := by
  funext i
  obtain ⟨a, b, rfl⟩ : ∃ (a : Fin 16384) (b : Fin 512), i = ix2 a b := ⟨i 0, i 1, eq_ix2 (a := 16384) (b := 512) i⟩
  refine (Cert.Reference2Ideal.Layer.q_apply (aX m c) (aN m c) (aWi m c) (aWo m c) (aM m c) (aIn m c) a b).trans ?_
  exact congrArg (fun z : EReal => z * Ideal.logistic z) (Cert.Reference2Ideal.Layer.proj_apply (aX m c) (aN m c) (aWi m c) (aWo m c) (aM m c) (aIn m c) a (col 0 b))

/-- The reference's third result on the kernel's arguments. -/
theorem reference_92 : Cert.Reference2Ideal.Read.val_main_v92 (F := Ideal) (aX m c) (aN m c) (aWi m c) (aWo m c) (aM m c) (aIn m c) (aLf m c) = vF m c := by
  funext i
  obtain ⟨a, b, rfl⟩ : ∃ (a : Fin 16384) (b : Fin 512), i = ix2 a b := ⟨i 0, i 1, eq_ix2 (a := 16384) (b := 512) i⟩
  refine (Cert.Reference2Ideal.Layer.lff_apply (aX m c) (aN m c) (aWi m c) (aWo m c) (aM m c) (aIn m c) (aLf m c) a b).trans ?_
  exact congrArg (fun z : EReal => forgetOf z (aLf m c (ix2 0 b)) (aLf m c (ix2 1 b))) (Cert.Reference2Ideal.Layer.proj_apply (aX m c) (aN m c) (aWi m c) (aWo m c) (aM m c) (aIn m c) a (col 1 b))

/-- The reference's fourth result on the kernel's arguments. -/
theorem reference_109 : Cert.Reference2Ideal.Read.val_main_v109 (F := Ideal) (aX m c) (aN m c) (aWi m c) (aWo m c) (aM m c) (aIn m c) (aLb m c) = vB m c := by
  funext i
  obtain ⟨a, b, rfl⟩ : ∃ (a : Fin 16384) (b : Fin 512), i = ix2 a b := ⟨i 0, i 1, eq_ix2 (a := 16384) (b := 512) i⟩
  refine (Cert.Reference2Ideal.Layer.lfb_apply (aX m c) (aN m c) (aWi m c) (aWo m c) (aM m c) (aIn m c) (aLb m c) a b).trans ?_
  exact congrArg (fun z : EReal => forgetOf z (aLb m c (ix2 0 b)) (aLb m c (ix2 1 b))) (Cert.Reference2Ideal.Layer.proj_apply (aX m c) (aN m c) (aWi m c) (aWo m c) (aM m c) (aIn m c) a (col 2 b))

/-- The reference's fifth result on the kernel's arguments. -/
theorem reference_110 : Cert.Reference2Ideal.Read.val_main_v110 (F := Ideal) (aX m c) (aN m c) (aWi m c) (aWo m c) (aM m c) (aIn m c) = vV m c := by
  funext i
  obtain ⟨a, b, rfl⟩ : ∃ (a : Fin 16384) (b : Fin 512), i = ix2 a b := ⟨i 0, i 1, eq_ix2 (a := 16384) (b := 512) i⟩
  refine (Cert.Reference2Ideal.Layer.v_apply (aX m c) (aN m c) (aWi m c) (aWo m c) (aM m c) (aIn m c) a b).trans ?_
  exact Cert.Reference2Ideal.Layer.proj_apply (aX m c) (aN m c) (aWi m c) (aWo m c) (aM m c) (aIn m c) a (col 3 b)

/-- The reference's sixth result on the kernel's arguments. -/
theorem reference_111 : Cert.Reference2Ideal.Read.val_main_v111 (F := Ideal) (aX m c) (aN m c) (aWi m c) (aWo m c) (aM m c) (aIn m c) = vG m c := by
  funext i
  obtain ⟨a, b, rfl⟩ : ∃ (a : Fin 16384) (b : Fin 512), i = ix2 a b := ⟨i 0, i 1, eq_ix2 (a := 16384) (b := 512) i⟩
  refine (Cert.Reference2Ideal.Layer.g_apply (aX m c) (aN m c) (aWi m c) (aWo m c) (aM m c) (aIn m c) a b).trans ?_
  exact congrArg (fun z : EReal => z * Ideal.logistic z) (Cert.Reference2Ideal.Layer.proj_apply (aX m c) (aN m c) (aWi m c) (aWo m c) (aM m c) (aIn m c) a (col 4 b))

end values

/-- Equal arguments give the reference equal first results. -/
theorem congr_24 {x0 y0 : Vec Ideal Cert.Reference2Ideal.S16384x1024 .f32} {x1 y1 : Vec Ideal Cert.Reference2Ideal.S1x1024 .f32} {x2 y2 : Vec Ideal Cert.Reference2Ideal.S1x1024x5632 .f32} {x3 y3 : Vec Ideal Cert.Reference2Ideal.S1x2816x1024 .f32}
    (h0 : x0 = y0) (h1 : x1 = y1) (h2 : x2 = y2) (h3 : x3 = y3) :
    Cert.Reference2Ideal.Read.val_main_v24 (F := Ideal) x0 x1 x2 x3 = Cert.Reference2Ideal.Read.val_main_v24 (F := Ideal) y0 y1 y2 y3 := by
  subst h0 h1 h2 h3
  rfl

/-- Equal arguments give the reference equal second results. -/
theorem congr_75 {x0 y0 : Vec Ideal Cert.Reference2Ideal.S16384x1024 .f32} {x1 y1 : Vec Ideal Cert.Reference2Ideal.S1x1024 .f32} {x2 y2 : Vec Ideal Cert.Reference2Ideal.S1x1024x5632 .f32} {x3 y3 : Vec Ideal Cert.Reference2Ideal.S1x2816x1024 .f32} {x4 y4 : Vec Ideal Cert.Reference2Ideal.S1x1024 .f32} {x5 y5 : Vec Ideal Cert.Reference2Ideal.S1x1024x3328 .f32}
    (h0 : x0 = y0) (h1 : x1 = y1) (h2 : x2 = y2) (h3 : x3 = y3) (h4 : x4 = y4) (h5 : x5 = y5) :
    Cert.Reference2Ideal.Read.val_main_v75 (F := Ideal) x0 x1 x2 x3 x4 x5 = Cert.Reference2Ideal.Read.val_main_v75 (F := Ideal) y0 y1 y2 y3 y4 y5 := by
  subst h0 h1 h2 h3 h4 h5
  rfl

/-- Equal arguments give the reference equal third results. -/
theorem congr_92 {x0 y0 : Vec Ideal Cert.Reference2Ideal.S16384x1024 .f32} {x1 y1 : Vec Ideal Cert.Reference2Ideal.S1x1024 .f32} {x2 y2 : Vec Ideal Cert.Reference2Ideal.S1x1024x5632 .f32} {x3 y3 : Vec Ideal Cert.Reference2Ideal.S1x2816x1024 .f32} {x4 y4 : Vec Ideal Cert.Reference2Ideal.S1x1024 .f32} {x5 y5 : Vec Ideal Cert.Reference2Ideal.S1x1024x3328 .f32} {x6 y6 : Vec Ideal Cert.Reference2Ideal.S2x512 .f32}
    (h0 : x0 = y0) (h1 : x1 = y1) (h2 : x2 = y2) (h3 : x3 = y3) (h4 : x4 = y4) (h5 : x5 = y5) (h6 : x6 = y6) :
    Cert.Reference2Ideal.Read.val_main_v92 (F := Ideal) x0 x1 x2 x3 x4 x5 x6 = Cert.Reference2Ideal.Read.val_main_v92 (F := Ideal) y0 y1 y2 y3 y4 y5 y6 := by
  subst h0 h1 h2 h3 h4 h5 h6
  rfl

/-- Equal arguments give the reference equal fourth results. -/
theorem congr_109 {x0 y0 : Vec Ideal Cert.Reference2Ideal.S16384x1024 .f32} {x1 y1 : Vec Ideal Cert.Reference2Ideal.S1x1024 .f32} {x2 y2 : Vec Ideal Cert.Reference2Ideal.S1x1024x5632 .f32} {x3 y3 : Vec Ideal Cert.Reference2Ideal.S1x2816x1024 .f32} {x4 y4 : Vec Ideal Cert.Reference2Ideal.S1x1024 .f32} {x5 y5 : Vec Ideal Cert.Reference2Ideal.S1x1024x3328 .f32} {x7 y7 : Vec Ideal Cert.Reference2Ideal.S2x512 .f32}
    (h0 : x0 = y0) (h1 : x1 = y1) (h2 : x2 = y2) (h3 : x3 = y3) (h4 : x4 = y4) (h5 : x5 = y5) (h7 : x7 = y7) :
    Cert.Reference2Ideal.Read.val_main_v109 (F := Ideal) x0 x1 x2 x3 x4 x5 x7 = Cert.Reference2Ideal.Read.val_main_v109 (F := Ideal) y0 y1 y2 y3 y4 y5 y7 := by
  subst h0 h1 h2 h3 h4 h5 h7
  rfl

/-- Equal arguments give the reference equal fifth results. -/
theorem congr_110 {x0 y0 : Vec Ideal Cert.Reference2Ideal.S16384x1024 .f32} {x1 y1 : Vec Ideal Cert.Reference2Ideal.S1x1024 .f32} {x2 y2 : Vec Ideal Cert.Reference2Ideal.S1x1024x5632 .f32} {x3 y3 : Vec Ideal Cert.Reference2Ideal.S1x2816x1024 .f32} {x4 y4 : Vec Ideal Cert.Reference2Ideal.S1x1024 .f32} {x5 y5 : Vec Ideal Cert.Reference2Ideal.S1x1024x3328 .f32}
    (h0 : x0 = y0) (h1 : x1 = y1) (h2 : x2 = y2) (h3 : x3 = y3) (h4 : x4 = y4) (h5 : x5 = y5) :
    Cert.Reference2Ideal.Read.val_main_v110 (F := Ideal) x0 x1 x2 x3 x4 x5 = Cert.Reference2Ideal.Read.val_main_v110 (F := Ideal) y0 y1 y2 y3 y4 y5 := by
  subst h0 h1 h2 h3 h4 h5
  rfl

/-- Equal arguments give the reference equal sixth results. -/
theorem congr_111 {x0 y0 : Vec Ideal Cert.Reference2Ideal.S16384x1024 .f32} {x1 y1 : Vec Ideal Cert.Reference2Ideal.S1x1024 .f32} {x2 y2 : Vec Ideal Cert.Reference2Ideal.S1x1024x5632 .f32} {x3 y3 : Vec Ideal Cert.Reference2Ideal.S1x2816x1024 .f32} {x4 y4 : Vec Ideal Cert.Reference2Ideal.S1x1024 .f32} {x5 y5 : Vec Ideal Cert.Reference2Ideal.S1x1024x3328 .f32}
    (h0 : x0 = y0) (h1 : x1 = y1) (h2 : x2 = y2) (h3 : x3 = y3) (h4 : x4 = y4) (h5 : x5 = y5) :
    Cert.Reference2Ideal.Read.val_main_v111 (F := Ideal) x0 x1 x2 x3 x4 x5 = Cert.Reference2Ideal.Read.val_main_v111 (F := Ideal) y0 y1 y2 y3 y4 y5 := by
  subst h0 h1 h2 h3 h4 h5
  rfl

/-- The idealized first call and its reference leave the same six results. -/
theorem same : Cert.algebraic_Kernel2Ideal_Reference2Ideal := by
  intro m ρ m' ρ' _ hagree
  refine ⟨fun c => vX m c, fun c => vQ m c, fun c => vF m c, fun c => vB m c, fun c => vV m c, fun c => vG m c, ?_, ?_⟩
  · exact (θ_run Cert.Kernel2Ideal.defs _ _).mono
      (fun _ h c => ⟨(h c).1.trans (final13 m c), (h c).2.1.trans (final14 m c), (h c).2.2.1.trans (final15 m c), (h c).2.2.2.1.trans (final16 m c),
        (h c).2.2.2.2.1.trans (final17 m c), (h c).2.2.2.2.2.1.trans (final18 m c), (h c).2.2.2.2.2.2.2.2⟩) (Cert.Kernel2Ideal.Value.run_blocks m ρ)
  · refine (θ_run Cert.Reference2Ideal.defs _ _).mono (fun _ h c => ⟨(h c).1.trans ?_, (h c).2.1.trans ?_, (h c).2.2.1.trans ?_, (h c).2.2.2.1.trans ?_,
      (h c).2.2.2.2.1.trans ?_, (h c).2.2.2.2.2.1.trans ?_, (h c).2.2.2.2.2.2⟩) (Cert.Reference2Ideal.Value.run (F := Ideal) m' ρ')
    all_goals obtain ⟨h0, h1, h2, h3, h4, h5, h6, h7, h8, h9⟩ := hagree c
    · exact (Cert.Reference2Ideal.Read.val_main_v24_eq (F := Ideal) _ _ _ _).trans ((congr_24 h0 h1 h2 h3).trans (reference_24 m c))
    · exact (Cert.Reference2Ideal.Read.val_main_v75_eq (F := Ideal) m' c).trans ((congr_75 h0 h1 h2 h3 h4 h5).trans (reference_75 m c))
    · exact (Cert.Reference2Ideal.Read.val_main_v92_eq (F := Ideal) m' c).trans ((congr_92 h0 h1 h2 h3 h4 h5 h6).trans (reference_92 m c))
    · exact (Cert.Reference2Ideal.Read.val_main_v109_eq (F := Ideal) m' c).trans ((congr_109 h0 h1 h2 h3 h4 h5 h7).trans (reference_109 m c))
    · exact (Cert.Reference2Ideal.Read.val_main_v110_eq (F := Ideal) m' c).trans ((congr_110 h0 h1 h2 h3 h4 h5).trans (reference_110 m c))
    · exact (Cert.Reference2Ideal.Read.val_main_v111_eq (F := Ideal) m' c).trans ((congr_111 h0 h1 h2 h3 h4 h5).trans (reference_111 m c))

end Cert.Proof2

end
-- ==== Proof.Track3.lean ====
/- The frame run of the kernel with what each grid point leaves NAMED: the pieces a point writes (`runA`, `runB`, `runC`, one per
   case of its conditionals), the output block and the attention scratch after each point (`after`), the proof data of the pipeline, the
   body obligation, the run of `main` and the frame claim. -/
module

public import proofs.«01_k».proof.Proof.Gen.Kernel3Ideal.Frame.RunC
public import Idealize.ShloMosaic.Lib.Claim
public import Idealize.ShloMosaic.Lib.Pipeline.Value

@[expose] public section

set_option maxRecDepth 16384

noncomputable section

namespace Cert.Kernel3Ideal.Track

open Cert.Kernel3Ideal Cert.Kernel3Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- At even points the offsets `k0_off1` are `![0, 0, 0]`. -/
theorem off1_even : ∀ t : Fin cfg0.N, t.val % 2 = 0 → k0_off1 (grid0.coords t) = ![0, 0, 0] := by decide +kernel
/-- At even points the offsets `k0_off10` are `![1, 128, 384]`. -/
theorem off10_even : ∀ t : Fin cfg0.N, t.val % 2 = 0 → k0_off10 (grid0.coords t) = ![1, 128, 384] := by decide +kernel
/-- At even points the offsets `k0_off11` are `![1, 256, 0]`. -/
theorem off11_even : ∀ t : Fin cfg0.N, t.val % 2 = 0 → k0_off11 (grid0.coords t) = ![1, 256, 0] := by decide +kernel
/-- At even points the offsets `k0_off12` are `![1, 256, 128]`. -/
theorem off12_even : ∀ t : Fin cfg0.N, t.val % 2 = 0 → k0_off12 (grid0.coords t) = ![1, 256, 128] := by decide +kernel
/-- At even points the offsets `k0_off13` are `![1, 256, 256]`. -/
theorem off13_even : ∀ t : Fin cfg0.N, t.val % 2 = 0 → k0_off13 (grid0.coords t) = ![1, 256, 256] := by decide +kernel
/-- At even points the offsets `k0_off14` are `![1, 256, 384]`. -/
theorem off14_even : ∀ t : Fin cfg0.N, t.val % 2 = 0 → k0_off14 (grid0.coords t) = ![1, 256, 384] := by decide +kernel
/-- At even points the offsets `k0_off15` are `![1, 384, 0]`. -/
theorem off15_even : ∀ t : Fin cfg0.N, t.val % 2 = 0 → k0_off15 (grid0.coords t) = ![1, 384, 0] := by decide +kernel
/-- At even points the offsets `k0_off16` are `![1, 384, 128]`. -/
theorem off16_even : ∀ t : Fin cfg0.N, t.val % 2 = 0 → k0_off16 (grid0.coords t) = ![1, 384, 128] := by decide +kernel
/-- At even points the offsets `k0_off17` are `![1, 384, 256]`. -/
theorem off17_even : ∀ t : Fin cfg0.N, t.val % 2 = 0 → k0_off17 (grid0.coords t) = ![1, 384, 256] := by decide +kernel
/-- At even points the offsets `k0_off18` are `![1, 384, 384]`. -/
theorem off18_even : ∀ t : Fin cfg0.N, t.val % 2 = 0 → k0_off18 (grid0.coords t) = ![1, 384, 384] := by decide +kernel
/-- At even points the offsets `k0_off2` are `![1, 0, 0]`. -/
theorem off2_even : ∀ t : Fin cfg0.N, t.val % 2 = 0 → k0_off2 (grid0.coords t) = ![1, 0, 0] := by decide +kernel
/-- At even points the offsets `k0_off3` are `![1, 0, 0]`. -/
theorem off3_even : ∀ t : Fin cfg0.N, t.val % 2 = 0 → k0_off3 (grid0.coords t) = ![1, 0, 0] := by decide +kernel
/-- At even points the offsets `k0_off4` are `![1, 0, 128]`. -/
theorem off4_even : ∀ t : Fin cfg0.N, t.val % 2 = 0 → k0_off4 (grid0.coords t) = ![1, 0, 128] := by decide +kernel
/-- At even points the offsets `k0_off5` are `![1, 0, 256]`. -/
theorem off5_even : ∀ t : Fin cfg0.N, t.val % 2 = 0 → k0_off5 (grid0.coords t) = ![1, 0, 256] := by decide +kernel
/-- At even points the offsets `k0_off6` are `![1, 0, 384]`. -/
theorem off6_even : ∀ t : Fin cfg0.N, t.val % 2 = 0 → k0_off6 (grid0.coords t) = ![1, 0, 384] := by decide +kernel
/-- At even points the offsets `k0_off7` are `![1, 128, 0]`. -/
theorem off7_even : ∀ t : Fin cfg0.N, t.val % 2 = 0 → k0_off7 (grid0.coords t) = ![1, 128, 0] := by decide +kernel
/-- At even points the offsets `k0_off8` are `![1, 128, 128]`. -/
theorem off8_even : ∀ t : Fin cfg0.N, t.val % 2 = 0 → k0_off8 (grid0.coords t) = ![1, 128, 128] := by decide +kernel
/-- At even points the offsets `k0_off9` are `![1, 128, 256]`. -/
theorem off9_even : ∀ t : Fin cfg0.N, t.val % 2 = 0 → k0_off9 (grid0.coords t) = ![1, 128, 256] := by decide +kernel
/-- At odd points the offsets `k0_off1` are `![1, 0, 0]`. -/
theorem off1_odd : ∀ t : Fin cfg0.N, ¬(t.val % 2 = 0) → k0_off1 (grid0.coords t) = ![1, 0, 0] := by decide +kernel
/-- At odd points the offsets `k0_off10` are `![0, 128, 384]`. -/
theorem off10_odd : ∀ t : Fin cfg0.N, ¬(t.val % 2 = 0) → k0_off10 (grid0.coords t) = ![0, 128, 384] := by decide +kernel
/-- At odd points the offsets `k0_off11` are `![0, 256, 0]`. -/
theorem off11_odd : ∀ t : Fin cfg0.N, ¬(t.val % 2 = 0) → k0_off11 (grid0.coords t) = ![0, 256, 0] := by decide +kernel
/-- At odd points the offsets `k0_off12` are `![0, 256, 128]`. -/
theorem off12_odd : ∀ t : Fin cfg0.N, ¬(t.val % 2 = 0) → k0_off12 (grid0.coords t) = ![0, 256, 128] := by decide +kernel
/-- At odd points the offsets `k0_off13` are `![0, 256, 256]`. -/
theorem off13_odd : ∀ t : Fin cfg0.N, ¬(t.val % 2 = 0) → k0_off13 (grid0.coords t) = ![0, 256, 256] := by decide +kernel
/-- At odd points the offsets `k0_off14` are `![0, 256, 384]`. -/
theorem off14_odd : ∀ t : Fin cfg0.N, ¬(t.val % 2 = 0) → k0_off14 (grid0.coords t) = ![0, 256, 384] := by decide +kernel
/-- At odd points the offsets `k0_off15` are `![0, 384, 0]`. -/
theorem off15_odd : ∀ t : Fin cfg0.N, ¬(t.val % 2 = 0) → k0_off15 (grid0.coords t) = ![0, 384, 0] := by decide +kernel
/-- At odd points the offsets `k0_off16` are `![0, 384, 128]`. -/
theorem off16_odd : ∀ t : Fin cfg0.N, ¬(t.val % 2 = 0) → k0_off16 (grid0.coords t) = ![0, 384, 128] := by decide +kernel
/-- At odd points the offsets `k0_off17` are `![0, 384, 256]`. -/
theorem off17_odd : ∀ t : Fin cfg0.N, ¬(t.val % 2 = 0) → k0_off17 (grid0.coords t) = ![0, 384, 256] := by decide +kernel
/-- At odd points the offsets `k0_off18` are `![0, 384, 384]`. -/
theorem off18_odd : ∀ t : Fin cfg0.N, ¬(t.val % 2 = 0) → k0_off18 (grid0.coords t) = ![0, 384, 384] := by decide +kernel
/-- At odd points the offsets `k0_off2` are `![0, 0, 0]`. -/
theorem off2_odd : ∀ t : Fin cfg0.N, ¬(t.val % 2 = 0) → k0_off2 (grid0.coords t) = ![0, 0, 0] := by decide +kernel
/-- At odd points the offsets `k0_off3` are `![0, 0, 0]`. -/
theorem off3_odd : ∀ t : Fin cfg0.N, ¬(t.val % 2 = 0) → k0_off3 (grid0.coords t) = ![0, 0, 0] := by decide +kernel
/-- At odd points the offsets `k0_off4` are `![0, 0, 128]`. -/
theorem off4_odd : ∀ t : Fin cfg0.N, ¬(t.val % 2 = 0) → k0_off4 (grid0.coords t) = ![0, 0, 128] := by decide +kernel
/-- At odd points the offsets `k0_off5` are `![0, 0, 256]`. -/
theorem off5_odd : ∀ t : Fin cfg0.N, ¬(t.val % 2 = 0) → k0_off5 (grid0.coords t) = ![0, 0, 256] := by decide +kernel
/-- At odd points the offsets `k0_off6` are `![0, 0, 384]`. -/
theorem off6_odd : ∀ t : Fin cfg0.N, ¬(t.val % 2 = 0) → k0_off6 (grid0.coords t) = ![0, 0, 384] := by decide +kernel
/-- At odd points the offsets `k0_off7` are `![0, 128, 0]`. -/
theorem off7_odd : ∀ t : Fin cfg0.N, ¬(t.val % 2 = 0) → k0_off7 (grid0.coords t) = ![0, 128, 0] := by decide +kernel
/-- At odd points the offsets `k0_off8` are `![0, 128, 128]`. -/
theorem off8_odd : ∀ t : Fin cfg0.N, ¬(t.val % 2 = 0) → k0_off8 (grid0.coords t) = ![0, 128, 128] := by decide +kernel
/-- At odd points the offsets `k0_off9` are `![0, 128, 256]`. -/
theorem off9_odd : ∀ t : Fin cfg0.N, ¬(t.val % 2 = 0) → k0_off9 (grid0.coords t) = ![0, 128, 256] := by decide +kernel

/-- Point 0 is even. -/
theorem even_of_first {n : ℕ} (h : n % 128 = 0) : n % 2 = 0 := by omega

/-- The body's run at the first point: the pieces it writes, with its triple. -/
def runA (c : Dev nD) (t : Fin cfg0.N) (h0 : t.val % 128 = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) ((hcond0_0 t).mpr h0) (off1_even t (even_of_first h0)) (off10_even t (even_of_first h0)) (off11_even t (even_of_first h0)) (off12_even t (even_of_first h0)) (off13_even t (even_of_first h0)) (off14_even t (even_of_first h0)) (off15_even t (even_of_first h0)) (off16_even t (even_of_first h0)) (off17_even t (even_of_first h0)) (off18_even t (even_of_first h0)) (off2_even t (even_of_first h0)) (off3_even t (even_of_first h0)) (off4_even t (even_of_first h0)) (off5_even t (even_of_first h0)) (off6_even t (even_of_first h0)) (off7_even t (even_of_first h0)) (off8_even t (even_of_first h0)) (off9_even t (even_of_first h0)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)

/-- Its one piece for the output tiles the output block. -/
theorem coverA (c : Dev nD) (t : Fin cfg0.N) (h0 : t.val % 128 = 0) (y : S512x1024.Idx) :
    ∃ pc ∈ (runA m c t h0).1, y ∈ pc.1.set :=
  View.cover_of_tiledL (runA m c t h0).1 S512x1024.size (by sl_kernel_rfl) y

/-- Its 32 pieces for the scratch tile both slots of it. -/
theorem scoverA (c : Dev nD) (t : Fin cfg0.N) (h0 : t.val % 128 = 0) (y : S2x512x512.Idx) :
    ∃ pc ∈ (runA m c t h0).2.1, y ∈ pc.1.set :=
  View.cover_of_tiledL (runA m c t h0).2.1 S1x128x128.size (by sl_kernel_rfl) y

/-- The output block after the first point. -/
def outA (c : Dev nD) (t : Fin cfg0.N) (h0 : t.val % 128 = 0) : Vec F S512x1024 .f32 :=
  VO0_19.read (Elt F) (VO0_19.writes (Elt F) VO0_19.junk (runA m c t h0).1)

/-- The scratch after the first point. -/
def soutA (c : Dev nD) (t : Fin cfg0.N) (h0 : t.val % 128 = 0) : Vec F S2x512x512 .bf16 :=
  VS0_0.read (Elt F) (VS0_0.writes (Elt F) VS0_0.junk (runA m c t h0).2.1)

/-- The body's run at an odd point, over the scratch `xs`: the pieces it writes, with its triple. -/
def runB (c : Dev nD) (t : Fin cfg0.N) (h0 : ¬t.val % 128 = 0) (h1 : ¬t.val % 2 = 0) (xs : Vec F S2x512x512 .bf16) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) (fun h => h0 ((hcond0_0 t).mp h)) (fun h => h1 ((hcond0_1 t).mp h)) (off1_odd t h1) (off10_odd t h1) (off11_odd t h1) (off12_odd t h1) (off13_odd t h1) (off14_odd t h1) (off15_odd t h1) (off16_odd t h1) (off17_odd t h1) (off18_odd t h1) (off2_odd t h1) (off3_odd t h1) (off4_odd t h1) (off5_odd t h1) (off6_odd t h1) (off7_odd t h1) (off8_odd t h1) (off9_odd t h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) xs

/-- Its one piece for the output tiles the output block. -/
theorem coverB (c : Dev nD) (t : Fin cfg0.N) (h0 : ¬t.val % 128 = 0) (h1 : ¬t.val % 2 = 0) (xs : Vec F S2x512x512 .bf16) (y : S512x1024.Idx) :
    ∃ pc ∈ (runB m c t h0 h1 xs).1, y ∈ pc.1.set :=
  View.cover_of_tiledL (runB m c t h0 h1 xs).1 S512x1024.size (by sl_kernel_rfl) y

/-- The output block after an odd point, over the scratch `xs`. -/
def outB (c : Dev nD) (t : Fin cfg0.N) (h0 : ¬t.val % 128 = 0) (h1 : ¬t.val % 2 = 0) (xs : Vec F S2x512x512 .bf16) : Vec F S512x1024 .f32 :=
  VO0_19.read (Elt F) (VO0_19.writes (Elt F) VO0_19.junk (runB m c t h0 h1 xs).1)

/-- The scratch after an odd point, over the scratch `xs`. -/
def soutB (c : Dev nD) (t : Fin cfg0.N) (h0 : ¬t.val % 128 = 0) (h1 : ¬t.val % 2 = 0) (xs : Vec F S2x512x512 .bf16) : Vec F S2x512x512 .bf16 :=
  scM0_0.view.read (Elt F) (scM0_0.view.writes (Elt F) ((Memref.isWhole_whole _ : scM0_0.IsWhole).unread xs) (runB m c t h0 h1 xs).2.1)

/-- The body's run at an even point but the first, over the scratch `xs`: the pieces it writes, with its triple. -/
def runC (c : Dev nD) (t : Fin cfg0.N) (h0 : ¬t.val % 128 = 0) (h1 : t.val % 2 = 0) (xs : Vec F S2x512x512 .bf16) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) (fun h => h0 ((hcond0_0 t).mp h)) ((hcond0_1 t).mpr h1) (off1_even t h1) (off10_even t h1) (off11_even t h1) (off12_even t h1) (off13_even t h1) (off14_even t h1) (off15_even t h1) (off16_even t h1) (off17_even t h1) (off18_even t h1) (off2_even t h1) (off3_even t h1) (off4_even t h1) (off5_even t h1) (off6_even t h1) (off7_even t h1) (off8_even t h1) (off9_even t h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) xs

/-- Its one piece for the output tiles the output block. -/
theorem coverC (c : Dev nD) (t : Fin cfg0.N) (h0 : ¬t.val % 128 = 0) (h1 : t.val % 2 = 0) (xs : Vec F S2x512x512 .bf16) (y : S512x1024.Idx) :
    ∃ pc ∈ (runC m c t h0 h1 xs).1, y ∈ pc.1.set :=
  View.cover_of_tiledL (runC m c t h0 h1 xs).1 S512x1024.size (by sl_kernel_rfl) y

/-- The output block after an even point but the first, over the scratch `xs`. -/
def outC (c : Dev nD) (t : Fin cfg0.N) (h0 : ¬t.val % 128 = 0) (h1 : t.val % 2 = 0) (xs : Vec F S2x512x512 .bf16) : Vec F S512x1024 .f32 :=
  VO0_19.read (Elt F) (VO0_19.writes (Elt F) VO0_19.junk (runC m c t h0 h1 xs).1)

/-- The scratch after an even point but the first, over the scratch `xs`. -/
def soutC (c : Dev nD) (t : Fin cfg0.N) (h0 : ¬t.val % 128 = 0) (h1 : t.val % 2 = 0) (xs : Vec F S2x512x512 .bf16) : Vec F S2x512x512 .bf16 :=
  scM0_0.view.read (Elt F) (scM0_0.view.writes (Elt F) ((Memref.isWhole_whole _ : scM0_0.IsWhole).unread xs) (runC m c t h0 h1 xs).2.1)

/-- What the body at point `t` leaves over the scratch `xs`: the output block and the scratch. -/
def step (c : Dev nD) (t : Fin cfg0.N) (xs : Vec F S2x512x512 .bf16) : Vec F S512x1024 .f32 × Vec F S2x512x512 .bf16 :=
  if h0 : t.val % 128 = 0 then (outA m c t h0, soutA m c t h0)
  else if h1 : t.val % 2 = 0 then (outC m c t h0 h1 xs, soutC m c t h0 h1 xs)
  else (outB m c t h0 h1 xs, soutB m c t h0 h1 xs)

/-- The output block and the scratch after the body at position `n`. -/
def after (c : Dev nD) (n : ℕ) : n < cfg0.N → Vec F S512x1024 .f32 × Vec F S2x512x512 .bf16 :=
  Nat.rec (motive := fun n => n < cfg0.N → Vec F S512x1024 .f32 × Vec F S2x512x512 .bf16)
    (fun hn => (outA m c ⟨0, hn⟩ (Nat.zero_mod _), soutA m c ⟨0, hn⟩ (Nat.zero_mod _)))
    (fun n ih hn => step m c ⟨n + 1, hn⟩ (ih (Nat.lt_of_succ_lt hn)).2) n

/-- The scratch the point before `t` left. -/
def prev (c : Dev nD) (t : Fin cfg0.N) : Vec F S2x512x512 .bf16 :=
  (after m c (t.val - 1) (Nat.lt_of_le_of_lt (Nat.sub_le _ _) t.isLt)).2

/-- `after` at position 0. -/
theorem after_zero (c : Dev nD) (hn : 0 < cfg0.N) :
    after m c 0 hn = (outA m c ⟨0, hn⟩ (Nat.zero_mod _), soutA m c ⟨0, hn⟩ (Nat.zero_mod _)) := rfl

/-- `after` at a later position. -/
theorem after_succ (c : Dev nD) (n : ℕ) (hn : n + 1 < cfg0.N) :
    after m c (n + 1) hn = step m c ⟨n + 1, hn⟩ (prev m c ⟨n + 1, hn⟩) := rfl

/-- `after` at the first point. -/
theorem after_A (c : Dev nD) (t : Fin cfg0.N) (h0 : t.val % 128 = 0) :
    after m c t.val t.isLt = (outA m c t h0, soutA m c t h0) := by
  obtain ⟨n, hn⟩ := t
  cases n with
  | zero => exact after_zero m c hn
  | succ n => rw [after_succ]; exact dif_pos h0

/-- `after` at an odd point. -/
theorem after_B (c : Dev nD) (t : Fin cfg0.N) (h0 : ¬t.val % 128 = 0) (h1 : ¬t.val % 2 = 0) :
    after m c t.val t.isLt = (outB m c t h0 h1 (prev m c t), soutB m c t h0 h1 (prev m c t)) := by
  obtain ⟨n, hn⟩ := t
  cases n with
  | zero => exact absurd (Nat.zero_mod _) h0
  | succ n => rw [after_succ]; exact (dif_neg h0).trans (dif_neg h1)

/-- `after` at an even point but the first. -/
theorem after_C (c : Dev nD) (t : Fin cfg0.N) (h0 : ¬t.val % 128 = 0) (h1 : t.val % 2 = 0) :
    after m c t.val t.isLt = (outC m c t h0 h1 (prev m c t), soutC m c t h0 h1 (prev m c t)) := by
  obtain ⟨n, hn⟩ := t
  cases n with
  | zero => exact absurd (Nat.zero_mod _) h0
  | succ n => rw [after_succ]; exact (dif_neg h0).trans (dif_pos h1)

/-- The region invariant before position `n` with a scratch the kernel CARRIES between points: before the first point the
    class's (Lib/Pipeline/Frame.lean `ΦA`: every scratch at anything); afterwards the scoped rest with each carried scratch
    at what the point before left in it (`after`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((after m c n hn).2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((after m c n hn).2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((after m c (n - 1) (by omega)).2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `after`; the invariant the class's
    (`PhiS`: the class's `ΦA` before the first point, then the scoped rest with the carried scratch at `after`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => (after m c t.val t.isLt).1
    | ⟨_ + 20, h⟩ => absurd h (Nat.not_lt.2 (Nat.le_add_left _ _))
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = (after m c t.val t.isLt).1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t))

set_option maxHeartbeats 24000000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19]
  rw [show (dats m 0 c).Φ t.succ = PhiS m c (t.val + 1) t.isLt from rfl, PhiS_succ]
  have hN : t.val < 128 := lt_of_lt_of_eq t.isLt (show cfg0.N = 128 from N_0)
  by_cases h0 : t.val % 128 = 0
  · by_cases hz : t.val = 0
    · rw [PhiS_castSucc m c t, PhiS_zero m c _ _ hz, PhiA0_eq]
      rw [after_A m c t h0]
      unfold outA soutA; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
      iapply ((runA m c t h0).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexists _; iexact H19
      isplitl [HS0]; · iexact HS0
      iintro ⟨H0, H1, H2, H3, H4, H5, H6, H7, H8, H9, H10, H11, H12, H13, H14, H15, H16, H17, H18, ⟨%e19, H19⟩, ⟨%es0, HS0⟩⟩
      isplitl [HS0 Hg]
      · isplitl [HS0]
        · unfold owns; iexists _; isplitr
          swap; · iexact HS0
          ipureintro; exact View.read_writes_of_cover _ _ _ _ _ (scoverA m c t h0)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      unfold owns; iexists _; isplitr
      swap; · iexact H19
      ipureintro; exact View.read_writes_of_cover _ _ _ _ _ (coverA m c t h0)
    · exfalso; have hN : t.val < 128 := lt_of_lt_of_eq t.isLt (show cfg0.N = 128 from N_0); omega
  · by_cases h1 : t.val % 2 = 0
    · by_cases hz : t.val = 0
      · exfalso; have hN : t.val < 128 := lt_of_lt_of_eq t.isLt (show cfg0.N = 128 from N_0); omega
      · rw [PhiS_castSucc m c t, PhiS_pos m c _ _ hz]
        rw [after_C m c t h0 h1]
        unfold outC soutC; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
        iapply ((runC m c t h0 h1 (prev m c t)).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexists _; iexact H19
        isplitl [HS0]; · iexact HS0
        iintro ⟨H0, H1, H2, H3, H4, H5, H6, H7, H8, H9, H10, H11, H12, H13, H14, H15, H16, H17, H18, ⟨%e19, H19⟩, HS0⟩
        isplitl [HS0 Hg]
        · isplitl [HS0]
          · unfold owns; iexists _; isplitr
            swap; · iexact HS0
            ipureintro; rfl
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        unfold owns; iexists _; isplitr
        swap; · iexact H19
        ipureintro; exact View.read_writes_of_cover _ _ _ _ _ (coverC m c t h0 h1 (prev m c t))
    · by_cases hz : t.val = 0
      · exfalso; have hN : t.val < 128 := lt_of_lt_of_eq t.isLt (show cfg0.N = 128 from N_0); omega
      · rw [PhiS_castSucc m c t, PhiS_pos m c _ _ hz]
        rw [after_B m c t h0 h1]
        unfold outB soutB; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
        iapply ((runB m c t h0 h1 (prev m c t)).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexists _; iexact H19
        isplitl [HS0]; · iexact HS0
        iintro ⟨H0, H1, H2, H3, H4, H5, H6, H7, H8, H9, H10, H11, H12, H13, H14, H15, H16, H17, H18, ⟨%e19, H19⟩, HS0⟩
        isplitl [HS0 Hg]
        · isplitl [HS0]
          · unfold owns; iexists _; isplitr
            swap; · iexact HS0
            ipureintro; rfl
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        unfold owns; iexists _; isplitr
        swap; · iexact H19
        ipureintro; exact View.read_writes_of_cover _ _ _ _ _ (coverB m c t h0 h1 (prev m c t))

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 128 := N_0; omega)

/-! ## The run and the frame -/

-- `θ_run_frame_track_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

/-- THE FRAME: `Cert.quiescent_Kernel3Ideal`'s statement (Defs.lean) at any `F` — Proof.lean cites it at `Bits`:
    `theorem Cert.Proof3.claim : Cert.Claim := ⟨Cert.Kernel3Ideal.Gen.facts, fun m ρ _ => Cert.Kernel3Ideal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (unchanged m ρ) ((θ_run defs _ _).mono (fun _ h => h.2) (run_main_quiescent m ρ))

end Cert.Kernel3Ideal.Track

end
-- ==== Proof.Twin3.lean ====
/- The printed kernel and its idealization are one text, so the frame of the first is the frame of the second read at the bit instance. -/
module

public import proofs.«01_k».proof.Defs
public import proofs.«01_k».proof.Proof.Gen.Kernel3
public import proofs.«01_k».proof.Proof.Track3

@[expose] public section

set_option maxRecDepth 16384

noncomputable section

namespace Cert.Twin3

open Idealize.ShloMosaic Idealize.SL.Sem Cert.Kernel3Ideal

/-- The frame of the idealized text at the bit instance. -/
def framed : Prop :=
  ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0)

/-- The frame claim of the printed kernel is that statement: the two texts unfold to the same program. -/
theorem frame_eq : Cert.quiescent_Kernel3 = framed := by sl_kernel_rfl

/-- The frame claim of the printed kernel. -/
theorem frame : Cert.quiescent_Kernel3 := frame_eq.mpr fun m g _ => Cert.Kernel3Ideal.Track.frame m g

end Cert.Twin3

end
-- ==== Proof.Body3.lean ====
/- What a grid point of the sample batch writes, in the words of `Words.lean`: the output block (`dense` over `mixed`) and the sixteen pieces of the attention's
   scratch, each one pair of heads of one sub-block of 128 rows. -/
module

public import proofs.«01_k».proof.Proof.Track3
public import proofs.«01_k».proof.Proof.Body

@[expose] public section

set_option maxRecDepth 16384

noncomputable section

namespace Cert.Kernel3Ideal.Track

open Cert.Kernel3Ideal Cert.Kernel3Ideal.Gen Cert.KernelIdeal.Words Idealize.ShloMosaic Idealize.ShloMosaic.TcCoe Idealize.SL.Sem
open Idealize.ShloMosaic.Tactic
open Cert.KernelIdeal.Track (outWords attPiece)

variable {F : FTy → Type} [FloatOps F]

/-- A stored piece lies inside the scratch. -/
theorem inb_piece (sl : Fin 2) (j p : Fin 4) : ∀ a, (![sl.val, 128 * j.val, 128 * p.val] : Fin 3 → ℕ) a + S1x128x128.size a ≤ S2x512x512.size a := by
  revert sl j p; decide +kernel

/-- A stored piece: pair `p` of sub-block `j`, in place `sl` of the scratch. -/
def piece (sl : Fin 2) (w : Fin 4 → Fin 4 → FVec F S1x128x128 .bf16) (j p : Fin 4) : View.Piece (Elt F) S2x512x512 .bf16 :=
  ⟨Rect.unit ![sl.val, 128 * j.val, 128 * p.val] S1x128x128.size (inb_piece sl j p), w j p⟩

/-- The first `n` pieces stored in place `sl`, the last one first. -/
def pieces (sl : Fin 2) (w : Fin 4 → Fin 4 → FVec F S1x128x128 .bf16) : ℕ → List (View.Piece (Elt F) S2x512x512 .bf16)
  | 0 => []
  | n + 1 => piece sl w ⟨n / 4 % 4, Nat.mod_lt _ (by decide)⟩ ⟨n % 4, Nat.mod_lt _ (by decide)⟩ :: pieces sl w n

variable (m : (ℓ : Loc nD τ sig) → Buf (Elt F) ℓ)

/-- The pieces of attention a point computes for the next tile. -/
def attMain (c : Dev nD) (t : Fin cfg0.N) : Fin 4 → Fin 4 → FVec F S1x128x128 .bf16 :=
  attPiece (iblk m c 9 t) (iblk m c 10 t) (iblk m c 15 t) (iblk m c 16 t) (iblk m c 17 t) (iblk m c 18 t) (k0_pay418 (grid0.coords t)) (k0_pay419 (grid0.coords t))

/-- The pieces of attention the first point computes for its own tile. -/
def attFirst (c : Dev nD) (t : Fin cfg0.N) : Fin 4 → Fin 4 → FVec F S1x128x128 .bf16 :=
  attPiece (iblk m c 9 t) (iblk m c 10 t) (iblk m c 11 t) (iblk m c 12 t) (iblk m c 13 t) (iblk m c 14 t) k0_pay3 k0_pay4

/-- A point's output block, of the attention `att` of its tile. -/
def outOf (c : Dev nD) (t : Fin cfg0.N) (att : Vec F S1x512x512 .bf16) : FVec F S512x1024 .f32 :=
  outWords (iblk m c 0 t) (iblk m c 1 t) (iblk m c 2 t) (iblk m c 3 t) (iblk m c 4 t) (iblk m c 5 t) (iblk m c 6 t) (iblk m c 7 t) (iblk m c 8 t) att

/-- An odd point writes its output block from the scratch it finds. -/
theorem pieces_out_B (c : Dev nD) (t : Fin cfg0.N) (h0 : ¬t.val % 128 = 0) (h1 : ¬t.val % 2 = 0) (xs : Vec F S2x512x512 .bf16) :
    (runB m c t h0 h1 xs).1 = [⟨Rect.unit ![0, 0] S512x1024.size inb_S512x1024_S512x1024_0_0, outOf m c t (View.ld xs (Rect.unit (s := S2x512x512) (k0_off1 (grid0.coords t)) S1x512x512.size (k0_off1_inb (grid0.coords t))))⟩] := by
  have h : (runB m c t h0 h1 xs).1 = [⟨Rect.unit ![0, 0] S512x1024.size inb_S512x1024_S512x1024_0_0, outWords ((ms0_0 t).view.read (Elt F) ((hs0_0 t).unread (iblk m c 0 t))) ((ms0_1 t).view.read (Elt F) ((hs0_1 t).unread (iblk m c 1 t))) ((ms0_2 t).view.read (Elt F) ((hs0_2 t).unread (iblk m c 2 t))) ((ms0_3 t).view.read (Elt F) ((hs0_3 t).unread (iblk m c 3 t))) ((ms0_4 t).view.read (Elt F) ((hs0_4 t).unread (iblk m c 4 t))) ((ms0_5 t).view.read (Elt F) ((hs0_5 t).unread (iblk m c 5 t))) ((ms0_6 t).view.read (Elt F) ((hs0_6 t).unread (iblk m c 6 t))) ((ms0_7 t).view.read (Elt F) ((hs0_7 t).unread (iblk m c 7 t))) ((ms0_8 t).view.read (Elt F) ((hs0_8 t).unread (iblk m c 8 t))) (View.ld (scM0_0.view.read (Elt F) ((Memref.isWhole_whole _ : scM0_0.IsWhole).unread xs)) (Rect.unit (s := S2x512x512) (k0_off1 (grid0.coords t)) S1x512x512.size (k0_off1_inb (grid0.coords t))))⟩] := by sl_kernel_rfl
  rw [h, (Memref.isWhole_whole _ : scM0_0.IsWhole).read_unread, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread]
  rfl

/-- An odd point stores the next tile's attention in the other place of the scratch. -/
theorem pieces_scr_B (c : Dev nD) (t : Fin cfg0.N) (h0 : ¬t.val % 128 = 0) (h1 : ¬t.val % 2 = 0) (xs : Vec F S2x512x512 .bf16) :
    (runB m c t h0 h1 xs).2.1 = pieces 0 (attMain m c t) 16 := by
  have h : (runB m c t h0 h1 xs).2.1 = pieces 0 (attPiece ((ms0_9 t).view.read (Elt F) ((hs0_9 t).unread (iblk m c 9 t))) ((ms0_10 t).view.read (Elt F) ((hs0_10 t).unread (iblk m c 10 t))) ((ms0_15 t).view.read (Elt F) ((hs0_15 t).unread (iblk m c 15 t))) ((ms0_16 t).view.read (Elt F) ((hs0_16 t).unread (iblk m c 16 t))) ((ms0_17 t).view.read (Elt F) ((hs0_17 t).unread (iblk m c 17 t))) ((ms0_18 t).view.read (Elt F) ((hs0_18 t).unread (iblk m c 18 t))) (k0_pay418 (grid0.coords t)) (k0_pay419 (grid0.coords t))) 16 := by sl_kernel_rfl
  rw [h, (hs0_9 t).read_unread, (hs0_10 t).read_unread, (hs0_15 t).read_unread, (hs0_16 t).read_unread, (hs0_17 t).read_unread, (hs0_18 t).read_unread]
  rfl

/-- An even point but the first writes its output block from the scratch it finds. -/
theorem pieces_out_C (c : Dev nD) (t : Fin cfg0.N) (h0 : ¬t.val % 128 = 0) (h1 : t.val % 2 = 0) (xs : Vec F S2x512x512 .bf16) :
    (runC m c t h0 h1 xs).1 = [⟨Rect.unit ![0, 0] S512x1024.size inb_S512x1024_S512x1024_0_0, outOf m c t (View.ld xs (Rect.unit (s := S2x512x512) (k0_off1 (grid0.coords t)) S1x512x512.size (k0_off1_inb (grid0.coords t))))⟩] := by
  have h : (runC m c t h0 h1 xs).1 = [⟨Rect.unit ![0, 0] S512x1024.size inb_S512x1024_S512x1024_0_0, outWords ((ms0_0 t).view.read (Elt F) ((hs0_0 t).unread (iblk m c 0 t))) ((ms0_1 t).view.read (Elt F) ((hs0_1 t).unread (iblk m c 1 t))) ((ms0_2 t).view.read (Elt F) ((hs0_2 t).unread (iblk m c 2 t))) ((ms0_3 t).view.read (Elt F) ((hs0_3 t).unread (iblk m c 3 t))) ((ms0_4 t).view.read (Elt F) ((hs0_4 t).unread (iblk m c 4 t))) ((ms0_5 t).view.read (Elt F) ((hs0_5 t).unread (iblk m c 5 t))) ((ms0_6 t).view.read (Elt F) ((hs0_6 t).unread (iblk m c 6 t))) ((ms0_7 t).view.read (Elt F) ((hs0_7 t).unread (iblk m c 7 t))) ((ms0_8 t).view.read (Elt F) ((hs0_8 t).unread (iblk m c 8 t))) (View.ld (scM0_0.view.read (Elt F) ((Memref.isWhole_whole _ : scM0_0.IsWhole).unread xs)) (Rect.unit (s := S2x512x512) (k0_off1 (grid0.coords t)) S1x512x512.size (k0_off1_inb (grid0.coords t))))⟩] := by sl_kernel_rfl
  rw [h, (Memref.isWhole_whole _ : scM0_0.IsWhole).read_unread, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread]
  rfl

/-- An even point but the first stores the next tile's attention in the other place of the scratch. -/
theorem pieces_scr_C (c : Dev nD) (t : Fin cfg0.N) (h0 : ¬t.val % 128 = 0) (h1 : t.val % 2 = 0) (xs : Vec F S2x512x512 .bf16) :
    (runC m c t h0 h1 xs).2.1 = pieces 1 (attMain m c t) 16 := by
  have h : (runC m c t h0 h1 xs).2.1 = pieces 1 (attPiece ((ms0_9 t).view.read (Elt F) ((hs0_9 t).unread (iblk m c 9 t))) ((ms0_10 t).view.read (Elt F) ((hs0_10 t).unread (iblk m c 10 t))) ((ms0_15 t).view.read (Elt F) ((hs0_15 t).unread (iblk m c 15 t))) ((ms0_16 t).view.read (Elt F) ((hs0_16 t).unread (iblk m c 16 t))) ((ms0_17 t).view.read (Elt F) ((hs0_17 t).unread (iblk m c 17 t))) ((ms0_18 t).view.read (Elt F) ((hs0_18 t).unread (iblk m c 18 t))) (k0_pay418 (grid0.coords t)) (k0_pay419 (grid0.coords t))) 16 := by sl_kernel_rfl
  rw [h, (hs0_9 t).read_unread, (hs0_10 t).read_unread, (hs0_15 t).read_unread, (hs0_16 t).read_unread, (hs0_17 t).read_unread, (hs0_18 t).read_unread]
  rfl

/-- The first point writes its output block from the attention it has just stored. -/
theorem pieces_out_A (c : Dev nD) (t : Fin cfg0.N) (h0 : t.val % 128 = 0) :
    (runA m c t h0).1 = [⟨Rect.unit ![0, 0] S512x1024.size inb_S512x1024_S512x1024_0_0, outOf m c t (scM0_0.view.readCov (pieces 0 (attFirst m c t) 16) (Rect.unit (s := S2x512x512) (k0_off1 (grid0.coords t)) S1x512x512.size (k0_off1_inb (grid0.coords t))).toLoadRect)⟩] := by
  have h : (runA m c t h0).1 = [⟨Rect.unit ![0, 0] S512x1024.size inb_S512x1024_S512x1024_0_0, outWords ((ms0_0 t).view.read (Elt F) ((hs0_0 t).unread (iblk m c 0 t))) ((ms0_1 t).view.read (Elt F) ((hs0_1 t).unread (iblk m c 1 t))) ((ms0_2 t).view.read (Elt F) ((hs0_2 t).unread (iblk m c 2 t))) ((ms0_3 t).view.read (Elt F) ((hs0_3 t).unread (iblk m c 3 t))) ((ms0_4 t).view.read (Elt F) ((hs0_4 t).unread (iblk m c 4 t))) ((ms0_5 t).view.read (Elt F) ((hs0_5 t).unread (iblk m c 5 t))) ((ms0_6 t).view.read (Elt F) ((hs0_6 t).unread (iblk m c 6 t))) ((ms0_7 t).view.read (Elt F) ((hs0_7 t).unread (iblk m c 7 t))) ((ms0_8 t).view.read (Elt F) ((hs0_8 t).unread (iblk m c 8 t))) (scM0_0.view.readCov (pieces 0 (attPiece ((ms0_9 t).view.read (Elt F) ((hs0_9 t).unread (iblk m c 9 t))) ((ms0_10 t).view.read (Elt F) ((hs0_10 t).unread (iblk m c 10 t))) ((ms0_11 t).view.read (Elt F) ((hs0_11 t).unread (iblk m c 11 t))) ((ms0_12 t).view.read (Elt F) ((hs0_12 t).unread (iblk m c 12 t))) ((ms0_13 t).view.read (Elt F) ((hs0_13 t).unread (iblk m c 13 t))) ((ms0_14 t).view.read (Elt F) ((hs0_14 t).unread (iblk m c 14 t))) k0_pay3 k0_pay4) 16) (Rect.unit (s := S2x512x512) (k0_off1 (grid0.coords t)) S1x512x512.size (k0_off1_inb (grid0.coords t))).toLoadRect)⟩] := by sl_kernel_rfl
  rw [h, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread]
  rfl

/-- The first point stores its own tile's attention and then the next tile's. -/
theorem pieces_scr_A (c : Dev nD) (t : Fin cfg0.N) (h0 : t.val % 128 = 0) :
    (runA m c t h0).2.1 = pieces 1 (attMain m c t) 16 ++ pieces 0 (attFirst m c t) 16 := by
  have h : (runA m c t h0).2.1 = pieces 1 (attPiece ((ms0_9 t).view.read (Elt F) ((hs0_9 t).unread (iblk m c 9 t))) ((ms0_10 t).view.read (Elt F) ((hs0_10 t).unread (iblk m c 10 t))) ((ms0_15 t).view.read (Elt F) ((hs0_15 t).unread (iblk m c 15 t))) ((ms0_16 t).view.read (Elt F) ((hs0_16 t).unread (iblk m c 16 t))) ((ms0_17 t).view.read (Elt F) ((hs0_17 t).unread (iblk m c 17 t))) ((ms0_18 t).view.read (Elt F) ((hs0_18 t).unread (iblk m c 18 t))) (k0_pay418 (grid0.coords t)) (k0_pay419 (grid0.coords t))) 16 ++ pieces 0 (attPiece ((ms0_9 t).view.read (Elt F) ((hs0_9 t).unread (iblk m c 9 t))) ((ms0_10 t).view.read (Elt F) ((hs0_10 t).unread (iblk m c 10 t))) ((ms0_11 t).view.read (Elt F) ((hs0_11 t).unread (iblk m c 11 t))) ((ms0_12 t).view.read (Elt F) ((hs0_12 t).unread (iblk m c 12 t))) ((ms0_13 t).view.read (Elt F) ((hs0_13 t).unread (iblk m c 13 t))) ((ms0_14 t).view.read (Elt F) ((hs0_14 t).unread (iblk m c 14 t))) k0_pay3 k0_pay4) 16 := by sl_kernel_rfl
  rw [h, (hs0_9 t).read_unread, (hs0_10 t).read_unread, (hs0_11 t).read_unread, (hs0_12 t).read_unread, (hs0_13 t).read_unread, (hs0_14 t).read_unread, (hs0_15 t).read_unread, (hs0_16 t).read_unread, (hs0_17 t).read_unread, (hs0_18 t).read_unread]
  rfl

end Cert.Kernel3Ideal.Track

end
-- ==== Proof.Spec3.lean ====
/- The function that both programs compute for the sample batch: `Spec` at 65536 rows, in 512 blocks of 128. -/
module

public import proofs.«01_k».proof.Proof.Spec

@[expose] public section

set_option maxRecDepth 16384

noncomputable section

namespace Cert.Spec3

open Idealize.ShloMosaic
open Cert.Spec hiding keyRow logit attRow layer

/-- The row of key `k` of the 384 around block `B`. -/
def keyRow (B : Fin 512) (k : Fin 384) : Fin 65536 := ⟨(128 * B.val + k.val - 128) % 65536, Nat.mod_lt _ (by decide)⟩

/-- A query's logit against a key: their product over the head's lanes, scaled, and the lower infinity where masked. -/
def logit (Q : Fin 65536 → Fin 512 → EReal) (K : Fin 65536 → Fin 128 → EReal) (B : Fin 512) (r : Fin 128) (h : Fin 8) (k : Fin 384) : EReal :=
  if Okay B r k then (∑ d : Fin 64, Q ⟨128 * B.val + r.val, by omega⟩ ⟨64 * h.val + d.val, by omega⟩ * K (keyRow B k) ⟨64 * (h.val / 4) + d.val, by omega⟩)
    * Ideal.ofBits .f32 0x3E000000#32 else ⊥

/-- The attention's output for a query and a head at a lane. -/
def attRow (Q : Fin 65536 → Fin 512 → EReal) (K V : Fin 65536 → Fin 128 → EReal) (S : Fin 8 → EReal) (B : Fin 512) (r : Fin 128) (h : Fin 8)
    (d : Fin 64) : EReal :=
  attn (logit Q K B r h) (S h) (fun k => V (keyRow B k) ⟨64 * (h.val / 4) + d.val, by omega⟩)

/-- The layer's output at a row and a column. -/
def layer (X : Fin 65536 → Fin 1024 → EReal) (O1 O2 G Q : Fin 65536 → Fin 512 → EReal) (K V : Fin 65536 → Fin 128 → EReal) (gain : Fin 128 → EReal)
    (S : Fin 8 → EReal) (W : Fin 1024 → Fin 1024 → EReal) (n2 : Fin 1024 → EReal) (wi : Fin 1024 → Fin 5632 → EReal)
    (wo : Fin 2816 → Fin 1024 → EReal) (a : Fin 65536) (c : Fin 1024) : EReal :=
  outRow (resRow (X a) (mixRow (fun k => O1 a k + O2 a k) (G a) gain
    (fun k => attRow Q K V S ⟨a.val / 128, by omega⟩ ⟨a.val % 128, by omega⟩ ⟨k.val / 64, by omega⟩ ⟨k.val % 64, by omega⟩)) W) n2 wi wo c

end Cert.Spec3

end
-- ==== Proof.AttEntry3.lean ====
/- A stored piece of the sample batch's attention at an index: the attention row of its query and head. -/
module

public import proofs.«01_k».proof.Proof.AttEntry
public import proofs.«01_k».proof.Proof.Spec3

@[expose] public section

set_option maxRecDepth 16384

noncomputable section

namespace Cert.Words3

open Cert.KernelIdeal Cert.KernelIdeal.Gen Idealize.ShloMosaic Idealize.ShloMosaic.TcCoe Idealize.ShloMosaic.Tactic
open Cert.KernelIdeal.Words hiding sides_apply attPiece_apply
open Cert.Spec hiding keyRow logit attRow layer
open Cert.Spec3

/-- A row of a sub-block's keys or values that is not masked, among all rows. -/
theorem sides_apply (T : Fin 128) (KV : Fin 65536 → Fin 512 → EReal) (kp : Vec Ideal S128x512 .bf16)
    (kc : Vec Ideal S512x512 .bf16) (kn : Vec Ideal S128x512 .bf16)
    (hp : ∀ (r : Fin 128) (l : Fin 512), 0 < T.val → (kp (ix2 r l) : EReal) = KV ⟨512 * T.val - 128 + r.val, by omega⟩ l)
    (hc : ∀ (r : Fin 512) (l : Fin 512), (kc (ix2 r l) : EReal) = KV ⟨512 * T.val + r.val, by omega⟩ l)
    (hn : ∀ (r : Fin 128) (l : Fin 512) (h : T.val < 127), (kn (ix2 r l) : EReal) = KV ⟨512 * T.val + 512 + r.val, by omega⟩ l)
    (j : Fin 4) (w s : Fin 2) (r : Fin 128) (k : Fin 384) (l : Fin 128) (hk : Okay (⟨4 * T.val + j.val, by omega⟩ : Fin 512) r k) :
    (sides kp kc kn j w s (ix2 k l) : EReal) = KV (keyRow ⟨4 * T.val + j.val, by omega⟩ k) ⟨128 * (2 * w.val + s.val) + l.val, by omega⟩ := by
  unfold sides
  rw [rows384_apply, around_apply]
  have h3 := hk.2.2.1
  have h4 := hk.2.2.2
  dsimp only at h3 h4
  have hT := T.isLt
  have hj := j.isLt
  have hkk := k.isLt
  dsimp only
  by_cases h1 : 128 * j.val + k.val < 128
  · rw [dif_pos h1, hp _ _ (by omega)]
    exact congrArg (fun R => KV R _) (Fin.ext (by simp only [keyRow]; omega))
  by_cases h2 : 128 * j.val + k.val - 128 < 512
  · rw [dif_neg h1, dif_pos h2, hc]
    exact congrArg (fun R => KV R _) (Fin.ext (by simp only [keyRow]; omega))
  · rw [dif_neg h1, dif_neg h2, hn _ _ (by omega)]
    exact congrArg (fun R => KV R _) (Fin.ext (by simp only [keyRow]; omega))

/-- A stored piece at an index is the attention row of its query and head, the queries and keys being reals. -/
theorem attPiece_apply (T : Fin 128) (Q : Fin 65536 → Fin 512 → EReal) (K V : Fin 65536 → Fin 128 → EReal) (S : Fin 8 → EReal)
    (KV : Fin 65536 → Fin 512 → EReal) (x9 : Vec Ideal S8 .f32) (x10 : Vec Ideal S128x256 .f32) (q : Vec Ideal S512x512 .bf16)
    (kp : Vec Ideal S128x512 .bf16) (kc : Vec Ideal S512x512 .bf16) (kn : Vec Ideal S128x512 .bf16) (f0 f1 : EReal)
    (hf0 : f0 = if T.val % 16 = 0 then ⊥ else 0) (hf1 : f1 = if T.val % 16 = 15 then ⊥ else 0)
    (h9 : ∀ h, (x9 (ix1 h) : EReal) = S h)
    (h10 : ∀ r l, (x10 (ix2 r l) : EReal) = Ideal.ofBits .f32 (lit0 (S128x256.rowMajor (ix2 r l))))
    (hq : ∀ (r : Fin 512) (l : Fin 512), (q (ix2 r l) : EReal) = Q ⟨512 * T.val + r.val, by omega⟩ l * Ideal.ofBits .f32 0x3E000000#32)
    (hp : ∀ (r : Fin 128) (l : Fin 512), 0 < T.val → (kp (ix2 r l) : EReal) = KV ⟨512 * T.val - 128 + r.val, by omega⟩ l)
    (hc : ∀ (r : Fin 512) (l : Fin 512), (kc (ix2 r l) : EReal) = KV ⟨512 * T.val + r.val, by omega⟩ l)
    (hn : ∀ (r : Fin 128) (l : Fin 512) (h : T.val < 127), (kn (ix2 r l) : EReal) = KV ⟨512 * T.val + 512 + r.val, by omega⟩ l)
    (hK : ∀ R (p : Fin 4) (f : Fin 2) (d : Fin 64), KV R ⟨128 * (2 * (0 : Fin 2).val + (side p f).val) + (lane f d).val, by have := (side p f).isLt; have := (lane f d).isLt; simp only [Fin.val_zero]; omega⟩ = K R ⟨64 * (p.val / 2) + d.val, by omega⟩)
    (hV : ∀ R (p : Fin 4) (f : Fin 2) (d : Fin 64), KV R ⟨128 * (2 * (1 : Fin 2).val + (side p f).val) + (lane f d).val, by have := (side p f).isLt; have := (lane f d).isLt; simp only [Fin.val_one]; omega⟩ = V R ⟨64 * (p.val / 2) + d.val, by omega⟩)
    (hQr : ∀ a b, ∃ x : ℝ, Q a b = (x : EReal)) (hKr : ∀ a b, ∃ x : ℝ, K a b = (x : EReal))
    (j p : Fin 4) (r : Fin 128) (f : Fin 2) (d : Fin 64) :
    (Cert.KernelIdeal.Track.attPiece (F := Ideal) x9 x10 q kp kc kn f0 f1 j p (ix3 0 r (lane f d)) : EReal)
      = attRow Q K V S ⟨4 * T.val + j.val, by omega⟩ r ⟨2 * p.val + f.val, by omega⟩ d := by
  rw [attPiece_read]
  unfold attRow
  have hb : ∀ k, biased (Cert.KernelIdeal.Track.biasPrev (F := Ideal) x10 f0 j) (Cert.KernelIdeal.Track.biasNext (F := Ideal) x10 f1 j)
      (dots (View.ld q (Rect.unit ![128 * j.val, 128 * p.val] S128x128.size (Cert.KernelIdeal.Track.inb_q j p))) (sides kp kc kn j 0 (side p f)) f r) r k
      = if Okay (⟨4 * T.val + j.val, by omega⟩ : Fin 512) r k then
          dots (View.ld q (Rect.unit ![128 * j.val, 128 * p.val] S128x128.size (Cert.KernelIdeal.Track.inb_q j p))) (sides kp kc kn j 0 (side p f)) f r k
        else ⊥ :=
    biased_apply T x10 f0 f1 hf0 hf1 h10 j _ r
  have hh : (2 * p.val + f.val) / 4 = p.val / 2 := by omega
  refine attn_congr (fun k => ?_) (h9 _) (fun k hk => ?_)
  · rw [hb]
    unfold logit
    by_cases h : Okay (⟨4 * T.val + j.val, by omega⟩ : Fin 512) r k
    · rw [if_pos h, if_pos h]
      unfold dots
      have he : ∀ d : Fin 64, (View.ld q (Rect.unit ![128 * j.val, 128 * p.val] S128x128.size (Cert.KernelIdeal.Track.inb_q j p)) (ix2 r (lane f d)) : EReal)
          = Q ⟨128 * (4 * T.val + j.val) + r.val, by omega⟩ ⟨64 * (2 * p.val + f.val) + d.val, by omega⟩ * Ideal.ofBits .f32 0x3E000000#32 := fun d => by
        rw [ldq_apply, hq]
        refine congrArg₂ (fun a b => Q a b * Ideal.ofBits .f32 0x3E000000#32) (Fin.ext ?_) (Fin.ext ?_)
        · show 512 * T.val + (128 * j.val + r.val) = 128 * (4 * T.val + j.val) + r.val; omega
        · show 128 * p.val + (64 * f.val + d.val) = 64 * (2 * p.val + f.val) + d.val; omega
      have hs : ∀ d : Fin 64, (sides kp kc kn j 0 (side p f) (ix2 k (lane f d)) : EReal)
          = K (keyRow ⟨4 * T.val + j.val, by omega⟩ k) ⟨64 * ((2 * p.val + f.val) / 4) + d.val, by omega⟩ := fun d => by
        rw [sides_apply T KV kp kc kn hp hc hn j 0 (side p f) r k (lane f d) h, hK]
        exact congrArg (K _) (Fin.ext (by simp only [hh]))
      simp only [he, hs]
      choose Q' hQ' using hQr
      choose K' hK' using hKr
      have hc8 : ∃ x : ℝ, Ideal.ofBits .f32 0x3E000000#32 = (x : EReal) := by
        refine ⟨1 / 8, ?_⟩
        simp [Ideal.ofBits, Ideal.ieee, -EReal.coe_mul]; norm_num
      obtain ⟨x, hx⟩ := hc8
      simp only [hQ', hK', hx, ← EReal.coe_mul, ← coe_sum]
      refine congrArg _ ?_
      rw [Finset.sum_mul]
      exact Finset.sum_congr rfl fun d _ => by ring
    · rw [if_neg h, if_neg h]
  · have h : Okay (⟨4 * T.val + j.val, by omega⟩ : Fin 512) r k := by
      by_contra h
      rw [hb, if_neg h] at hk
      exact hk rfl
    rw [sides_apply T KV kp kc kn hp hc hn j 1 (side p f) r k (lane f d) h, hV]
    exact congrArg (V _) (Fin.ext (by simp only [hh]))

end Cert.Words3

end
-- ==== Proof.Entry3.lean ====
/- The arrays that the windows stage, at an index, in terms of the arguments: casts and reshapes are the identity on elements, the
   queries are scaled by the literal 1/8, the keys and values stand beside their copies with the two heads swapped. -/
module

public import proofs.«01_k».proof.Proof.Gen.Kernel3Ideal.Frame.Runs
public import Idealize.ShloMosaic.Lib.Claim
public import Idealize.ShloMosaic.Lib.Pointwise
public import Idealize.ShloMosaic.Lib.StableHlo.ReadAt

@[expose] public section

set_option maxRecDepth 16384

noncomputable section

namespace Cert.Kernel3Ideal.Entry

open Cert.Kernel3Ideal Cert.Kernel3Ideal.Gen Idealize.ShloMosaic Idealize.ShloMosaic.TcCoe Idealize.ShloMosaic.Tactic

variable (m : (ℓ : Loc nD τ sig) → Buf (Elt Ideal) ℓ) (c : Dev nD)

/-- The rows after the first feed-forward. -/
abbrev aX : S65536x1024.Idx → EReal := m ((c : Thread nD τ).loc main_arg0)

/-- The forward scan's outputs. -/
abbrev aOf : S65536x512.Idx → EReal := m ((c : Thread nD τ).loc main_arg1)

/-- The backward scan's outputs. -/
abbrev aOb : S65536x512.Idx → EReal := m ((c : Thread nD τ).loc main_arg2)

/-- The gates. -/
abbrev aG : S65536x512.Idx → EReal := m ((c : Thread nD τ).loc main_arg3)

/-- The rotated queries. -/
abbrev aQ : S65536x512.Idx → EReal := m ((c : Thread nD τ).loc main_arg4)

/-- The rotated keys. -/
abbrev aK : S65536x128.Idx → EReal := m ((c : Thread nD τ).loc main_arg5)

/-- The values. -/
abbrev aV : S65536x128.Idx → EReal := m ((c : Thread nD τ).loc main_arg6)

/-- The heads' gain. -/
abbrev aHg : S1x128.Idx → EReal := m ((c : Thread nD τ).loc main_arg7)

/-- The sinks. -/
abbrev aSink : S1x8.Idx → EReal := m ((c : Thread nD τ).loc main_arg8)

/-- The output projection. -/
abbrev aWo : S1x1024x1024.Idx → EReal := m ((c : Thread nD τ).loc main_arg9)

/-- The second feed-forward's gain. -/
abbrev aN2 : S1x1024.Idx → EReal := m ((c : Thread nD τ).loc main_arg10)

/-- The second feed-forward's first projection. -/
abbrev aWi : S1x1024x5632.Idx → EReal := m ((c : Thread nD τ).loc main_arg11)

/-- The second feed-forward's second projection. -/
abbrev aW2 : S1x2816x1024.Idx → EReal := m ((c : Thread nD τ).loc main_arg12)

/-- The heads' gain, one row. -/
theorem V_v1 (b : Fin 128) : (V m c main_v1 : Vec Ideal S1x128 .f32) (ix2 0 b)
    = aHg m c (ix2 0 b) := by
  unfold V; after_reads_at

/-- The sinks. -/
theorem V_v2 (b : Fin 8) : (V m c main_v2 : Vec Ideal S8 .f32) (ix1 b)
    = aSink m c (ix2 0 b) := by
  unfold V; after_reads_at

/-- The output projection. -/
theorem V_v4 (a b : Fin 1024) : (V m c main_v4 : Vec Ideal S1024x1024 .bf16) (ix2 a b)
    = aWo m c (ix3 0 a b) := by
  unfold V; after_reads_at

/-- The feed-forward's gain, one row. -/
theorem V_v6 (b : Fin 1024) : (V m c main_v6 : Vec Ideal S1x1024 .f32) (ix2 0 b)
    = aN2 m c (ix2 0 b) := by
  unfold V; after_reads_at

/-- The first projection of the feed-forward. -/
theorem V_v8 (a : Fin 1024) (b : Fin 5632) : (V m c main_v8 : Vec Ideal S1024x5632 .bf16) (ix2 a b)
    = aWi m c (ix3 0 a b) := by
  unfold V; after_reads_at

/-- The second projection of the feed-forward. -/
theorem V_v10 (a : Fin 2816) (b : Fin 1024) : (V m c main_v10 : Vec Ideal S2816x1024 .bf16) (ix2 a b)
    = aW2 m c (ix3 0 a b) := by
  unfold V; after_reads_at

/-- The queries, scaled. -/
theorem V_v13 (a : Fin 65536) (b : Fin 512) : (V m c main_v13 : Vec Ideal S65536x512 .bf16) (ix2 a b)
    = aQ m c (ix2 a b) * Ideal.ofBits .f32 0x3E000000#32 := by
  unfold V; after_reads_at

/-- The biases, a literal table. -/
theorem V_cst (a : Fin 128) (b : Fin 256) : (V m c main_cst : Vec Ideal S128x256 .f32) (ix2 a b)
    = Ideal.ofBits .f32 (lit0 (S128x256.rowMajor (ix2 a b))) := by
  unfold V; after_reads_at

/-- The keys. -/
theorem V_v21_k (a : Fin 65536) (b : Fin 512) (b' : Fin 128) (h : b.val = b'.val) :
    (V m c main_v21 : Vec Ideal S65536x512 .bf16) (ix2 a b) = aK m c (ix2 a b') := by
  unfold V; after_reads_at
  rw [dif_pos (by omega)]
  after_reads_at
  exact congrArg (aK m c) (congrArg (ix2 a) (Fin.ext (by dsimp only; omega)))

/-- The keys with the two heads swapped. -/
theorem V_v21_ks (a : Fin 65536) (b : Fin 512) (b' : Fin 128) (h : b.val = 128 + (b'.val + 64) % 128) :
    (V m c main_v21 : Vec Ideal S65536x512 .bf16) (ix2 a b) = aK m c (ix2 a b') := by
  unfold V; after_reads_at
  rw [dif_neg (by omega), dif_pos (by omega)]
  after_reads_at
  split
  · exact congrArg (aK m c) (congrArg (ix2 a) (Fin.ext (by dsimp only; omega)))
  · exact congrArg (aK m c) (congrArg (ix2 a) (Fin.ext (by dsimp only; omega)))

/-- The values. -/
theorem V_v21_v (a : Fin 65536) (b : Fin 512) (b' : Fin 128) (h : b.val = 256 + b'.val) :
    (V m c main_v21 : Vec Ideal S65536x512 .bf16) (ix2 a b) = aV m c (ix2 a b') := by
  unfold V; after_reads_at
  rw [dif_neg (by omega), dif_neg (by omega), dif_pos (by omega)]
  after_reads_at
  exact congrArg (aV m c) (congrArg (ix2 a) (Fin.ext (by dsimp only; omega)))

/-- The values with the two heads swapped. -/
theorem V_v21_vs (a : Fin 65536) (b : Fin 512) (b' : Fin 128) (h : b.val = 384 + (b'.val + 64) % 128) :
    (V m c main_v21 : Vec Ideal S65536x512 .bf16) (ix2 a b) = aV m c (ix2 a b') := by
  unfold V; after_reads_at
  rw [dif_neg (by omega), dif_neg (by omega), dif_neg (by omega)]
  after_reads_at
  split
  · exact congrArg (aV m c) (congrArg (ix2 a) (Fin.ext (by dsimp only; omega)))
  · exact congrArg (aV m c) (congrArg (ix2 a) (Fin.ext (by dsimp only; omega)))

end Cert.Kernel3Ideal.Entry

end
-- ==== Proof.Stage3.lean ====
/- The windows' blocks at an index: each is a read of the array it stages. -/
module

public import proofs.«01_k».proof.Proof.Entry3
public import Idealize.ShloMosaic.Lib.Pipeline.ValueKit.Point

@[expose] public section

set_option maxRecDepth 16384

noncomputable section

namespace Cert.Kernel3Ideal.Entry

open Cert.Kernel3Ideal Cert.Kernel3Ideal.Gen Idealize.ShloMosaic Idealize.ShloMosaic.TcCoe Idealize.ShloMosaic.Tactic

variable (m : (ℓ : Loc nD τ sig) → Buf (Elt Ideal) ℓ) (c : Dev nD)

/-- Which block of the rows after the first feed-forward window 0 stages. -/
theorem idx0 : ∀ t : Fin cfg0.N, win0_0.index t = ![t.val, 0] :=
  (by decide +kernel : ∀ t : Fin grid0.N, win0_0.index t = ![t.val, 0])

/-- Window 0's block at an index. -/
theorem blk0 (t : Fin cfg0.N) (r : Fin 512) (l : Fin 1024) : (iblk m c 0 t : Vec Ideal S512x1024 .f32) (ix2 r l)
    = (V m c main_arg0 : Vec Ideal S65536x1024 .f32) (ix2 ⟨512 * t.val + r.val, by have := t.isLt; have h : cfg0.N = 128 := rfl; omega⟩ l) := by
  unfold iblk
  generalize V m c = W
  blk_ext! [idx0 t]

/-- Which block of the forward scan window 1 stages. -/
theorem idx1 : ∀ t : Fin cfg0.N, win0_1.index t = ![t.val, 0] :=
  (by decide +kernel : ∀ t : Fin grid0.N, win0_1.index t = ![t.val, 0])

/-- Window 1's block at an index. -/
theorem blk1 (t : Fin cfg0.N) (r : Fin 512) (l : Fin 512) : (iblk m c 1 t : Vec Ideal S512x512 .f32) (ix2 r l)
    = (V m c main_arg1 : Vec Ideal S65536x512 .f32) (ix2 ⟨512 * t.val + r.val, by have := t.isLt; have h : cfg0.N = 128 := rfl; omega⟩ l) := by
  unfold iblk
  generalize V m c = W
  blk_ext! [idx1 t]

/-- Which block of the backward scan window 2 stages. -/
theorem idx2 : ∀ t : Fin cfg0.N, win0_2.index t = ![t.val, 0] :=
  (by decide +kernel : ∀ t : Fin grid0.N, win0_2.index t = ![t.val, 0])

/-- Window 2's block at an index. -/
theorem blk2 (t : Fin cfg0.N) (r : Fin 512) (l : Fin 512) : (iblk m c 2 t : Vec Ideal S512x512 .f32) (ix2 r l)
    = (V m c main_arg2 : Vec Ideal S65536x512 .f32) (ix2 ⟨512 * t.val + r.val, by have := t.isLt; have h : cfg0.N = 128 := rfl; omega⟩ l) := by
  unfold iblk
  generalize V m c = W
  blk_ext! [idx2 t]

/-- Which block of the gates window 3 stages. -/
theorem idx3 : ∀ t : Fin cfg0.N, win0_3.index t = ![t.val, 0] :=
  (by decide +kernel : ∀ t : Fin grid0.N, win0_3.index t = ![t.val, 0])

/-- Window 3's block at an index. -/
theorem blk3 (t : Fin cfg0.N) (r : Fin 512) (l : Fin 512) : (iblk m c 3 t : Vec Ideal S512x512 .f32) (ix2 r l)
    = (V m c main_arg3 : Vec Ideal S65536x512 .f32) (ix2 ⟨512 * t.val + r.val, by have := t.isLt; have h : cfg0.N = 128 := rfl; omega⟩ l) := by
  unfold iblk
  generalize V m c = W
  blk_ext! [idx3 t]

/-- Which block of the heads' gain window 4 stages. -/
theorem idx4 : ∀ t : Fin cfg0.N, win0_4.index t = ![0, 0] :=
  (by decide +kernel : ∀ t : Fin grid0.N, win0_4.index t = ![0, 0])

/-- Window 4's block at an index. -/
theorem blk4 (t : Fin cfg0.N) (r : Fin 1) (l : Fin 128) : (iblk m c 4 t : Vec Ideal S1x128 .f32) (ix2 r l)
    = (V m c main_v1 : Vec Ideal S1x128 .f32) (ix2 r l) := by
  unfold iblk
  generalize V m c = W
  blk_ext! [idx4 t]

/-- Which block of the output projection window 5 stages. -/
theorem idx5 : ∀ t : Fin cfg0.N, win0_5.index t = ![0, 0] :=
  (by decide +kernel : ∀ t : Fin grid0.N, win0_5.index t = ![0, 0])

/-- Window 5's block at an index. -/
theorem blk5 (t : Fin cfg0.N) (r : Fin 1024) (l : Fin 1024) : (iblk m c 5 t : Vec Ideal S1024x1024 .bf16) (ix2 r l)
    = (V m c main_v4 : Vec Ideal S1024x1024 .bf16) (ix2 r l) := by
  unfold iblk
  generalize V m c = W
  blk_ext! [idx5 t]

/-- Which block of the feed-forward's gain window 6 stages. -/
theorem idx6 : ∀ t : Fin cfg0.N, win0_6.index t = ![0, 0] :=
  (by decide +kernel : ∀ t : Fin grid0.N, win0_6.index t = ![0, 0])

/-- Window 6's block at an index. -/
theorem blk6 (t : Fin cfg0.N) (r : Fin 1) (l : Fin 1024) : (iblk m c 6 t : Vec Ideal S1x1024 .f32) (ix2 r l)
    = (V m c main_v6 : Vec Ideal S1x1024 .f32) (ix2 r l) := by
  unfold iblk
  generalize V m c = W
  blk_ext! [idx6 t]

/-- Which block of the first projection window 7 stages. -/
theorem idx7 : ∀ t : Fin cfg0.N, win0_7.index t = ![0, 0] :=
  (by decide +kernel : ∀ t : Fin grid0.N, win0_7.index t = ![0, 0])

/-- Window 7's block at an index. -/
theorem blk7 (t : Fin cfg0.N) (r : Fin 1024) (l : Fin 5632) : (iblk m c 7 t : Vec Ideal S1024x5632 .bf16) (ix2 r l)
    = (V m c main_v8 : Vec Ideal S1024x5632 .bf16) (ix2 r l) := by
  unfold iblk
  generalize V m c = W
  blk_ext! [idx7 t]

/-- Which block of the second projection window 8 stages. -/
theorem idx8 : ∀ t : Fin cfg0.N, win0_8.index t = ![0, 0] :=
  (by decide +kernel : ∀ t : Fin grid0.N, win0_8.index t = ![0, 0])

/-- Window 8's block at an index. -/
theorem blk8 (t : Fin cfg0.N) (r : Fin 2816) (l : Fin 1024) : (iblk m c 8 t : Vec Ideal S2816x1024 .bf16) (ix2 r l)
    = (V m c main_v10 : Vec Ideal S2816x1024 .bf16) (ix2 r l) := by
  unfold iblk
  generalize V m c = W
  blk_ext! [idx8 t]

/-- Which block of the biases window 10 stages. -/
theorem idx10 : ∀ t : Fin cfg0.N, win0_10.index t = ![0, 0] :=
  (by decide +kernel : ∀ t : Fin grid0.N, win0_10.index t = ![0, 0])

/-- Window 10's block at an index. -/
theorem blk10 (t : Fin cfg0.N) (r : Fin 128) (l : Fin 256) : (iblk m c 10 t : Vec Ideal S128x256 .f32) (ix2 r l)
    = (V m c main_cst : Vec Ideal S128x256 .f32) (ix2 r l) := by
  unfold iblk
  generalize V m c = W
  blk_ext! [idx10 t]

/-- Which block of the queries window 11 stages. -/
theorem idx11 : ∀ t : Fin cfg0.N, win0_11.index t = ![0, 0] :=
  (by decide +kernel : ∀ t : Fin grid0.N, win0_11.index t = ![0, 0])

/-- Window 11's block at an index. -/
theorem blk11 (t : Fin cfg0.N) (r : Fin 512) (l : Fin 512) : (iblk m c 11 t : Vec Ideal S512x512 .bf16) (ix2 r l)
    = (V m c main_v13 : Vec Ideal S65536x512 .bf16) (ix2 ⟨512 * 0 + r.val, by have := t.isLt; have h : cfg0.N = 128 := rfl; omega⟩ l) := by
  unfold iblk
  generalize V m c = W
  blk_ext! [idx11 t]

/-- Which block of the keys and values window 12 stages. -/
theorem idx12 : ∀ t : Fin cfg0.N, win0_12.index t = ![0, 0] :=
  (by decide +kernel : ∀ t : Fin grid0.N, win0_12.index t = ![0, 0])

/-- Window 12's block at an index. -/
theorem blk12 (t : Fin cfg0.N) (r : Fin 128) (l : Fin 512) : (iblk m c 12 t : Vec Ideal S128x512 .bf16) (ix2 r l)
    = (V m c main_v21 : Vec Ideal S65536x512 .bf16) (ix2 ⟨128 * 0 + r.val, by have := t.isLt; have h : cfg0.N = 128 := rfl; omega⟩ l) := by
  unfold iblk
  generalize V m c = W
  blk_ext! [idx12 t]

/-- Which block of the keys and values window 13 stages. -/
theorem idx13 : ∀ t : Fin cfg0.N, win0_13.index t = ![0, 0] :=
  (by decide +kernel : ∀ t : Fin grid0.N, win0_13.index t = ![0, 0])

/-- Window 13's block at an index. -/
theorem blk13 (t : Fin cfg0.N) (r : Fin 512) (l : Fin 512) : (iblk m c 13 t : Vec Ideal S512x512 .bf16) (ix2 r l)
    = (V m c main_v21 : Vec Ideal S65536x512 .bf16) (ix2 ⟨512 * 0 + r.val, by have := t.isLt; have h : cfg0.N = 128 := rfl; omega⟩ l) := by
  unfold iblk
  generalize V m c = W
  blk_ext! [idx13 t]

/-- Which block of the keys and values window 14 stages. -/
theorem idx14 : ∀ t : Fin cfg0.N, win0_14.index t = ![4, 0] :=
  (by decide +kernel : ∀ t : Fin grid0.N, win0_14.index t = ![4, 0])

/-- Window 14's block at an index. -/
theorem blk14 (t : Fin cfg0.N) (r : Fin 128) (l : Fin 512) : (iblk m c 14 t : Vec Ideal S128x512 .bf16) (ix2 r l)
    = (V m c main_v21 : Vec Ideal S65536x512 .bf16) (ix2 ⟨128 * 4 + r.val, by have := t.isLt; have h : cfg0.N = 128 := rfl; omega⟩ l) := by
  unfold iblk
  generalize V m c = W
  blk_ext! [idx14 t]

/-- Which block of the queries window 15 stages. -/
theorem idx15 : ∀ t : Fin cfg0.N, win0_15.index t = ![min (t.val + 1) 127, 0] :=
  (by decide +kernel : ∀ t : Fin grid0.N, win0_15.index t = ![min (t.val + 1) 127, 0])

/-- Window 15's block at an index. -/
theorem blk15 (t : Fin cfg0.N) (r : Fin 512) (l : Fin 512) : (iblk m c 15 t : Vec Ideal S512x512 .bf16) (ix2 r l)
    = (V m c main_v13 : Vec Ideal S65536x512 .bf16) (ix2 ⟨512 * min (t.val + 1) 127 + r.val, by have := t.isLt; have h : cfg0.N = 128 := rfl; omega⟩ l) := by
  unfold iblk
  generalize V m c = W
  blk_ext! [idx15 t]

/-- Which block of the keys and values window 16 stages. -/
theorem idx16 : ∀ t : Fin cfg0.N, win0_16.index t = ![(4 * min (t.val + 1) 127 - 1), 0] :=
  (by decide +kernel : ∀ t : Fin grid0.N, win0_16.index t = ![(4 * min (t.val + 1) 127 - 1), 0])

/-- Window 16's block at an index. -/
theorem blk16 (t : Fin cfg0.N) (r : Fin 128) (l : Fin 512) : (iblk m c 16 t : Vec Ideal S128x512 .bf16) (ix2 r l)
    = (V m c main_v21 : Vec Ideal S65536x512 .bf16) (ix2 ⟨128 * (4 * min (t.val + 1) 127 - 1) + r.val, by have := t.isLt; have h : cfg0.N = 128 := rfl; omega⟩ l) := by
  unfold iblk
  generalize V m c = W
  blk_ext! [idx16 t]

/-- Which block of the keys and values window 17 stages. -/
theorem idx17 : ∀ t : Fin cfg0.N, win0_17.index t = ![min (t.val + 1) 127, 0] :=
  (by decide +kernel : ∀ t : Fin grid0.N, win0_17.index t = ![min (t.val + 1) 127, 0])

/-- Window 17's block at an index. -/
theorem blk17 (t : Fin cfg0.N) (r : Fin 512) (l : Fin 512) : (iblk m c 17 t : Vec Ideal S512x512 .bf16) (ix2 r l)
    = (V m c main_v21 : Vec Ideal S65536x512 .bf16) (ix2 ⟨512 * min (t.val + 1) 127 + r.val, by have := t.isLt; have h : cfg0.N = 128 := rfl; omega⟩ l) := by
  unfold iblk
  generalize V m c = W
  blk_ext! [idx17 t]

/-- Which block of the keys and values window 18 stages. -/
theorem idx18 : ∀ t : Fin cfg0.N, win0_18.index t = ![min (4 * min (t.val + 1) 127 + 4) 511, 0] :=
  (by decide +kernel : ∀ t : Fin grid0.N, win0_18.index t = ![min (4 * min (t.val + 1) 127 + 4) 511, 0])

/-- Window 18's block at an index. -/
theorem blk18 (t : Fin cfg0.N) (r : Fin 128) (l : Fin 512) : (iblk m c 18 t : Vec Ideal S128x512 .bf16) (ix2 r l)
    = (V m c main_v21 : Vec Ideal S65536x512 .bf16) (ix2 ⟨128 * min (4 * min (t.val + 1) 127 + 4) 511 + r.val, by have := t.isLt; have h : cfg0.N = 128 := rfl; omega⟩ l) := by
  unfold iblk
  generalize V m c = W
  blk_ext! [idx18 t]

/-- The sinks' block at an index. -/
theorem blk9 (t : Fin cfg0.N) (l : Fin 8) : (iblk m c 9 t : Vec Ideal S8 .f32) (ix1 l) = (V m c main_v2 : Vec Ideal S8 .f32) (ix1 l) := by
  unfold iblk
  generalize V m c = W
  blk_ext! [(by decide +kernel : ∀ t : Fin grid0.N, win0_9.index t = ![0]) t]

end Cert.Kernel3Ideal.Entry

end
-- ==== Proof.Lit3.lean ====
/- The two programs' literal tables of biases are one table. -/
module

public import proofs.«01_k».proof.Proof.Gen.Kernel3Ideal.Skeleton
public import proofs.«01_k».proof.Proof.Lit

@[expose] public section

set_option maxRecDepth 16384

namespace Cert.Kernel3Ideal.Words

/-- The tables of biases of the two batches' programs are the same. -/
theorem lit_same : Cert.Kernel3Ideal.lit0 = Cert.KernelIdeal.lit0 := rfl

end Cert.Kernel3Ideal.Words

end
-- ==== Proof.Result3.lean ====
/- What a grid point leaves in its output block, at an index: the layer's function of the arguments. -/
module

public import proofs.«01_k».proof.Proof.After3
public import proofs.«01_k».proof.Proof.AttEntry3
public import proofs.«01_k».proof.Proof.DenseRead
public import proofs.«01_k».proof.Proof.Stage3
public import proofs.«01_k».proof.Proof.Lit3

@[expose] public section

set_option maxRecDepth 16384

noncomputable section

namespace Cert.Kernel3Ideal.Entry

open Cert.Kernel3Ideal Cert.Kernel3Ideal.Gen Idealize.ShloMosaic Idealize.ShloMosaic.TcCoe Idealize.ShloMosaic.Tactic
open Cert.KernelIdeal.Words hiding sides_apply attPiece_apply
open Cert.Words3 Cert.Spec3
open Cert.Spec hiding keyRow logit attRow layer

variable (m : (ℓ : Loc nD τ sig) → Buf (Elt Ideal) ℓ) (c : Dev nD)

/-- The flag before the tile ahead of a point. -/
theorem flag0 (t : Fin cfg0.N) (T : Fin 128) (hT : T.val = min (t.val + 1) 127) :
    (k0_pay418 (F := Ideal) (grid0.coords t) : EReal) = if T.val % 16 = 0 then ⊥ else 0 := by
  have h : ∀ t : Fin cfg0.N, Scalar.cmpi .eq (Scalar.remsi (Scalar.minsi (Scalar.addi (BitVec.ofNat 32 ((grid0.coords t) 0).val) 1#32) 127#32) 16#32) 0#32
      = if min (t.val + 1) 127 % 16 = 0 then 1#1 else 0#1 :=
    (by decide +kernel : ∀ t : Fin grid0.N, Scalar.cmpi .eq (Scalar.remsi (Scalar.minsi (Scalar.addi (BitVec.ofNat 32 ((grid0.coords t) 0).val) 1#32) 127#32) 16#32) 0#32
      = if min (t.val + 1) 127 % 16 = 0 then 1#1 else 0#1)
  show Scalar.select (Scalar.cmpi .eq (Scalar.remsi (Scalar.minsi (Scalar.addi (BitVec.ofNat 32 ((grid0.coords t) 0).val) 1#32) 127#32) 16#32) 0#32)
    (Ideal.ofBits .f32 0xFF800000#32) (Ideal.ofBits .f32 0x00000000#32) = _
  rw [h t, hT, ofBits_bot, ofBits_zero]
  split <;> rfl

/-- The flag after the tile ahead of a point. -/
theorem flag1 (t : Fin cfg0.N) (T : Fin 128) (hT : T.val = min (t.val + 1) 127) :
    (k0_pay419 (F := Ideal) (grid0.coords t) : EReal) = if T.val % 16 = 15 then ⊥ else 0 := by
  have h : ∀ t : Fin cfg0.N, Scalar.cmpi .eq (Scalar.remsi (Scalar.minsi (Scalar.addi (BitVec.ofNat 32 ((grid0.coords t) 0).val) 1#32) 127#32) 16#32) 15#32
      = if min (t.val + 1) 127 % 16 = 15 then 1#1 else 0#1 :=
    (by decide +kernel : ∀ t : Fin grid0.N, Scalar.cmpi .eq (Scalar.remsi (Scalar.minsi (Scalar.addi (BitVec.ofNat 32 ((grid0.coords t) 0).val) 1#32) 127#32) 16#32) 15#32
      = if min (t.val + 1) 127 % 16 = 15 then 1#1 else 0#1)
  show Scalar.select (Scalar.cmpi .eq (Scalar.remsi (Scalar.minsi (Scalar.addi (BitVec.ofNat 32 ((grid0.coords t) 0).val) 1#32) 127#32) 16#32) 15#32)
    (Ideal.ofBits .f32 0xFF800000#32) (Ideal.ofBits .f32 0x00000000#32) = _
  rw [h t, hT, ofBits_bot, ofBits_zero]
  split <;> rfl

/-- The staged rows of keys and values. -/
def kv (R : Fin 65536) (b : Fin 512) : EReal := (V m c main_v21 : Vec Ideal S65536x512 .bf16) (ix2 R b)

/-- The keys that a stack's half of a pair meets. -/
theorem keyAt (R : Fin 65536) (p : Fin 4) (f : Fin 2) (d : Fin 64) (b : Fin 512) (hb : b.val = 128 * (2 * (0 : Fin 2).val + (side p f).val) + (lane f d).val) :
    kv m c R b = aK m c (ix2 R ⟨64 * (p.val / 2) + d.val, by omega⟩) := by
  unfold kv
  unfold side at hb
  have hd := d.isLt
  have hf := f.isLt
  by_cases h : f.val = p.val / 2
  · rw [if_pos h] at hb
    exact V_v21_k m c R b _ (by rw [hb]; show 128 * (2 * 0 + 0) + (64 * f.val + d.val) = 64 * (p.val / 2) + d.val; omega)
  · rw [if_neg h] at hb
    exact V_v21_ks m c R b _ (by rw [hb]; show 128 * (2 * 0 + 1) + (64 * f.val + d.val) = 128 + (64 * (p.val / 2) + d.val + 64) % 128; omega)

/-- The values that a stack's half of a pair meets. -/
theorem valAt (R : Fin 65536) (p : Fin 4) (f : Fin 2) (d : Fin 64) (b : Fin 512) (hb : b.val = 128 * (2 * (1 : Fin 2).val + (side p f).val) + (lane f d).val) :
    kv m c R b = aV m c (ix2 R ⟨64 * (p.val / 2) + d.val, by omega⟩) := by
  unfold kv
  unfold side at hb
  have hd := d.isLt
  have hf := f.isLt
  by_cases h : f.val = p.val / 2
  · rw [if_pos h] at hb
    exact V_v21_v m c R b _ (by rw [hb]; show 128 * (2 * 1 + 0) + (64 * f.val + d.val) = 256 + (64 * (p.val / 2) + d.val); omega)
  · rw [if_neg h] at hb
    exact V_v21_vs m c R b _ (by rw [hb]; show 128 * (2 * 1 + 1) + (64 * f.val + d.val) = 384 + (64 * (p.val / 2) + d.val + 64) % 128; omega)

/-- Window 12's rows among all rows of keys and values. -/
theorem kv12 (t : Fin cfg0.N) (r : Fin 128) (l : Fin 512) (R : Fin 65536) (hR : R.val = 128 * 0 + r.val) :
    ((iblk m c 12 t : Vec Ideal S128x512 .bf16) (ix2 r l) : EReal) = kv m c R l := by
  rw [blk12]
  unfold kv
  exact congrArg (fun R => (V m c main_v21 : Vec Ideal S65536x512 .bf16) (ix2 R l)) (Fin.ext hR.symm)

/-- Window 13's rows among all rows of keys and values. -/
theorem kv13 (t : Fin cfg0.N) (r : Fin 512) (l : Fin 512) (R : Fin 65536) (hR : R.val = 512 * 0 + r.val) :
    ((iblk m c 13 t : Vec Ideal S512x512 .bf16) (ix2 r l) : EReal) = kv m c R l := by
  rw [blk13]
  unfold kv
  exact congrArg (fun R => (V m c main_v21 : Vec Ideal S65536x512 .bf16) (ix2 R l)) (Fin.ext hR.symm)

/-- Window 14's rows among all rows of keys and values. -/
theorem kv14 (t : Fin cfg0.N) (r : Fin 128) (l : Fin 512) (R : Fin 65536) (hR : R.val = 128 * 4 + r.val) :
    ((iblk m c 14 t : Vec Ideal S128x512 .bf16) (ix2 r l) : EReal) = kv m c R l := by
  rw [blk14]
  unfold kv
  exact congrArg (fun R => (V m c main_v21 : Vec Ideal S65536x512 .bf16) (ix2 R l)) (Fin.ext hR.symm)

/-- Window 16's rows among all rows of keys and values. -/
theorem kv16 (t : Fin cfg0.N) (r : Fin 128) (l : Fin 512) (R : Fin 65536) (hR : R.val = 128 * (4 * min (t.val + 1) 127 - 1) + r.val) :
    ((iblk m c 16 t : Vec Ideal S128x512 .bf16) (ix2 r l) : EReal) = kv m c R l := by
  rw [blk16]
  unfold kv
  exact congrArg (fun R => (V m c main_v21 : Vec Ideal S65536x512 .bf16) (ix2 R l)) (Fin.ext hR.symm)

/-- Window 17's rows among all rows of keys and values. -/
theorem kv17 (t : Fin cfg0.N) (r : Fin 512) (l : Fin 512) (R : Fin 65536) (hR : R.val = 512 * min (t.val + 1) 127 + r.val) :
    ((iblk m c 17 t : Vec Ideal S512x512 .bf16) (ix2 r l) : EReal) = kv m c R l := by
  rw [blk17]
  unfold kv
  exact congrArg (fun R => (V m c main_v21 : Vec Ideal S65536x512 .bf16) (ix2 R l)) (Fin.ext hR.symm)

/-- Window 18's rows among all rows of keys and values. -/
theorem kv18 (t : Fin cfg0.N) (r : Fin 128) (l : Fin 512) (R : Fin 65536) (hR : R.val = 128 * min (4 * min (t.val + 1) 127 + 4) 511 + r.val) :
    ((iblk m c 18 t : Vec Ideal S128x512 .bf16) (ix2 r l) : EReal) = kv m c R l := by
  rw [blk18]
  unfold kv
  exact congrArg (fun R => (V m c main_v21 : Vec Ideal S65536x512 .bf16) (ix2 R l)) (Fin.ext hR.symm)

/-- Window 11's rows among all rows of queries. -/
theorem qs11 (t : Fin cfg0.N) (r : Fin 512) (l : Fin 512) (R : Fin 65536) (hR : R.val = 512 * 0 + r.val) :
    ((iblk m c 11 t : Vec Ideal S512x512 .bf16) (ix2 r l) : EReal) = aQ m c (ix2 R l) * Ideal.ofBits .f32 0x3E000000#32 := by
  rw [blk11, V_v13]
  exact congrArg (fun R => aQ m c (ix2 R l) * Ideal.ofBits .f32 0x3E000000#32) (Fin.ext hR.symm)

/-- Window 15's rows among all rows of queries. -/
theorem qs15 (t : Fin cfg0.N) (r : Fin 512) (l : Fin 512) (R : Fin 65536) (hR : R.val = 512 * min (t.val + 1) 127 + r.val) :
    ((iblk m c 15 t : Vec Ideal S512x512 .bf16) (ix2 r l) : EReal) = aQ m c (ix2 R l) * Ideal.ofBits .f32 0x3E000000#32 := by
  rw [blk15, V_v13]
  exact congrArg (fun R => aQ m c (ix2 R l) * Ideal.ofBits .f32 0x3E000000#32) (Fin.ext hR.symm)

/-- The sinks' block. -/
theorem sk9 (t : Fin cfg0.N) (h : Fin 8) : ((iblk m c 9 t : Vec Ideal S8 .f32) (ix1 h) : EReal) = aSink m c (ix2 0 h) := by rw [blk9, V_v2]

/-- The biases' block. -/
theorem bs10 (t : Fin cfg0.N) (r : Fin 128) (l : Fin 256) : ((iblk m c 10 t : Vec Ideal S128x256 .f32) (ix2 r l) : EReal)
    = Ideal.ofBits .f32 (Cert.KernelIdeal.lit0 (S128x256.rowMajor (ix2 r l))) := by
  rw [blk10, V_cst, Words.lit_same]

/-- The attention's row of the arguments. -/
abbrev att (B : Fin 512) (r : Fin 128) (h : Fin 8) (d : Fin 64) : EReal :=
  attRow (fun a b => aQ m c (ix2 a b)) (fun a b => aK m c (ix2 a b)) (fun a b => aV m c (ix2 a b)) (fun h => aSink m c (ix2 0 h)) B r h d

/-- The first tile's pieces at an index, the queries and keys being reals. -/
theorem attFirst_apply (hQ : ∀ i, ∃ x : ℝ, aQ m c i = (x : EReal)) (hK : ∀ i, ∃ x : ℝ, aK m c i = (x : EReal)) (t : Fin cfg0.N)
    (T : Fin 128) (hT : T.val = 0) (j p : Fin 4) (r : Fin 128) (f : Fin 2) (d : Fin 64) :
    (Track.attFirst m c t j p (ix3 0 r (lane f d)) : EReal) = att m c ⟨4 * T.val + j.val, by omega⟩ r ⟨2 * p.val + f.val, by omega⟩ d := by
  have hN : cfg0.N = 128 := rfl
  have ht := t.isLt
  have hT' := T.isLt
  have hq : ∀ (r : Fin 512) (l : Fin 512), ((iblk m c 11 t : Vec Ideal S512x512 .bf16) (ix2 r l) : EReal) = aQ m c (ix2 ⟨512 * T.val + r.val, by omega⟩ l) * Ideal.ofBits .f32 0x3E000000#32 :=
    fun r l => qs11 m c t r l _ (by dsimp only; omega)
  have hp : ∀ (r : Fin 128) (l : Fin 512), 0 < T.val → ((iblk m c 12 t : Vec Ideal S128x512 .bf16) (ix2 r l) : EReal) = kv m c ⟨512 * T.val - 128 + r.val, by omega⟩ l :=
    fun r l h => kv12 m c t r l _ (by dsimp only; omega)
  have hc : ∀ (r : Fin 512) (l : Fin 512), ((iblk m c 13 t : Vec Ideal S512x512 .bf16) (ix2 r l) : EReal) = kv m c ⟨512 * T.val + r.val, by omega⟩ l :=
    fun r l => kv13 m c t r l _ (by dsimp only; omega)
  have hn : ∀ (r : Fin 128) (l : Fin 512) (h : T.val < 127), ((iblk m c 14 t : Vec Ideal S128x512 .bf16) (ix2 r l) : EReal) = kv m c ⟨512 * T.val + 512 + r.val, by omega⟩ l :=
    fun r l h => kv14 m c t r l _ (by dsimp only; omega)
  have h9 := sk9 m c t
  have h10 := bs10 m c t
  have hf0 : (k0_pay3 (F := Ideal) : EReal) = if T.val % 16 = 0 then ⊥ else 0 := by rw [if_pos (by omega)]; exact ofBits_bot
  have hf1 : (k0_pay4 (F := Ideal) : EReal) = if T.val % 16 = 15 then ⊥ else 0 := by rw [if_neg (by omega)]; exact ofBits_zero
  unfold Track.attFirst
  generalize iblk m c 9 t = b9 at *
  generalize iblk m c 10 t = b10 at *
  generalize iblk m c 11 t = bq at *
  generalize iblk m c 12 t = bp at *
  generalize iblk m c 13 t = bc at *
  generalize iblk m c 14 t = bn at *
  exact attPiece_apply T (fun a b => aQ m c (ix2 a b)) (fun a b => aK m c (ix2 a b)) (fun a b => aV m c (ix2 a b)) (fun h => aSink m c (ix2 0 h)) (kv m c)
    b9 b10 bq bp bc bn _ _ hf0 hf1 h9 h10 hq hp hc hn (fun R p f d => keyAt m c R p f d _ rfl) (fun R p f d => valAt m c R p f d _ rfl)
    (fun a b => hQ _) (fun a b => hK _) j p r f d

/-- The pieces of the tile ahead of a point at an index, the queries and keys being reals. -/
theorem attMain_apply (hQ : ∀ i, ∃ x : ℝ, aQ m c i = (x : EReal)) (hK : ∀ i, ∃ x : ℝ, aK m c i = (x : EReal)) (t : Fin cfg0.N)
    (T : Fin 128) (hT : T.val = min (t.val + 1) 127) (j p : Fin 4) (r : Fin 128) (f : Fin 2) (d : Fin 64) :
    (Track.attMain m c t j p (ix3 0 r (lane f d)) : EReal) = att m c ⟨4 * T.val + j.val, by omega⟩ r ⟨2 * p.val + f.val, by omega⟩ d := by
  have hN : cfg0.N = 128 := rfl
  have ht := t.isLt
  have hT' := T.isLt
  have hq : ∀ (r : Fin 512) (l : Fin 512), ((iblk m c 15 t : Vec Ideal S512x512 .bf16) (ix2 r l) : EReal) = aQ m c (ix2 ⟨512 * T.val + r.val, by omega⟩ l) * Ideal.ofBits .f32 0x3E000000#32 :=
    fun r l => qs15 m c t r l _ (by dsimp only; omega)
  have hp : ∀ (r : Fin 128) (l : Fin 512), 0 < T.val → ((iblk m c 16 t : Vec Ideal S128x512 .bf16) (ix2 r l) : EReal) = kv m c ⟨512 * T.val - 128 + r.val, by omega⟩ l :=
    fun r l h => kv16 m c t r l _ (by dsimp only; omega)
  have hc : ∀ (r : Fin 512) (l : Fin 512), ((iblk m c 17 t : Vec Ideal S512x512 .bf16) (ix2 r l) : EReal) = kv m c ⟨512 * T.val + r.val, by omega⟩ l :=
    fun r l => kv17 m c t r l _ (by dsimp only; omega)
  have hn : ∀ (r : Fin 128) (l : Fin 512) (h : T.val < 127), ((iblk m c 18 t : Vec Ideal S128x512 .bf16) (ix2 r l) : EReal) = kv m c ⟨512 * T.val + 512 + r.val, by omega⟩ l :=
    fun r l h => kv18 m c t r l _ (by dsimp only; omega)
  have h9 := sk9 m c t
  have h10 := bs10 m c t
  have hf0 : (k0_pay418 (F := Ideal) (grid0.coords t) : EReal) = if T.val % 16 = 0 then ⊥ else 0 := flag0 t T hT
  have hf1 : (k0_pay419 (F := Ideal) (grid0.coords t) : EReal) = if T.val % 16 = 15 then ⊥ else 0 := flag1 t T hT
  unfold Track.attMain
  generalize iblk m c 9 t = b9 at *
  generalize iblk m c 10 t = b10 at *
  generalize iblk m c 15 t = bq at *
  generalize iblk m c 16 t = bp at *
  generalize iblk m c 17 t = bc at *
  generalize iblk m c 18 t = bn at *
  exact attPiece_apply T (fun a b => aQ m c (ix2 a b)) (fun a b => aK m c (ix2 a b)) (fun a b => aV m c (ix2 a b)) (fun h => aSink m c (ix2 0 h)) (kv m c)
    b9 b10 bq bp bc bn _ _ hf0 hf1 h9 h10 hq hp hc hn (fun R p f d => keyAt m c R p f d _ rfl) (fun R p f d => valAt m c R p f d _ rfl)
    (fun a b => hQ _) (fun a b => hK _) j p r f d

/-- A tile's pieces at an index, the queries and keys being reals. -/
theorem attOf_apply (hQ : ∀ i, ∃ x : ℝ, aQ m c i = (x : EReal)) (hK : ∀ i, ∃ x : ℝ, aK m c i = (x : EReal)) (t : Fin cfg0.N)
    (B : Fin 512) (j p : Fin 4) (hB : B.val = 4 * t.val + j.val) (r : Fin 128) (f : Fin 2) (d : Fin 64) :
    (Track.attOf m c t j p (ix3 0 r (lane f d)) : EReal) = att m c B r ⟨2 * p.val + f.val, by omega⟩ d := by
  have hN : cfg0.N = 128 := rfl
  have ht := t.isLt
  have e : B = ⟨4 * (⟨t.val, by omega⟩ : Fin 128).val + j.val, by clear hB; have := j.isLt; dsimp only; omega⟩ := Fin.ext hB
  rw [e]
  unfold Track.attOf
  by_cases h0 : t.val = 0
  · rw [if_pos h0]
    exact attFirst_apply m c hQ hK t ⟨t.val, by omega⟩ h0 j p r f d
  · rw [if_neg h0]
    exact attMain_apply m c hQ hK ⟨t.val - 1, by omega⟩ ⟨t.val, by omega⟩ (by dsimp only; omega) j p r f d

/-- The layer's function of the arguments. -/
abbrev out (a : Fin 65536) (b : Fin 1024) : EReal :=
  layer (fun a b => aX m c (ix2 a b)) (fun a b => aOf m c (ix2 a b)) (fun a b => aOb m c (ix2 a b)) (fun a b => aG m c (ix2 a b))
    (fun a b => aQ m c (ix2 a b)) (fun a b => aK m c (ix2 a b)) (fun a b => aV m c (ix2 a b)) (fun b => aHg m c (ix2 0 b)) (fun h => aSink m c (ix2 0 h))
    (fun a b => aWo m c (ix3 0 a b)) (fun b => aN2 m c (ix2 0 b)) (fun a b => aWi m c (ix3 0 a b)) (fun a b => aW2 m c (ix3 0 a b)) a b

/-- A point's output block at an index, the queries and keys being reals. -/
theorem out_apply (hQ : ∀ i, ∃ x : ℝ, aQ m c i = (x : EReal)) (hK : ∀ i, ∃ x : ℝ, aK m c i = (x : EReal)) (t : Fin cfg0.N) (r : Fin 512) (b : Fin 1024)
    (a : Fin 65536) (ha : a.val = 512 * t.val + r.val) :
    ((Track.after m c t.val t.isLt).1 (ix2 r b) : EReal) = out m c a b := by
  have hN : cfg0.N = 128 := rfl
  have ht := t.isLt
  obtain rfl : a = ⟨512 * t.val + r.val, by clear ha; omega⟩ := Fin.ext ha
  rw [Track.after_out]
  unfold Track.outOf
  have hatt : ∀ k : Fin 512, (Track.tileOf (Track.attOf m c t) (ix3 0 r k) : EReal)
      = att m c ⟨(512 * t.val + r.val) / 128, by omega⟩ ⟨(512 * t.val + r.val) % 128, by omega⟩ ⟨k.val / 64, by omega⟩ ⟨k.val % 64, by omega⟩ := fun k => by
    have hk := k.isLt
    have hr := r.isLt
    refine Eq.trans ?_ ((attOf_apply m c hQ hK t ⟨(512 * t.val + r.val) / 128, by omega⟩ ⟨r.val / 128, by omega⟩ ⟨k.val / 128, by omega⟩ (by dsimp only; omega)
      ⟨(512 * t.val + r.val) % 128, by omega⟩ ⟨k.val % 128 / 64, by omega⟩ ⟨k.val % 64, by omega⟩).trans ?_)
    · show (Track.attOf m c t ⟨r.val / 128, _⟩ ⟨k.val / 128, _⟩ (ix3 0 ⟨r.val % 128, _⟩ ⟨k.val % 128, _⟩) : EReal) = _
      refine congrArg₂ (fun x y => (Track.attOf m c t ⟨r.val / 128, by omega⟩ ⟨k.val / 128, by omega⟩ (ix3 0 x y) : EReal)) (Fin.ext ?_) (Fin.ext ?_)
      · dsimp only; omega
      · show k.val % 128 = 64 * (k.val % 128 / 64) + k.val % 64; omega
    · exact congrArg (fun h => att m c _ _ h _) (Fin.ext (by dsimp only; omega))
  generalize Track.tileOf (Track.attOf m c t) = tl at hatt ⊢
  rw [outWords_apply]
  have e0 : ∀ k, (iblk m c 0 t (ix2 r k) : EReal) = aX m c (ix2 ⟨512 * t.val + r.val, by omega⟩ k) := fun k => by rw [blk0]; rfl
  have e1 : ∀ k, (iblk m c 1 t (ix2 r k) : EReal) = aOf m c (ix2 ⟨512 * t.val + r.val, by omega⟩ k) := fun k => by rw [blk1]; rfl
  have e2 : ∀ k, (iblk m c 2 t (ix2 r k) : EReal) = aOb m c (ix2 ⟨512 * t.val + r.val, by omega⟩ k) := fun k => by rw [blk2]; rfl
  have e3 : ∀ k, (iblk m c 3 t (ix2 r k) : EReal) = aG m c (ix2 ⟨512 * t.val + r.val, by omega⟩ k) := fun k => by rw [blk3]; rfl
  have e4 : ∀ k, (iblk m c 4 t (ix2 0 k) : EReal) = aHg m c (ix2 0 k) := fun k => by rw [blk4, V_v1]
  have e5 : ∀ k n, (iblk m c 5 t (ix2 k n) : EReal) = aWo m c (ix3 0 k n) := fun k n => by rw [blk5, V_v4]
  have e6 : ∀ k, (iblk m c 6 t (ix2 0 k) : EReal) = aN2 m c (ix2 0 k) := fun k => by rw [blk6, V_v6]
  have e7 : ∀ k n, (iblk m c 7 t (ix2 k n) : EReal) = aWi m c (ix3 0 k n) := fun k n => by rw [blk7, V_v8]
  have e8 : ∀ k n, (iblk m c 8 t (ix2 k n) : EReal) = aW2 m c (ix3 0 k n) := fun k n => by rw [blk8, V_v10]
  simp only [e0, e1, e2, e3, e4, e5, e6, e7, e8, hatt]
  rfl

end Cert.Kernel3Ideal.Entry

end
-- ==== Proof.Blocks3.lean ====
/- The run of `main` with the output array named, block by block: block `t` of it is what grid point `t` leaves (`Track.after`). -/
module

public import proofs.«01_k».proof.Proof.Track3

@[expose] public section

noncomputable section

namespace Cert.Kernel3Ideal.Track

open Cert.Kernel3Ideal Cert.Kernel3Ideal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- WHAT POINT `t` WRITES BACK to output window 19's array: the run's contents for that window after the body (`Gen.after`: its component 0), read through the window's block. -/
theorem flushed19 (c : Dev nD) (t : Fin cfg0.N) :
    (dats m 0 c).flushed 19 t = (cfg0.win 19).cut (grid0.coords t) ((after m c t.val t.isLt).1) := by
  show (cfg0.win 19).cut (grid0.coords t) ((dats m 0 c).after 19 t) = _
  rw [after0_19]

/-- The index map sends distinct grid points to distinct block indices (decided over the 128 points). -/
theorem idx_inj19 : ∀ t t' : Fin cfg0.N, win0_19.index t = win0_19.index t' → t = t' :=
  (by decide +kernel : ∀ t t' : Fin grid0.N, win0_19.index t = win0_19.index t' → t = t')

/-- So two flushing points' blocks share no array index (Lib/Pipeline/Cells.lean `Window.disjoint_blk`). -/
theorem disjoint19 : ∀ t t' : Fin cfg0.N, (cfg0.win 19).flush t = true → (cfg0.win 19).flush t' = true → t ≠ t' →
    Disjoint ((cfg0.win 19).blk t).view.set ((cfg0.win 19).blk t').view.set :=
  fun t t' _ _ hne => (cfg0.win 19).disjoint_blk fun h => hne (idx_inj19 t t' h)

/-- BLOCK `t` OF THE FINAL ARRAY, read back through the window, is what point `t` wrote back (`flushed19`), for every
    point that writes back: no other point's block meets it. -/
theorem blocks19 (c : Dev nD) (t : Fin cfg0.N) (hf : (cfg0.win 19).flush t = true) :
    ((cfg0.win 19).blk t).view.read (Elt F) ((dats m 0 c).arrAt 19 cfg0.N) = (dats m 0 c).flushed 19 t :=
  (dats m 0 c).read_blk_arrAt_eq_flushed 19 disjoint19 cfg0.N t t.isLt hf

/-- An index that no flushing point's block covers keeps output window 19's array contents at region entry. -/
theorem entry19 (c : Dev nD) (i : S65536x1024.Idx) (h : ∀ t : Fin cfg0.N, (cfg0.win 19).flush t = true → i ∉ ((cfg0.win 19).blk t).view.set) :
    (dats m 0 c).arrAt 19 cfg0.N i = V m c (Pipeline.arrRef spec0 19) i := by
  rw [(dats m 0 c).arrAt_apply_of_forall_not_mem 19 cfg0.N i (fun t _ hf => h t hf), A_eq]

/-- After the frame run, output window 19's array is `(dats m 0 c).arrAt 19 N`. -/
theorem post19 (r : PUnit × MemSt nD τ sig (Elt F)) (h : Pipeline.FramePost cfgs (dats m) 0 (V m) r) (c : Dev nD) :
    r.2.mem ((c : Thread nD τ).loc main_v22) = (dats m 0 c).arrAt 19 cfg0.N :=
  (h c).1 19

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- After the frame run, argument `main_arg9` is as launched: no window stages it, and the run leaves the region's other buffers as they were. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- After the frame run, argument `main_arg10` is as launched: no window stages it, and the run leaves the region's other buffers as they were. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

/-- After the frame run, argument `main_arg11` is as launched: no window stages it, and the run leaves the region's other buffers as they were. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

/-- After the frame run, argument `main_arg12` is as launched: no window stages it, and the run leaves the region's other buffers as they were. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v22) = (dats m 0 c).arrAt 19 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨post19 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c⟩)
    (run_main m ρ)

end Cert.Kernel3Ideal.Track

end
-- ==== Proof.Whole3.lean ====
/- The kernel's whole result array, and what the precondition says of the arguments it reads. -/
module

public import proofs.«01_k».proof.Proof.Result3
public import proofs.«01_k».proof.Proof.Blocks3
public import proofs.«01_k».proof.Pre_finite_sample
public import Idealize.ShloMosaic.Lib.Pipeline.ValueKit.Point
public import Idealize.ShloMosaic.Lib.KernelVsHost

@[expose] public section

set_option maxRecDepth 16384

noncomputable section

namespace Cert.Kernel3Ideal.Entry

open Cert.Kernel3Ideal Cert.Kernel3Ideal.Gen Idealize.ShloMosaic Idealize.ShloMosaic.TcCoe Idealize.ShloMosaic.Tactic

variable (m : (ℓ : Loc nD τ sig) → Buf (Elt Ideal) ℓ) (c : Dev nD)

/-- Which block of the result a grid point writes: the block of its own number. -/
theorem idx19 : ∀ t : Fin cfg0.N, win0_19.index t = ![t.val, 0] :=
  (by decide +kernel : ∀ t : Fin grid0.N, win0_19.index t = ![t.val, 0])

/-- Every index is its two coordinates. -/
theorem eq_ix2 {a b : Nat} (i : (⟨2, ![a, b]⟩ : Shape).Idx) : i = ix2 (i 0) (i 1) :=
  funext fun d => match d with
    | ⟨0, _⟩ => rfl
    | ⟨1, _⟩ => rfl

/-- The result array after the run is the layer's function of the arguments, the queries and keys being reals. -/
theorem final (hQ : ∀ i, ∃ x : ℝ, aQ m c i = (x : EReal)) (hK : ∀ i, ∃ x : ℝ, aK m c i = (x : EReal)) :
    (Track.dats m 0 c).arrAt 19 cfg0.N = (fun i => out m c (i 0) (i 1) : Vec Ideal S65536x1024 .f32) := by
  refine (Track.dats m 0 c).arrAt_eq_of_covers 19 _ (by decide +kernel) fun t hf y => ?_
  blk_simp
  rw [Track.after0_19]
  have e : ∀ (r : Fin 512) (b : Fin 1024), y = ix2 r b →
      ((Track.after m c t.val t.isLt).1 (ix2 r b) : EReal) = out m c (((cfg0.win 19).blk t).view.emb y 0) (((cfg0.win 19).blk t).view.emb y 1) := by
    intro r b hy
    have h1 : (((cfg0.win 19).blk t).view.emb y 1 : Fin 1024) = b := by
      apply Fin.ext
      blk_simp [idx19 t]
      rw [hy]
      rfl
    rw [h1]
    refine out_apply m c hQ hK t r b _ ?_
    blk_simp [idx19 t]
    rw [hy]
    show t.val * 512 + r.val = 512 * t.val + r.val
    omega
  rw [eq_ix2 (a := 512) (b := 1024) y]
  exact e _ _ (eq_ix2 (a := 512) (b := 1024) y)

/-- An absolute value below the top is a real's. -/
theorem real_of_abs_lt {x : EReal} (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  unfold Ideal.cmp at h
  dsimp only at h
  induction x with
  | bot => simp at h
  | top => simp at h
  | coe r => exact ⟨r, rfl⟩

end Cert.Kernel3Ideal.Entry

end
-- ==== Proof.RefAtt3.lean ====
/- The reference's attention at an index, over the ideal numbers. -/
module

public import proofs.«01_k».proof.Proof.Gen.Reference3Ideal.Read
public import proofs.«01_k».proof.Proof.Spec3
public import Idealize.ShloMosaic.Lib.Pointwise
public import Idealize.ShloMosaic.Lib.KernelVsHost

@[expose] public section

set_option maxRecDepth 16384

noncomputable section

namespace Cert.Reference3Ideal.Layer

open Cert.Reference3Ideal Cert.Reference3Ideal.Gen Cert.Reference3Ideal.Read Idealize.ShloMosaic Idealize.ShloMosaic.TcCoe
open Idealize.ShloMosaic.Tactic Cert.Spec3
open Cert.Spec hiding keyRow logit attRow layer

variable (x0 : Vec Ideal S65536x1024 .f32) (x1 x2 x3 x4 : Vec Ideal S65536x512 .f32) (x5 x6 : Vec Ideal S65536x128 .f32)
  (x7 : Vec Ideal S1x128 .f32) (x8 : Vec Ideal S1x8 .f32) (x9 : Vec Ideal S1x1024x1024 .f32) (x10 : Vec Ideal S1x1024 .f32)
  (x11 : Vec Ideal S1x1024x5632 .f32) (x12 : Vec Ideal S1x2816x1024 .f32)

/-- The queries, their axis of rows split in sequences and blocks and their columns in heads. -/
theorem q_apply (b : Fin 8) (n : Fin 64) (r : Fin 128) (h : Fin 2) (g : Fin 4) (d : Fin 64) (B : Fin 512) (H : Fin 8)
    (hB : B.val = 64 * b.val + n.val) (hH : H.val = 4 * h.val + g.val) :
    val_main_v18 (F := Ideal) x4 (ix6 b n r h g d) = x4 (ix2 ⟨128 * B.val + r.val, by omega⟩ ⟨64 * H.val + d.val, by omega⟩) := by
  unfold val_main_v18
  refine shapeCast_apply x4 _ _ _ ?_
  rewrite [Shape.rowMajor_val_two, Shape.rowMajor_val_six]
  show (128 * B.val + r.val) * 512 + (64 * H.val + d.val) = ((((b.val * 64 + n.val) * 128 + r.val) * 2 + h.val) * 4 + g.val) * 64 + d.val
  omega

/-- The distance between a query's row and a key's is at most 128. -/
theorem near (r : Fin 128) (k : Fin 384) :
    IntOp.cmpi CmpIPredicate.sle (IntOp.absi (IntOp.subi (IntOp.subi (BitVec.ofNat 32 k.val) 128#32) (BitVec.ofNat 32 r.val))) 128#32
      = if r.val ≤ k.val ∧ k.val ≤ r.val + 256 then 1#1 else 0#1 := by
  have e : IntOp.subi (IntOp.subi (BitVec.ofNat 32 k.val) 128#32) (BitVec.ofNat 32 r.val) = BitVec.ofNat 32 (k.val + 127 - r.val) - 255#32 := by
    apply BitVec.eq_of_toNat_eq
    show (BitVec.ofNat 32 k.val - 128#32 - BitVec.ofNat 32 r.val).toNat = _
    simp only [BitVec.toNat_sub, BitVec.toNat_ofNat]
    omega
  rw [e]
  have t := (by decide +kernel : ∀ e : Fin 512, IntOp.cmpi CmpIPredicate.sle (IntOp.absi (BitVec.ofNat 32 e.val - 255#32)) 128#32
    = if 127 ≤ e.val ∧ e.val ≤ 383 then 1#1 else 0#1) ⟨k.val + 127 - r.val, by omega⟩
  refine t.trans ?_
  exact if_congr (by dsimp only; omega) rfl rfl

/-- A key's row is not before its sequence. -/
theorem after (n : Fin 64) (k : Fin 384) :
    IntOp.cmpi CmpIPredicate.sge (IntOp.addi (IntOp.muli (BitVec.ofNat 32 n.val) 128#32) (IntOp.subi (BitVec.ofNat 32 k.val) 128#32)) 0#32
      = if 128 ≤ 128 * n.val + k.val then 1#1 else 0#1 := by
  have e : IntOp.addi (IntOp.muli (BitVec.ofNat 32 n.val) 128#32) (IntOp.subi (BitVec.ofNat 32 k.val) 128#32) = BitVec.ofNat 32 (128 * n.val + k.val) - 128#32 := by
    apply BitVec.eq_of_toNat_eq
    show (BitVec.ofNat 32 n.val * 128#32 + (BitVec.ofNat 32 k.val - 128#32)).toNat = _
    simp only [BitVec.toNat_sub, BitVec.toNat_ofNat, BitVec.toNat_add, BitVec.toNat_mul]
    omega
  rw [e]
  exact (by decide +kernel : ∀ e : Fin 8448, IntOp.cmpi CmpIPredicate.sge (BitVec.ofNat 32 e.val - 128#32) 0#32
    = if 128 ≤ e.val then 1#1 else 0#1) ⟨128 * n.val + k.val, by omega⟩

/-- A key's row is not past its sequence. -/
theorem before (n : Fin 64) (k : Fin 384) :
    IntOp.cmpi CmpIPredicate.slt (IntOp.addi (IntOp.muli (BitVec.ofNat 32 n.val) 128#32) (IntOp.subi (BitVec.ofNat 32 k.val) 128#32)) 8192#32
      = if 128 * n.val + k.val < 8320 then 1#1 else 0#1 := by
  have e : IntOp.addi (IntOp.muli (BitVec.ofNat 32 n.val) 128#32) (IntOp.subi (BitVec.ofNat 32 k.val) 128#32) = BitVec.ofNat 32 (128 * n.val + k.val) - 128#32 := by
    apply BitVec.eq_of_toNat_eq
    show (BitVec.ofNat 32 n.val * 128#32 + (BitVec.ofNat 32 k.val - 128#32)).toNat = _
    simp only [BitVec.toNat_sub, BitVec.toNat_ofNat, BitVec.toNat_add, BitVec.toNat_mul]
    omega
  rw [e]
  exact (by decide +kernel : ∀ e : Fin 8448, IntOp.cmpi CmpIPredicate.slt (BitVec.ofNat 32 e.val - 128#32) 8192#32
    = if e.val < 8320 then 1#1 else 0#1) ⟨128 * n.val + k.val, by omega⟩

/-- The mask's bit: the key is in the query's window and in its sequence. -/
theorem mask (n : Fin 64) (r : Fin 128) (k : Fin 384) (B : Fin 512) (hB : B.val % 64 = n.val) :
    val_main_v66 (F := Ideal) (ix3 n r k) = if Okay B r k then 1#1 else 0#1 := by
  pointwise [val_main_v66, val_main_v65, val_main_v64, val_main_v63, val_main_c_8, val_main_v62, val_main_v61, val_main_v60, val_main_v59, val_main_v58, val_main_c_7, val_main_v57, val_main_v56, val_main_v55, val_main_c_6, val_main_v54, val_main_v53, val_main_v52, val_main_v51, val_main_v50, val_main_v49, val_main_v48, val_main_c_5, val_main_v47, val_main_v46, val_main_v45, val_main_v44, val_main_v43, val_main_v42, val_main_v41, val_main_v40, val_main_v39, val_main_v38, val_main_c_4, val_main_v37]
  rw [near, after, before]
  unfold Okay
  rw [hB]
  by_cases h1 : r.val ≤ k.val ∧ k.val ≤ r.val + 256 <;> by_cases h2 : 128 ≤ 128 * n.val + k.val <;> by_cases h3 : 128 * n.val + k.val < 8320 <;>
    simp only [h1, h2, h3, if_true, if_false, and_true, and_false, true_and, false_and, and_self] <;> first | rfl | (rw [if_neg (by omega)]; rfl) | (rw [if_pos (by omega)]; rfl)

/-- The masked logits at an index. -/
theorem masked (b : Fin 8) (n : Fin 64) (r : Fin 128) (h : Fin 2) (g : Fin 4) (k : Fin 384) :
    val_main_v68 (F := Ideal) x4 x5 (ix6 b n h g r k) = if val_main_v66 (F := Ideal) (ix3 n r k) = 1#1
      then val_main_v33 (F := Ideal) x4 x5 (ix6 b n h k r g) * Ideal.ofBits .f32 0x3E000000#32 else Ideal.ofBits .f32 0xFF800000#32 := by
  pointwise [val_main_v68, val_main_call2_v2, val_main_call2_v0, val_main_cst_9, val_main_call2_v1, val_main_v67, val_main_v36, val_main_v35, val_main_cst_3, val_main_v34]
  rfl

/-- The keys around a block at an index of the padded rows. -/
theorem kBand (b : Fin 8) (n : Fin 64) (k : Fin 384) (h : Fin 2) (d : Fin 64) :
    val_main_v25 (F := Ideal) x5 (ix5 b n k h d) = val_main_v20 (F := Ideal) x5 (ix4 b ⟨128 * n.val + k.val, by omega⟩ h d) := by
  pointwise [val_main_v25, val_main_v24, val_main_v23, val_main_v22, val_main_v21]
  have hk := k.isLt
  have hn := n.isLt
  have key : ∀ (x y : Fin 8448), x.val = y.val → val_main_v20 (F := Ideal) x5 (ix4 b x h d) = val_main_v20 (F := Ideal) x5 (ix4 b y h d) :=
    fun x y e => congrArg (fun z => val_main_v20 (F := Ideal) x5 (ix4 b z h d)) (Fin.ext e)
  split
  · exact key _ _ (by show n.val * 128 + k.val = 128 * n.val + k.val; omega)
  · split
    · exact key _ _ (by show (1 + n.val) * 128 + (k.val - 128) = 128 * n.val + k.val; omega)
    · exact key _ _ (by show (2 + n.val) * 128 + (k.val - 128 - 128) = 128 * n.val + k.val; omega)

/-- The keys around a block where the padded row is in the sequence. -/
theorem k_apply (b : Fin 8) (n : Fin 64) (k : Fin 384) (h : Fin 2) (d : Fin 64) (B : Fin 512) (H : Fin 8) (hB : B.val = 64 * b.val + n.val)
    (hH : H.val / 4 = h.val) (h0 : 128 ≤ 128 * n.val + k.val) (h1 : 128 * n.val + k.val < 8320) :
    val_main_v25 (F := Ideal) x5 (ix5 b n k h d) = x5 (ix2 (keyRow B k) ⟨64 * (H.val / 4) + d.val, by omega⟩) := by
  have hk := k.isLt
  have hn := n.isLt
  have hb := b.isLt
  rw [kBand]
  unfold val_main_v20
  rw [pad_apply_of_inside _ _ _ _ _ _ _ _ (ix4 b ⟨128 * n.val + k.val - 128, by omega⟩ h d) (fun a => match a with
    | ⟨0, _⟩ => by show b.val = 0 + b.val * 1; omega
    | ⟨1, _⟩ => by show 128 * n.val + k.val = 128 + (128 * n.val + k.val - 128) * 1; omega
    | ⟨2, _⟩ => by show h.val = 0 + h.val * 1; omega
    | ⟨3, _⟩ => by show d.val = 0 + d.val * 1; omega), val_main_v19_apply]
  exact congrArg x5 (funext fun a => match a with
    | ⟨0, _⟩ => Fin.ext (by show (((b.val * 8192 + (128 * n.val + k.val - 128)) * 2 + h.val) * 64 + d.val) / 128 = (128 * B.val + k.val - 128) % 65536; omega)
    | ⟨1, _⟩ => Fin.ext (by show (((b.val * 8192 + (128 * n.val + k.val - 128)) * 2 + h.val) * 64 + d.val) % 128 = 64 * (H.val / 4) + d.val; omega))

/-- The values around a block at an index of the padded rows. -/
theorem vBand (b : Fin 8) (n : Fin 64) (k : Fin 384) (h : Fin 2) (d : Fin 64) :
    val_main_v32 (F := Ideal) x6 (ix5 b n k h d) = val_main_v27 (F := Ideal) x6 (ix4 b ⟨128 * n.val + k.val, by omega⟩ h d) := by
  pointwise [val_main_v32, val_main_v31, val_main_v30, val_main_v29, val_main_v28]
  have hk := k.isLt
  have hn := n.isLt
  have key : ∀ (x y : Fin 8448), x.val = y.val → val_main_v27 (F := Ideal) x6 (ix4 b x h d) = val_main_v27 (F := Ideal) x6 (ix4 b y h d) :=
    fun x y e => congrArg (fun z => val_main_v27 (F := Ideal) x6 (ix4 b z h d)) (Fin.ext e)
  split
  · exact key _ _ (by show n.val * 128 + k.val = 128 * n.val + k.val; omega)
  · split
    · exact key _ _ (by show (1 + n.val) * 128 + (k.val - 128) = 128 * n.val + k.val; omega)
    · exact key _ _ (by show (2 + n.val) * 128 + (k.val - 128 - 128) = 128 * n.val + k.val; omega)

/-- The values around a block where the padded row is in the sequence. -/
theorem v_apply (b : Fin 8) (n : Fin 64) (k : Fin 384) (h : Fin 2) (d : Fin 64) (B : Fin 512) (H : Fin 8) (hB : B.val = 64 * b.val + n.val)
    (hH : H.val / 4 = h.val) (h0 : 128 ≤ 128 * n.val + k.val) (h1 : 128 * n.val + k.val < 8320) :
    val_main_v32 (F := Ideal) x6 (ix5 b n k h d) = x6 (ix2 (keyRow B k) ⟨64 * (H.val / 4) + d.val, by omega⟩) := by
  have hk := k.isLt
  have hn := n.isLt
  have hb := b.isLt
  rw [vBand]
  unfold val_main_v27
  rw [pad_apply_of_inside _ _ _ _ _ _ _ _ (ix4 b ⟨128 * n.val + k.val - 128, by omega⟩ h d) (fun a => match a with
    | ⟨0, _⟩ => by show b.val = 0 + b.val * 1; omega
    | ⟨1, _⟩ => by show 128 * n.val + k.val = 128 + (128 * n.val + k.val - 128) * 1; omega
    | ⟨2, _⟩ => by show h.val = 0 + h.val * 1; omega
    | ⟨3, _⟩ => by show d.val = 0 + d.val * 1; omega), val_main_v26_apply]
  exact congrArg x6 (funext fun a => match a with
    | ⟨0, _⟩ => Fin.ext (by show (((b.val * 8192 + (128 * n.val + k.val - 128)) * 2 + h.val) * 64 + d.val) / 128 = (128 * B.val + k.val - 128) % 65536; omega)
    | ⟨1, _⟩ => Fin.ext (by show (((b.val * 8192 + (128 * n.val + k.val - 128)) * 2 + h.val) * 64 + d.val) % 128 = 64 * (H.val / 4) + d.val; omega))

/-- The word of the lower infinity. -/
theorem bits_bot : Ideal.ofBits .f32 0xFF800000#32 = ⊥ := by simp [Ideal.ofBits, Ideal.ieee]

/-- The query's product with a key. -/
theorem dot_apply (b : Fin 8) (n : Fin 64) (r : Fin 128) (h : Fin 2) (g : Fin 4) (k : Fin 384) :
    val_main_v33 (F := Ideal) x4 x5 (ix6 b n h k r g)
      = ∑ d : Fin 64, val_main_v25 (F := Ideal) x5 (ix5 b n k h d) * val_main_v18 (F := Ideal) x4 (ix6 b n r h g d) := by
  rw [val_main_v33_apply]
  refine Finset.sum_congr rfl fun d _ => ?_
  exact congrArg₂ (fun i j => val_main_v25 (F := Ideal) x5 i * val_main_v18 (F := Ideal) x4 j)
    (funext fun a => match a with | ⟨0, _⟩ => rfl | ⟨1, _⟩ => rfl | ⟨2, _⟩ => rfl | ⟨3, _⟩ => rfl | ⟨4, _⟩ => rfl)
    (funext fun a => match a with | ⟨0, _⟩ => rfl | ⟨1, _⟩ => rfl | ⟨2, _⟩ => rfl | ⟨3, _⟩ => rfl | ⟨4, _⟩ => rfl | ⟨5, _⟩ => rfl)

/-- The masked logits are the specification's. -/
theorem logit_apply (b : Fin 8) (n : Fin 64) (r : Fin 128) (h : Fin 2) (g : Fin 4) (k : Fin 384) (B : Fin 512) (H : Fin 8)
    (hB : B.val = 64 * b.val + n.val) (hH : H.val = 4 * h.val + g.val) :
    val_main_v68 (F := Ideal) x4 x5 (ix6 b n h g r k) = logit (fun a c => x4 (ix2 a c)) (fun a c => x5 (ix2 a c)) B r H k := by
  have hn := n.isLt
  have hg := g.isLt
  rw [masked, mask n r k B (by omega)]
  unfold logit
  by_cases ok : Okay B r k
  · rw [if_pos ok, if_pos rfl, if_pos ok, dot_apply]
    refine congrArg (· * Ideal.ofBits .f32 0x3E000000#32) (Finset.sum_congr rfl fun d _ => ?_)
    have ok' := ok
    unfold Okay at ok'
    rw [k_apply x5 b n k h d B H hB (by omega) (by omega) (by omega), q_apply x4 b n r h g d B H hB hH]
    exact mul_comm _ _
  · rw [if_neg ok, if_neg (by decide), if_neg ok, bits_bot]

/-- A row's largest logit. -/
theorem largest (b : Fin 8) (n : Fin 64) (r : Fin 128) (h : Fin 2) (g : Fin 4) :
    val_main_v72 (F := Ideal) x4 x5 (ix5 b n h g r) = Finset.univ.fold max ⊥ (fun k : Fin 384 => val_main_v68 (F := Ideal) x4 x5 (ix6 b n h g r k)) := by
  unfold val_main_v72
  generalize val_main_v68 (F := Ideal) x4 x5 = y
  refine (Host.reduce_eq_fold_single (f := (max : EReal → EReal → EReal)) y _ reducesTo_S8x64x2x4x128x384_S8x64x2x4x128_d5 (by decide) h_S_ (ix5 b n h g r)).trans ?_
  rw [val_main_cst_10_apply]
  show Finset.fold max (Ideal.ofBits .f32 0xFF800000#32) _ _ = _
  rw [bits_bot]
  refine congrArg (fun f => Finset.fold max ⊥ f Finset.univ) (funext fun k => ?_)
  exact congrArg y (funext fun a => Fin.ext (by match a with | ⟨0, _⟩ => rfl | ⟨1, _⟩ => rfl | ⟨2, _⟩ => rfl | ⟨3, _⟩ => rfl | ⟨4, _⟩ => rfl | ⟨5, _⟩ => rfl))

/-- The larger of a row's largest logit and its sink. -/
theorem peak (b : Fin 8) (n : Fin 64) (r : Fin 128) (h : Fin 2) (g : Fin 4) (H : Fin 8) (hH : H.val = 4 * h.val + g.val) :
    val_main_v75 (F := Ideal) x4 x5 x8 (ix6 b n h g r 0) = max (val_main_v72 (F := Ideal) x4 x5 (ix5 b n h g r)) (x8 (ix2 0 H)) := by
  have e : H = ⟨h.val * 4 + g.val, by omega⟩ := Fin.ext (by dsimp only; omega)
  rw [e]
  have s : val_main_v74 (F := Ideal) x8 (ix6 b n h g r 0) = x8 (ix2 0 ⟨h.val * 4 + g.val, by omega⟩) := by
    pointwise [val_main_v74, val_main_v71, val_main_v70, val_main_v69]
  have t : val_main_v73 (F := Ideal) x4 x5 (ix6 b n h g r 0) = val_main_v72 (F := Ideal) x4 x5 (ix5 b n h g r) := by
    rw [val_main_v73_apply]
    exact congrArg (val_main_v72 (F := Ideal) x4 x5) (funext fun a => match a with | ⟨0, _⟩ => rfl | ⟨1, _⟩ => rfl | ⟨2, _⟩ => rfl | ⟨3, _⟩ => rfl | ⟨4, _⟩ => rfl)
  exact (val_main_v75_apply x4 x5 x8 _).trans (congrArg₂ (max : EReal → EReal → EReal) t s)

/-- A key's weight. -/
theorem weight (b : Fin 8) (n : Fin 64) (r : Fin 128) (h : Fin 2) (g : Fin 4) (k : Fin 384) :
    val_main_v78 (F := Ideal) x4 x5 x8 (ix6 b n h g r k)
      = Ideal.exp (val_main_v68 (F := Ideal) x4 x5 (ix6 b n h g r k) - val_main_v75 (F := Ideal) x4 x5 x8 (ix6 b n h g r 0)) := by
  pointwise [val_main_v78, val_main_v77, val_main_v76]

/-- The sum of a row's weights. -/
theorem weights (b : Fin 8) (n : Fin 64) (r : Fin 128) (h : Fin 2) (g : Fin 4) :
    val_main_v79 (F := Ideal) x4 x5 x8 (ix5 b n h g r) = ∑ k : Fin 384, val_main_v78 (F := Ideal) x4 x5 x8 (ix6 b n h g r k) := by
  rw [val_main_v79_apply, val_main_cst_11_apply]
  show Ideal.ofBits .f32 0x00000000#32 + _ = _
  rw [Ideal.ofBits_zero_f32, zero_add]
  refine Finset.sum_congr rfl fun k _ => ?_
  exact congrArg (val_main_v78 (F := Ideal) x4 x5 x8) (funext fun a => match a with | ⟨0, _⟩ => rfl | ⟨1, _⟩ => rfl | ⟨2, _⟩ => rfl | ⟨3, _⟩ => rfl | ⟨4, _⟩ => rfl | ⟨5, _⟩ => rfl)

/-- A key's share. -/
theorem share (b : Fin 8) (n : Fin 64) (r : Fin 128) (h : Fin 2) (g : Fin 4) (k : Fin 384) (H : Fin 8) (hH : H.val = 4 * h.val + g.val) :
    val_main_v86 (F := Ideal) x4 x5 x8 (ix6 b n h g r k)
      = Ideal.div (val_main_v78 (F := Ideal) x4 x5 x8 (ix6 b n h g r k))
          (val_main_v79 (F := Ideal) x4 x5 x8 (ix5 b n h g r) + Ideal.exp (x8 (ix2 0 H) - val_main_v75 (F := Ideal) x4 x5 x8 (ix6 b n h g r 0))) := by
  have e : H = ⟨h.val * 4 + g.val, by omega⟩ := Fin.ext (by dsimp only; omega)
  rw [e]
  pointwise [val_main_v86, val_main_v85, val_main_v84, val_main_v83, val_main_v82, val_main_v81, val_main_v80, val_main_v71, val_main_v70, val_main_v69]

/-- The values' mean by the shares. -/
theorem mean_apply (b : Fin 8) (n : Fin 64) (r : Fin 128) (h : Fin 2) (g : Fin 4) (d : Fin 64) :
    val_main_v87 (F := Ideal) x4 x5 x6 x8 (ix6 b n h d g r)
      = ∑ k : Fin 384, val_main_v32 (F := Ideal) x6 (ix5 b n k h d) * val_main_v86 (F := Ideal) x4 x5 x8 (ix6 b n h g r k) := by
  rw [val_main_v87_apply]
  refine Finset.sum_congr rfl fun d _ => ?_
  exact congrArg₂ (fun i j => val_main_v32 (F := Ideal) x6 i * val_main_v86 (F := Ideal) x4 x5 x8 j)
    (funext fun a => match a with | ⟨0, _⟩ => rfl | ⟨1, _⟩ => rfl | ⟨2, _⟩ => rfl | ⟨3, _⟩ => rfl | ⟨4, _⟩ => rfl)
    (funext fun a => match a with | ⟨0, _⟩ => rfl | ⟨1, _⟩ => rfl | ⟨2, _⟩ => rfl | ⟨3, _⟩ => rfl | ⟨4, _⟩ => rfl | ⟨5, _⟩ => rfl)

/-- A logit of real queries and keys is not the upper infinity. -/
theorem logit_ne_top {Q : Fin 65536 → Fin 512 → EReal} {K : Fin 65536 → Fin 128 → EReal} (hQ : ∀ a c, ∃ x : ℝ, Q a c = (x : EReal))
    (hK : ∀ a c, ∃ x : ℝ, K a c = (x : EReal)) (B : Fin 512) (r : Fin 128) (H : Fin 8) (k : Fin 384) : logit Q K B r H k ≠ ⊤ := by
  unfold logit
  split
  · choose q hq using hQ
    choose y hy using hK
    have hc8 : ∃ x : ℝ, Ideal.ofBits .f32 0x3E000000#32 = (x : EReal) := by
      refine ⟨0.125, ?_⟩
      simp [Ideal.ofBits, Ideal.ieee, -EReal.coe_mul]
      norm_num
    obtain ⟨e, he⟩ := hc8
    simp only [hq, hy, he, ← EReal.coe_mul]
    rw [← coe_sum, ← EReal.coe_mul]
    exact EReal.coe_ne_top _
  · exact bot_ne_top

/-- The reference's attention is the specification's row, the queries, keys and sinks being reals. -/
theorem mean_row (hQ : ∀ i, ∃ x : ℝ, x4 i = (x : EReal)) (hK : ∀ i, ∃ x : ℝ, x5 i = (x : EReal)) (hS : ∀ i, ∃ x : ℝ, x8 i = (x : EReal))
    (b : Fin 8) (n : Fin 64) (r : Fin 128) (h : Fin 2) (g : Fin 4) (d : Fin 64) (B : Fin 512) (H : Fin 8)
    (hB : B.val = 64 * b.val + n.val) (hH : H.val = 4 * h.val + g.val) :
    val_main_v87 (F := Ideal) x4 x5 x6 x8 (ix6 b n h d g r)
      = attRow (fun a c => x4 (ix2 a c)) (fun a c => x5 (ix2 a c)) (fun a c => x6 (ix2 a c)) (fun h => x8 (ix2 0 h)) B r H d := by
  have hn := n.isLt
  have hg := g.isLt
  have hl : ∀ k, val_main_v68 (F := Ideal) x4 x5 (ix6 b n h g r k) = logit (fun a c => x4 (ix2 a c)) (fun a c => x5 (ix2 a c)) B r H k :=
    fun k => logit_apply x4 x5 b n r h g k B H hB hH
  have hs : ∀ k, logit (fun a c => x4 (ix2 a c)) (fun a c => x5 (ix2 a c)) B r H k ≠ ⊤ := fun k => logit_ne_top (fun _ _ => hQ _) (fun _ _ => hK _) B r H k
  obtain ⟨x, hx⟩ := hS (ix2 0 H)
  have hp : val_main_v75 (F := Ideal) x4 x5 x8 (ix6 b n h g r 0) = top (logit (fun a c => x4 (ix2 a c)) (fun a c => x5 (ix2 a c)) B r H) (x8 (ix2 0 H)) := by
    rw [peak x4 x5 x8 b n r h g H hH, largest]
    simp only [hl]
    rfl
  have hw : ∀ k, val_main_v78 (F := Ideal) x4 x5 x8 (ix6 b n h g r k) = wgt (logit (fun a c => x4 (ix2 a c)) (fun a c => x5 (ix2 a c)) B r H) (x8 (ix2 0 H)) k := by
    intro k
    rw [weight, hl, hp]
    rfl
  have hd : val_main_v79 (F := Ideal) x4 x5 x8 (ix5 b n h g r) + Ideal.exp (x8 (ix2 0 H) - val_main_v75 (F := Ideal) x4 x5 x8 (ix6 b n h g r 0))
      = den (logit (fun a c => x4 (ix2 a c)) (fun a c => x5 (ix2 a c)) B r H) (x8 (ix2 0 H)) := by
    rw [weights, hp]
    simp only [hw]
    rfl
  have e : val_main_v87 (F := Ideal) x4 x5 x6 x8 (ix6 b n h d g r)
      = attn (logit (fun a c => x4 (ix2 a c)) (fun a c => x5 (ix2 a c)) B r H) (x8 (ix2 0 H)) (fun k => val_main_v32 (F := Ideal) x6 (ix5 b n k h d)) := by
    rw [attn_inside _ hs x hx, mean_apply]
    refine Finset.sum_congr rfl fun k _ => ?_
    rw [share x4 x5 x8 b n r h g k H hH, hd, hw]
  rw [e]
  unfold attRow
  refine attn_congr (fun _ => rfl) rfl fun k hk => ?_
  have ok : Okay B r k := by
    by_contra hc
    exact hk (by unfold logit; rw [if_neg hc])
  unfold Okay at ok
  exact v_apply x6 b n k h d B H hB (by omega) (by omega) (by omega)

/-- The attention's output at a row and a column. -/
theorem att_apply (hQ : ∀ i, ∃ x : ℝ, x4 i = (x : EReal)) (hK : ∀ i, ∃ x : ℝ, x5 i = (x : EReal)) (hS : ∀ i, ∃ x : ℝ, x8 i = (x : EReal))
    (a : Fin 65536) (k : Fin 512) :
    val_main_v89 (F := Ideal) x4 x5 x6 x8 (ix2 a k)
      = attRow (fun a c => x4 (ix2 a c)) (fun a c => x5 (ix2 a c)) (fun a c => x6 (ix2 a c)) (fun h => x8 (ix2 0 h))
          ⟨a.val / 128, by omega⟩ ⟨a.val % 128, by omega⟩ ⟨k.val / 64, by omega⟩ ⟨k.val % 64, by omega⟩ := by
  have ha := a.isLt
  have hk := k.isLt
  rw [← mean_row x4 x5 x6 x8 hQ hK hS ⟨a.val / 8192, by omega⟩ ⟨a.val / 128 % 64, by omega⟩ ⟨a.val % 128, by omega⟩ ⟨k.val / 256, by omega⟩
    ⟨k.val / 64 % 4, by omega⟩ ⟨k.val % 64, by omega⟩ ⟨a.val / 128, by omega⟩ ⟨k.val / 64, by omega⟩ (by dsimp only; omega) (by dsimp only; omega)]
  unfold val_main_v89
  refine (shapeCast_apply _ _ _ (ix6 ⟨a.val / 8192, by omega⟩ ⟨a.val / 128 % 64, by omega⟩ ⟨a.val % 128, by omega⟩ ⟨k.val / 256, by omega⟩
    ⟨k.val / 64 % 4, by omega⟩ ⟨k.val % 64, by omega⟩) ?_).trans ?_
  · rewrite [Shape.rowMajor_val_two, Shape.rowMajor_val_six]
    show ((((a.val / 8192 * 64 + a.val / 128 % 64) * 128 + a.val % 128) * 2 + k.val / 256) * 4 + k.val / 64 % 4) * 64 + k.val % 64 = a.val * 512 + k.val
    omega
  · pointwise [val_main_v88]

end Cert.Reference3Ideal.Layer

end
-- ==== Proof.RefDense3.lean ====
/- The reference's result at an index is the layer of `Spec.lean`, over the ideal numbers. -/
module

public import proofs.«01_k».proof.Proof.Gen.Reference3Ideal.Read
public import proofs.«01_k».proof.Proof.RefAtt3
public import Idealize.ShloMosaic.Lib.Pointwise
public import Idealize.ShloMosaic.Lib.KernelVsHost

@[expose] public section

set_option maxRecDepth 16384

noncomputable section

namespace Cert.Reference3Ideal.Layer

open Cert.Reference3Ideal Cert.Reference3Ideal.Gen Cert.Reference3Ideal.Read Idealize.ShloMosaic Idealize.ShloMosaic.TcCoe
open Idealize.ShloMosaic.Tactic Cert.Spec3
open Cert.Spec hiding keyRow logit attRow layer

variable (x0 : Vec Ideal S65536x1024 .f32) (x1 x2 x3 x4 : Vec Ideal S65536x512 .f32) (x5 x6 : Vec Ideal S65536x128 .f32)
  (x7 : Vec Ideal S1x128 .f32) (x8 : Vec Ideal S1x8 .f32) (x9 : Vec Ideal S1x1024x1024 .f32) (x10 : Vec Ideal S1x1024 .f32)
  (x11 : Vec Ideal S1x1024x5632 .f32) (x12 : Vec Ideal S1x2816x1024 .f32)

/-- The scans' heads, normalised and gated. -/
theorem heads_apply (a : Fin 65536) (k : Fin 512) :
    val_main_v17 (F := Ideal) x1 x2 x3 x7 (ix2 a k) = headRow (fun k => x1 (ix2 a k) + x2 (ix2 a k)) (fun k => x3 (ix2 a k)) (fun d => x7 (ix2 0 d))
      ⟨k.val / 128, by omega⟩ ⟨k.val % 128, by omega⟩ := by
  have e : ∀ x : Fin 128, (⟨k.val / 128 * 128 + x.val, by omega⟩ : Fin 512) = ⟨128 * (k.val / 128) + x.val, by omega⟩ := fun x => Fin.ext (by dsimp only; omega)
  have e' : k = ⟨128 * (k.val / 128) + k.val % 128, by omega⟩ := Fin.ext (by dsimp only; omega)
  unfold headRow
  dsimp only
  rw [← e']
  pointwise [val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1]
  simp only [e]

/-- The mixers' columns: the scans' heads and the attention's. -/
theorem mixed_apply (a : Fin 65536) (k : Fin 1024) :
    val_main_v90 (F := Ideal) x1 x2 x3 x4 x5 x6 x7 x8 (ix2 a k) = if h : k.val < 512 then val_main_v17 (F := Ideal) x1 x2 x3 x7 (ix2 a ⟨k.val, h⟩)
      else val_main_v89 (F := Ideal) x4 x5 x6 x8 (ix2 a ⟨k.val - 512, by omega⟩) := by
  pointwise [val_main_v90]

/-- The residual after the mixers. -/
theorem resid_apply (a : Fin 65536) (c : Fin 1024) :
    val_main_v93 (F := Ideal) x0 x1 x2 x3 x4 x5 x6 x7 x8 x9 (ix2 a c)
      = resRow (fun k => x0 (ix2 a k)) (fun k => val_main_v90 (F := Ideal) x1 x2 x3 x4 x5 x6 x7 x8 (ix2 a k)) (fun k c => x9 (ix3 0 k c)) c := by
  unfold resRow
  pointwise [val_main_v93, val_main_v92, val_main_v91]

/-- The residual's row normalised. -/
theorem norm_apply (a : Fin 65536) (c : Fin 1024) :
    val_main_v107 (F := Ideal) x0 x1 x2 x3 x4 x5 x6 x7 x8 x9 x10 (ix2 a c)
      = normRow (fun k => val_main_v93 (F := Ideal) x0 x1 x2 x3 x4 x5 x6 x7 x8 x9 (ix2 a k)) (fun k => x10 (ix2 0 k)) c := by
  unfold normRow
  pointwise [val_main_v107, val_main_v106, val_main_v105, val_main_v104, val_main_v103, val_main_v102, val_main_v101, val_main_v100, val_main_v99, val_main_v98, val_main_v97, val_main_v96, val_main_v95, val_main_v94, val_main_cst_12, val_main_cst_13, val_main_cst_14]

/-- The first projection of the feed-forward. -/
theorem wide_apply (a : Fin 65536) (n : Fin 5632) :
    val_main_v109 (F := Ideal) x0 x1 x2 x3 x4 x5 x6 x7 x8 x9 x10 x11 (ix2 a n)
      = ∑ k : Fin 1024, val_main_v107 (F := Ideal) x0 x1 x2 x3 x4 x5 x6 x7 x8 x9 x10 (ix2 a k) * x11 (ix3 0 k n) := by
  pointwise [val_main_v109, val_main_v108]

/-- The gated hidden row from the first projection. -/
theorem gate_apply (a : Fin 65536) (n : Fin 2816) :
    val_main_v113 (F := Ideal) x0 x1 x2 x3 x4 x5 x6 x7 x8 x9 x10 x11 (ix2 a n)
      = val_main_v109 (F := Ideal) x0 x1 x2 x3 x4 x5 x6 x7 x8 x9 x10 x11 (ix2 a ⟨n.val, by omega⟩)
        * Ideal.logistic (val_main_v109 (F := Ideal) x0 x1 x2 x3 x4 x5 x6 x7 x8 x9 x10 x11 (ix2 a ⟨n.val, by omega⟩))
        * val_main_v109 (F := Ideal) x0 x1 x2 x3 x4 x5 x6 x7 x8 x9 x10 x11 (ix2 a ⟨2816 + n.val, by omega⟩) := by
  unfold Ideal.logistic
  pointwise [val_main_v113, val_main_v112, val_main_v111, val_main_v110, val_main_call3_v5, val_main_call3_v4, val_main_call3_v3, val_main_call3_v2, val_main_call3_v1, val_main_call3_v0, val_main_call3_cst, val_main_call3_cst_0]

/-- The hidden row is the specification's. -/
theorem hid_apply (a : Fin 65536) (n : Fin 2816) :
    val_main_v113 (F := Ideal) x0 x1 x2 x3 x4 x5 x6 x7 x8 x9 x10 x11 (ix2 a n)
      = hidRow (fun k => val_main_v107 (F := Ideal) x0 x1 x2 x3 x4 x5 x6 x7 x8 x9 x10 (ix2 a k)) (fun k n => x11 (ix3 0 k n)) n := by
  rw [gate_apply, wide_apply, wide_apply]
  rfl

/-- The result from the residual and the hidden row. -/
theorem last_apply (a : Fin 65536) (c : Fin 1024) :
    val_main_v118 (F := Ideal) x0 x1 x2 x3 x4 x5 x6 x7 x8 x9 x10 x11 x12 (ix2 a c)
      = val_main_v93 (F := Ideal) x0 x1 x2 x3 x4 x5 x6 x7 x8 x9 (ix2 a c) + Ideal.ofBits .f32 0x3F000000#32
        * ∑ n : Fin 2816, val_main_v113 (F := Ideal) x0 x1 x2 x3 x4 x5 x6 x7 x8 x9 x10 x11 (ix2 a n) * x12 (ix3 0 n c) := by
  pointwise [val_main_v118, val_main_v117, val_main_v116, val_main_v115, val_main_v114, val_main_cst_15]

/-- The reference's result is the layer of its arguments, the queries, keys and sinks being reals. -/
theorem result_apply (hQ : ∀ i, ∃ x : ℝ, x4 i = (x : EReal)) (hK : ∀ i, ∃ x : ℝ, x5 i = (x : EReal)) (hS : ∀ i, ∃ x : ℝ, x8 i = (x : EReal))
    (a : Fin 65536) (c : Fin 1024) :
    val_main_v118 (F := Ideal) x0 x1 x2 x3 x4 x5 x6 x7 x8 x9 x10 x11 x12 (ix2 a c)
      = layer (fun a b => x0 (ix2 a b)) (fun a b => x1 (ix2 a b)) (fun a b => x2 (ix2 a b)) (fun a b => x3 (ix2 a b)) (fun a b => x4 (ix2 a b))
          (fun a b => x5 (ix2 a b)) (fun a b => x6 (ix2 a b)) (fun d => x7 (ix2 0 d)) (fun h => x8 (ix2 0 h)) (fun a b => x9 (ix3 0 a b))
          (fun k => x10 (ix2 0 k)) (fun a b => x11 (ix3 0 a b)) (fun a b => x12 (ix3 0 a b)) a c := by
  have hm : (fun k => val_main_v90 (F := Ideal) x1 x2 x3 x4 x5 x6 x7 x8 (ix2 a k))
      = mixRow (fun k => x1 (ix2 a k) + x2 (ix2 a k)) (fun k => x3 (ix2 a k)) (fun d => x7 (ix2 0 d))
        (fun k => attRow (fun a c => x4 (ix2 a c)) (fun a c => x5 (ix2 a c)) (fun a c => x6 (ix2 a c)) (fun h => x8 (ix2 0 h))
          ⟨a.val / 128, by omega⟩ ⟨a.val % 128, by omega⟩ ⟨k.val / 64, by omega⟩ ⟨k.val % 64, by omega⟩) := by
    funext k
    rw [mixed_apply]
    unfold mixRow
    by_cases h : k.val < 512
    · rw [dif_pos h, dif_pos h, heads_apply]
    · rw [dif_neg h, dif_neg h, att_apply x4 x5 x6 x8 hQ hK hS]
  have hr : (fun k => val_main_v93 (F := Ideal) x0 x1 x2 x3 x4 x5 x6 x7 x8 x9 (ix2 a k))
      = resRow (fun k => x0 (ix2 a k)) (mixRow (fun k => x1 (ix2 a k) + x2 (ix2 a k)) (fun k => x3 (ix2 a k)) (fun d => x7 (ix2 0 d))
        (fun k => attRow (fun a c => x4 (ix2 a c)) (fun a c => x5 (ix2 a c)) (fun a c => x6 (ix2 a c)) (fun h => x8 (ix2 0 h))
          ⟨a.val / 128, by omega⟩ ⟨a.val % 128, by omega⟩ ⟨k.val / 64, by omega⟩ ⟨k.val % 64, by omega⟩)) (fun k c => x9 (ix3 0 k c)) := by
    funext k
    rw [resid_apply, hm]
  have hn : (fun k => val_main_v107 (F := Ideal) x0 x1 x2 x3 x4 x5 x6 x7 x8 x9 x10 (ix2 a k)) = normRow (fun k => val_main_v93 (F := Ideal) x0 x1 x2 x3 x4 x5 x6 x7 x8 x9 (ix2 a k)) (fun k => x10 (ix2 0 k)) := by
    funext k
    rw [norm_apply]
  rw [last_apply]
  unfold layer outRow
  rw [← hr, ← hn]
  refine congrArg (fun z => _ + _ * z) (Finset.sum_congr rfl fun n _ => ?_)
  rw [hid_apply]

end Cert.Reference3Ideal.Layer

end
-- ==== Proof.Claims3.lean ====
/- The claims of the certificate. -/
module

public import proofs.«01_k».proof.Defs
public import proofs.«01_k».proof.Proof.Gen.Kernel3
public import proofs.«01_k».proof.Proof.Gen.Kernel3Ideal
public import proofs.«01_k».proof.Proof.Gen.Reference3Ideal
public import proofs.«01_k».proof.Proof.Gen.Reference3Ideal.Run
public import proofs.«01_k».proof.Proof.Gen.Reference3Ideal.Read
public import proofs.«01_k».proof.Proof.Twin3
public import proofs.«01_k».proof.Proof.Whole3
public import proofs.«01_k».proof.Proof.RefDense3
public import Idealize.ShloMosaic.Adequacy
public import Idealize.ShloMosaic.Init

@[expose] public section

set_option maxRecDepth 16384

noncomputable section

namespace Cert.Proof3

open Idealize.ShloMosaic Idealize.ShloMosaic.StableHlo Idealize.ShloMosaic.Tactic Idealize.SL.Sem Cert.Kernel3Ideal.Entry

/-- The shape relations the precondition's operations take. -/
theorem logits : Cert.Pre_finite_sample.Facts where
  bcast_S_S65536x512 := by decide
  bcast_S_S65536x128 := by decide
  bcast_S_S1x8 := by decide

attribute [local instance] Cert.Kernel3.Gen.facts Cert.Kernel3Ideal.Gen.facts Cert.Reference3Ideal.Gen.facts logits

/-- The idealized kernel runs, leaves its arguments and ends quiescent. -/
theorem kernel : Cert.quiescent_Kernel3Ideal := fun m ρ _ => Cert.Kernel3Ideal.Track.frame m ρ

/-- The same at the memories of the value claim. -/
theorem kernel_pre : Cert.quiescent_Kernel3Ideal_pre_finite_sample := fun m ρ _ => Cert.Kernel3Ideal.Track.frame m ρ

/-- The reference runs, leaves its arguments and ends quiescent. -/
theorem reference : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)

/-- The same at the memories of the value claim. -/
theorem reference_pre : Cert.quiescent_Reference3Ideal_pre_finite_sample := fun m ρ _ => reference m ρ trivial

/-- Under the precondition the queries are reals. -/
theorem queries_real (m) (h : Cert.Pre_Kernel3Ideal_finite_sample m) (c : Dev Cert.Kernel3Ideal.nD) (i) : ∃ x : ℝ, aQ m c i = (x : EReal) :=
  real_of_abs_lt (congrFun (h c).1 i)

/-- Under the precondition the keys are reals. -/
theorem keys_real (m) (h : Cert.Pre_Kernel3Ideal_finite_sample m) (c : Dev Cert.Kernel3Ideal.nD) (i) : ∃ x : ℝ, aK m c i = (x : EReal) :=
  real_of_abs_lt (congrFun (h c).2.1 i)

/-- Under the precondition the sinks are reals. -/
theorem sinks_real (m) (h : Cert.Pre_Kernel3Ideal_finite_sample m) (c : Dev Cert.Kernel3Ideal.nD) (i) : ∃ x : ℝ, aSink m c i = (x : EReal) :=
  real_of_abs_lt (congrFun (h c).2.2 i)

/-- The reference's result on the kernel's arguments is the layer's function of them, the queries, keys and sinks being reals. -/
theorem reference_out (m : (ℓ : Loc Cert.Kernel3Ideal.nD Cert.Kernel3Ideal.τ Cert.Kernel3Ideal.sig) → Buf (Elt Ideal) ℓ) (c : Dev Cert.Kernel3Ideal.nD)
    (hQ : ∀ i, ∃ x : ℝ, aQ m c i = (x : EReal)) (hK : ∀ i, ∃ x : ℝ, aK m c i = (x : EReal)) (hS : ∀ i, ∃ x : ℝ, aSink m c i = (x : EReal)) :
    Cert.Reference3Ideal.Read.val_main_v118 (F := Ideal) (aX m c) (aOf m c) (aOb m c) (aG m c) (aQ m c) (aK m c) (aV m c) (aHg m c) (aSink m c) (aWo m c) (aN2 m c) (aWi m c) (aW2 m c)
      = (fun i => out m c (i 0) (i 1) : Vec Ideal Cert.Kernel3Ideal.S65536x1024 .f32) := by
  funext i
  rw [eq_ix2 (a := 65536) (b := 1024) i]
  exact Cert.Reference3Ideal.Layer.result_apply (aX m c) (aOf m c) (aOb m c) (aG m c) (aQ m c) (aK m c) (aV m c) (aHg m c) (aSink m c) (aWo m c) (aN2 m c) (aWi m c) (aW2 m c) hQ hK hS (i 0) (i 1)

/-- Equal arguments give the reference equal results. -/
theorem reference_congr {x0 y0 : Vec Ideal Cert.Reference3Ideal.S65536x1024 .f32} {x1 y1 : Vec Ideal Cert.Reference3Ideal.S65536x512 .f32} {x2 y2 : Vec Ideal Cert.Reference3Ideal.S65536x512 .f32} {x3 y3 : Vec Ideal Cert.Reference3Ideal.S65536x512 .f32} {x4 y4 : Vec Ideal Cert.Reference3Ideal.S65536x512 .f32} {x5 y5 : Vec Ideal Cert.Reference3Ideal.S65536x128 .f32} {x6 y6 : Vec Ideal Cert.Reference3Ideal.S65536x128 .f32} {x7 y7 : Vec Ideal Cert.Reference3Ideal.S1x128 .f32} {x8 y8 : Vec Ideal Cert.Reference3Ideal.S1x8 .f32} {x9 y9 : Vec Ideal Cert.Reference3Ideal.S1x1024x1024 .f32} {x10 y10 : Vec Ideal Cert.Reference3Ideal.S1x1024 .f32} {x11 y11 : Vec Ideal Cert.Reference3Ideal.S1x1024x5632 .f32} {x12 y12 : Vec Ideal Cert.Reference3Ideal.S1x2816x1024 .f32} (h0 : x0 = y0) (h1 : x1 = y1) (h2 : x2 = y2) (h3 : x3 = y3) (h4 : x4 = y4) (h5 : x5 = y5) (h6 : x6 = y6) (h7 : x7 = y7) (h8 : x8 = y8) (h9 : x9 = y9) (h10 : x10 = y10) (h11 : x11 = y11) (h12 : x12 = y12) :
    Cert.Reference3Ideal.Read.val_main_v118 (F := Ideal) x0 x1 x2 x3 x4 x5 x6 x7 x8 x9 x10 x11 x12 = Cert.Reference3Ideal.Read.val_main_v118 (F := Ideal) y0 y1 y2 y3 y4 y5 y6 y7 y8 y9 y10 y11 y12 := by
  subst h0 h1 h2 h3 h4 h5 h6 h7 h8 h9 h10 h11 h12
  rfl

/-- The idealized kernel and the reference leave one result: the layer's function of the arguments. -/
theorem same : Cert.algebraic_Kernel3Ideal_Reference3Ideal_pre_finite_sample := by
  intro m ρ m' ρ' hpre hagree
  refine ⟨fun c => (fun i => out m c (i 0) (i 1) : Vec Ideal Cert.Kernel3Ideal.S65536x1024 .f32), ?_, ?_⟩
  · exact (θ_run Cert.Kernel3Ideal.defs _ _).mono
      (fun _ h c => ⟨(h c).1.trans (final m c (queries_real m hpre c) (keys_real m hpre c)), (h c).2⟩) (Cert.Kernel3Ideal.Track.run_blocks m ρ)
  · refine (θ_run Cert.Reference3Ideal.defs _ _).mono (fun _ h c => ⟨(h c).1.trans ?_, (h c).2⟩) (Cert.Reference3Ideal.Value.run (F := Ideal) m' ρ')
    obtain ⟨h0, h1, h2, h3, h4, h5, h6, h7, h8, h9, h10, h11, h12⟩ := hagree c
    exact (Cert.Reference3Ideal.Read.val_main_v118_eq (F := Ideal) (launchContents m' c)).trans ((reference_congr h0 h1 h2 h3 h4 h5 h6 h7 h8 h9 h10 h11 h12).trans
      (reference_out m c (queries_real m hpre c) (keys_real m hpre c) (sinks_real m hpre c)))

end Cert.Proof3

end
-- ==== Proof.Twin4.lean ====
/- The first call on the sample batch and its idealization are one text, so the frame of the first is the frame of the second read at the bit instance. -/
module

public import proofs.«01_k».proof.Defs
public import proofs.«01_k».proof.Proof.Gen.Kernel4
public import proofs.«01_k».proof.Proof.Gen.Kernel4Ideal.Frame

@[expose] public section

set_option maxRecDepth 16384

noncomputable section

namespace Cert.Twin4

open Idealize.ShloMosaic Idealize.SL.Sem Cert.Kernel4Ideal

/-- The frame of the idealized text at the bit instance. -/
def framed : Prop :=
  ∀ (m : (ℓ : Loc nD τ sig) → Buf (Elt Bits) ℓ) (g : Dev nD → PrngReg), True →
    θ_run (defs (F := Bits)) (onTc (τ := τ) (main (F := Bits))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0)

/-- The frame claim of the printed kernel is that statement: the two texts unfold to the same program. -/
theorem frame_eq : Cert.quiescent_Kernel4 = framed := by sl_kernel_rfl

/-- The frame claim of the printed kernel. -/
theorem frame : Cert.quiescent_Kernel4 := frame_eq.mpr fun m g _ => Cert.Kernel4Ideal.Gen.frame m g

end Cert.Twin4

end
-- ==== Proof.InBody4.lean ====
/- The stored blocks of the first call on the sample batch in the words of `InWords.lean`. -/
module

public import proofs.«01_k».proof.Proof.Gen.Kernel4Ideal.Frame
public import proofs.«01_k».proof.Proof.InWords

@[expose] public section

set_option maxRecDepth 16384

noncomputable section

namespace Cert.Kernel4Ideal.Words

open Cert.Kernel2Ideal.Words Cert.Kernel4Ideal Cert.Kernel4Ideal.Gen Idealize.ShloMosaic Idealize.ShloMosaic.TcCoe Idealize.ShloMosaic.Tactic

section pieces

variable {F : FTy → Type} [FloatOps F] (x0 : Vec F S512x1024 .f32)
  (x1 : Vec F S1x1024 .f32) (x2 : Vec F S1024x5632 .bf16) (x3 : Vec F S2816x1024 .bf16) (x4 : Vec F S1x1024 .f32) (x5 : Vec F S1024x3328 .bf16) (x6 : Vec F S2x512 .f32) (x7 : Vec F S2x512 .f32) (x8 : Vec F S1x512 .f32) (x9 : Vec F S1x128 .f32) (x10 : Vec F S512x128 .f32) (x11 : Vec F S512x128 .f32) (x12 : Vec F S256x128 .bf16)

/-- The first slice's rows after the feed-forward. -/
theorem rows_0 : k0_pay65 (View.ld x0 r0_0) (k0_pay243 x0 x1 x2 x3 x4 x5 x6 x7 x8 x9 x10 x11 x12) (k0_pay244 x0 x1 x2 x3 x4 x5 x6 x7 x8 x9 x10 x11 x12) (k0_pay245 x0 x1 x2 x3 x4 x5 x6 x7 x8 x9 x10 x11 x12) (View.ld x3 r0_36)
    = rows 0 x0 x1 x2 x3 := by sl_kernel_rfl

/-- The first slice's rows normalised. -/
theorem norm_0 : k0_pay248 x0 x1 x2 x3 x4 x5 x6 x7 x8 x9 x10 x11 x12
    = normed (rows 0 x0 x1 x2 x3) (View.ld x4 (Rect.unit (s := S1x1024) ![0, 0] S1x1024.size inb_S1x1024_S1x1024_0_0)) := by sl_kernel_rfl

/-- The second slice's rows after the feed-forward. -/
theorem rows_1 : k0_pay123 (View.ld x0 r0_16) (k0_pay253 x0 x1 x2 x3 x4 x5 x6 x7 x8 x9 x10 x11 x12) (k0_pay255 x0 x1 x2 x3 x4 x5 x6 x7 x8 x9 x10 x11 x12) (View.ld x3 r0_36)
    = rows 1 x0 x1 x2 x3 := by sl_kernel_rfl

/-- The second slice's rows normalised. -/
theorem norm_1 : k0_pay256 x0 x1 x2 x3 x4 x5 x6 x7 x8 x9 x10 x11 x12
    = normed (rows 1 x0 x1 x2 x3) (View.ld x4 (Rect.unit (s := S1x1024) ![0, 0] S1x1024.size inb_S1x1024_S1x1024_0_0)) := by sl_kernel_rfl

/-- The third slice's rows after the feed-forward. -/
theorem rows_2 : k0_pay173 (View.ld x0 r0_29) (k0_pay261 x0 x1 x2 x3 x4 x5 x6 x7 x8 x9 x10 x11 x12) (k0_pay264 x0 x1 x2 x3 x4 x5 x6 x7 x8 x9 x10 x11 x12) (View.ld x3 r0_36)
    = rows 2 x0 x1 x2 x3 := by sl_kernel_rfl

/-- The third slice's rows normalised. -/
theorem norm_2 : k0_pay265 x0 x1 x2 x3 x4 x5 x6 x7 x8 x9 x10 x11 x12
    = normed (rows 2 x0 x1 x2 x3) (View.ld x4 (Rect.unit (s := S1x1024) ![0, 0] S1x1024.size inb_S1x1024_S1x1024_0_0)) := by sl_kernel_rfl

/-- The fourth slice's rows after the feed-forward. -/
theorem rows_3 : k0_pay211 (View.ld x0 r0_39) (k0_pay270 x0 x1 x2 x3 x4 x5 x6 x7 x8 x9 x10 x11 x12) (k0_pay271 x0 x1 x2 x3 x4 x5 x6 x7 x8 x9 x10 x11 x12) (k0_pay272 x0 x1 x2 x3 x4 x5 x6 x7 x8 x9 x10 x11 x12) (View.ld x3 r0_36)
    = rows 3 x0 x1 x2 x3 := by sl_kernel_rfl

/-- The fourth slice's rows normalised. -/
theorem norm_3 : k0_pay277 x0 x1 x2 x3 x4 x5 x6 x7 x8 x9 x10 x11 x12
    = normed (rows 3 x0 x1 x2 x3) (View.ld x4 (Rect.unit (s := S1x1024) ![0, 0] S1x1024.size inb_S1x1024_S1x1024_0_0)) := by sl_kernel_rfl

/-- The first slice's queries of the scans. -/
theorem q_0 : k0_pay120 (k0_pay248 x0 x1 x2 x3 x4 x5 x6 x7 x8 x9 x10 x11 x12) (View.ld x5 r0_49)
    = swish (part 0 (rows 0 x0 x1 x2 x3) x4 x5) := by
  rw [norm_0]
  rfl

/-- The second slice's queries of the scans. -/
theorem q_1 : k0_pay170 (k0_pay256 x0 x1 x2 x3 x4 x5 x6 x7 x8 x9 x10 x11 x12) (View.ld x5 r0_49)
    = swish (part 0 (rows 1 x0 x1 x2 x3) x4 x5) := by
  rw [norm_1]
  rfl

/-- The third slice's queries of the scans. -/
theorem q_2 : k0_pay209 (k0_pay265 x0 x1 x2 x3 x4 x5 x6 x7 x8 x9 x10 x11 x12) (View.ld x5 r0_49)
    = swish (part 0 (rows 2 x0 x1 x2 x3) x4 x5) := by
  rw [norm_2]
  rfl

/-- The fourth slice's queries of the scans. -/
theorem q_3 : k0_pay1 (k0_pay277 x0 x1 x2 x3 x4 x5 x6 x7 x8 x9 x10 x11 x12) (k0_pay237 (View.ld x5 r0_49))
    = swish (part 0 (rows 3 x0 x1 x2 x3) x4 x5) := by
  rw [norm_3]
  rfl

/-- The first slice's values of the scans. -/
theorem v_0 : k0_pay131 (k0_pay248 x0 x1 x2 x3 x4 x5 x6 x7 x8 x9 x10 x11 x12) (View.ld x5 r0_51)
    = down (part 3 (rows 0 x0 x1 x2 x3) x4 x5) := by
  rw [norm_0]
  rfl

/-- The second slice's values of the scans. -/
theorem v_1 : k0_pay178 (k0_pay256 x0 x1 x2 x3 x4 x5 x6 x7 x8 x9 x10 x11 x12) (View.ld x5 r0_51)
    = down (part 3 (rows 1 x0 x1 x2 x3) x4 x5) := by
  rw [norm_1]
  rfl

/-- The third slice's values of the scans. -/
theorem v_2 : k0_pay215 (k0_pay265 x0 x1 x2 x3 x4 x5 x6 x7 x8 x9 x10 x11 x12) (View.ld x5 r0_51)
    = down (part 3 (rows 2 x0 x1 x2 x3) x4 x5) := by
  rw [norm_2]
  rfl

/-- The fourth slice's values of the scans. -/
theorem v_3 : k0_pay3 (k0_pay277 x0 x1 x2 x3 x4 x5 x6 x7 x8 x9 x10 x11 x12) (View.ld x5 r0_51)
    = down (part 3 (rows 3 x0 x1 x2 x3) x4 x5) := by
  rw [norm_3]
  rfl

/-- The first slice's gates. -/
theorem g_0 : k0_pay121 (k0_pay248 x0 x1 x2 x3 x4 x5 x6 x7 x8 x9 x10 x11 x12) (View.ld x5 r0_50)
    = swish (part 4 (rows 0 x0 x1 x2 x3) x4 x5) := by
  rw [norm_0]
  rfl

/-- The second slice's gates. -/
theorem g_1 : k0_pay171 (k0_pay256 x0 x1 x2 x3 x4 x5 x6 x7 x8 x9 x10 x11 x12) (View.ld x5 r0_50)
    = swish (part 4 (rows 1 x0 x1 x2 x3) x4 x5) := by
  rw [norm_1]
  rfl

/-- The third slice's gates. -/
theorem g_2 : k0_pay210 (k0_pay265 x0 x1 x2 x3 x4 x5 x6 x7 x8 x9 x10 x11 x12) (View.ld x5 r0_50)
    = swish (part 4 (rows 2 x0 x1 x2 x3) x4 x5) := by
  rw [norm_2]
  rfl

/-- The fourth slice's gates. -/
theorem g_3 : k0_pay2 (k0_pay277 x0 x1 x2 x3 x4 x5 x6 x7 x8 x9 x10 x11 x12) (View.ld x5 r0_50)
    = swish (part 4 (rows 3 x0 x1 x2 x3) x4 x5) := by
  rw [norm_3]
  rfl

/-- The first slice's forward forget gates. -/
theorem lff_0 : k0_pay91 (k0_pay87 (k0_pay248 x0 x1 x2 x3 x4 x5 x6 x7 x8 x9 x10 x11 x12) (View.ld x5 r0_40)) (k0_pay89 (View.ld x6 r0_41) (View.ld x6 r0_42)) (k0_pay90 (View.ld x6 r0_41) (View.ld x6 r0_42))
    = gate (part 1 (rows 0 x0 x1 x2 x3) x4 x5) x6 := by
  rw [norm_0]
  rfl

/-- The second slice's forward forget gates. -/
theorem lff_1 : k0_pay141 (k0_pay256 x0 x1 x2 x3 x4 x5 x6 x7 x8 x9 x10 x11 x12) (View.ld x5 r0_40) (View.ld x6 r0_41) (View.ld x6 r0_42)
    = gate (part 1 (rows 1 x0 x1 x2 x3) x4 x5) x6 := by
  rw [norm_1]
  rfl

/-- The third slice's forward forget gates. -/
theorem lff_2 : k0_pay188 (k0_pay184 (k0_pay265 x0 x1 x2 x3 x4 x5 x6 x7 x8 x9 x10 x11 x12) (View.ld x5 r0_40)) (k0_pay186 (View.ld x6 r0_41) (View.ld x6 r0_42)) (k0_pay187 (View.ld x6 r0_41) (View.ld x6 r0_42))
    = gate (part 1 (rows 2 x0 x1 x2 x3) x4 x5) x6 := by
  rw [norm_2]
  rfl

/-- The fourth slice's forward forget gates. -/
theorem lff_3 : k0_pay218 (k0_pay275 x0 x1 x2 x3 x4 x5 x6 x7 x8 x9 x10 x11 x12) (k0_pay276 x0 x1 x2 x3 x4 x5 x6 x7 x8 x9 x10 x11 x12) (View.ld x5 r0_40) (View.ld x6 r0_41) (View.ld x6 r0_42)
    = gate (part 1 (rows 3 x0 x1 x2 x3) x4 x5) x6 := by
  show forget (wide (k0_pay277 x0 x1 x2 x3 x4 x5 x6 x7 x8 x9 x10 x11 x12) (View.ld x5 r0_40)) (View.ld x6 r0_41) (View.ld x6 r0_42) = _
  rw [norm_3]
  rfl

/-- The first slice's backward forget gates. -/
theorem lfb_0 : k0_pay92 (k0_pay248 x0 x1 x2 x3 x4 x5 x6 x7 x8 x9 x10 x11 x12) (View.ld x5 r0_44) (View.ld x7 r0_41) (View.ld x7 r0_42)
    = gate (part 2 (rows 0 x0 x1 x2 x3) x4 x5) x7 := by
  rw [norm_0]
  rfl

/-- The second slice's backward forget gates. -/
theorem lfb_1 : k0_pay142 (k0_pay256 x0 x1 x2 x3 x4 x5 x6 x7 x8 x9 x10 x11 x12) (View.ld x5 r0_44) (View.ld x7 r0_41) (View.ld x7 r0_42)
    = gate (part 2 (rows 1 x0 x1 x2 x3) x4 x5) x7 := by
  rw [norm_1]
  rfl

/-- The third slice's backward forget gates. -/
theorem lfb_2 : k0_pay189 (k0_pay265 x0 x1 x2 x3 x4 x5 x6 x7 x8 x9 x10 x11 x12) (View.ld x5 r0_44) (View.ld x7 r0_41) (View.ld x7 r0_42)
    = gate (part 2 (rows 2 x0 x1 x2 x3) x4 x5) x7 := by
  rw [norm_2]
  rfl

/-- The fourth slice's backward forget gates. -/
theorem lfb_3 : k0_pay219 (k0_pay277 x0 x1 x2 x3 x4 x5 x6 x7 x8 x9 x10 x11 x12) (View.ld x5 r0_44) (View.ld x7 r0_41) (View.ld x7 r0_42)
    = gate (part 2 (rows 3 x0 x1 x2 x3) x4 x5) x7 := by
  rw [norm_3]
  rfl

end pieces

end Cert.Kernel4Ideal.Words

end
-- ==== Proof.InEntry4.lean ====
/- The arrays of the first call on the sample batch at an index in terms of the arguments, and the windows' blocks as reads of them. -/
module

public import proofs.«01_k».proof.Proof.Gen.Kernel4Ideal.Frame
public import Idealize.ShloMosaic.Lib.Claim
public import Idealize.ShloMosaic.Lib.Pointwise
public import Idealize.ShloMosaic.Lib.StableHlo.ReadAt
public import Idealize.ShloMosaic.Lib.Pipeline.ValueKit.Point

@[expose] public section

set_option maxRecDepth 16384

noncomputable section

namespace Cert.Kernel4Ideal.Entry

open Cert.Kernel4Ideal Cert.Kernel4Ideal.Gen Idealize.ShloMosaic Idealize.ShloMosaic.TcCoe Idealize.ShloMosaic.Tactic

variable (m : (ℓ : Loc nD τ sig) → Buf (Elt Ideal) ℓ) (c : Dev nD)

/-- The layer's rows. -/
abbrev aX : S65536x1024.Idx → EReal := m ((c : Thread nD τ).loc main_arg0)

/-- The feed-forward's gain. -/
abbrev aN : S1x1024.Idx → EReal := m ((c : Thread nD τ).loc main_arg1)

/-- The feed-forward's first projection. -/
abbrev aWi : S1x1024x5632.Idx → EReal := m ((c : Thread nD τ).loc main_arg2)

/-- The feed-forward's second projection. -/
abbrev aWo : S1x2816x1024.Idx → EReal := m ((c : Thread nD τ).loc main_arg3)

/-- The mixers' gain. -/
abbrev aM : S1x1024.Idx → EReal := m ((c : Thread nD τ).loc main_arg4)

/-- The in-projection. -/
abbrev aIn : S1x1024x3328.Idx → EReal := m ((c : Thread nD τ).loc main_arg5)

/-- The forward forget gates' table of bounds. -/
abbrev aLf : S2x512.Idx → EReal := m ((c : Thread nD τ).loc main_arg6)

/-- The backward forget gates' table of bounds. -/
abbrev aLb : S2x512.Idx → EReal := m ((c : Thread nD τ).loc main_arg7)

/-- The rows. -/
theorem V_arg0 (a : Fin 65536) (b : Fin 1024) : (V m c main_arg0 : Vec Ideal S65536x1024 .f32) (ix2 a b) = aX m c (ix2 a b) := by
  unfold V; after_reads_at

/-- The feed-forward's gain, one row. -/
theorem V_v36 (b : Fin 1024) : (V m c main_v36 : Vec Ideal S1x1024 .f32) (ix2 0 b) = aN m c (ix2 0 b) := by
  unfold V; after_reads_at

/-- The feed-forward's first projection. -/
theorem V_v38 (a : Fin 1024) (b : Fin 5632) : (V m c main_v38 : Vec Ideal S1024x5632 .bf16) (ix2 a b) = aWi m c (ix3 0 a b) := by
  unfold V; after_reads_at

/-- The feed-forward's second projection. -/
theorem V_v40 (a : Fin 2816) (b : Fin 1024) : (V m c main_v40 : Vec Ideal S2816x1024 .bf16) (ix2 a b) = aWo m c (ix3 0 a b) := by
  unfold V; after_reads_at

/-- The mixers' gain, one row. -/
theorem V_v42 (b : Fin 1024) : (V m c main_v42 : Vec Ideal S1x1024 .f32) (ix2 0 b) = aM m c (ix2 0 b) := by
  unfold V; after_reads_at

/-- The in-projection. -/
theorem V_v44 (a : Fin 1024) (b : Fin 3328) : (V m c main_v44 : Vec Ideal S1024x3328 .bf16) (ix2 a b) = aIn m c (ix3 0 a b) := by
  unfold V; after_reads_at

/-- The forward table. -/
theorem V_arg6 (a : Fin 2) (b : Fin 512) : (V m c main_arg6 : Vec Ideal S2x512 .f32) (ix2 a b) = aLf m c (ix2 a b) := by
  unfold V; after_reads_at

/-- The backward table. -/
theorem V_arg7 (a : Fin 2) (b : Fin 512) : (V m c main_arg7 : Vec Ideal S2x512 .f32) (ix2 a b) = aLb m c (ix2 a b) := by
  unfold V; after_reads_at

/-- Which block of the rows window 0 stages. -/
theorem idx0 : ∀ t : Fin cfg0.N, win0_0.index t = ![t.val, 0] :=
  (by decide +kernel : ∀ t : Fin grid0.N, win0_0.index t = ![t.val, 0])

/-- Which block of the gain window 1 stages. -/
theorem idx1 : ∀ t : Fin cfg0.N, win0_1.index t = ![0, 0] :=
  (by decide +kernel : ∀ t : Fin grid0.N, win0_1.index t = ![0, 0])

/-- Which block of the first projection window 2 stages. -/
theorem idx2 : ∀ t : Fin cfg0.N, win0_2.index t = ![0, 0] :=
  (by decide +kernel : ∀ t : Fin grid0.N, win0_2.index t = ![0, 0])

/-- Which block of the second projection window 3 stages. -/
theorem idx3 : ∀ t : Fin cfg0.N, win0_3.index t = ![0, 0] :=
  (by decide +kernel : ∀ t : Fin grid0.N, win0_3.index t = ![0, 0])

/-- Which block of the mixers' gain window 4 stages. -/
theorem idx4 : ∀ t : Fin cfg0.N, win0_4.index t = ![0, 0] :=
  (by decide +kernel : ∀ t : Fin grid0.N, win0_4.index t = ![0, 0])

/-- Which block of the in-projection window 5 stages. -/
theorem idx5 : ∀ t : Fin cfg0.N, win0_5.index t = ![0, 0] :=
  (by decide +kernel : ∀ t : Fin grid0.N, win0_5.index t = ![0, 0])

/-- Window 0's block at an index. -/
theorem blk0 (t : Fin cfg0.N) (r : Fin 512) (l : Fin 1024) : (iblk m c 0 t : Vec Ideal S512x1024 .f32) (ix2 r l)
    = aX m c (ix2 ⟨512 * t.val + r.val, by have := t.isLt; have h : cfg0.N = 128 := rfl; omega⟩ l) := by
  rw [← V_arg0]
  unfold iblk
  generalize V m c = W
  blk_ext! [idx0 t]

/-- Window 1's block at an index. -/
theorem blk1 (t : Fin cfg0.N) (l : Fin 1024) : (iblk m c 1 t : Vec Ideal S1x1024 .f32) (ix2 0 l) = aN m c (ix2 0 l) := by
  rw [← V_v36]
  unfold iblk
  generalize V m c = W
  blk_ext! [idx1 t]

/-- Window 2's block at an index. -/
theorem blk2 (t : Fin cfg0.N) (r : Fin 1024) (l : Fin 5632) : (iblk m c 2 t : Vec Ideal S1024x5632 .bf16) (ix2 r l) = aWi m c (ix3 0 r l) := by
  rw [← V_v38]
  unfold iblk
  generalize V m c = W
  blk_ext! [idx2 t]

/-- Window 3's block at an index. -/
theorem blk3 (t : Fin cfg0.N) (r : Fin 2816) (l : Fin 1024) : (iblk m c 3 t : Vec Ideal S2816x1024 .bf16) (ix2 r l) = aWo m c (ix3 0 r l) := by
  rw [← V_v40]
  unfold iblk
  generalize V m c = W
  blk_ext! [idx3 t]

/-- Window 4's block at an index. -/
theorem blk4 (t : Fin cfg0.N) (l : Fin 1024) : (iblk m c 4 t : Vec Ideal S1x1024 .f32) (ix2 0 l) = aM m c (ix2 0 l) := by
  rw [← V_v42]
  unfold iblk
  generalize V m c = W
  blk_ext! [idx4 t]

/-- Window 5's block at an index. -/
theorem blk5 (t : Fin cfg0.N) (r : Fin 1024) (l : Fin 3328) : (iblk m c 5 t : Vec Ideal S1024x3328 .bf16) (ix2 r l) = aIn m c (ix3 0 r l) := by
  rw [← V_v44]
  unfold iblk
  generalize V m c = W
  blk_ext! [idx5 t]

/-- Which block of the forward table window 6 stages. -/
theorem idx6 : ∀ t : Fin cfg0.N, win0_6.index t = ![0, 0] :=
  (by decide +kernel : ∀ t : Fin grid0.N, win0_6.index t = ![0, 0])

/-- Window 6's block at an index. -/
theorem blk6 (t : Fin cfg0.N) (r : Fin 2) (l : Fin 512) : (iblk m c 6 t : Vec Ideal S2x512 .f32) (ix2 r l) = aLf m c (ix2 r l) := by
  rw [← V_arg6]
  unfold iblk
  generalize V m c = W
  blk_ext! [idx6 t]

/-- Which block of the backward table window 7 stages. -/
theorem idx7 : ∀ t : Fin cfg0.N, win0_7.index t = ![0, 0] :=
  (by decide +kernel : ∀ t : Fin grid0.N, win0_7.index t = ![0, 0])

/-- Window 7's block at an index. -/
theorem blk7 (t : Fin cfg0.N) (r : Fin 2) (l : Fin 512) : (iblk m c 7 t : Vec Ideal S2x512 .f32) (ix2 r l) = aLb m c (ix2 r l) := by
  rw [← V_arg7]
  unfold iblk
  generalize V m c = W
  blk_ext! [idx7 t]

end Cert.Kernel4Ideal.Entry

end
-- ==== Proof.InWhole4.lean ====
/- The result arrays of the first call on the sample batch at an index, as row functions of the arguments. -/
module

public import proofs.«01_k».proof.Proof.InBody4
public import proofs.«01_k».proof.Proof.InWhole
public import proofs.«01_k».proof.Proof.InEntry4

@[expose] public section

set_option maxRecDepth 16384

noncomputable section

namespace Cert.Kernel4Ideal.Entry

open Cert.Kernel4Ideal Cert.Kernel4Ideal.Gen Cert.Kernel4Ideal.Words Idealize.ShloMosaic Idealize.ShloMosaic.TcCoe Idealize.ShloMosaic.Tactic
open Cert.Spec
open Cert.Kernel2Ideal.Words (swish down forget inb_row inb_piece rows part gate swish_apply down_apply gate_apply)
open Cert.Kernel2Ideal.Entry (eq_ix2 col tileX tileP tileS tileF rows_tile part_tile emb_rows emb_part)

section tile

variable (x0 : Vec Ideal S512x1024 .f32) (x1 : Vec Ideal S1x1024 .f32) (x2 : Vec Ideal S1024x5632 .bf16) (x3 : Vec Ideal S2816x1024 .bf16) (x4 : Vec Ideal S1x1024 .f32) (x5 : Vec Ideal S1024x3328 .bf16)
  (x6 : Vec Ideal S2x512 .f32) (x7 : Vec Ideal S2x512 .f32) (x8 : Vec Ideal S1x512 .f32) (x9 : Vec Ideal S1x128 .f32) (x10 : Vec Ideal S512x128 .f32) (x11 : Vec Ideal S512x128 .f32) (x12 : Vec Ideal S256x128 .bf16)

/-- The first result's block at an index. -/
theorem out13_apply (y : S512x1024.Idx) :
    (out0_13 x0 x1 x2 x3 x4 x5 x6 x7 x8 x9 x10 x11 x12 y : EReal) = tileX x0 x1 x2 x3 (y 0) (y 1) := by
  have key : ∀ (s : Fin 4) (j : S128x1024.Idx), (rows s x0 x1 x2 x3 j : EReal)
      = (fun y : S512x1024.Idx => tileX x0 x1 x2 x3 (y 0) (y 1)) ((Rect.unit (s := S512x1024) ![128 * s.val, 0] S128x1024.size (inb_row s)).emb j) := by
    intro s j
    obtain ⟨r, b, rfl⟩ : ∃ (r : Fin 128) (b : Fin 1024), j = ix2 r b := ⟨j 0, j 1, eq_ix2 (a := 128) (b := 1024) j⟩
    rw [emb_rows]
    exact rows_tile x0 x1 x2 x3 s r ⟨128 * s.val + r.val, by omega⟩ rfl b
  refine View.canon_apply_of_pieces (Val := Elt Ideal) (fun y => tileX x0 x1 x2 x3 (y 0) (y 1) : Vec Ideal S512x1024 .f32) _ (fun p hp j => ?_) y (cover0_13 _ _ _ _ y)
  simp only [List.mem_cons, List.mem_nil_iff, or_false] at hp
  rcases hp with rfl | rfl | rfl | rfl
  · exact (congrFun (rows_3 x0 x1 x2 x3 x4 x5 x6 x7 x8 x9 x10 x11 x12) j).trans (key 3 j)
  · exact (congrFun (rows_2 x0 x1 x2 x3 x4 x5 x6 x7 x8 x9 x10 x11 x12) j).trans (key 2 j)
  · exact (congrFun (rows_1 x0 x1 x2 x3 x4 x5 x6 x7 x8 x9 x10 x11 x12) j).trans (key 1 j)
  · exact (congrFun (rows_0 x0 x1 x2 x3 x4 x5 x6 x7 x8 x9 x10 x11 x12) j).trans (key 0 j)

/-- The second result's block at an index. -/
theorem out14_apply (y : S512x512.Idx) :
    (out0_14 x0 x1 x2 x3 x4 x5 x6 x7 x8 x9 x10 x11 x12 y : EReal) = tileS x0 x1 x2 x3 x4 x5 0 (y 0) (y 1) := by
  have key : ∀ (s : Fin 4) (j : S128x512.Idx), (swish (part 0 (rows s x0 x1 x2 x3) x4 x5) j : EReal)
      = (fun y : S512x512.Idx => tileS x0 x1 x2 x3 x4 x5 0 (y 0) (y 1)) ((Rect.unit (s := S512x512) ![128 * s.val, 0] S128x512.size (inb_piece s)).emb j) := by
    intro s j
    obtain ⟨r, b, rfl⟩ : ∃ (r : Fin 128) (b : Fin 512), j = ix2 r b := ⟨j 0, j 1, eq_ix2 (a := 128) (b := 512) j⟩
    rw [emb_part]
    rw [swish_apply, part_tile x0 x1 x2 x3 x4 x5 0 s r ⟨128 * s.val + r.val, by omega⟩ rfl b]
    rfl
  refine View.canon_apply_of_pieces (Val := Elt Ideal) (fun y => tileS x0 x1 x2 x3 x4 x5 0 (y 0) (y 1) : Vec Ideal S512x512 .f32) _ (fun p hp j => ?_) y (cover0_14 _ _ _ _ y)
  simp only [List.mem_cons, List.mem_nil_iff, or_false] at hp
  rcases hp with rfl | rfl | rfl | rfl
  · exact (congrFun (q_3 x0 x1 x2 x3 x4 x5 x6 x7 x8 x9 x10 x11 x12) j).trans (key 3 j)
  · exact (congrFun (q_2 x0 x1 x2 x3 x4 x5 x6 x7 x8 x9 x10 x11 x12) j).trans (key 2 j)
  · exact (congrFun (q_1 x0 x1 x2 x3 x4 x5 x6 x7 x8 x9 x10 x11 x12) j).trans (key 1 j)
  · exact (congrFun (q_0 x0 x1 x2 x3 x4 x5 x6 x7 x8 x9 x10 x11 x12) j).trans (key 0 j)

/-- The third result's block at an index. -/
theorem out15_apply (y : S512x512.Idx) :
    (out0_15 x0 x1 x2 x3 x4 x5 x6 x7 x8 x9 x10 x11 x12 y : EReal) = tileF x0 x1 x2 x3 x4 x5 x6 1 (y 0) (y 1) := by
  have key : ∀ (s : Fin 4) (j : S128x512.Idx), (gate (part 1 (rows s x0 x1 x2 x3) x4 x5) x6 j : EReal)
      = (fun y : S512x512.Idx => tileF x0 x1 x2 x3 x4 x5 x6 1 (y 0) (y 1)) ((Rect.unit (s := S512x512) ![128 * s.val, 0] S128x512.size (inb_piece s)).emb j) := by
    intro s j
    obtain ⟨r, b, rfl⟩ : ∃ (r : Fin 128) (b : Fin 512), j = ix2 r b := ⟨j 0, j 1, eq_ix2 (a := 128) (b := 512) j⟩
    rw [emb_part]
    rw [gate_apply, part_tile x0 x1 x2 x3 x4 x5 1 s r ⟨128 * s.val + r.val, by omega⟩ rfl b]
    rfl
  refine View.canon_apply_of_pieces (Val := Elt Ideal) (fun y => tileF x0 x1 x2 x3 x4 x5 x6 1 (y 0) (y 1) : Vec Ideal S512x512 .f32) _ (fun p hp j => ?_) y (cover0_15 _ _ _ _ y)
  simp only [List.mem_cons, List.mem_nil_iff, or_false] at hp
  rcases hp with rfl | rfl | rfl | rfl
  · exact (congrFun (lff_3 x0 x1 x2 x3 x4 x5 x6 x7 x8 x9 x10 x11 x12) j).trans (key 3 j)
  · exact (congrFun (lff_2 x0 x1 x2 x3 x4 x5 x6 x7 x8 x9 x10 x11 x12) j).trans (key 2 j)
  · exact (congrFun (lff_1 x0 x1 x2 x3 x4 x5 x6 x7 x8 x9 x10 x11 x12) j).trans (key 1 j)
  · exact (congrFun (lff_0 x0 x1 x2 x3 x4 x5 x6 x7 x8 x9 x10 x11 x12) j).trans (key 0 j)

/-- The fourth result's block at an index. -/
theorem out16_apply (y : S512x512.Idx) :
    (out0_16 x0 x1 x2 x3 x4 x5 x6 x7 x8 x9 x10 x11 x12 y : EReal) = tileF x0 x1 x2 x3 x4 x5 x7 2 (y 0) (y 1) := by
  have key : ∀ (s : Fin 4) (j : S128x512.Idx), (gate (part 2 (rows s x0 x1 x2 x3) x4 x5) x7 j : EReal)
      = (fun y : S512x512.Idx => tileF x0 x1 x2 x3 x4 x5 x7 2 (y 0) (y 1)) ((Rect.unit (s := S512x512) ![128 * s.val, 0] S128x512.size (inb_piece s)).emb j) := by
    intro s j
    obtain ⟨r, b, rfl⟩ : ∃ (r : Fin 128) (b : Fin 512), j = ix2 r b := ⟨j 0, j 1, eq_ix2 (a := 128) (b := 512) j⟩
    rw [emb_part]
    rw [gate_apply, part_tile x0 x1 x2 x3 x4 x5 2 s r ⟨128 * s.val + r.val, by omega⟩ rfl b]
    rfl
  refine View.canon_apply_of_pieces (Val := Elt Ideal) (fun y => tileF x0 x1 x2 x3 x4 x5 x7 2 (y 0) (y 1) : Vec Ideal S512x512 .f32) _ (fun p hp j => ?_) y (cover0_16 _ _ _ _ y)
  simp only [List.mem_cons, List.mem_nil_iff, or_false] at hp
  rcases hp with rfl | rfl | rfl | rfl
  · exact (congrFun (lfb_3 x0 x1 x2 x3 x4 x5 x6 x7 x8 x9 x10 x11 x12) j).trans (key 3 j)
  · exact (congrFun (lfb_2 x0 x1 x2 x3 x4 x5 x6 x7 x8 x9 x10 x11 x12) j).trans (key 2 j)
  · exact (congrFun (lfb_1 x0 x1 x2 x3 x4 x5 x6 x7 x8 x9 x10 x11 x12) j).trans (key 1 j)
  · exact (congrFun (lfb_0 x0 x1 x2 x3 x4 x5 x6 x7 x8 x9 x10 x11 x12) j).trans (key 0 j)

/-- The fifth result's block at an index. -/
theorem out17_apply (y : S512x512.Idx) :
    (out0_17 x0 x1 x2 x3 x4 x5 x6 x7 x8 x9 x10 x11 x12 y : EReal) = tileP x0 x1 x2 x3 x4 x5 3 (y 0) (y 1) := by
  have key : ∀ (s : Fin 4) (j : S128x512.Idx), (down (part 3 (rows s x0 x1 x2 x3) x4 x5) j : EReal)
      = (fun y : S512x512.Idx => tileP x0 x1 x2 x3 x4 x5 3 (y 0) (y 1)) ((Rect.unit (s := S512x512) ![128 * s.val, 0] S128x512.size (inb_piece s)).emb j) := by
    intro s j
    obtain ⟨r, b, rfl⟩ : ∃ (r : Fin 128) (b : Fin 512), j = ix2 r b := ⟨j 0, j 1, eq_ix2 (a := 128) (b := 512) j⟩
    rw [emb_part]
    rw [down_apply, part_tile x0 x1 x2 x3 x4 x5 3 s r ⟨128 * s.val + r.val, by omega⟩ rfl b]
    rfl
  refine View.canon_apply_of_pieces (Val := Elt Ideal) (fun y => tileP x0 x1 x2 x3 x4 x5 3 (y 0) (y 1) : Vec Ideal S512x512 .bf16) _ (fun p hp j => ?_) y (cover0_17 _ _ _ _ y)
  simp only [List.mem_cons, List.mem_nil_iff, or_false] at hp
  rcases hp with rfl | rfl | rfl | rfl
  · exact (congrFun (v_3 x0 x1 x2 x3 x4 x5 x6 x7 x8 x9 x10 x11 x12) j).trans (key 3 j)
  · exact (congrFun (v_2 x0 x1 x2 x3 x4 x5 x6 x7 x8 x9 x10 x11 x12) j).trans (key 2 j)
  · exact (congrFun (v_1 x0 x1 x2 x3 x4 x5 x6 x7 x8 x9 x10 x11 x12) j).trans (key 1 j)
  · exact (congrFun (v_0 x0 x1 x2 x3 x4 x5 x6 x7 x8 x9 x10 x11 x12) j).trans (key 0 j)

/-- The sixth result's block at an index. -/
theorem out18_apply (y : S512x512.Idx) :
    (out0_18 x0 x1 x2 x3 x4 x5 x6 x7 x8 x9 x10 x11 x12 y : EReal) = tileS x0 x1 x2 x3 x4 x5 4 (y 0) (y 1) := by
  have key : ∀ (s : Fin 4) (j : S128x512.Idx), (swish (part 4 (rows s x0 x1 x2 x3) x4 x5) j : EReal)
      = (fun y : S512x512.Idx => tileS x0 x1 x2 x3 x4 x5 4 (y 0) (y 1)) ((Rect.unit (s := S512x512) ![128 * s.val, 0] S128x512.size (inb_piece s)).emb j) := by
    intro s j
    obtain ⟨r, b, rfl⟩ : ∃ (r : Fin 128) (b : Fin 512), j = ix2 r b := ⟨j 0, j 1, eq_ix2 (a := 128) (b := 512) j⟩
    rw [emb_part]
    rw [swish_apply, part_tile x0 x1 x2 x3 x4 x5 4 s r ⟨128 * s.val + r.val, by omega⟩ rfl b]
    rfl
  refine View.canon_apply_of_pieces (Val := Elt Ideal) (fun y => tileS x0 x1 x2 x3 x4 x5 4 (y 0) (y 1) : Vec Ideal S512x512 .f32) _ (fun p hp j => ?_) y (cover0_18 _ _ _ _ y)
  simp only [List.mem_cons, List.mem_nil_iff, or_false] at hp
  rcases hp with rfl | rfl | rfl | rfl
  · exact (congrFun (g_3 x0 x1 x2 x3 x4 x5 x6 x7 x8 x9 x10 x11 x12) j).trans (key 3 j)
  · exact (congrFun (g_2 x0 x1 x2 x3 x4 x5 x6 x7 x8 x9 x10 x11 x12) j).trans (key 2 j)
  · exact (congrFun (g_1 x0 x1 x2 x3 x4 x5 x6 x7 x8 x9 x10 x11 x12) j).trans (key 1 j)
  · exact (congrFun (g_0 x0 x1 x2 x3 x4 x5 x6 x7 x8 x9 x10 x11 x12) j).trans (key 0 j)

end tile

variable (m : (ℓ : Loc nD τ sig) → Buf (Elt Ideal) ℓ) (c : Dev nD)

/-- The rows after the feed-forward, of the arguments. -/
def resX (a : Fin 65536) (b : Fin 1024) : EReal :=
  outRow (fun k => aX m c (ix2 a k)) (fun k => aN m c (ix2 0 k)) (fun k n => aWi m c (ix3 0 k n)) (fun n k => aWo m c (ix3 0 n k)) b

/-- A part of the in-projection, of the arguments. -/
def resP (p : Fin 6) (a : Fin 65536) (b : Fin 512) : EReal :=
  ∑ k : Fin 1024, normRow (resX m c a) (fun k => aM m c (ix2 0 k)) k * aIn m c (ix3 0 k (col p b))

/-- The same times its sigmoid. -/
def resS (p : Fin 6) (a : Fin 65536) (b : Fin 512) : EReal := resP m c p a b * Ideal.logistic (resP m c p a b)

/-- A part's forget gates under a table of bounds, of the arguments. -/
def resF (tb : S2x512.Idx → EReal) (p : Fin 6) (a : Fin 65536) (b : Fin 512) : EReal :=
  forgetOf (resP m c p a b) (tb (ix2 0 b)) (tb (ix2 1 b))

/-- A tile's rows are the arguments'. -/
theorem tileX_res (t : Fin cfg0.N) (r : Fin 512) (a : Fin 65536) (ha : a.val = 512 * t.val + r.val) :
    tileX (iblk m c 0 t) (iblk m c 1 t) (iblk m c 2 t) (iblk m c 3 t) r = resX m c a := by
  have e : (⟨512 * t.val + r.val, by have := t.isLt; have h : cfg0.N = 128 := rfl; omega⟩ : Fin 65536) = a := Fin.ext ha.symm
  have h0 : (fun k => (iblk m c 0 t : Vec Ideal S512x1024 .f32) (ix2 r k)) = fun k => aX m c (ix2 a k) := funext fun k => by rw [← e]; exact blk0 m c t r k
  have h1 : (fun k => (iblk m c 1 t : Vec Ideal S1x1024 .f32) (ix2 0 k)) = fun k => aN m c (ix2 0 k) := funext fun k => blk1 m c t k
  have h2 : (fun (k : Fin 1024) (n : Fin 5632) => (iblk m c 2 t : Vec Ideal S1024x5632 .bf16) (ix2 k n)) = fun k n => aWi m c (ix3 0 k n) :=
    funext fun k => funext fun n => blk2 m c t k n
  have h3 : (fun (n : Fin 2816) (k : Fin 1024) => (iblk m c 3 t : Vec Ideal S2816x1024 .bf16) (ix2 n k)) = fun n k => aWo m c (ix3 0 n k) :=
    funext fun n => funext fun k => blk3 m c t n k
  funext b
  unfold tileX resX
  exact congr (congr (congr (congr (congrArg outRow h0) h1) h2) h3) (rfl : b = b)

/-- A tile's in-projection is the arguments'. -/
theorem tileP_res (t : Fin cfg0.N) (r : Fin 512) (a : Fin 65536) (ha : a.val = 512 * t.val + r.val) (p : Fin 6) (b : Fin 512) :
    tileP (iblk m c 0 t) (iblk m c 1 t) (iblk m c 2 t) (iblk m c 3 t) (iblk m c 4 t) (iblk m c 5 t) p r b = resP m c p a b := by
  have h4 : (fun k => (iblk m c 4 t : Vec Ideal S1x1024 .f32) (ix2 0 k)) = fun k => aM m c (ix2 0 k) := funext fun k => blk4 m c t k
  unfold tileP resP
  refine Finset.sum_congr rfl fun k _ => ?_
  exact congr (congrArg HMul.hMul (congr (congr (congrArg normRow (tileX_res m c t r a ha)) h4) (rfl : k = k))) (blk5 m c t k (col p b))

/-- Which block of result window 13 a grid point writes: the block of its own number. -/
theorem idx13 : ∀ t : Fin cfg0.N, win0_13.index t = ![t.val, 0] :=
  (by decide +kernel : ∀ t : Fin grid0.N, win0_13.index t = ![t.val, 0])

/-- The first result array. -/
theorem final13 : (dats m 0 c).arrAt 13 cfg0.N = (fun i => resX m c (i 0) (i 1) : Vec Ideal S65536x1024 .f32) := by
  refine (dats m 0 c).arrAt_eq_of_covers 13 _ (by decide +kernel) fun t hf y => ?_
  blk_simp
  rw [after0_13]
  have e : ∀ (r : Fin 512) (b : Fin 1024), y = ix2 r b →
      (out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r b) : EReal)
        = resX m c (((cfg0.win 13).blk t).view.emb y 0) (((cfg0.win 13).blk t).view.emb y 1) := by
    intro r b hy
    have h1 : (((cfg0.win 13).blk t).view.emb y 1 : Fin 1024) = b := by
      apply Fin.ext
      blk_simp [idx13 t]
      rw [hy]
      rfl
    have h0 : (((cfg0.win 13).blk t).view.emb y 0 : Fin 65536).val = 512 * t.val + r.val := by
      blk_simp [idx13 t]
      rw [hy]
      show t.val * 512 + r.val = 512 * t.val + r.val
      omega
    rw [h1]
    generalize (((cfg0.win 13).blk t).view.emb y 0 : Fin 65536) = a at h0 ⊢
    refine (out13_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r b)).trans ?_
    exact congrFun (tileX_res m c t r a h0) b
  rw [eq_ix2 (a := 512) (b := 1024) y]
  exact e _ _ (eq_ix2 (a := 512) (b := 1024) y)

/-- Which block of result window 14 a grid point writes: the block of its own number. -/
theorem idx14 : ∀ t : Fin cfg0.N, win0_14.index t = ![t.val, 0] :=
  (by decide +kernel : ∀ t : Fin grid0.N, win0_14.index t = ![t.val, 0])

/-- The second result array. -/
theorem final14 : (dats m 0 c).arrAt 14 cfg0.N = (fun i => resS m c 0 (i 0) (i 1) : Vec Ideal S65536x512 .f32) := by
  refine (dats m 0 c).arrAt_eq_of_covers 14 _ (by decide +kernel) fun t hf y => ?_
  blk_simp
  rw [after0_14]
  have e : ∀ (r : Fin 512) (b : Fin 512), y = ix2 r b →
      (out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r b) : EReal)
        = resS m c 0 (((cfg0.win 14).blk t).view.emb y 0) (((cfg0.win 14).blk t).view.emb y 1) := by
    intro r b hy
    have h1 : (((cfg0.win 14).blk t).view.emb y 1 : Fin 512) = b := by
      apply Fin.ext
      blk_simp [idx14 t]
      rw [hy]
      rfl
    have h0 : (((cfg0.win 14).blk t).view.emb y 0 : Fin 65536).val = 512 * t.val + r.val := by
      blk_simp [idx14 t]
      rw [hy]
      show t.val * 512 + r.val = 512 * t.val + r.val
      omega
    rw [h1]
    generalize (((cfg0.win 14).blk t).view.emb y 0 : Fin 65536) = a at h0 ⊢
    refine (out14_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r b)).trans ?_
    exact congrArg (fun z : EReal => z * Ideal.logistic z) (tileP_res m c t r a h0 0 b)
  rw [eq_ix2 (a := 512) (b := 512) y]
  exact e _ _ (eq_ix2 (a := 512) (b := 512) y)

/-- Which block of result window 15 a grid point writes: the block of its own number. -/
theorem idx15 : ∀ t : Fin cfg0.N, win0_15.index t = ![t.val, 0] :=
  (by decide +kernel : ∀ t : Fin grid0.N, win0_15.index t = ![t.val, 0])

/-- The third result array. -/
theorem final15 : (dats m 0 c).arrAt 15 cfg0.N = (fun i => resF m c (aLf m c) 1 (i 0) (i 1) : Vec Ideal S65536x512 .f32) := by
  refine (dats m 0 c).arrAt_eq_of_covers 15 _ (by decide +kernel) fun t hf y => ?_
  blk_simp
  rw [after0_15]
  have e : ∀ (r : Fin 512) (b : Fin 512), y = ix2 r b →
      (out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r b) : EReal)
        = resF m c (aLf m c) 1 (((cfg0.win 15).blk t).view.emb y 0) (((cfg0.win 15).blk t).view.emb y 1) := by
    intro r b hy
    have h1 : (((cfg0.win 15).blk t).view.emb y 1 : Fin 512) = b := by
      apply Fin.ext
      blk_simp [idx15 t]
      rw [hy]
      rfl
    have h0 : (((cfg0.win 15).blk t).view.emb y 0 : Fin 65536).val = 512 * t.val + r.val := by
      blk_simp [idx15 t]
      rw [hy]
      show t.val * 512 + r.val = 512 * t.val + r.val
      omega
    rw [h1]
    generalize (((cfg0.win 15).blk t).view.emb y 0 : Fin 65536) = a at h0 ⊢
    refine (out15_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r b)).trans ?_
    show forgetOf _ _ _ = forgetOf _ _ _
    exact congr (congr (congrArg forgetOf (tileP_res m c t r a h0 1 b)) (blk6 m c t 0 b)) (blk6 m c t 1 b)
  rw [eq_ix2 (a := 512) (b := 512) y]
  exact e _ _ (eq_ix2 (a := 512) (b := 512) y)

/-- Which block of result window 16 a grid point writes: the block of its own number. -/
theorem idx16 : ∀ t : Fin cfg0.N, win0_16.index t = ![t.val, 0] :=
  (by decide +kernel : ∀ t : Fin grid0.N, win0_16.index t = ![t.val, 0])

/-- The fourth result array. -/
theorem final16 : (dats m 0 c).arrAt 16 cfg0.N = (fun i => resF m c (aLb m c) 2 (i 0) (i 1) : Vec Ideal S65536x512 .f32) := by
  refine (dats m 0 c).arrAt_eq_of_covers 16 _ (by decide +kernel) fun t hf y => ?_
  blk_simp
  rw [after0_16]
  have e : ∀ (r : Fin 512) (b : Fin 512), y = ix2 r b →
      (out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r b) : EReal)
        = resF m c (aLb m c) 2 (((cfg0.win 16).blk t).view.emb y 0) (((cfg0.win 16).blk t).view.emb y 1) := by
    intro r b hy
    have h1 : (((cfg0.win 16).blk t).view.emb y 1 : Fin 512) = b := by
      apply Fin.ext
      blk_simp [idx16 t]
      rw [hy]
      rfl
    have h0 : (((cfg0.win 16).blk t).view.emb y 0 : Fin 65536).val = 512 * t.val + r.val := by
      blk_simp [idx16 t]
      rw [hy]
      show t.val * 512 + r.val = 512 * t.val + r.val
      omega
    rw [h1]
    generalize (((cfg0.win 16).blk t).view.emb y 0 : Fin 65536) = a at h0 ⊢
    refine (out16_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r b)).trans ?_
    show forgetOf _ _ _ = forgetOf _ _ _
    exact congr (congr (congrArg forgetOf (tileP_res m c t r a h0 2 b)) (blk7 m c t 0 b)) (blk7 m c t 1 b)
  rw [eq_ix2 (a := 512) (b := 512) y]
  exact e _ _ (eq_ix2 (a := 512) (b := 512) y)

/-- Which block of result window 17 a grid point writes: the block of its own number. -/
theorem idx17 : ∀ t : Fin cfg0.N, win0_17.index t = ![t.val, 0] :=
  (by decide +kernel : ∀ t : Fin grid0.N, win0_17.index t = ![t.val, 0])

/-- The fifth result array. -/
theorem final17 : (dats m 0 c).arrAt 17 cfg0.N = (fun i => resP m c 3 (i 0) (i 1) : Vec Ideal S65536x512 .bf16) := by
  refine (dats m 0 c).arrAt_eq_of_covers 17 _ (by decide +kernel) fun t hf y => ?_
  blk_simp
  rw [after0_17]
  have e : ∀ (r : Fin 512) (b : Fin 512), y = ix2 r b →
      (out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r b) : EReal)
        = resP m c 3 (((cfg0.win 17).blk t).view.emb y 0) (((cfg0.win 17).blk t).view.emb y 1) := by
    intro r b hy
    have h1 : (((cfg0.win 17).blk t).view.emb y 1 : Fin 512) = b := by
      apply Fin.ext
      blk_simp [idx17 t]
      rw [hy]
      rfl
    have h0 : (((cfg0.win 17).blk t).view.emb y 0 : Fin 65536).val = 512 * t.val + r.val := by
      blk_simp [idx17 t]
      rw [hy]
      show t.val * 512 + r.val = 512 * t.val + r.val
      omega
    rw [h1]
    generalize (((cfg0.win 17).blk t).view.emb y 0 : Fin 65536) = a at h0 ⊢
    refine (out17_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r b)).trans ?_
    exact tileP_res m c t r a h0 3 b
  rw [eq_ix2 (a := 512) (b := 512) y]
  exact e _ _ (eq_ix2 (a := 512) (b := 512) y)

/-- Which block of result window 18 a grid point writes: the block of its own number. -/
theorem idx18 : ∀ t : Fin cfg0.N, win0_18.index t = ![t.val, 0] :=
  (by decide +kernel : ∀ t : Fin grid0.N, win0_18.index t = ![t.val, 0])

/-- The sixth result array. -/
theorem final18 : (dats m 0 c).arrAt 18 cfg0.N = (fun i => resS m c 4 (i 0) (i 1) : Vec Ideal S65536x512 .f32) := by
  refine (dats m 0 c).arrAt_eq_of_covers 18 _ (by decide +kernel) fun t hf y => ?_
  blk_simp
  rw [after0_18]
  have e : ∀ (r : Fin 512) (b : Fin 512), y = ix2 r b →
      (out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r b) : EReal)
        = resS m c 4 (((cfg0.win 18).blk t).view.emb y 0) (((cfg0.win 18).blk t).view.emb y 1) := by
    intro r b hy
    have h1 : (((cfg0.win 18).blk t).view.emb y 1 : Fin 512) = b := by
      apply Fin.ext
      blk_simp [idx18 t]
      rw [hy]
      rfl
    have h0 : (((cfg0.win 18).blk t).view.emb y 0 : Fin 65536).val = 512 * t.val + r.val := by
      blk_simp [idx18 t]
      rw [hy]
      show t.val * 512 + r.val = 512 * t.val + r.val
      omega
    rw [h1]
    generalize (((cfg0.win 18).blk t).view.emb y 0 : Fin 65536) = a at h0 ⊢
    refine (out18_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 r b)).trans ?_
    exact congrArg (fun z : EReal => z * Ideal.logistic z) (tileP_res m c t r a h0 4 b)
  rw [eq_ix2 (a := 512) (b := 512) y]
  exact e _ _ (eq_ix2 (a := 512) (b := 512) y)

end Cert.Kernel4Ideal.Entry

end
-- ==== Proof.RefIn4.lean ====
/- The second reference's results on the sample batch, at an index, are the row functions of `Spec.lean`, over the ideal numbers. -/
module

public import proofs.«01_k».proof.Proof.Gen.Reference4Ideal.Read
public import proofs.«01_k».proof.Proof.RefIn
public import Idealize.ShloMosaic.Lib.Pointwise
public import Idealize.ShloMosaic.Lib.KernelVsHost

@[expose] public section

set_option maxRecDepth 16384

noncomputable section

namespace Cert.Reference4Ideal.Layer

open Cert.Reference4Ideal Cert.Reference4Ideal.Gen Cert.Reference4Ideal.Read Idealize.ShloMosaic Idealize.ShloMosaic.TcCoe
open Idealize.ShloMosaic.Tactic Cert.Spec
open Cert.Reference2Ideal.Layer (run_apply bottom)

variable (x0 : Vec Ideal S65536x1024 .f32) (x1 : Vec Ideal S1x1024 .f32) (x2 : Vec Ideal S1x1024x5632 .f32) (x3 : Vec Ideal S1x2816x1024 .f32)
  (x4 : Vec Ideal S1x1024 .f32) (x5 : Vec Ideal S1x1024x3328 .f32)

/-- The rows normalised. -/
theorem norm_apply (a : Fin 65536) (c : Fin 1024) :
    val_main_v13 (F := Ideal) x0 x1 (ix2 a c) = normRow (fun k => x0 (ix2 a k)) (fun k => x1 (ix2 0 k)) c := by
  unfold normRow
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1]

/-- The feed-forward's first projection. -/
theorem wide_apply (a : Fin 65536) (n : Fin 5632) :
    val_main_v15 (F := Ideal) x0 x1 x2 (ix2 a n) = ∑ k : Fin 1024, val_main_v13 (F := Ideal) x0 x1 (ix2 a k) * x2 (ix3 0 k n) := by
  pointwise [val_main_v15, val_main_v14]

/-- The gated hidden row from the first projection. -/
theorem gate_apply (a : Fin 65536) (n : Fin 2816) :
    val_main_v19 (F := Ideal) x0 x1 x2 (ix2 a n)
      = val_main_v15 (F := Ideal) x0 x1 x2 (ix2 a ⟨n.val, by omega⟩)
        * Ideal.logistic (val_main_v15 (F := Ideal) x0 x1 x2 (ix2 a ⟨n.val, by omega⟩))
        * val_main_v15 (F := Ideal) x0 x1 x2 (ix2 a ⟨2816 + n.val, by omega⟩) := by
  unfold Ideal.logistic
  pointwise [val_main_v19, val_main_v18, val_main_v17, val_main_v16, val_main_call0_v5, val_main_call0_v4, val_main_call0_v3, val_main_call0_v2, val_main_call0_v1, val_main_call0_v0, val_main_call0_cst, val_main_call0_cst_0]

/-- The hidden row is the specification's. -/
theorem hid_apply (a : Fin 65536) (n : Fin 2816) :
    val_main_v19 (F := Ideal) x0 x1 x2 (ix2 a n)
      = hidRow (fun k => val_main_v13 (F := Ideal) x0 x1 (ix2 a k)) (fun k n => x2 (ix3 0 k n)) n := by
  rw [gate_apply, wide_apply, wide_apply]
  rfl

/-- The feed-forward's output from the hidden row. -/
theorem last_apply (a : Fin 65536) (c : Fin 1024) :
    val_main_v24 (F := Ideal) x0 x1 x2 x3 (ix2 a c)
      = x0 (ix2 a c) + Ideal.ofBits .f32 0x3F000000#32 * ∑ n : Fin 2816, val_main_v19 (F := Ideal) x0 x1 x2 (ix2 a n) * x3 (ix3 0 n c) := by
  pointwise [val_main_v24, val_main_v23, val_main_v22, val_main_v21, val_main_v20, val_main_cst_2]

/-- The first result: the rows after the feed-forward. -/
theorem x1_apply (a : Fin 65536) (c : Fin 1024) :
    val_main_v24 (F := Ideal) x0 x1 x2 x3 (ix2 a c)
      = outRow (fun k => x0 (ix2 a k)) (fun k => x1 (ix2 0 k)) (fun k n => x2 (ix3 0 k n)) (fun n c => x3 (ix3 0 n c)) c := by
  have hn : (fun k => val_main_v13 (F := Ideal) x0 x1 (ix2 a k)) = normRow (fun k => x0 (ix2 a k)) (fun k => x1 (ix2 0 k)) := by
    funext k
    rw [norm_apply]
  rw [last_apply]
  unfold outRow
  rw [← hn]
  refine congrArg (fun z => _ + _ * z) (Finset.sum_congr rfl fun n _ => ?_)
  rw [hid_apply]

/-- Those rows normalised. -/
theorem norm2_apply (a : Fin 65536) (c : Fin 1024) :
    val_main_v66 (F := Ideal) x0 x1 x2 x3 x4 (ix2 a c) = normRow (fun k => val_main_v24 (F := Ideal) x0 x1 x2 x3 (ix2 a k)) (fun k => x4 (ix2 0 k)) c := by
  unfold normRow
  pointwise [val_main_v66, val_main_v65, val_main_v64, val_main_v63, val_main_v62, val_main_v61, val_main_v60, val_main_v59, val_main_v58, val_main_v57, val_main_v56, val_main_v55, val_main_v54, val_main_v53, val_main_cst_9, val_main_cst_10, val_main_cst_11]

/-- The in-projection. -/
theorem in_apply (a : Fin 65536) (n : Fin 3328) :
    val_main_v68 (F := Ideal) x0 x1 x2 x3 x4 x5 (ix2 a n) = ∑ k : Fin 1024, val_main_v66 (F := Ideal) x0 x1 x2 x3 x4 (ix2 a k) * x5 (ix3 0 k n) := by
  pointwise [val_main_v68, val_main_v67]

/-- The second result from the in-projection. -/
theorem q_apply (a : Fin 65536) (c : Fin 512) :
    val_main_v75 (F := Ideal) x0 x1 x2 x3 x4 x5 (ix2 a c)
      = val_main_v68 (F := Ideal) x0 x1 x2 x3 x4 x5 (ix2 a ⟨512 * 0 + c.val, by omega⟩)
        * Ideal.logistic (val_main_v68 (F := Ideal) x0 x1 x2 x3 x4 x5 (ix2 a ⟨512 * 0 + c.val, by omega⟩)) := by
  have e : (⟨512 * 0 + c.val, by omega⟩ : Fin 3328) = ⟨c.val, by omega⟩ := Fin.ext (by dsimp only; omega)
  rw [e]
  unfold Ideal.logistic
  pointwise [val_main_v75, val_main_v69, val_main_call3_v5, val_main_call3_v4, val_main_call3_v3, val_main_call3_v2, val_main_call3_v1, val_main_call3_v0, val_main_call3_cst, val_main_call3_cst_0]

/-- The fifth result from the in-projection. -/
theorem v_apply (a : Fin 65536) (c : Fin 512) :
    val_main_v110 (F := Ideal) x0 x1 x2 x3 x4 x5 (ix2 a c) = val_main_v68 (F := Ideal) x0 x1 x2 x3 x4 x5 (ix2 a ⟨512 * 3 + c.val, by omega⟩) := by
  have e : (⟨512 * 3 + c.val, by omega⟩ : Fin 3328) = ⟨1536 + c.val, by omega⟩ := rfl
  rw [e]
  pointwise [val_main_v110, val_main_v72]

/-- The sixth result from the in-projection. -/
theorem g_apply (a : Fin 65536) (c : Fin 512) :
    val_main_v111 (F := Ideal) x0 x1 x2 x3 x4 x5 (ix2 a c)
      = val_main_v68 (F := Ideal) x0 x1 x2 x3 x4 x5 (ix2 a ⟨512 * 4 + c.val, by omega⟩)
        * Ideal.logistic (val_main_v68 (F := Ideal) x0 x1 x2 x3 x4 x5 (ix2 a ⟨512 * 4 + c.val, by omega⟩)) := by
  have e : (⟨512 * 4 + c.val, by omega⟩ : Fin 3328) = ⟨2048 + c.val, by omega⟩ := rfl
  rw [e]
  unfold Ideal.logistic
  pointwise [val_main_v111, val_main_v73, val_main_call4_v5, val_main_call4_v4, val_main_call4_v3, val_main_call4_v2, val_main_call4_v1, val_main_call4_v0, val_main_call4_cst, val_main_call4_cst_0]

/-- The greatest entry of a column of the forward table. -/
theorem lff_max (t : Vec Ideal S2x512 .f32) (b : Fin 512) : val_main_v25 (F := Ideal) t (ix1 b) = max (t (ix2 0 b)) (t (ix2 1 b)) := by
  pointwise [val_main_v25, val_main_cst_3]
  rw [bottom]
  simp [Fin.univ_succ, Finset.fold_insert]

/-- The forward gates' bound. -/
theorem lff_bound (t : Vec Ideal S2x512 .f32) (b : Fin 512) : val_main_v36 (F := Ideal) t (ix2 0 b) = boundOf (t (ix2 0 b)) (t (ix2 1 b)) := by
  have h : val_main_v35 (F := Ideal) t (ix2 0 b) = boundOf (t (ix2 0 b)) (t (ix2 1 b)) := by
    unfold boundOf
    pointwise [val_main_v35, val_main_v34, val_main_v33, val_main_v32, val_main_v31, val_main_v30, val_main_v29, val_main_v28, val_main_v27, val_main_v26, val_main_cst_4, val_main_cst_5]
    rw [lff_max, bottom, Fin.sum_univ_two, max_eq_right bot_le]
  rw [← h]
  refine run_apply (val_main_v35 (F := Ideal) t) _ (fun i => ?_) b
  pointwise [val_main_call1_call0_v0, val_main_call1_call0_cst]

/-- The third result from the in-projection and the table. -/
theorem lff_apply (x6 : Vec Ideal S2x512 .f32) (a : Fin 65536) (c : Fin 512) :
    val_main_v92 (F := Ideal) x0 x1 x2 x3 x4 x5 x6 (ix2 a c)
      = forgetOf (val_main_v68 (F := Ideal) x0 x1 x2 x3 x4 x5 (ix2 a ⟨512 * 1 + c.val, by omega⟩)) (x6 (ix2 0 c)) (x6 (ix2 1 c)) := by
  have e : (⟨512 * 1 + c.val, by omega⟩ : Fin 3328) = ⟨512 + c.val, by omega⟩ := rfl
  rw [e]
  unfold forgetOf
  rw [← lff_bound x6 c]
  unfold Ideal.logistic
  pointwise [val_main_v92, val_main_v91, val_main_v90, val_main_v89, val_main_v88, val_main_v87, val_main_v86, val_main_v85, val_main_v84, val_main_v83, val_main_v82, val_main_v81, val_main_v80, val_main_v79, val_main_v78, val_main_v77, val_main_v76, val_main_v70, val_main_v38, val_main_v37, val_main_cst_12, val_main_cst_13, val_main_cst_14, val_main_cst_15]

/-- The greatest entry of a column of the backward table. -/
theorem lfb_max (t : Vec Ideal S2x512 .f32) (b : Fin 512) : val_main_v39 (F := Ideal) t (ix1 b) = max (t (ix2 0 b)) (t (ix2 1 b)) := by
  pointwise [val_main_v39, val_main_cst_6]
  rw [bottom]
  simp [Fin.univ_succ, Finset.fold_insert]

/-- The backward gates' bound. -/
theorem lfb_bound (t : Vec Ideal S2x512 .f32) (b : Fin 512) : val_main_v50 (F := Ideal) t (ix2 0 b) = boundOf (t (ix2 0 b)) (t (ix2 1 b)) := by
  have h : val_main_v49 (F := Ideal) t (ix2 0 b) = boundOf (t (ix2 0 b)) (t (ix2 1 b)) := by
    unfold boundOf
    pointwise [val_main_v49, val_main_v48, val_main_v47, val_main_v46, val_main_v45, val_main_v44, val_main_v43, val_main_v42, val_main_v41, val_main_v40, val_main_cst_7, val_main_cst_8]
    rw [lfb_max, bottom, Fin.sum_univ_two, max_eq_right bot_le]
  rw [← h]
  refine run_apply (val_main_v49 (F := Ideal) t) _ (fun i => ?_) b
  pointwise [val_main_call2_call0_v0, val_main_call2_call0_cst]

/-- The fourth result from the in-projection and the table. -/
theorem lfb_apply (x7 : Vec Ideal S2x512 .f32) (a : Fin 65536) (c : Fin 512) :
    val_main_v109 (F := Ideal) x0 x1 x2 x3 x4 x5 x7 (ix2 a c)
      = forgetOf (val_main_v68 (F := Ideal) x0 x1 x2 x3 x4 x5 (ix2 a ⟨512 * 2 + c.val, by omega⟩)) (x7 (ix2 0 c)) (x7 (ix2 1 c)) := by
  have e : (⟨512 * 2 + c.val, by omega⟩ : Fin 3328) = ⟨1024 + c.val, by omega⟩ := rfl
  rw [e]
  unfold forgetOf
  rw [← lfb_bound x7 c]
  unfold Ideal.logistic
  pointwise [val_main_v109, val_main_v108, val_main_v107, val_main_v106, val_main_v105, val_main_v104, val_main_v103, val_main_v102, val_main_v101, val_main_v100, val_main_v99, val_main_v98, val_main_v97, val_main_v96, val_main_v95, val_main_v94, val_main_v93, val_main_v71, val_main_v52, val_main_v51, val_main_cst_16, val_main_cst_17, val_main_cst_18, val_main_cst_19]

/-- The in-projection of the arguments. -/
theorem proj_apply (a : Fin 65536) (n : Fin 3328) :
    val_main_v68 (F := Ideal) x0 x1 x2 x3 x4 x5 (ix2 a n)
      = ∑ k : Fin 1024, normRow (outRow (fun k => x0 (ix2 a k)) (fun k => x1 (ix2 0 k)) (fun k n => x2 (ix3 0 k n)) (fun n c => x3 (ix3 0 n c)))
          (fun k => x4 (ix2 0 k)) k * x5 (ix3 0 k n) := by
  have h : (fun k => val_main_v24 (F := Ideal) x0 x1 x2 x3 (ix2 a k))
      = outRow (fun k => x0 (ix2 a k)) (fun k => x1 (ix2 0 k)) (fun k n => x2 (ix3 0 k n)) (fun n c => x3 (ix3 0 n c)) := by
    funext k
    exact x1_apply x0 x1 x2 x3 a k
  rw [in_apply]
  refine Finset.sum_congr rfl fun k _ => ?_
  rw [norm2_apply, h]

end Cert.Reference4Ideal.Layer

end
-- ==== Proof.Claims4.lean ====
/- The claims of the fourth program of the certificate, the first call on the sample batch. -/
module

public import proofs.«01_k».proof.Defs
public import proofs.«01_k».proof.Proof.Gen.Kernel4
public import proofs.«01_k».proof.Proof.Gen.Kernel4Ideal
public import proofs.«01_k».proof.Proof.Gen.Reference4Ideal
public import proofs.«01_k».proof.Proof.Gen.Kernel4Ideal.Value
public import proofs.«01_k».proof.Proof.Gen.Reference4Ideal.Run
public import proofs.«01_k».proof.Proof.Gen.Reference4Ideal.Read
public import proofs.«01_k».proof.Proof.Twin4
public import proofs.«01_k».proof.Proof.InWhole4
public import proofs.«01_k».proof.Proof.RefIn4
public import Idealize.ShloMosaic.Adequacy
public import Idealize.ShloMosaic.Init

@[expose] public section

set_option maxRecDepth 16384

noncomputable section

namespace Cert.Proof4

open Idealize.ShloMosaic Idealize.ShloMosaic.StableHlo Idealize.ShloMosaic.Tactic Idealize.SL.Sem Cert.Kernel4Ideal.Entry Cert.Spec
open Cert.Kernel2Ideal.Entry (eq_ix2 col)

attribute [local instance] Cert.Kernel4.Gen.facts Cert.Kernel4Ideal.Gen.facts Cert.Reference4Ideal.Gen.facts

/-- The idealized first call runs, leaves its arguments and ends quiescent. -/
theorem kernel : Cert.quiescent_Kernel4Ideal := fun m ρ _ => Cert.Kernel4Ideal.Gen.frame m ρ

/-- The reference runs, leaves its arguments and ends quiescent. -/
theorem reference : Cert.quiescent_Reference4Ideal := fun m ρ _ =>
  (θ_run Cert.Reference4Ideal.defs _ _).mono (fun r h => ⟨fun c => (h c).2.2.2.2.2.2, Idealize.ShloMosaic.sem_eq_zero_of_no_sems (by decide) r.2⟩)
    (Cert.Reference4Ideal.Value.run (F := Ideal) m ρ)

section values

variable (m : (ℓ : Loc Cert.Kernel4Ideal.nD Cert.Kernel4Ideal.τ Cert.Kernel4Ideal.sig) → Buf (Elt Ideal) ℓ) (c : Dev Cert.Kernel4Ideal.nD)

/-- The rows after the feed-forward. -/
abbrev vX : Vec Ideal Cert.Kernel4Ideal.S65536x1024 .f32 := fun i => resX m c (i 0) (i 1)

/-- The scans' queries. -/
abbrev vQ : Vec Ideal Cert.Kernel4Ideal.S65536x512 .f32 := fun i => resS m c 0 (i 0) (i 1)

/-- The forward forget gates. -/
abbrev vF : Vec Ideal Cert.Kernel4Ideal.S65536x512 .f32 := fun i => resF m c (aLf m c) 1 (i 0) (i 1)

/-- The backward forget gates. -/
abbrev vB : Vec Ideal Cert.Kernel4Ideal.S65536x512 .f32 := fun i => resF m c (aLb m c) 2 (i 0) (i 1)

/-- The scans' values. -/
abbrev vV : Vec Ideal Cert.Kernel4Ideal.S65536x512 .bf16 := fun i => resP m c 3 (i 0) (i 1)

/-- The gates. -/
abbrev vG : Vec Ideal Cert.Kernel4Ideal.S65536x512 .f32 := fun i => resS m c 4 (i 0) (i 1)

/-- The reference's first result on the kernel's arguments. -/
theorem reference_24 : Cert.Reference4Ideal.Read.val_main_v24 (F := Ideal) (aX m c) (aN m c) (aWi m c) (aWo m c) = vX m c := by
  funext i
  obtain ⟨a, b, rfl⟩ : ∃ (a : Fin 65536) (b : Fin 1024), i = ix2 a b := ⟨i 0, i 1, eq_ix2 (a := 65536) (b := 1024) i⟩
  exact Cert.Reference4Ideal.Layer.x1_apply (aX m c) (aN m c) (aWi m c) (aWo m c) a b

/-- The reference's second result on the kernel's arguments. -/
theorem reference_75 : Cert.Reference4Ideal.Read.val_main_v75 (F := Ideal) (aX m c) (aN m c) (aWi m c) (aWo m c) (aM m c) (aIn m c) = vQ m c := by
  funext i
  obtain ⟨a, b, rfl⟩ : ∃ (a : Fin 65536) (b : Fin 512), i = ix2 a b := ⟨i 0, i 1, eq_ix2 (a := 65536) (b := 512) i⟩
  refine (Cert.Reference4Ideal.Layer.q_apply (aX m c) (aN m c) (aWi m c) (aWo m c) (aM m c) (aIn m c) a b).trans ?_
  exact congrArg (fun z : EReal => z * Ideal.logistic z) (Cert.Reference4Ideal.Layer.proj_apply (aX m c) (aN m c) (aWi m c) (aWo m c) (aM m c) (aIn m c) a (col 0 b))

/-- The reference's third result on the kernel's arguments. -/
theorem reference_92 : Cert.Reference4Ideal.Read.val_main_v92 (F := Ideal) (aX m c) (aN m c) (aWi m c) (aWo m c) (aM m c) (aIn m c) (aLf m c) = vF m c := by
  funext i
  obtain ⟨a, b, rfl⟩ : ∃ (a : Fin 65536) (b : Fin 512), i = ix2 a b := ⟨i 0, i 1, eq_ix2 (a := 65536) (b := 512) i⟩
  refine (Cert.Reference4Ideal.Layer.lff_apply (aX m c) (aN m c) (aWi m c) (aWo m c) (aM m c) (aIn m c) (aLf m c) a b).trans ?_
  exact congrArg (fun z : EReal => forgetOf z (aLf m c (ix2 0 b)) (aLf m c (ix2 1 b))) (Cert.Reference4Ideal.Layer.proj_apply (aX m c) (aN m c) (aWi m c) (aWo m c) (aM m c) (aIn m c) a (col 1 b))

/-- The reference's fourth result on the kernel's arguments. -/
theorem reference_109 : Cert.Reference4Ideal.Read.val_main_v109 (F := Ideal) (aX m c) (aN m c) (aWi m c) (aWo m c) (aM m c) (aIn m c) (aLb m c) = vB m c := by
  funext i
  obtain ⟨a, b, rfl⟩ : ∃ (a : Fin 65536) (b : Fin 512), i = ix2 a b := ⟨i 0, i 1, eq_ix2 (a := 65536) (b := 512) i⟩
  refine (Cert.Reference4Ideal.Layer.lfb_apply (aX m c) (aN m c) (aWi m c) (aWo m c) (aM m c) (aIn m c) (aLb m c) a b).trans ?_
  exact congrArg (fun z : EReal => forgetOf z (aLb m c (ix2 0 b)) (aLb m c (ix2 1 b))) (Cert.Reference4Ideal.Layer.proj_apply (aX m c) (aN m c) (aWi m c) (aWo m c) (aM m c) (aIn m c) a (col 2 b))

/-- The reference's fifth result on the kernel's arguments. -/
theorem reference_110 : Cert.Reference4Ideal.Read.val_main_v110 (F := Ideal) (aX m c) (aN m c) (aWi m c) (aWo m c) (aM m c) (aIn m c) = vV m c := by
  funext i
  obtain ⟨a, b, rfl⟩ : ∃ (a : Fin 65536) (b : Fin 512), i = ix2 a b := ⟨i 0, i 1, eq_ix2 (a := 65536) (b := 512) i⟩
  refine (Cert.Reference4Ideal.Layer.v_apply (aX m c) (aN m c) (aWi m c) (aWo m c) (aM m c) (aIn m c) a b).trans ?_
  exact Cert.Reference4Ideal.Layer.proj_apply (aX m c) (aN m c) (aWi m c) (aWo m c) (aM m c) (aIn m c) a (col 3 b)

/-- The reference's sixth result on the kernel's arguments. -/
theorem reference_111 : Cert.Reference4Ideal.Read.val_main_v111 (F := Ideal) (aX m c) (aN m c) (aWi m c) (aWo m c) (aM m c) (aIn m c) = vG m c := by
  funext i
  obtain ⟨a, b, rfl⟩ : ∃ (a : Fin 65536) (b : Fin 512), i = ix2 a b := ⟨i 0, i 1, eq_ix2 (a := 65536) (b := 512) i⟩
  refine (Cert.Reference4Ideal.Layer.g_apply (aX m c) (aN m c) (aWi m c) (aWo m c) (aM m c) (aIn m c) a b).trans ?_
  exact congrArg (fun z : EReal => z * Ideal.logistic z) (Cert.Reference4Ideal.Layer.proj_apply (aX m c) (aN m c) (aWi m c) (aWo m c) (aM m c) (aIn m c) a (col 4 b))

end values

/-- Equal arguments give the reference equal first results. -/
theorem congr_24 {x0 y0 : Vec Ideal Cert.Reference4Ideal.S65536x1024 .f32} {x1 y1 : Vec Ideal Cert.Reference4Ideal.S1x1024 .f32} {x2 y2 : Vec Ideal Cert.Reference4Ideal.S1x1024x5632 .f32} {x3 y3 : Vec Ideal Cert.Reference4Ideal.S1x2816x1024 .f32}
    (h0 : x0 = y0) (h1 : x1 = y1) (h2 : x2 = y2) (h3 : x3 = y3) :
    Cert.Reference4Ideal.Read.val_main_v24 (F := Ideal) x0 x1 x2 x3 = Cert.Reference4Ideal.Read.val_main_v24 (F := Ideal) y0 y1 y2 y3 := by
  subst h0 h1 h2 h3
  rfl

/-- Equal arguments give the reference equal second results. -/
theorem congr_75 {x0 y0 : Vec Ideal Cert.Reference4Ideal.S65536x1024 .f32} {x1 y1 : Vec Ideal Cert.Reference4Ideal.S1x1024 .f32} {x2 y2 : Vec Ideal Cert.Reference4Ideal.S1x1024x5632 .f32} {x3 y3 : Vec Ideal Cert.Reference4Ideal.S1x2816x1024 .f32} {x4 y4 : Vec Ideal Cert.Reference4Ideal.S1x1024 .f32} {x5 y5 : Vec Ideal Cert.Reference4Ideal.S1x1024x3328 .f32}
    (h0 : x0 = y0) (h1 : x1 = y1) (h2 : x2 = y2) (h3 : x3 = y3) (h4 : x4 = y4) (h5 : x5 = y5) :
    Cert.Reference4Ideal.Read.val_main_v75 (F := Ideal) x0 x1 x2 x3 x4 x5 = Cert.Reference4Ideal.Read.val_main_v75 (F := Ideal) y0 y1 y2 y3 y4 y5 := by
  subst h0 h1 h2 h3 h4 h5
  rfl

/-- Equal arguments give the reference equal third results. -/
theorem congr_92 {x0 y0 : Vec Ideal Cert.Reference4Ideal.S65536x1024 .f32} {x1 y1 : Vec Ideal Cert.Reference4Ideal.S1x1024 .f32} {x2 y2 : Vec Ideal Cert.Reference4Ideal.S1x1024x5632 .f32} {x3 y3 : Vec Ideal Cert.Reference4Ideal.S1x2816x1024 .f32} {x4 y4 : Vec Ideal Cert.Reference4Ideal.S1x1024 .f32} {x5 y5 : Vec Ideal Cert.Reference4Ideal.S1x1024x3328 .f32} {x6 y6 : Vec Ideal Cert.Reference4Ideal.S2x512 .f32}
    (h0 : x0 = y0) (h1 : x1 = y1) (h2 : x2 = y2) (h3 : x3 = y3) (h4 : x4 = y4) (h5 : x5 = y5) (h6 : x6 = y6) :
    Cert.Reference4Ideal.Read.val_main_v92 (F := Ideal) x0 x1 x2 x3 x4 x5 x6 = Cert.Reference4Ideal.Read.val_main_v92 (F := Ideal) y0 y1 y2 y3 y4 y5 y6 := by
  subst h0 h1 h2 h3 h4 h5 h6
  rfl

/-- Equal arguments give the reference equal fourth results. -/
theorem congr_109 {x0 y0 : Vec Ideal Cert.Reference4Ideal.S65536x1024 .f32} {x1 y1 : Vec Ideal Cert.Reference4Ideal.S1x1024 .f32} {x2 y2 : Vec Ideal Cert.Reference4Ideal.S1x1024x5632 .f32} {x3 y3 : Vec Ideal Cert.Reference4Ideal.S1x2816x1024 .f32} {x4 y4 : Vec Ideal Cert.Reference4Ideal.S1x1024 .f32} {x5 y5 : Vec Ideal Cert.Reference4Ideal.S1x1024x3328 .f32} {x7 y7 : Vec Ideal Cert.Reference4Ideal.S2x512 .f32}
    (h0 : x0 = y0) (h1 : x1 = y1) (h2 : x2 = y2) (h3 : x3 = y3) (h4 : x4 = y4) (h5 : x5 = y5) (h7 : x7 = y7) :
    Cert.Reference4Ideal.Read.val_main_v109 (F := Ideal) x0 x1 x2 x3 x4 x5 x7 = Cert.Reference4Ideal.Read.val_main_v109 (F := Ideal) y0 y1 y2 y3 y4 y5 y7 := by
  subst h0 h1 h2 h3 h4 h5 h7
  rfl

/-- Equal arguments give the reference equal fifth results. -/
theorem congr_110 {x0 y0 : Vec Ideal Cert.Reference4Ideal.S65536x1024 .f32} {x1 y1 : Vec Ideal Cert.Reference4Ideal.S1x1024 .f32} {x2 y2 : Vec Ideal Cert.Reference4Ideal.S1x1024x5632 .f32} {x3 y3 : Vec Ideal Cert.Reference4Ideal.S1x2816x1024 .f32} {x4 y4 : Vec Ideal Cert.Reference4Ideal.S1x1024 .f32} {x5 y5 : Vec Ideal Cert.Reference4Ideal.S1x1024x3328 .f32}
    (h0 : x0 = y0) (h1 : x1 = y1) (h2 : x2 = y2) (h3 : x3 = y3) (h4 : x4 = y4) (h5 : x5 = y5) :
    Cert.Reference4Ideal.Read.val_main_v110 (F := Ideal) x0 x1 x2 x3 x4 x5 = Cert.Reference4Ideal.Read.val_main_v110 (F := Ideal) y0 y1 y2 y3 y4 y5 := by
  subst h0 h1 h2 h3 h4 h5
  rfl

/-- Equal arguments give the reference equal sixth results. -/
theorem congr_111 {x0 y0 : Vec Ideal Cert.Reference4Ideal.S65536x1024 .f32} {x1 y1 : Vec Ideal Cert.Reference4Ideal.S1x1024 .f32} {x2 y2 : Vec Ideal Cert.Reference4Ideal.S1x1024x5632 .f32} {x3 y3 : Vec Ideal Cert.Reference4Ideal.S1x2816x1024 .f32} {x4 y4 : Vec Ideal Cert.Reference4Ideal.S1x1024 .f32} {x5 y5 : Vec Ideal Cert.Reference4Ideal.S1x1024x3328 .f32}
    (h0 : x0 = y0) (h1 : x1 = y1) (h2 : x2 = y2) (h3 : x3 = y3) (h4 : x4 = y4) (h5 : x5 = y5) :
    Cert.Reference4Ideal.Read.val_main_v111 (F := Ideal) x0 x1 x2 x3 x4 x5 = Cert.Reference4Ideal.Read.val_main_v111 (F := Ideal) y0 y1 y2 y3 y4 y5 := by
  subst h0 h1 h2 h3 h4 h5
  rfl

/-- The idealized first call and its reference leave the same six results. -/
theorem same : Cert.algebraic_Kernel4Ideal_Reference4Ideal := by
  intro m ρ m' ρ' _ hagree
  refine ⟨fun c => vX m c, fun c => vQ m c, fun c => vF m c, fun c => vB m c, fun c => vV m c, fun c => vG m c, ?_, ?_⟩
  · exact (θ_run Cert.Kernel4Ideal.defs _ _).mono
      (fun _ h c => ⟨(h c).1.trans (final13 m c), (h c).2.1.trans (final14 m c), (h c).2.2.1.trans (final15 m c), (h c).2.2.2.1.trans (final16 m c),
        (h c).2.2.2.2.1.trans (final17 m c), (h c).2.2.2.2.2.1.trans (final18 m c), (h c).2.2.2.2.2.2.2.2⟩) (Cert.Kernel4Ideal.Value.run_blocks m ρ)
  · refine (θ_run Cert.Reference4Ideal.defs _ _).mono (fun _ h c => ⟨(h c).1.trans ?_, (h c).2.1.trans ?_, (h c).2.2.1.trans ?_, (h c).2.2.2.1.trans ?_,
      (h c).2.2.2.2.1.trans ?_, (h c).2.2.2.2.2.1.trans ?_, (h c).2.2.2.2.2.2⟩) (Cert.Reference4Ideal.Value.run (F := Ideal) m' ρ')
    all_goals obtain ⟨h0, h1, h2, h3, h4, h5, h6, h7, h8, h9⟩ := hagree c
    · exact (Cert.Reference4Ideal.Read.val_main_v24_eq (F := Ideal) _ _ _ _).trans ((congr_24 h0 h1 h2 h3).trans (reference_24 m c))
    · exact (Cert.Reference4Ideal.Read.val_main_v75_eq (F := Ideal) m' c).trans ((congr_75 h0 h1 h2 h3 h4 h5).trans (reference_75 m c))
    · exact (Cert.Reference4Ideal.Read.val_main_v92_eq (F := Ideal) m' c).trans ((congr_92 h0 h1 h2 h3 h4 h5 h6).trans (reference_92 m c))
    · exact (Cert.Reference4Ideal.Read.val_main_v109_eq (F := Ideal) m' c).trans ((congr_109 h0 h1 h2 h3 h4 h5 h7).trans (reference_109 m c))
    · exact (Cert.Reference4Ideal.Read.val_main_v110_eq (F := Ideal) m' c).trans ((congr_110 h0 h1 h2 h3 h4 h5).trans (reference_110 m c))
    · exact (Cert.Reference4Ideal.Read.val_main_v111_eq (F := Ideal) m' c).trans ((congr_111 h0 h1 h2 h3 h4 h5).trans (reference_111 m c))

end Cert.Proof4

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Twin
public import proofs.«01_k».proof.Proof.Claims
public import proofs.«01_k».proof.Proof.Gen.Kernel2
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Twin2
public import proofs.«01_k».proof.Proof.Claims2
public import proofs.«01_k».proof.Proof.Gen.Kernel3
public import proofs.«01_k».proof.Proof.Gen.Kernel3Ideal
public import proofs.«01_k».proof.Proof.Gen.Reference3Ideal
public import proofs.«01_k».proof.Proof.Twin3
public import proofs.«01_k».proof.Proof.Claims3
public import proofs.«01_k».proof.Proof.Gen.Kernel4
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Twin4
public import proofs.«01_k».proof.Proof.Claims4

@[expose] public section

noncomputable section

namespace Cert.Proof

/-- Everything claimed. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts, logits, Cert.Proof3.logits,
    Cert.Twin.frame, kernel, kernel_pre, reference, reference_pre,
    Cert.Twin2.frame, Cert.Proof2.kernel, Cert.Proof2.reference,
    Cert.Twin3.frame, Cert.Proof3.kernel, Cert.Proof3.kernel_pre, Cert.Proof3.reference, Cert.Proof3.reference_pre,
    Cert.Twin4.frame, Cert.Proof4.kernel, Cert.Proof4.reference,
    trivial, same, trivial, Cert.Proof2.same, trivial, Cert.Proof3.same, trivial, Cert.Proof4.same⟩

end Cert.Proof

end
